-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v152) = v1 c
          ∧ r.2.mem ((c.tc : Thread Cert.ReferenceIdeal.nD Cert.ReferenceIdeal.τ).loc Cert.ReferenceIdeal.main_v147) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v35_1)) (v1 : (c : Dev Cert.Kernel5Ideal.nD) → Buf (Elt Ideal) ((c.tc : Thread Cert.Kernel5Ideal.nD Cert.Kernel5Ideal.τ).loc Cert.Kernel5Ideal.main_v35_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v35_1) = v0 c
          ∧ r.2.mem ((c.tc : Thread Cert.Kernel5Ideal.nD Cert.Kernel5Ideal.τ).loc Cert.Kernel5Ideal.main_v35_2) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_v41) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_tame (hKernelIdeal := hKernelIdeal) (hReferenceIdeal := hReferenceIdeal) (hPre_tame := hPre_tame)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_tame.lean ====
abbrev S32768x1536 : Shape := ⟨2, ![32768, 1536]⟩
abbrev S2x32768x128 : Shape := ⟨3, ![2, 32768, 128]⟩
abbrev S2x16 : Shape := ⟨2, ![2, 16]⟩
abbrev S16 : Shape := ⟨1, ![16]⟩
abbrev S8x2x128x1024 : Shape := ⟨4, ![8, 2, 128, 1024]⟩
abbrev S_ : Shape := ⟨0, ![]⟩
abbrev S2x32768x16 : Shape := ⟨3, ![2, 32768, 16]⟩

class Facts : Prop where
  bitsLt_bf16_f32 : FTy.bits .bf16 < FTy.bits .f32
  bcast_S_S32768x1536 : S_.BroadcastsInDim S32768x1536 (![] : Fin 0 → Fin S32768x1536.rank)
  reducesTo_S32768x1536_S_d0_1 : S32768x1536.ReducesTo [0, 1] S_
  h_S_ : 0 < S_.numel
  slices_S2x32768x128_S2x32768x16_0_0_0 : S2x32768x128.Slices ![0, 0, 0] S2x32768x16
  bcast_S_S2x32768x16 : S_.BroadcastsInDim S2x32768x16 (![] : Fin 0 → Fin S2x32768x16.rank)
  reducesTo_S2x32768x16_S_d0_1_2 : S2x32768x16.ReducesTo [0, 1, 2] S_
  bcast_S_S2x16 : S_.BroadcastsInDim S2x16 (![] : Fin 0 → Fin S2x16.rank)
  reducesTo_S2x16_S_d0_1 : S2x16.ReducesTo [0, 1] S_

variable [Facts]

def fn {F : FTy → Type} [FloatOps F] (main_arg0 : FVec F S32768x1536 .bf16) (main_arg1 : FVec F S2x32768x128 .f32) (main_arg2 : FVec F S2x16 .f32) (main_arg3 : FVec F S16 .f32) (main_arg4 : FVec F S8x2x128x1024 .f32) : IVec S_ 1 :=
  let main_v0 : FVec F S32768x1536 .f32 := (extf .f32 · bitsLt_bf16_f32) main_arg0
  let main_v1 : FVec F S32768x1536 .f32 := Host.absf main_v0
  let main_cst : FVec F S_ .f32 := constant S_ .f32 0x7F800000#32
  let main_v2 : FVec F S32768x1536 .f32 := broadcastInDim S32768x1536 ![] bcast_S_S32768x1536 main_cst
  let main_v3 : IVec S32768x1536 1 := cmpf .olt main_v1 main_v2
  let main_c : IVec S_ 1 := constantI S_ 1 1#1
  let main_v4 : IVec S_ 1 := (fun x v => Host.reduce IntOp.andi x v reducesTo_S32768x1536_S_d0_1 h_S_) main_v3 main_c
  let main_v5 : FVec F S2x32768x16 .f32 := (extractStridedSlice S2x32768x16 ![0, 0, 0] · slices_S2x32768x128_S2x32768x16_0_0_0) main_arg1
  let main_v6 : FVec F S2x32768x16 .f32 := Host.absf main_v5
  let main_cst_0 : FVec F S_ .f32 := constant S_ .f32 0x7F800000#32
  let main_v7 : FVec F S2x32768x16 .f32 := broadcastInDim S2x32768x16 ![] bcast_S_S2x32768x16 main_cst_0
  let main_v8 : IVec S2x32768x16 1 := cmpf .olt main_v6 main_v7
  let main_c_1 : IVec S_ 1 := constantI S_ 1 1#1
  let main_v9 : IVec S_ 1 := (fun x v => Host.reduce IntOp.andi x v reducesTo_S2x32768x16_S_d0_1_2 h_S_) main_v8 main_c_1
  let main_v10 : IVec S_ 1 := andi main_v4 main_v9
  let main_cst_2 : FVec F S_ .f32 := constant S_ .f32 0x7F800000#32
  let main_v11 : FVec F S2x16 .f32 := broadcastInDim S2x16 ![] bcast_S_S2x16 main_cst_2
  let main_v12 : IVec S2x16 1 := cmpf .olt main_arg2 main_v11
  let main_c_3 : IVec S_ 1 := constantI S_ 1 1#1
  let main_v13 : IVec S_ 1 := (fun x v => Host.reduce IntOp.andi x v reducesTo_S2x16_S_d0_1 h_S_) main_v12 main_c_3
  let main_v14 : IVec S_ 1 := andi main_v10 main_v13
  main_v14
-- ==== Kernel.lean ====
abbrev S32768x1536 : Shape := ⟨2, ![32768, 1536]⟩
abbrev S2x32768x128 : Shape := ⟨3, ![2, 32768, 128]⟩
abbrev S2x16 : Shape := ⟨2, ![2, 16]⟩
abbrev S16 : Shape := ⟨1, ![16]⟩
abbrev S8x2x128x1024 : Shape := ⟨4, ![8, 2, 128, 1024]⟩
abbrev S_ : Shape := ⟨0, ![]⟩
abbrev S2x128 : Shape := ⟨2, ![2, 128]⟩
abbrev S2x1x128 : Shape := ⟨3, ![2, 1, 128]⟩
abbrev S16x64 : Shape := ⟨2, ![16, 64]⟩
abbrev S1024 : Shape := ⟨1, ![1024]⟩
abbrev S1x1024 : Shape := ⟨2, ![1, 1024]⟩
abbrev S32768x1024 : Shape := ⟨2, ![32768, 1024]⟩
abbrev S128x1536 : Shape := ⟨2, ![128, 1536]⟩
abbrev S1x128x128 : Shape := ⟨3, ![1, 128, 128]⟩
abbrev S1x2x128x1024 : Shape := ⟨4, ![1, 2, 128, 1024]⟩
abbrev S128x1024 : Shape := ⟨2, ![128, 1024]⟩
abbrev S128x128 : Shape := ⟨2, ![128, 128]⟩
abbrev S1x1x128 : Shape := ⟨3, ![1, 1, 128]⟩
abbrev S1x128 : Shape := ⟨2, ![1, 128]⟩
abbrev S128x256 : Shape := ⟨2, ![128, 256]⟩
abbrev S16x128 : Shape := ⟨2, ![16, 128]⟩
abbrev S512x128 : Shape := ⟨2, ![512, 128]⟩
abbrev S16x512 : Shape := ⟨2, ![16, 512]⟩
abbrev S8x128 : Shape := ⟨2, ![8, 128]⟩
abbrev S528x128 : Shape := ⟨2, ![528, 128]⟩
abbrev S528x1024 : Shape := ⟨2, ![528, 1024]⟩
abbrev S1x1x128x512 : Shape := ⟨4, ![1, 1, 128, 512]⟩
abbrev S128x512 : Shape := ⟨2, ![128, 512]⟩
abbrev S128x1 : Shape := ⟨2, ![128, 1]⟩
abbrev S256x128 : Shape := ⟨2, ![256, 128]⟩
abbrev S1x512 : Shape := ⟨2, ![1, 512]⟩

abbrev nBuf : Space → Nat
  | .hbm => 15
  | .vmem => 18
  | .smem => 0
  | _ => 0

abbrev bufTy : (tb : Table) → Fin (tcTables nBuf tb) → BufTy
  | .hbm, ⟨0, _⟩ => ⟨S32768x1536, .bf16⟩
  | .hbm, ⟨1, _⟩ => ⟨S2x32768x128, .f32⟩
  | .hbm, ⟨2, _⟩ => ⟨S2x16, .f32⟩
  | .hbm, ⟨3, _⟩ => ⟨S16, .f32⟩
  | .hbm, ⟨4, _⟩ => ⟨S8x2x128x1024, .f32⟩
  | .hbm, ⟨5, _⟩ => ⟨S_, .i32⟩
  | .hbm, ⟨6, _⟩ => ⟨S_, .f32⟩
  | .hbm, ⟨7, _⟩ => ⟨S2x128, .f32⟩
  | .hbm, ⟨8, _⟩ => ⟨S2x1x128, .f32⟩
  | .hbm, ⟨9, _⟩ => ⟨S16x64, .f32⟩
  | .hbm, ⟨10, _⟩ => ⟨S1024, .f32⟩
  | .hbm, ⟨11, _⟩ => ⟨S1x1024, .f32⟩
  | .hbm, ⟨12, _⟩ => ⟨S32768x1024, .bf16⟩
  | .hbm, ⟨13, _⟩ => ⟨S32768x1024, .bf16⟩
  | .hbm, ⟨14, _⟩ => ⟨S8x2x128x1024, .f32⟩
  | .local _ .vmem, ⟨0, _⟩ => ⟨S128x1536, .bf16⟩
  | .local _ .vmem, ⟨1, _⟩ => ⟨S128x1536, .bf16⟩
  | .local _ .vmem, ⟨2, _⟩ => ⟨S128x1536, .bf16⟩
  | .local _ .vmem, ⟨3, _⟩ => ⟨S128x1536, .bf16⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S2x1x128, .f32⟩
  | .local _ .vmem, ⟨9, _⟩ => ⟨S1x1024, .f32⟩
  | .local _ .vmem, ⟨10, _⟩ => ⟨S1x2x128x1024, .f32⟩
  | .local _ .vmem, ⟨11, _⟩ => ⟨S1x2x128x1024, .f32⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S1x2x128x1024, .f32⟩
  | .local _ .vmem, ⟨17, _⟩ => ⟨S1x2x128x1024, .f32⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.addi v0 c32_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.addi v0 c32_i32_0
  let c1_i32 : BitVec 32 := 1#32
  let v2 : BitVec 32 := Scalar.subi v1 c1_i32
  let v3 : BitVec 32 := Scalar.subi v2 arg1
  let c1_i32_1 : BitVec 32 := 1#32
  let c0_i32 : BitVec 32 := 0#32
  let c0_i32_2 : BitVec 32 := 0#32
  ![c1_i32_1.toNat, v3.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.addi v0 c32_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S32768x1536 : Shape := ⟨2, ![32768, 1536]⟩
abbrev S2x32768x128 : Shape := ⟨3, ![2, 32768, 128]⟩
abbrev S2x16 : Shape := ⟨2, ![2, 16]⟩
abbrev S16 : Shape := ⟨1, ![16]⟩
abbrev S8x2x128x1024 : Shape := ⟨4, ![8, 2, 128, 1024]⟩
abbrev S8x4096x1536 : Shape := ⟨3, ![8, 4096, 1536]⟩
abbrev S8x4096x1024 : Shape := ⟨3, ![8, 4096, 1024]⟩
abbrev S8x4096x16x64 : Shape := ⟨4, ![8, 4096, 16, 64]⟩
abbrev S8x4096x256 : Shape := ⟨3, ![8, 4096, 256]⟩
abbrev S8x4096x2x128 : Shape := ⟨4, ![8, 4096, 2, 128]⟩
abbrev S2x32768x16 : Shape := ⟨3, ![2, 32768, 16]⟩
abbrev S2x8x4096x16 : Shape := ⟨4, ![2, 8, 4096, 16]⟩
abbrev S8x2x128x16x64 : Shape := ⟨5, ![8, 2, 128, 16, 64]⟩
abbrev S2x8x16x64x128 : Shape := ⟨5, ![2, 8, 16, 64, 128]⟩
abbrev S1x8x4096x16 : Shape := ⟨4, ![1, 8, 4096, 16]⟩
abbrev S8x4096x16 : Shape := ⟨3, ![8, 4096, 16]⟩
abbrev S1x16 : Shape := ⟨2, ![1, 16]⟩
abbrev S1x8x16x64x128 : Shape := ⟨5, ![1, 8, 16, 64, 128]⟩
abbrev S8x16x64x128 : Shape := ⟨4, ![8, 16, 64, 128]⟩
abbrev S8x4096x16x1 : Shape := ⟨4, ![8, 4096, 16, 1]⟩
abbrev S8x4096x2x8x64 : Shape := ⟨5, ![8, 4096, 2, 8, 64]⟩
abbrev S1x1x16 : Shape := ⟨3, ![1, 1, 16]⟩
abbrev S8x4096x2x8 : Shape := ⟨4, ![8, 4096, 2, 8]⟩
abbrev S8x2x8x4096 : Shape := ⟨4, ![8, 2, 8, 4096]⟩
abbrev S_ : Shape := ⟨0, ![]⟩
abbrev S8x2x8x4096x1 : Shape := ⟨5, ![8, 2, 8, 4096, 1]⟩
abbrev S8x2x8x1x4096 : Shape := ⟨5, ![8, 2, 8, 1, 4096]⟩
abbrev S8x2x8x4096x4096 : Shape := ⟨5, ![8, 2, 8, 4096, 4096]⟩
abbrev S4096x4096 : Shape := ⟨2, ![4096, 4096]⟩
abbrev S8x2x4096x4096 : Shape := ⟨4, ![8, 2, 4096, 4096]⟩
abbrev S8x2x1x4096x4096 : Shape := ⟨5, ![8, 2, 1, 4096, 4096]⟩
abbrev S8x2x8x64x4096 : Shape := ⟨5, ![8, 2, 8, 64, 4096]⟩
abbrev S8x2x8x1 : Shape := ⟨4, ![8, 2, 8, 1]⟩
abbrev S8x2x8x64x128 : Shape := ⟨5, ![8, 2, 8, 64, 128]⟩
abbrev S8x4096x2x8x1 : Shape := ⟨5, ![8, 4096, 2, 8, 1]⟩
abbrev S8x2x8 : Shape := ⟨3, ![8, 2, 8]⟩
abbrev S8x2x8x1x1 : Shape := ⟨5, ![8, 2, 8, 1, 1]⟩
abbrev S16x1 : Shape := ⟨2, ![16, 1]⟩
abbrev S1x1x16x1 : Shape := ⟨4, ![1, 1, 16, 1]⟩
abbrev S8x1x16x64x128 : Shape := ⟨5, ![8, 1, 16, 64, 128]⟩
abbrev S8x2x16x64x128 : Shape := ⟨5, ![8, 2, 16, 64, 128]⟩
abbrev S32768x1024 : Shape := ⟨2, ![32768, 1024]⟩

abbrev nBuf : Space → Nat
  | .hbm => 174
  | .vmem => 0
  | .smem => 0
  | _ => 0

abbrev hbmTy0_0 (i : Nat) : BufTy := match i % 128 with
  | 0 => ⟨S32768x1536, .bf16⟩
  | 1 => ⟨S2x32768x128, .f32⟩
  | 2 => ⟨S2x16, .f32⟩
  | 3 => ⟨S16, .f32⟩
  | 4 => ⟨S8x2x128x1024, .f32⟩
  | 5 => ⟨S32768x1536, .f32⟩
  | 6 => ⟨S8x4096x1536, .f32⟩
  | 7 => ⟨S8x4096x1024, .f32⟩
  | 8 => ⟨S8x4096x16x64, .f32⟩
  | 9 => ⟨S8x4096x256, .f32⟩
  | 10 => ⟨S8x4096x2x128, .f32⟩
  | 11 => ⟨S8x4096x256, .f32⟩
  | 12 => ⟨S8x4096x2x128, .f32⟩
  | 13 => ⟨S2x32768x16, .f32⟩
  | 14 => ⟨S2x8x4096x16, .f32⟩
  | 15 => ⟨S2x16, .f32⟩
  | 16 => ⟨S2x16, .f32⟩
  | 17 => ⟨S8x2x128x16x64, .f32⟩
  | 18 => ⟨S2x8x16x64x128, .f32⟩
  | 19 => ⟨S1x8x4096x16, .f32⟩
  | 20 => ⟨S8x4096x16, .f32⟩
  | 21 => ⟨S1x16, .f32⟩
  | 22 => ⟨S16, .f32⟩
  | 23 => ⟨S1x8x16x64x128, .f32⟩
  | 24 => ⟨S8x16x64x128, .f32⟩
  | 25 => ⟨S8x4096x16x1, .f32⟩
  | 26 => ⟨S8x4096x16x64, .f32⟩
  | 27 => ⟨S8x4096x16x64, .f32⟩
  | 28 => ⟨S8x4096x2x8x64, .f32⟩
  | 29 => ⟨S1x1x16, .f32⟩
  | 30 => ⟨S8x4096x16, .f32⟩
  | 31 => ⟨S8x4096x16, .f32⟩
  | 32 => ⟨S8x4096x2x8, .f32⟩
  | 33 => ⟨S8x2x8x4096, .f32⟩
  | 34 => ⟨S_, .f32⟩
  | 35 => ⟨S_, .f32⟩
  | 36 => ⟨S8x2x8x4096, .f32⟩
  | 37 => ⟨S_, .f32⟩
  | 38 => ⟨S_, .f32⟩
  | 39 => ⟨S8x2x8x4096, .f32⟩
  | 40 => ⟨S8x2x8x4096x1, .f32⟩
  | 41 => ⟨S8x2x8x1x4096, .f32⟩
  | 42 => ⟨S8x2x8x4096x4096, .f32⟩
  | 43 => ⟨S8x2x8x4096x4096, .f32⟩
  | 44 => ⟨S8x2x8x4096x4096, .f32⟩
  | 45 => ⟨S4096x4096, .i32⟩
  | 46 => ⟨S4096x4096, .i32⟩
  | 47 => ⟨S4096x4096, .i1⟩
  | 48 => ⟨S_, .f32⟩
  | 49 => ⟨S_, .f32⟩
  | 50 => ⟨S8x2x8x4096x4096, .i1⟩
  | 51 => ⟨S8x2x8x4096x4096, .f32⟩
  | 52 => ⟨S8x2x8x4096x4096, .f32⟩
  | 53 => ⟨S8x2x8x4096x4096, .f32⟩
  | 54 => ⟨S8x2x4096x4096, .f32⟩
  | 55 => ⟨S8x2x1x4096x4096, .f32⟩
  | 56 => ⟨S8x2x8x4096x4096, .f32⟩
  | 57 => ⟨S8x2x8x4096x4096, .f32⟩
  | 58 => ⟨S8x2x8x64x4096, .f32⟩
  | 59 => ⟨S8x4096x2x8x64, .f32⟩
  | 60 => ⟨S8x2x8x1, .f32⟩
  | 61 => ⟨S8x2x8x4096, .f32⟩
  | 62 => ⟨S8x2x8x4096, .f32⟩
  | 63 => ⟨S8x2x8x4096, .f32⟩
  | 64 => ⟨S8x2x8x64x128, .f32⟩
  | 65 => ⟨S8x4096x2x8, .f32⟩
  | 66 => ⟨S8x4096x2x8x1, .f32⟩
  | 67 => ⟨S8x4096x2x8x64, .f32⟩
  | 68 => ⟨S8x4096x2x8x64, .f32⟩
  | 69 => ⟨S8x2x8x64x128, .f32⟩
  | 70 => ⟨S8x2x8x1, .f32⟩
  | 71 => ⟨S8x2x8, .f32⟩
  | 72 => ⟨S8x2x8, .f32⟩
  | 73 => ⟨S8x2x8x1x1, .f32⟩
  | 74 => ⟨S8x2x8x64x128, .f32⟩
  | 75 => ⟨S8x2x8x64x128, .f32⟩
  | 76 => ⟨S8x2x8x64x128, .f32⟩
  | 77 => ⟨S8x2x8x64x4096, .f32⟩
  | 78 => ⟨S8x4096x2x8x64, .f32⟩
  | 79 => ⟨S8x2x8x4096, .f32⟩
  | 80 => ⟨S8x4096x2x8, .f32⟩
  | 81 => ⟨S8x4096x2x8x1, .f32⟩
  | 82 => ⟨S8x4096x2x8x64, .f32⟩
  | 83 => ⟨S8x4096x2x8x64, .f32⟩
  | 84 => ⟨S8x4096x2x8x64, .f32⟩
  | 85 => ⟨S8x4096x16x64, .f32⟩
  | 86 => ⟨S8x16x64x128, .f32⟩
  | 87 => ⟨S8x4096x16x64, .f32⟩
  | 88 => ⟨S1x8x4096x16, .f32⟩
  | 89 => ⟨S8x4096x16, .f32⟩
  | 90 => ⟨S8x4096x16, .f32⟩
  | 91 => ⟨S1x16, .f32⟩
  | 92 => ⟨S16, .f32⟩
  | 93 => ⟨S8x4096x2x128, .f32⟩
  | 94 => ⟨S8x4096x2x128, .f32⟩
  | 95 => ⟨S1x8x16x64x128, .f32⟩
  | 96 => ⟨S8x16x64x128, .f32⟩
  | 97 => ⟨S8x4096x16x1, .f32⟩
  | 98 => ⟨S8x4096x16x64, .f32⟩
  | 99 => ⟨S8x4096x16x64, .f32⟩
  | 100 => ⟨S8x4096x2x8x64, .f32⟩
  | 101 => ⟨S1x1x16, .f32⟩
  | 102 => ⟨S8x4096x16, .f32⟩
  | 103 => ⟨S8x4096x16, .f32⟩
  | 104 => ⟨S8x4096x2x8, .f32⟩
  | 105 => ⟨S8x2x8x4096, .f32⟩
  | 106 => ⟨S_, .f32⟩
  | 107 => ⟨S_, .f32⟩
  | 108 => ⟨S8x2x8x4096, .f32⟩
  | 109 => ⟨S_, .f32⟩
  | 110 => ⟨S_, .f32⟩
  | 111 => ⟨S8x2x8x4096, .f32⟩
  | 112 => ⟨S8x2x8x4096x1, .f32⟩
  | 113 => ⟨S8x2x8x1x4096, .f32⟩
  | 114 => ⟨S8x2x8x4096x4096, .f32⟩
  | 115 => ⟨S8x2x8x4096x4096, .f32⟩
  | 116 => ⟨S8x2x8x4096x4096, .f32⟩
  | 117 => ⟨S4096x4096, .i32⟩
  | 118 => ⟨S4096x4096, .i32⟩
  | 119 => ⟨S4096x4096, .i1⟩
  | 120 => ⟨S_, .f32⟩
  | 121 => ⟨S_, .f32⟩
  | 122 => ⟨S8x2x8x4096x4096, .i1⟩
  | 123 => ⟨S8x2x8x4096x4096, .f32⟩
  | 124 => ⟨S8x2x8x4096x4096, .f32⟩
  | 125 => ⟨S8x2x8x4096x4096, .f32⟩
  | 126 => ⟨S8x2x4096x4096, .f32⟩
  | 127 => ⟨S8x2x1x4096x4096, .f32⟩
  | _ => ⟨S32768x1536, .bf16⟩

abbrev hbmTy0_1 (i : Nat) : BufTy := match i % 128 with
  | 0 => ⟨S8x2x8x4096x4096, .f32⟩
  | 1 => ⟨S8x2x8x4096x4096, .f32⟩
  | 2 => ⟨S8x2x8x64x4096, .f32⟩
  | 3 => ⟨S8x4096x2x8x64, .f32⟩
  | 4 => ⟨S8x2x8x1, .f32⟩
  | 5 => ⟨S8x2x8x4096, .f32⟩
  | 6 => ⟨S8x2x8x4096, .f32⟩
  | 7 => ⟨S8x2x8x4096, .f32⟩
  | 8 => ⟨S8x2x8x64x128, .f32⟩
  | 9 => ⟨S8x4096x2x8, .f32⟩
  | 10 => ⟨S8x4096x2x8x1, .f32⟩
  | 11 => ⟨S8x4096x2x8x64, .f32⟩
  | 12 => ⟨S8x4096x2x8x64, .f32⟩
  | 13 => ⟨S8x2x8x64x128, .f32⟩
  | 14 => ⟨S8x2x8x1, .f32⟩
  | 15 => ⟨S8x2x8, .f32⟩
  | 16 => ⟨S8x2x8, .f32⟩
  | 17 => ⟨S8x2x8x1x1, .f32⟩
  | 18 => ⟨S8x2x8x64x128, .f32⟩
  | 19 => ⟨S8x2x8x64x128, .f32⟩
  | 20 => ⟨S8x2x8x64x128, .f32⟩
  | 21 => ⟨S8x2x8x64x4096, .f32⟩
  | 22 => ⟨S8x4096x2x8x64, .f32⟩
  | 23 => ⟨S8x2x8x4096, .f32⟩
  | 24 => ⟨S8x4096x2x8, .f32⟩
  | 25 => ⟨S8x4096x2x8x1, .f32⟩
  | 26 => ⟨S8x4096x2x8x64, .f32⟩
  | 27 => ⟨S8x4096x2x8x64, .f32⟩
  | 28 => ⟨S8x4096x2x8x64, .f32⟩
  | 29 => ⟨S8x4096x16x64, .f32⟩
  | 30 => ⟨S8x16x64x128, .f32⟩
  | 31 => ⟨S16x1, .f32⟩
  | 32 => ⟨S1x1x16x1, .f32⟩
  | 33 => ⟨S8x4096x16x64, .f32⟩
  | 34 => ⟨S8x4096x16x64, .f32⟩
  | 35 => ⟨S8x4096x16x64, .f32⟩
  | 36 => ⟨S8x1x16x64x128, .f32⟩
  | 37 => ⟨S8x1x16x64x128, .f32⟩
  | 38 => ⟨S8x2x16x64x128, .f32⟩
  | 39 => ⟨S8x2x128x16x64, .f32⟩
  | 40 => ⟨S8x2x128x1024, .f32⟩
  | 41 => ⟨S32768x1024, .f32⟩
  | 42 => ⟨S32768x1024, .bf16⟩
  | 43 => ⟨S8x4096x16x64, .f32⟩
  | 44 => ⟨S32768x1024, .f32⟩
  | 45 => ⟨S32768x1024, .bf16⟩
  | _ => ⟨S32768x1536, .bf16⟩

abbrev hbmTy (i : Nat) : BufTy := match i / 128 with
  | 0 => hbmTy0_0 i
  | 1 => hbmTy0_1 i
  | _ => ⟨S32768x1536, .bf16⟩

abbrev bufTy : (tb : Table) → Fin (tcTables nBuf tb) → BufTy
  | .hbm, ⟨i, _⟩ => hbmTy i
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_call0_call0_cst : Ref sig .tc := ⟨.hbm, 34, rfl⟩
abbrev main_call0_call0_v0 : Ref sig .tc := ⟨.hbm, 35, rfl⟩
abbrev main_v29 : Ref sig .tc := ⟨.hbm, 36, rfl⟩
abbrev main_call1_call0_cst : Ref sig .tc := ⟨.hbm, 37, rfl⟩
abbrev main_call1_call0_v0 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_call7_call0_cst : Ref sig .tc := ⟨.hbm, 106, rfl⟩
abbrev main_call7_call0_v0 : Ref sig .tc := ⟨.hbm, 107, rfl⟩
abbrev main_v93 : Ref sig .tc := ⟨.hbm, 108, rfl⟩
abbrev main_call8_call0_cst : Ref sig .tc := ⟨.hbm, 109, rfl⟩
abbrev main_call8_call0_v0 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_cst_0 : Ref sig .tc := ⟨.hbm, 120, rfl⟩
abbrev main_call9_v0 : Ref sig .tc := ⟨.hbm, 121, rfl⟩
abbrev main_call9_v1 : Ref sig .tc := ⟨.hbm, 122, rfl⟩
abbrev main_call9_v2 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩

abbrev nD : Nat := 1
abbrev τ : Topo := Topo.v7x

variable {F : FTy → Type} [FloatOps F]
-- ==== Kernel2.lean ====
abbrev S32768x1024 : Shape := ⟨2, ![32768, 1024]⟩
abbrev S16x9x1024 : Shape := ⟨3, ![16, 9, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1x9x1024 : Shape := ⟨3, ![1, 9, 1024]⟩
abbrev S9x1024 : Shape := ⟨2, ![9, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S16x9x1024, .f32⟩
  | .hbm, ⟨2, _⟩ => ⟨S1024, .f32⟩
  | .hbm, ⟨3, _⟩ => ⟨S1024, .f32⟩
  | .hbm, ⟨4, _⟩ => ⟨S1024x2816, .bf16⟩
  | .hbm, ⟨5, _⟩ => ⟨S1024x2816, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S32768x1024 : Shape := ⟨2, ![32768, 1024]⟩
abbrev S16x9x1024 : Shape := ⟨3, ![16, 9, 1024]⟩
abbrev S1024 : Shape := ⟨1, ![1024]⟩
abbrev S1024x2816 : Shape := ⟨2, ![1024, 2816]⟩
abbrev S2816x1024 : Shape := ⟨2, ![2816, 1024]⟩
abbrev S8x9x1024 : Shape := ⟨3, ![8, 9, 1024]⟩
abbrev S9x8x1024 : Shape := ⟨3, ![9, 8, 1024]⟩
abbrev S9x8x1x1024 : Shape := ⟨4, ![9, 8, 1, 1024]⟩
abbrev S8x4096x1024 : Shape := ⟨3, ![8, 4096, 1024]⟩
abbrev S1x8x1x1024 : Shape := ⟨4, ![1, 8, 1, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩

abbrev nBuf : Space → Nat
  | .hbm => 79
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x9x1024, .f32⟩
  | .hbm, ⟨2, _⟩ => ⟨S1024, .f32⟩
  | .hbm, ⟨3, _⟩ => ⟨S1024, .f32⟩
  | .hbm, ⟨4, _⟩ => ⟨S1024x2816, .bf16⟩
  | .hbm, ⟨5, _⟩ => ⟨S1024x2816, .bf16⟩
  | .hbm, ⟨6, _⟩ => ⟨S2816x1024, .bf16⟩
  | .hbm, ⟨7, _⟩ => ⟨S8x9x1024, .f32⟩
  | .hbm, ⟨8, _⟩ => ⟨S9x8x1024, .f32⟩
  | .hbm, ⟨9, _⟩ => ⟨S9x8x1x1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S8x4096x1024, .f32⟩
  | .hbm, ⟨14, _⟩ => ⟨S1x8x1x1024, .f32⟩
  | .hbm, ⟨15, _⟩ => ⟨S8x1x1024, .f32⟩
  | .hbm, ⟨16, _⟩ => ⟨S1x8x1x1024, .f32⟩
  | .hbm, ⟨17, _⟩ => ⟨S8x1x1024, .f32⟩
  | .hbm, ⟨18, _⟩ => ⟨S8x4096x1024, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S8x4096x1, .f32⟩
  | .hbm, ⟨29, _⟩ => ⟨S8x4096x1024, .f32⟩
  | .hbm, ⟨30, _⟩ => ⟨S8x4096x1024, .f32⟩
  | .hbm, ⟨31, _⟩ => ⟨S1x1x1024, .f32⟩
  | .hbm, ⟨32, _⟩ => ⟨S8x4096x1024, .f32⟩
  | .hbm, ⟨33, _⟩ => ⟨S8x4096x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x2816, .f32⟩
  | .hbm, ⟨42, _⟩ => ⟨S8x4096x2816, .f32⟩
  | .hbm, ⟨43, _⟩ => ⟨S8x4096x2816, .f32⟩
  | .hbm, ⟨44, _⟩ => ⟨S_, .f32⟩
  | .hbm, ⟨45, _⟩ => ⟨S8x4096x2816, .f32⟩
  | .hbm, ⟨46, _⟩ => ⟨S8x4096x2816, .f32⟩
  | .hbm, ⟨47, _⟩ => ⟨S_, .f32⟩
  | .hbm, ⟨48, _⟩ => ⟨S8x4096x2816, .f32⟩
  | .hbm, ⟨49, _⟩ => ⟨S8x4096x2816, .f32⟩
  | .hbm, ⟨50, _⟩ => ⟨S8x4096x2816, .f32⟩
  | .hbm, ⟨51, _⟩ => ⟨S8x4096x2816, .f32⟩
  | .hbm, ⟨52, _⟩ => ⟨S8x4096x2816, .f32⟩
  | .hbm, ⟨53, _⟩ => ⟨S8x4096x1024, .f32⟩
  | .hbm, ⟨54, _⟩ => ⟨S1x8x1x1024, .f32⟩
  | .hbm, ⟨55, _⟩ => ⟨S8x1x1024, .f32⟩
  | .hbm, ⟨56, _⟩ => ⟨S_, .f32⟩
  | .hbm, ⟨57, _⟩ => ⟨S8x1x1024, .f32⟩
  | .hbm, ⟨58, _⟩ => ⟨S8x1x1024, .f32⟩
  | .hbm, ⟨59, _⟩ => ⟨S8x4096x1024, .f32⟩
  | .hbm, ⟨60, _⟩ => ⟨S_, .f32⟩
  | .hbm, ⟨61, _⟩ => ⟨S8x4096, .f32⟩
  | .hbm, ⟨62, _⟩ => ⟨S8x4096x1, .f32⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S_, .f32⟩
  | .hbm, ⟨67, _⟩ => ⟨S8x4096x1, .f32⟩
  | .hbm, ⟨68, _⟩ => ⟨S8x4096x1, .f32⟩
  | .hbm, ⟨69, _⟩ => ⟨S8x4096x1, .f32⟩
  | .hbm, ⟨70, _⟩ => ⟨S8x4096x1024, .f32⟩
  | .hbm, ⟨71, _⟩ => ⟨S8x4096x1024, .f32⟩
  | .hbm, ⟨72, _⟩ => ⟨S1x1x1024, .f32⟩
  | .hbm, ⟨73, _⟩ => ⟨S8x4096x1024, .f32⟩
  | .hbm, ⟨74, _⟩ => ⟨S8x4096x1024, .f32⟩
  | .hbm, ⟨75, _⟩ => ⟨S8x4096x1024, .f32⟩
  | .hbm, ⟨76, _⟩ => ⟨S8x4096x1024, .f32⟩
  | .hbm, ⟨77, _⟩ => ⟨S8x4096x1024, .f32⟩
  | .hbm, ⟨78, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== Kernel3.lean ====
abbrev S32768x1024 : Shape := ⟨2, ![32768, 1024]⟩
abbrev S32768x512 : Shape := ⟨2, ![32768, 512]⟩
abbrev S16x9x1024 : Shape := ⟨3, ![16, 9, 1024]⟩
abbrev S1024 : Shape := ⟨1, ![1024]⟩
abbrev S2048x1024 : Shape := ⟨2, ![2048, 1024]⟩
abbrev S1024x1024 : Shape := ⟨2, ![1024, 1024]⟩
abbrev S512x1024 : Shape := ⟨2, ![512, 1024]⟩
abbrev S1x1024 : Shape := ⟨2, ![1, 1024]⟩
abbrev S512x512 : Shape := ⟨2, ![512, 512]⟩
abbrev S1x9x1024 : Shape := ⟨3, ![1, 9, 1024]⟩
abbrev S9x1024 : Shape := ⟨2, ![9, 1024]⟩
abbrev S512 : Shape := ⟨1, ![512]⟩
abbrev S512x1 : Shape := ⟨2, ![512, 1]⟩

abbrev nBuf : Space → Nat
  | .hbm => 16
  | .vmem => 21
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S32768x512, .bf16⟩
  | .hbm, ⟨5, _⟩ => ⟨S32768x512, .bf16⟩
  | .hbm, ⟨6, _⟩ => ⟨S16x9x1024, .f32⟩
  | .hbm, ⟨7, _⟩ => ⟨S1024, .f32⟩
  | .hbm, ⟨8, _⟩ => ⟨S1024, .f32⟩
  | .hbm, ⟨9, _⟩ => ⟨S2048x1024, .bf16⟩
  | .hbm, ⟨10, _⟩ => ⟨S1024x1024, .bf16⟩
  | .hbm, ⟨11, _⟩ => ⟨S512x1024, .bf16⟩
  | .hbm, ⟨12, _⟩ => ⟨S512x1024, .bf16⟩
  | .hbm, ⟨13, _⟩ => ⟨S1x1024, .f32⟩
  | .hbm, ⟨14, _⟩ => ⟨S1x1024, .f32⟩
  | .hbm, ⟨15, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S1x9x1024, .f32⟩
  | .local _ .vmem, ⟨13, _⟩ => ⟨S1x9x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x9x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S32768x1024 : Shape := ⟨2, ![32768, 1024]⟩
abbrev S32768x512 : Shape := ⟨2, ![32768, 512]⟩
abbrev S16x9x1024 : Shape := ⟨3, ![16, 9, 1024]⟩
abbrev S1024 : Shape := ⟨1, ![1024]⟩
abbrev S2048x1024 : Shape := ⟨2, ![2048, 1024]⟩
abbrev S8x4096x1024 : Shape := ⟨3, ![8, 4096, 1024]⟩
abbrev S8x4096x512 : Shape := ⟨3, ![8, 4096, 512]⟩
abbrev S8x9x1024 : Shape := ⟨3, ![8, 9, 1024]⟩
abbrev S9x8x1024 : Shape := ⟨3, ![9, 8, 1024]⟩
abbrev S9x8x1x1024 : Shape := ⟨4, ![9, 8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2048 : Shape := ⟨3, ![8, 4096, 2048]⟩
abbrev S1x8x1x1024 : Shape := ⟨4, ![1, 8, 1, 1024]⟩
abbrev S8x1x1024 : Shape := ⟨3, ![8, 1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S32768x512, .bf16⟩
  | .hbm, ⟨5, _⟩ => ⟨S32768x512, .bf16⟩
  | .hbm, ⟨6, _⟩ => ⟨S16x9x1024, .f32⟩
  | .hbm, ⟨7, _⟩ => ⟨S1024, .f32⟩
  | .hbm, ⟨8, _⟩ => ⟨S1024, .f32⟩
  | .hbm, ⟨9, _⟩ => ⟨S2048x1024, .bf16⟩
  | .hbm, ⟨10, _⟩ => ⟨S8x4096x1024, .f32⟩
  | .hbm, ⟨11, _⟩ => ⟨S32768x1024, .f32⟩
  | .hbm, ⟨12, _⟩ => ⟨S8x4096x1024, .f32⟩
  | .hbm, ⟨13, _⟩ => ⟨S32768x1024, .f32⟩
  | .hbm, ⟨14, _⟩ => ⟨S8x4096x1024, .f32⟩
  | .hbm, ⟨15, _⟩ => ⟨S32768x1024, .f32⟩
  | .hbm, ⟨16, _⟩ => ⟨S8x4096x1024, .f32⟩
  | .hbm, ⟨17, _⟩ => ⟨S32768x512, .f32⟩
  | .hbm, ⟨18, _⟩ => ⟨S8x4096x512, .f32⟩
  | .hbm, ⟨19, _⟩ => ⟨S32768x512, .f32⟩
  | .hbm, ⟨20, _⟩ => ⟨S8x4096x512, .f32⟩
  | .hbm, ⟨21, _⟩ => ⟨S8x9x1024, .f32⟩
  | .hbm, ⟨22, _⟩ => ⟨S9x8x1024, .f32⟩
  | .hbm, ⟨23, _⟩ => ⟨S9x8x1x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S8x4096x1, .f32⟩
  | .hbm, ⟨37, _⟩ => ⟨S8x4096x1024, .f32⟩
  | .hbm, ⟨38, _⟩ => ⟨S8x4096x1024, .f32⟩
  | .hbm, ⟨39, _⟩ => ⟨S1x1x1024, .f32⟩
  | .hbm, ⟨40, _⟩ => ⟨S8x4096x1024, .f32⟩
  | .hbm, ⟨41, _⟩ => ⟨S8x4096x1024, .f32⟩
  | .hbm, ⟨42, _⟩ => ⟨S8x4096x2048, .f32⟩
  | .hbm, ⟨43, _⟩ => ⟨S2048x1024, .f32⟩
  | .hbm, ⟨44, _⟩ => ⟨S8x4096x1024, .f32⟩
  | .hbm, ⟨45, _⟩ => ⟨S1x8x1x1024, .f32⟩
  | .hbm, ⟨46, _⟩ => ⟨S8x1x1024, .f32⟩
  | .hbm, ⟨47, _⟩ => ⟨S_, .f32⟩
  | .hbm, ⟨48, _⟩ => ⟨S8x1x1024, .f32⟩
  | .hbm, ⟨49, _⟩ => ⟨S8x1x1024, .f32⟩
  | .hbm, ⟨50, _⟩ => ⟨S8x4096x1024, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S_, .f32⟩
  | .hbm, ⟨55, _⟩ => ⟨S8x4096x1, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S8x4096x1, .f32⟩
  | .hbm, ⟨61, _⟩ => ⟨S8x4096x1024, .f32⟩
  | .hbm, ⟨62, _⟩ => ⟨S8x4096x1024, .f32⟩
  | .hbm, ⟨63, _⟩ => ⟨S1x1x1024, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== Kernel4.lean ====
abbrev S16x1024 : Shape := ⟨2, ![16, 1024]⟩
abbrev S2x1024x9216 : Shape := ⟨3, ![2, 1024, 9216]⟩
abbrev S2x9216 : Shape := ⟨2, ![2, 9216]⟩
abbrev S2x1x9216 : Shape := ⟨3, ![2, 1, 9216]⟩
abbrev S2x16x9216 : Shape := ⟨3, ![2, 16, 9216]⟩
abbrev S1x1024x1152 : Shape := ⟨3, ![1, 1024, 1152]⟩
abbrev S1x1x1152 : Shape := ⟨3, ![1, 1, 1152]⟩
abbrev S1x16x1152 : Shape := ⟨3, ![1, 16, 1152]⟩
abbrev S1024x1152 : Shape := ⟨2, ![1024, 1152]⟩
abbrev S16x1152 : Shape := ⟨2, ![16, 1152]⟩
abbrev S1x1152 : Shape := ⟨2, ![1, 1152]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x9216, .f32⟩
  | .hbm, ⟨2, _⟩ => ⟨S2x9216, .f32⟩
  | .hbm, ⟨3, _⟩ => ⟨S2x1x9216, .f32⟩
  | .hbm, ⟨4, _⟩ => ⟨S2x16x9216, .f32⟩
  | .local _ .vmem, ⟨0, _⟩ => ⟨S16x1024, .f32⟩
  | .local _ .vmem, ⟨1, _⟩ => ⟨S1x1024x1152, .f32⟩
  | .local _ .vmem, ⟨2, _⟩ => ⟨S1x1024x1152, .f32⟩
  | .local _ .vmem, ⟨3, _⟩ => ⟨S1x1x1152, .f32⟩
  | .local _ .vmem, ⟨4, _⟩ => ⟨S1x1x1152, .f32⟩
  | .local _ .vmem, ⟨5, _⟩ => ⟨S1x16x1152, .f32⟩
  | .local _ .vmem, ⟨6, _⟩ => ⟨S1x16x1152, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16x1024 : Shape := ⟨2, ![16, 1024]⟩
abbrev S2x1024x9216 : Shape := ⟨3, ![2, 1024, 9216]⟩
abbrev S2x9216 : Shape := ⟨2, ![2, 9216]⟩
abbrev S_ : Shape := ⟨0, ![]⟩
abbrev S1x1024x9216 : Shape := ⟨3, ![1, 1024, 9216]⟩
abbrev S1024x9216 : Shape := ⟨2, ![1024, 9216]⟩
abbrev S16x9216 : Shape := ⟨2, ![16, 9216]⟩
abbrev S1x9216 : Shape := ⟨2, ![1, 9216]⟩
abbrev S9216 : Shape := ⟨1, ![9216]⟩
abbrev S1x16x9216 : Shape := ⟨3, ![1, 16, 9216]⟩
abbrev S2x16x9216 : Shape := ⟨3, ![2, 16, 9216]⟩

abbrev nBuf : Space → Nat
  | .hbm => 40
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x9216, .f32⟩
  | .hbm, ⟨2, _⟩ => ⟨S2x9216, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x9216, .f32⟩
  | .hbm, ⟨13, _⟩ => ⟨S1024x9216, .f32⟩
  | .hbm, ⟨14, _⟩ => ⟨S16x9216, .f32⟩
  | .hbm, ⟨15, _⟩ => ⟨S1x9216, .f32⟩
  | .hbm, ⟨16, _⟩ => ⟨S9216, .f32⟩
  | .hbm, ⟨17, _⟩ => ⟨S1x9216, .f32⟩
  | .hbm, ⟨18, _⟩ => ⟨S16x9216, .f32⟩
  | .hbm, ⟨19, _⟩ => ⟨S16x9216, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S_, .f32⟩
  | .hbm, ⟨26, _⟩ => ⟨S16x1024, .f32⟩
  | .hbm, ⟨27, _⟩ => ⟨S16x1024, .f32⟩
  | .hbm, ⟨28, _⟩ => ⟨S16x1024, .f32⟩
  | .hbm, ⟨29, _⟩ => ⟨S1x1024x9216, .f32⟩
  | .hbm, ⟨30, _⟩ => ⟨S1024x9216, .f32⟩
  | .hbm, ⟨31, _⟩ => ⟨S16x9216, .f32⟩
  | .hbm, ⟨32, _⟩ => ⟨S1x9216, .f32⟩
  | .hbm, ⟨33, _⟩ => ⟨S9216, .f32⟩
  | .hbm, ⟨34, _⟩ => ⟨S1x9216, .f32⟩
  | .hbm, ⟨35, _⟩ => ⟨S16x9216, .f32⟩
  | .hbm, ⟨36, _⟩ => ⟨S16x9216, .f32⟩
  | .hbm, ⟨37, _⟩ => ⟨S1x16x9216, .f32⟩
  | .hbm, ⟨38, _⟩ => ⟨S1x16x9216, .f32⟩
  | .hbm, ⟨39, _⟩ => ⟨S2x16x9216, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Kernel5.lean ====
abbrev S32768x1024 : Shape := ⟨2, ![32768, 1024]⟩
abbrev S16x9x1024 : Shape := ⟨3, ![16, 9, 1024]⟩
abbrev S1024 : Shape := ⟨1, ![1024]⟩
abbrev S1024x5152 : Shape := ⟨2, ![1024, 5152]⟩
abbrev S5x1536 : Shape := ⟨2, ![5, 1536]⟩
abbrev S1536 : Shape := ⟨1, ![1536]⟩
abbrev S2x16 : Shape := ⟨2, ![2, 16]⟩
abbrev S31x512 : Shape := ⟨2, ![31, 512]⟩
abbrev S512 : Shape := ⟨1, ![512]⟩
abbrev S3x512 : Shape := ⟨2, ![3, 512]⟩
abbrev S1024x32 : Shape := ⟨2, ![1024, 32]⟩
abbrev S1024x16 : Shape := ⟨2, ![1024, 16]⟩
abbrev S_ : Shape := ⟨0, ![]⟩
abbrev S1024x128 : Shape := ⟨2, ![1024, 128]⟩
abbrev S1024x256 : Shape := ⟨2, ![1024, 256]⟩
abbrev S1024x1536 : Shape := ⟨2, ![1024, 1536]⟩
abbrev S1024x1024 : Shape := ⟨2, ![1024, 1024]⟩
abbrev S1024x4352 : Shape := ⟨2, ![1024, 4352]⟩
abbrev S1024x17x256 : Shape := ⟨3, ![1024, 17, 256]⟩
abbrev S17x1024x256 : Shape := ⟨3, ![17, 1024, 256]⟩
abbrev S5x12x128 : Shape := ⟨3, ![5, 12, 128]⟩
abbrev S12x5x128 : Shape := ⟨3, ![12, 5, 128]⟩
abbrev S1x1536 : Shape := ⟨2, ![1, 1536]⟩
abbrev S1x12x128 : Shape := ⟨3, ![1, 12, 128]⟩
abbrev S12x1x128 : Shape := ⟨3, ![12, 1, 128]⟩
abbrev S1x16 : Shape := ⟨2, ![1, 16]⟩
abbrev S16 : Shape := ⟨1, ![16]⟩
abbrev S128 : Shape := ⟨1, ![128]⟩
abbrev S256 : Shape := ⟨1, ![256]⟩
abbrev S1x256 : Shape := ⟨2, ![1, 256]⟩
abbrev S31x4x128 : Shape := ⟨3, ![31, 4, 128]⟩
abbrev S4x31x128 : Shape := ⟨3, ![4, 31, 128]⟩
abbrev S1x512 : Shape := ⟨2, ![1, 512]⟩
abbrev S1x4x128 : Shape := ⟨3, ![1, 4, 128]⟩
abbrev S4x1x128 : Shape := ⟨3, ![4, 1, 128]⟩
abbrev S1x1024 : Shape := ⟨2, ![1, 1024]⟩
abbrev S32768x1536 : Shape := ⟨2, ![32768, 1536]⟩
abbrev S2x32768x128 : Shape := ⟨3, ![2, 32768, 128]⟩
abbrev S32768x512 : Shape := ⟨2, ![32768, 512]⟩
abbrev S512x1024 : Shape := ⟨2, ![512, 1024]⟩
abbrev S64x1024 : Shape := ⟨2, ![64, 1024]⟩
abbrev S1x9x1024 : Shape := ⟨3, ![1, 9, 1024]⟩
abbrev S512x1536 : Shape := ⟨2, ![512, 1536]⟩
abbrev S2x512x128 : Shape := ⟨3, ![2, 512, 128]⟩
abbrev S512x512 : Shape := ⟨2, ![512, 512]⟩
abbrev S34x544x128 : Shape := ⟨3, ![34, 544, 128]⟩
abbrev S12x512x128 : Shape := ⟨3, ![12, 512, 128]⟩
abbrev S4x768x128 : Shape := ⟨3, ![4, 768, 128]⟩
abbrev S4x512x128 : Shape := ⟨3, ![4, 512, 128]⟩
abbrev S9x1024 : Shape := ⟨2, ![9, 1024]⟩
abbrev S512x1 : Shape := ⟨2, ![512, 1]⟩
abbrev S64 : Shape := ⟨1, ![64]⟩
abbrev S64x1 : Shape := ⟨2, ![64, 1]⟩
abbrev S16x1024 : Shape := ⟨2, ![16, 1024]⟩
abbrev S32x1024 : Shape := ⟨2, ![32, 1024]⟩
abbrev S1x1024x256 : Shape := ⟨3, ![1, 1024, 256]⟩
abbrev S32x256 : Shape := ⟨2, ![32, 256]⟩
abbrev S16x256 : Shape := ⟨2, ![16, 256]⟩
abbrev S16x128 : Shape := ⟨2, ![16, 128]⟩
abbrev S1x16x128 : Shape := ⟨3, ![1, 16, 128]⟩
abbrev S64x128 : Shape := ⟨2, ![64, 128]⟩
abbrev S1x64x128 : Shape := ⟨3, ![1, 64, 128]⟩
abbrev S512x256 : Shape := ⟨2, ![512, 256]⟩
abbrev S512x128 : Shape := ⟨2, ![512, 128]⟩
abbrev S1x512x128 : Shape := ⟨3, ![1, 512, 128]⟩
abbrev S1x1x128 : Shape := ⟨3, ![1, 1, 128]⟩
abbrev S1x128 : Shape := ⟨2, ![1, 128]⟩
abbrev S8x128 : Shape := ⟨2, ![8, 128]⟩
abbrev S1x8x128 : Shape := ⟨3, ![1, 8, 128]⟩
abbrev S128x1024 : Shape := ⟨2, ![128, 1024]⟩
abbrev S128x256 : Shape := ⟨2, ![128, 256]⟩
abbrev S128x128 : Shape := ⟨2, ![128, 128]⟩
abbrev S640x128 : Shape := ⟨2, ![640, 128]⟩

abbrev nBuf : Space → Nat
  | .hbm => 61
  | .vmem => 35
  | .smem => 0
  | _ => 0

abbrev bufTy : (tb : Table) → Fin (tcTables nBuf tb) → BufTy
  | .hbm, ⟨0, _⟩ => ⟨S32768x1024, .f32⟩
  | .hbm, ⟨1, _⟩ => ⟨S16x9x1024, .f32⟩
  | .hbm, ⟨2, _⟩ => ⟨S1024, .f32⟩
  | .hbm, ⟨3, _⟩ => ⟨S1024x5152, .bf16⟩
  | .hbm, ⟨4, _⟩ => ⟨S5x1536, .f32⟩
  | .hbm, ⟨5, _⟩ => ⟨S1536, .f32⟩
  | .hbm, ⟨6, _⟩ => ⟨S2x16, .f32⟩
  | .hbm, ⟨7, _⟩ => ⟨S31x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S3x512, .f32⟩
  | .hbm, ⟨12, _⟩ => ⟨S512, .f32⟩
  | .hbm, ⟨13, _⟩ => ⟨S1024x32, .bf16⟩
  | .hbm, ⟨14, _⟩ => ⟨S1024x16, .bf16⟩
  | .hbm, ⟨15, _⟩ => ⟨S_, .i32⟩
  | .hbm, ⟨16, _⟩ => ⟨S_, .bf16⟩
  | .hbm, ⟨17, _⟩ => ⟨S1024x128, .bf16⟩
  | .hbm, ⟨18, _⟩ => ⟨S1024x16, .bf16⟩
  | .hbm, ⟨19, _⟩ => ⟨S_, .i32⟩
  | .hbm, ⟨20, _⟩ => ⟨S_, .bf16⟩
  | .hbm, ⟨21, _⟩ => ⟨S1024x128, .bf16⟩
  | .hbm, ⟨22, _⟩ => ⟨S1024x256, .bf16⟩
  | .hbm, ⟨23, _⟩ => ⟨S1024x1536, .bf16⟩
  | .hbm, ⟨24, _⟩ => ⟨S1024x1024, .bf16⟩
  | .hbm, ⟨25, _⟩ => ⟨S1024x1536, .bf16⟩
  | .hbm, ⟨26, _⟩ => ⟨S1024x4352, .bf16⟩
  | .hbm, ⟨27, _⟩ => ⟨S1024x1024, .bf16⟩
  | .hbm, ⟨28, _⟩ => ⟨S1024x17x256, .bf16⟩
  | .hbm, ⟨29, _⟩ => ⟨S17x1024x256, .bf16⟩
  | .hbm, ⟨30, _⟩ => ⟨S5x12x128, .f32⟩
  | .hbm, ⟨31, _⟩ => ⟨S12x5x128, .f32⟩
  | .hbm, ⟨32, _⟩ => ⟨S1x1536, .f32⟩
  | .hbm, ⟨33, _⟩ => ⟨S1x12x128, .f32⟩
  | .hbm, ⟨34, _⟩ => ⟨S12x1x128, .f32⟩
  | .hbm, ⟨35, _⟩ => ⟨S1x16, .f32⟩
  | .hbm, ⟨36, _⟩ => ⟨S16, .f32⟩
  | .hbm, ⟨37, _⟩ => ⟨S_, .i32⟩
  | .hbm, ⟨38, _⟩ => ⟨S_, .f32⟩
  | .hbm, ⟨39, _⟩ => ⟨S128, .f32⟩
  | .hbm, ⟨40, _⟩ => ⟨S1x16, .f32⟩
  | .hbm, ⟨41, _⟩ => ⟨S16, .f32⟩
  | .hbm, ⟨42, _⟩ => ⟨S_, .i32⟩
  | .hbm, ⟨43, _⟩ => ⟨S_, .f32⟩
  | .hbm, ⟨44, _⟩ => ⟨S128, .f32⟩
  | .hbm, ⟨45, _⟩ => ⟨S256, .f32⟩
  | .hbm, ⟨46, _⟩ => ⟨S1x256, .f32⟩
  | .hbm, ⟨47, _⟩ => ⟨S31x4x128, .f32⟩
  | .hbm, ⟨48, _⟩ => ⟨S4x31x128, .f32⟩
  | .hbm, ⟨49, _⟩ => ⟨S1x512, .f32⟩
  | .hbm, ⟨50, _⟩ => ⟨S1x4x128, .f32⟩
  | .hbm, ⟨51, _⟩ => ⟨S4x1x128, .f32⟩
  | .hbm, ⟨52, _⟩ => ⟨S1x512, .f32⟩
  | .hbm, ⟨53, _⟩ => ⟨S1x512, .f32⟩
  | .hbm, ⟨54, _⟩ => ⟨S1x512, .f32⟩
  | .hbm, ⟨55, _⟩ => ⟨S1x1024, .f32⟩
  | .hbm, ⟨56, _⟩ => ⟨S32768x1536, .bf16⟩
  | .hbm, ⟨57, _⟩ => ⟨S2x32768x128, .f32⟩
  | .hbm, ⟨58, _⟩ => ⟨S32768x1024, .bf16⟩
  | .hbm, ⟨59, _⟩ => ⟨S32768x512, .bf16⟩
  | .hbm, ⟨60, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S1x9x1024, .f32⟩
  | .local _ .vmem, ⟨7, _⟩ => ⟨S1x9x1024, .f32⟩
  | .local _ .vmem, ⟨8, _⟩ => ⟨S1x1024, .f32⟩
  | .local _ .vmem, ⟨9, _⟩ => ⟨S1024x1024, .bf16⟩
  | .local _ .vmem, ⟨10, _⟩ => ⟨S17x1024x256, .bf16⟩
  | .local _ .vmem, ⟨11, _⟩ => ⟨S12x5x128, .f32⟩
  | .local _ .vmem, ⟨12, _⟩ => ⟨S12x1x128, .f32⟩
  | .local _ .vmem, ⟨13, _⟩ => ⟨S1x256, .f32⟩
  | .local _ .vmem, ⟨14, _⟩ => ⟨S4x31x128, .f32⟩
  | .local _ .vmem, ⟨15, _⟩ => ⟨S4x1x128, .f32⟩
  | .local _ .vmem, ⟨16, _⟩ => ⟨S1x512, .f32⟩
  | .local _ .vmem, ⟨17, _⟩ => ⟨S1x512, .f32⟩
  | .local _ .vmem, ⟨18, _⟩ => ⟨S3x512, .f32⟩
  | .local _ .vmem, ⟨19, _⟩ => ⟨S1x512, .f32⟩
  | .local _ .vmem, ⟨20, _⟩ => ⟨S512x1536, .bf16⟩
  | .local _ .vmem, ⟨21, _⟩ => ⟨S512x1536, .bf16⟩
  | .local _ .vmem, ⟨22, _⟩ => ⟨S2x512x128, .f32⟩
  | .local _ .vmem, ⟨23, _⟩ => ⟨S2x512x128, .f32⟩
  | .local _ .vmem, ⟨24, _⟩ => ⟨S512x1024, .bf16⟩
  | .local _ .vmem, ⟨25, _⟩ => ⟨S512x1024, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x1024, .bf16⟩
  | .local _ .vmem, ⟨31, _⟩ => ⟨S34x544x128, .f32⟩
  | .local _ .vmem, ⟨32, _⟩ => ⟨S12x512x128, .f32⟩
  | .local _ .vmem, ⟨33, _⟩ => ⟨S4x768x128, .f32⟩
  | .local _ .vmem, ⟨34, _⟩ => ⟨S4x512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_call0_v0 : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_call1_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_1 : Ref sig .tc := ⟨.hbm, 37, rfl⟩
abbrev main_call2_v0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_2 : Ref sig .tc := ⟨.hbm, 42, rfl⟩
abbrev main_call3_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35_0 : Ref sig .tc := ⟨.hbm, 56, rfl⟩
abbrev main_v35_1 : Ref sig .tc := ⟨.hbm, 57, rfl⟩
abbrev main_v35_2 : Ref sig .tc := ⟨.hbm, 58, rfl⟩
abbrev main_v35_3 : Ref sig .tc := ⟨.hbm, 59, rfl⟩
abbrev main_v35_4 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_402 : BitVec 32 := 0#32
  let c8_i32 : BitVec 32 := 8#32
  let v565 : BitVec 32 := Scalar.addi c0_i32_402 c8_i32
  let c1_i32 : BitVec 32 := 1#32
  ⟨c0_i32_402, v565, c1_i32⟩
def k0_off1 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v945 : Index := Scalar.indexCast v944
  let c0_647 : Index := 0#32
  let c0_648 : Index := 0#32
  ![v945.toNat, 0, 0]
def k0_off2 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v948 : Index := Scalar.indexCast v944
  let c0_649 : Index := 0#32
  let c0_650 : Index := 0#32
  ![v948.toNat, 0, 0]
def k0_off3 (k0_t1 : Fin k0_t1_loop.trips) (c0_i32_616 : BitVec 32) (c0_i32_622 : BitVec 32) (c_m15_i32 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v954 : Index := Scalar.indexCast v944
  let c16_i32 : BitVec 32 := 16#32
  let c4_i32 : BitVec 32 := 4#32
  let c0_i32_617 : BitVec 32 := 0#32
  let v894 : BitVec 1 := Scalar.cmpi .eq c4_i32 c0_i32_617
  let c1_i32_618 : BitVec 32 := 1#32
  let v895 : BitVec 32 := Scalar.select v894 c1_i32_618 c4_i32
  let v896 : BitVec 32 := Scalar.remsi v893 v895
  let c0_i32_620 : BitVec 32 := 0#32
  let v898 : BitVec 1 := Scalar.cmpi .slt v896 c0_i32_620
  let c0_i32_621 : BitVec 32 := 0#32
  let v899 : BitVec 1 := Scalar.cmpi .slt v895 c0_i32_621
  let v900 : BitVec 1 := Scalar.xori v898 v899
  let c0_i32_619 : BitVec 32 := 0#32
  let v897 : BitVec 1 := Scalar.cmpi .ne v896 c0_i32_619
  let v901 : BitVec 1 := Scalar.andi v900 v897
  let v902 : BitVec 32 := Scalar.addi v896 v895
  let v903 : BitVec 32 := Scalar.select v901 v902 v896
  let c192_i32 : BitVec 32 := 192#32
  let v904 : BitVec 32 := Scalar.muli v903 c192_i32
  let v905 : BitVec 32 := Scalar.addi c16_i32 v904
  let v906 : BitVec 32 := Scalar.addi v905 c0_i32_622
  let v953 : BitVec 32 := Scalar.addi v906 c_m15_i32
  let v955 : Index := Scalar.indexCast v953
  let c0_651 : Index := 0#32
  ![v954.toNat, v955.toNat, 0]
def k0_off3_at (r : Fin 272) : BitVec 32 × BitVec 32 × BitVec 32 :=
  if r.val < 136 then
    if r.val < 68 then
      if r.val < 34 then
        if r.val < 17 then
          if r.val < 8 then
            if r.val < 4 then
              if r.val < 2 then
                if r.val < 1 then
                  (0#32, 0#32, 4294967281#32)
                else
                  (0#32, 0#32, 4294967282#32)
              else
                if r.val < 3 then
                  (0#32, 0#32, 4294967283#32)
                else
                  (0#32, 0#32, 4294967284#32)
            else
              if r.val < 6 then
                if r.val < 5 then
                  (0#32, 32#32, 4294967281#32)
                else
                  (0#32, 32#32, 4294967282#32)
              else
                if r.val < 7 then
                  (0#32, 32#32, 4294967283#32)
                else
                  (0#32, 32#32, 4294967284#32)
          else
            if r.val < 12 then
              if r.val < 10 then
                if r.val < 9 then
                  (0#32, 96#32, 4294967281#32)
                else
                  (0#32, 96#32, 4294967282#32)
              else
                if r.val < 11 then
                  (0#32, 96#32, 4294967283#32)
                else
                  (0#32, 96#32, 4294967284#32)
            else
              if r.val < 14 then
                if r.val < 13 then
                  (0#32, 128#32, 4294967281#32)
                else
                  (0#32, 128#32, 4294967282#32)
              else
                if r.val < 15 then
                  (0#32, 128#32, 4294967283#32)
                else
                  if r.val < 16 then
                    (0#32, 128#32, 4294967284#32)
                  else
                    (0#32, 0#32, 4294967285#32)
        else
          if r.val < 25 then
            if r.val < 21 then
              if r.val < 19 then
                if r.val < 18 then
                  (0#32, 32#32, 4294967285#32)
                else
                  (0#32, 96#32, 4294967285#32)
              else
                if r.val < 20 then
                  (0#32, 128#32, 4294967285#32)
                else
                  (0#32, 0#32, 4294967286#32)
            else
              if r.val < 23 then
                if r.val < 22 then
                  (0#32, 32#32, 4294967286#32)
                else
                  (0#32, 96#32, 4294967286#32)
              else
                if r.val < 24 then
                  (0#32, 128#32, 4294967286#32)
                else
                  (0#32, 0#32, 4294967287#32)
          else
            if r.val < 29 then
              if r.val < 27 then
                if r.val < 26 then
                  (0#32, 32#32, 4294967287#32)
                else
                  (0#32, 96#32, 4294967287#32)
              else
                if r.val < 28 then
                  (0#32, 128#32, 4294967287#32)
                else
                  (0#32, 0#32, 4294967288#32)
            else
              if r.val < 31 then
                if r.val < 30 then
                  (0#32, 32#32, 4294967288#32)
                else
                  (0#32, 96#32, 4294967288#32)
              else
                if r.val < 32 then
                  (0#32, 128#32, 4294967288#32)
                else
                  if r.val < 33 then
                    (0#32, 0#32, 4294967289#32)
                  else
                    (0#32, 32#32, 4294967289#32)
      else
        if r.val < 51 then
          if r.val < 42 then
            if r.val < 38 then
              if r.val < 36 then
                if r.val < 35 then
                  (0#32, 96#32, 4294967289#32)
                else
                  (0#32, 128#32, 4294967289#32)
              else
                if r.val < 37 then
                  (0#32, 0#32, 4294967290#32)
                else
                  (0#32, 32#32, 4294967290#32)
            else
              if r.val < 40 then
                if r.val < 39 then
                  (0#32, 96#32, 4294967290#32)
                else
                  (0#32, 128#32, 4294967290#32)
              else
                if r.val < 41 then
                  (0#32, 0#32, 4294967291#32)
                else
                  (0#32, 32#32, 4294967291#32)
          else
            if r.val < 46 then
              if r.val < 44 then
                if r.val < 43 then
                  (0#32, 96#32, 4294967291#32)
                else
                  (0#32, 128#32, 4294967291#32)
              else
                if r.val < 45 then
                  (0#32, 0#32, 4294967292#32)
                else
                  (0#32, 32#32, 4294967292#32)
            else
              if r.val < 48 then
                if r.val < 47 then
                  (0#32, 96#32, 4294967292#32)
                else
                  (0#32, 128#32, 4294967292#32)
              else
                if r.val < 49 then
                  (0#32, 0#32, 4294967293#32)
                else
                  if r.val < 50 then
                    (0#32, 32#32, 4294967293#32)
                  else
                    (0#32, 96#32, 4294967293#32)
        else
          if r.val < 59 then
            if r.val < 55 then
              if r.val < 53 then
                if r.val < 52 then
                  (0#32, 128#32, 4294967293#32)
                else
                  (0#32, 0#32, 4294967294#32)
              else
                if r.val < 54 then
                  (0#32, 32#32, 4294967294#32)
                else
                  (0#32, 96#32, 4294967294#32)
            else
              if r.val < 57 then
                if r.val < 56 then
                  (0#32, 128#32, 4294967294#32)
                else
                  (0#32, 0#32, 4294967295#32)
              else
                if r.val < 58 then
                  (0#32, 32#32, 4294967295#32)
                else
                  (0#32, 96#32, 4294967295#32)
          else
            if r.val < 63 then
              if r.val < 61 then
                if r.val < 60 then
                  (0#32, 128#32, 4294967295#32)
                else
                  (0#32, 0#32, 0#32)
              else
                if r.val < 62 then
                  (0#32, 32#32, 0#32)
                else
                  (0#32, 96#32, 0#32)
            else
              if r.val < 65 then
                if r.val < 64 then
                  (0#32, 128#32, 0#32)
                else
                  (0#32, 0#32, 1#32)
              else
                if r.val < 66 then
                  (0#32, 32#32, 1#32)
                else
                  if r.val < 67 then
                    (0#32, 96#32, 1#32)
                  else
                    (0#32, 128#32, 1#32)
    else
      if r.val < 102 then
        if r.val < 85 then
          if r.val < 76 then
            if r.val < 72 then
              if r.val < 70 then
                if r.val < 69 then
                  (0#32, 0#32, 2#32)
                else
                  (0#32, 32#32, 2#32)
              else
                if r.val < 71 then
                  (0#32, 96#32, 2#32)
                else
                  (0#32, 128#32, 2#32)
            else
              if r.val < 74 then
                if r.val < 73 then
                  (0#32, 0#32, 3#32)
                else
                  (0#32, 32#32, 3#32)
              else
                if r.val < 75 then
                  (0#32, 96#32, 3#32)
                else
                  (0#32, 128#32, 3#32)
          else
            if r.val < 80 then
              if r.val < 78 then
                if r.val < 77 then
                  (0#32, 0#32, 4#32)
                else
                  (0#32, 32#32, 4#32)
              else
                if r.val < 79 then
                  (0#32, 96#32, 4#32)
                else
                  (0#32, 128#32, 4#32)
            else
              if r.val < 82 then
                if r.val < 81 then
                  (0#32, 0#32, 5#32)
                else
                  (0#32, 32#32, 5#32)
              else
                if r.val < 83 then
                  (0#32, 96#32, 5#32)
                else
                  if r.val < 84 then
                    (0#32, 128#32, 5#32)
                  else
                    (0#32, 0#32, 6#32)
        else
          if r.val < 93 then
            if r.val < 89 then
              if r.val < 87 then
                if r.val < 86 then
                  (0#32, 32#32, 6#32)
                else
                  (0#32, 96#32, 6#32)
              else
                if r.val < 88 then
                  (0#32, 128#32, 6#32)
                else
                  (0#32, 0#32, 7#32)
            else
              if r.val < 91 then
                if r.val < 90 then
                  (0#32, 32#32, 7#32)
                else
                  (0#32, 96#32, 7#32)
              else
                if r.val < 92 then
                  (0#32, 128#32, 7#32)
                else
                  (0#32, 0#32, 8#32)
          else
            if r.val < 97 then
              if r.val < 95 then
                if r.val < 94 then
                  (0#32, 32#32, 8#32)
                else
                  (0#32, 96#32, 8#32)
              else
                if r.val < 96 then
                  (0#32, 128#32, 8#32)
                else
                  (0#32, 0#32, 9#32)
            else
              if r.val < 99 then
                if r.val < 98 then
                  (0#32, 32#32, 9#32)
                else
                  (0#32, 96#32, 9#32)
              else
                if r.val < 100 then
                  (0#32, 128#32, 9#32)
                else
                  if r.val < 101 then
                    (0#32, 0#32, 10#32)
                  else
                    (0#32, 32#32, 10#32)
      else
        if r.val < 119 then
          if r.val < 110 then
            if r.val < 106 then
              if r.val < 104 then
                if r.val < 103 then
                  (0#32, 96#32, 10#32)
                else
                  (0#32, 128#32, 10#32)
              else
                if r.val < 105 then
                  (0#32, 0#32, 11#32)
                else
                  (0#32, 32#32, 11#32)
            else
              if r.val < 108 then
                if r.val < 107 then
                  (0#32, 96#32, 11#32)
                else
                  (0#32, 128#32, 11#32)
              else
                if r.val < 109 then
                  (0#32, 0#32, 12#32)
                else
                  (0#32, 32#32, 12#32)
          else
            if r.val < 114 then
              if r.val < 112 then
                if r.val < 111 then
                  (0#32, 96#32, 12#32)
                else
                  (0#32, 128#32, 12#32)
              else
                if r.val < 113 then
                  (0#32, 0#32, 13#32)
                else
                  (0#32, 32#32, 13#32)
            else
              if r.val < 116 then
                if r.val < 115 then
                  (0#32, 96#32, 13#32)
                else
                  (0#32, 128#32, 13#32)
              else
                if r.val < 117 then
                  (0#32, 0#32, 14#32)
                else
                  if r.val < 118 then
                    (0#32, 32#32, 14#32)
                  else
                    (0#32, 96#32, 14#32)
        else
          if r.val < 127 then
            if r.val < 123 then
              if r.val < 121 then
                if r.val < 120 then
                  (0#32, 128#32, 14#32)
                else
                  (0#32, 0#32, 15#32)
              else
                if r.val < 122 then
                  (0#32, 32#32, 15#32)
                else
                  (0#32, 96#32, 15#32)
            else
              if r.val < 125 then
                if r.val < 124 then
                  (0#32, 128#32, 15#32)
                else
                  (0#32, 0#32, 16#32)
              else
                if r.val < 126 then
                  (0#32, 32#32, 16#32)
                else
                  (0#32, 96#32, 16#32)
          else
            if r.val < 131 then
              if r.val < 129 then
                if r.val < 128 then
                  (0#32, 128#32, 16#32)
                else
                  (0#32, 0#32, 17#32)
              else
                if r.val < 130 then
                  (0#32, 32#32, 17#32)
                else
                  (0#32, 96#32, 17#32)
            else
              if r.val < 133 then
                if r.val < 132 then
                  (0#32, 128#32, 17#32)
                else
                  (0#32, 0#32, 18#32)
              else
                if r.val < 134 then
                  (0#32, 32#32, 18#32)
                else
                  if r.val < 135 then
                    (0#32, 96#32, 18#32)
                  else
                    (0#32, 128#32, 18#32)
  else
    if r.val < 204 then
      if r.val < 170 then
        if r.val < 153 then
          if r.val < 144 then
            if r.val < 140 then
              if r.val < 138 then
                if r.val < 137 then
                  (1#32, 0#32, 4294967281#32)
                else
                  (1#32, 0#32, 4294967282#32)
              else
                if r.val < 139 then
                  (1#32, 0#32, 4294967283#32)
                else
                  (1#32, 0#32, 4294967284#32)
            else
              if r.val < 142 then
                if r.val < 141 then
                  (1#32, 32#32, 4294967281#32)
                else
                  (1#32, 32#32, 4294967282#32)
              else
                if r.val < 143 then
                  (1#32, 32#32, 4294967283#32)
                else
                  (1#32, 32#32, 4294967284#32)
          else
            if r.val < 148 then
              if r.val < 146 then
                if r.val < 145 then
                  (1#32, 96#32, 4294967281#32)
                else
                  (1#32, 96#32, 4294967282#32)
              else
                if r.val < 147 then
                  (1#32, 96#32, 4294967283#32)
                else
                  (1#32, 96#32, 4294967284#32)
            else
              if r.val < 150 then
                if r.val < 149 then
                  (1#32, 128#32, 4294967281#32)
                else
                  (1#32, 128#32, 4294967282#32)
              else
                if r.val < 151 then
                  (1#32, 128#32, 4294967283#32)
                else
                  if r.val < 152 then
                    (1#32, 128#32, 4294967284#32)
                  else
                    (1#32, 0#32, 4294967285#32)
        else
          if r.val < 161 then
            if r.val < 157 then
              if r.val < 155 then
                if r.val < 154 then
                  (1#32, 32#32, 4294967285#32)
                else
                  (1#32, 96#32, 4294967285#32)
              else
                if r.val < 156 then
                  (1#32, 128#32, 4294967285#32)
                else
                  (1#32, 0#32, 4294967286#32)
            else
              if r.val < 159 then
                if r.val < 158 then
                  (1#32, 32#32, 4294967286#32)
                else
                  (1#32, 96#32, 4294967286#32)
              else
                if r.val < 160 then
                  (1#32, 128#32, 4294967286#32)
                else
                  (1#32, 0#32, 4294967287#32)
          else
            if r.val < 165 then
              if r.val < 163 then
                if r.val < 162 then
                  (1#32, 32#32, 4294967287#32)
                else
                  (1#32, 96#32, 4294967287#32)
              else
                if r.val < 164 then
                  (1#32, 128#32, 4294967287#32)
                else
                  (1#32, 0#32, 4294967288#32)
            else
              if r.val < 167 then
                if r.val < 166 then
                  (1#32, 32#32, 4294967288#32)
                else
                  (1#32, 96#32, 4294967288#32)
              else
                if r.val < 168 then
                  (1#32, 128#32, 4294967288#32)
                else
                  if r.val < 169 then
                    (1#32, 0#32, 4294967289#32)
                  else
                    (1#32, 32#32, 4294967289#32)
      else
        if r.val < 187 then
          if r.val < 178 then
            if r.val < 174 then
              if r.val < 172 then
                if r.val < 171 then
                  (1#32, 96#32, 4294967289#32)
                else
                  (1#32, 128#32, 4294967289#32)
              else
                if r.val < 173 then
                  (1#32, 0#32, 4294967290#32)
                else
                  (1#32, 32#32, 4294967290#32)
            else
              if r.val < 176 then
                if r.val < 175 then
                  (1#32, 96#32, 4294967290#32)
                else
                  (1#32, 128#32, 4294967290#32)
              else
                if r.val < 177 then
                  (1#32, 0#32, 4294967291#32)
                else
                  (1#32, 32#32, 4294967291#32)
          else
            if r.val < 182 then
              if r.val < 180 then
                if r.val < 179 then
                  (1#32, 96#32, 4294967291#32)
                else
                  (1#32, 128#32, 4294967291#32)
              else
                if r.val < 181 then
                  (1#32, 0#32, 4294967292#32)
                else
                  (1#32, 32#32, 4294967292#32)
            else
              if r.val < 184 then
                if r.val < 183 then
                  (1#32, 96#32, 4294967292#32)
                else
                  (1#32, 128#32, 4294967292#32)
              else
                if r.val < 185 then
                  (1#32, 0#32, 4294967293#32)
                else
                  if r.val < 186 then
                    (1#32, 32#32, 4294967293#32)
                  else
                    (1#32, 96#32, 4294967293#32)
        else
          if r.val < 195 then
            if r.val < 191 then
              if r.val < 189 then
                if r.val < 188 then
                  (1#32, 128#32, 4294967293#32)
                else
                  (1#32, 0#32, 4294967294#32)
              else
                if r.val < 190 then
                  (1#32, 32#32, 4294967294#32)
                else
                  (1#32, 96#32, 4294967294#32)
            else
              if r.val < 193 then
                if r.val < 192 then
                  (1#32, 128#32, 4294967294#32)
                else
                  (1#32, 0#32, 4294967295#32)
              else
                if r.val < 194 then
                  (1#32, 32#32, 4294967295#32)
                else
                  (1#32, 96#32, 4294967295#32)
          else
            if r.val < 199 then
              if r.val < 197 then
                if r.val < 196 then
                  (1#32, 128#32, 4294967295#32)
                else
                  (1#32, 0#32, 0#32)
              else
                if r.val < 198 then
                  (1#32, 32#32, 0#32)
                else
                  (1#32, 96#32, 0#32)
            else
              if r.val < 201 then
                if r.val < 200 then
                  (1#32, 128#32, 0#32)
                else
                  (1#32, 0#32, 1#32)
              else
                if r.val < 202 then
                  (1#32, 32#32, 1#32)
                else
                  if r.val < 203 then
                    (1#32, 96#32, 1#32)
                  else
                    (1#32, 128#32, 1#32)
    else
      if r.val < 238 then
        if r.val < 221 then
          if r.val < 212 then
            if r.val < 208 then
              if r.val < 206 then
                if r.val < 205 then
                  (1#32, 0#32, 2#32)
                else
                  (1#32, 32#32, 2#32)
              else
                if r.val < 207 then
                  (1#32, 96#32, 2#32)
                else
                  (1#32, 128#32, 2#32)
            else
              if r.val < 210 then
                if r.val < 209 then
                  (1#32, 0#32, 3#32)
                else
                  (1#32, 32#32, 3#32)
              else
                if r.val < 211 then
                  (1#32, 96#32, 3#32)
                else
                  (1#32, 128#32, 3#32)
          else
            if r.val < 216 then
              if r.val < 214 then
                if r.val < 213 then
                  (1#32, 0#32, 4#32)
                else
                  (1#32, 32#32, 4#32)
              else
                if r.val < 215 then
                  (1#32, 96#32, 4#32)
                else
                  (1#32, 128#32, 4#32)
            else
              if r.val < 218 then
                if r.val < 217 then
                  (1#32, 0#32, 5#32)
                else
                  (1#32, 32#32, 5#32)
              else
                if r.val < 219 then
                  (1#32, 96#32, 5#32)
                else
                  if r.val < 220 then
                    (1#32, 128#32, 5#32)
                  else
                    (1#32, 0#32, 6#32)
        else
          if r.val < 229 then
            if r.val < 225 then
              if r.val < 223 then
                if r.val < 222 then
                  (1#32, 32#32, 6#32)
                else
                  (1#32, 96#32, 6#32)
              else
                if r.val < 224 then
                  (1#32, 128#32, 6#32)
                else
                  (1#32, 0#32, 7#32)
            else
              if r.val < 227 then
                if r.val < 226 then
                  (1#32, 32#32, 7#32)
                else
                  (1#32, 96#32, 7#32)
              else
                if r.val < 228 then
                  (1#32, 128#32, 7#32)
                else
                  (1#32, 0#32, 8#32)
          else
            if r.val < 233 then
              if r.val < 231 then
                if r.val < 230 then
                  (1#32, 32#32, 8#32)
                else
                  (1#32, 96#32, 8#32)
              else
                if r.val < 232 then
                  (1#32, 128#32, 8#32)
                else
                  (1#32, 0#32, 9#32)
            else
              if r.val < 235 then
                if r.val < 234 then
                  (1#32, 32#32, 9#32)
                else
                  (1#32, 96#32, 9#32)
              else
                if r.val < 236 then
                  (1#32, 128#32, 9#32)
                else
                  if r.val < 237 then
                    (1#32, 0#32, 10#32)
                  else
                    (1#32, 32#32, 10#32)
      else
        if r.val < 255 then
          if r.val < 246 then
            if r.val < 242 then
              if r.val < 240 then
                if r.val < 239 then
                  (1#32, 96#32, 10#32)
                else
                  (1#32, 128#32, 10#32)
              else
                if r.val < 241 then
                  (1#32, 0#32, 11#32)
                else
                  (1#32, 32#32, 11#32)
            else
              if r.val < 244 then
                if r.val < 243 then
                  (1#32, 96#32, 11#32)
                else
                  (1#32, 128#32, 11#32)
              else
                if r.val < 245 then
                  (1#32, 0#32, 12#32)
                else
                  (1#32, 32#32, 12#32)
          else
            if r.val < 250 then
              if r.val < 248 then
                if r.val < 247 then
                  (1#32, 96#32, 12#32)
                else
                  (1#32, 128#32, 12#32)
              else
                if r.val < 249 then
                  (1#32, 0#32, 13#32)
                else
                  (1#32, 32#32, 13#32)
            else
              if r.val < 252 then
                if r.val < 251 then
                  (1#32, 96#32, 13#32)
                else
                  (1#32, 128#32, 13#32)
              else
                if r.val < 253 then
                  (1#32, 0#32, 14#32)
                else
                  if r.val < 254 then
                    (1#32, 32#32, 14#32)
                  else
                    (1#32, 96#32, 14#32)
        else
          if r.val < 263 then
            if r.val < 259 then
              if r.val < 257 then
                if r.val < 256 then
                  (1#32, 128#32, 14#32)
                else
                  (1#32, 0#32, 15#32)
              else
                if r.val < 258 then
                  (1#32, 32#32, 15#32)
                else
                  (1#32, 96#32, 15#32)
            else
              if r.val < 261 then
                if r.val < 260 then
                  (1#32, 128#32, 15#32)
                else
                  (1#32, 0#32, 16#32)
              else
                if r.val < 262 then
                  (1#32, 32#32, 16#32)
                else
                  (1#32, 96#32, 16#32)
          else
            if r.val < 267 then
              if r.val < 265 then
                if r.val < 264 then
                  (1#32, 128#32, 16#32)
                else
                  (1#32, 0#32, 17#32)
              else
                if r.val < 266 then
                  (1#32, 32#32, 17#32)
                else
                  (1#32, 96#32, 17#32)
            else
              if r.val < 269 then
                if r.val < 268 then
                  (1#32, 128#32, 17#32)
                else
                  (1#32, 0#32, 18#32)
              else
                if r.val < 270 then
                  (1#32, 32#32, 18#32)
                else
                  if r.val < 271 then
                    (1#32, 96#32, 18#32)
                  else
                    (1#32, 128#32, 18#32)
def k0_off4 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v1049 : Index := Scalar.indexCast v944
  let c1_679 : Index := 1#32
  let c0_680 : Index := 0#32
  ![v1049.toNat, 1, 0]
def k0_off5 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v1166 : Index := Scalar.indexCast v944
  let c2_712 : Index := 2#32
  let c0_713 : Index := 0#32
  ![v1166.toNat, 2, 0]
def k0_off6 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v1283 : Index := Scalar.indexCast v944
  let c3_745 : Index := 3#32
  let c0_746 : Index := 0#32
  ![v1283.toNat, 3, 0]
def k0_off7 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v1400 : Index := Scalar.indexCast v944
  let c4_778 : Index := 4#32
  let c0_779 : Index := 0#32
  ![v1400.toNat, 4, 0]
def k0_off8 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v1517 : Index := Scalar.indexCast v944
  let c5_811 : Index := 5#32
  let c0_812 : Index := 0#32
  ![v1517.toNat, 5, 0]
def k0_off9 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v1634 : Index := Scalar.indexCast v944
  let c6_844 : Index := 6#32
  let c0_845 : Index := 0#32
  ![v1634.toNat, 6, 0]
def k0_off10 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v1751 : Index := Scalar.indexCast v944
  let c7_877 : Index := 7#32
  let c0_878 : Index := 0#32
  ![v1751.toNat, 7, 0]
def k0_off11 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v1868 : Index := Scalar.indexCast v944
  let c8_910 : Index := 8#32
  let c0_911 : Index := 0#32
  ![v1868.toNat, 8, 0]
def k0_off12 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v1985 : Index := Scalar.indexCast v944
  let c9_943 : Index := 9#32
  let c0_944 : Index := 0#32
  ![v1985.toNat, 9, 0]
def k0_off13 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v2102 : Index := Scalar.indexCast v944
  let c10_976 : Index := 10#32
  let c0_977 : Index := 0#32
  ![v2102.toNat, 10, 0]
def k0_off14 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v2219 : Index := Scalar.indexCast v944
  let c11_1009 : Index := 11#32
  let c0_1010 : Index := 0#32
  ![v2219.toNat, 11, 0]
def k0_off15 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v2336 : Index := Scalar.indexCast v944
  let c12_1042 : Index := 12#32
  let c0_1043 : Index := 0#32
  ![v2336.toNat, 12, 0]
def k0_off16 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v2453 : Index := Scalar.indexCast v944
  let c13_1076 : Index := 13#32
  let c0_1077 : Index := 0#32
  ![v2453.toNat, 13, 0]
def k0_off17 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v2570 : Index := Scalar.indexCast v944
  let c14_1110 : Index := 14#32
  let c0_1111 : Index := 0#32
  ![v2570.toNat, 14, 0]
def k0_off18 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v2687 : Index := Scalar.indexCast v944
  let c15_1144 : Index := 15#32
  let c0_1145 : Index := 0#32
  ![v2687.toNat, 15, 0]
def k0_off19 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v2804 : Index := Scalar.indexCast v944
  let c16_1177 : Index := 16#32
  let c0_1178 : Index := 0#32
  ![v2804.toNat, 16, 0]
def k0_off20 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v2921 : Index := Scalar.indexCast v944
  let c17_1211 : Index := 17#32
  let c0_1212 : Index := 0#32
  ![v2921.toNat, 17, 0]
def k0_off21 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v3038 : Index := Scalar.indexCast v944
  let c18_1244 : Index := 18#32
  let c0_1245 : Index := 0#32
  ![v3038.toNat, 18, 0]
def k0_off22 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v3155 : Index := Scalar.indexCast v944
  let c19_1277 : Index := 19#32
  let c0_1278 : Index := 0#32
  ![v3155.toNat, 19, 0]
def k0_off23 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v3272 : Index := Scalar.indexCast v944
  let c20_1311 : Index := 20#32
  let c0_1312 : Index := 0#32
  ![v3272.toNat, 20, 0]
def k0_off24 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v3389 : Index := Scalar.indexCast v944
  let c21_1345 : Index := 21#32
  let c0_1346 : Index := 0#32
  ![v3389.toNat, 21, 0]
def k0_off25 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v3506 : Index := Scalar.indexCast v944
  let c22_1378 : Index := 22#32
  let c0_1379 : Index := 0#32
  ![v3506.toNat, 22, 0]
def k0_off26 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v3623 : Index := Scalar.indexCast v944
  let c23_1411 : Index := 23#32
  let c0_1412 : Index := 0#32
  ![v3623.toNat, 23, 0]
def k0_off27 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v3740 : Index := Scalar.indexCast v944
  let c24_1444 : Index := 24#32
  let c0_1445 : Index := 0#32
  ![v3740.toNat, 24, 0]
def k0_off28 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v3857 : Index := Scalar.indexCast v944
  let c25_1477 : Index := 25#32
  let c0_1478 : Index := 0#32
  ![v3857.toNat, 25, 0]
def k0_off29 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v3974 : Index := Scalar.indexCast v944
  let c26_1510 : Index := 26#32
  let c0_1511 : Index := 0#32
  ![v3974.toNat, 26, 0]
def k0_off30 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v4091 : Index := Scalar.indexCast v944
  let c27_1543 : Index := 27#32
  let c0_1544 : Index := 0#32
  ![v4091.toNat, 27, 0]
def k0_off31 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v4208 : Index := Scalar.indexCast v944
  let c28_1576 : Index := 28#32
  let c0_1577 : Index := 0#32
  ![v4208.toNat, 28, 0]
def k0_off32 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v4325 : Index := Scalar.indexCast v944
  let c29_1610 : Index := 29#32
  let c0_1611 : Index := 0#32
  ![v4325.toNat, 29, 0]
def k0_off33 (k0_t1 : Fin k0_t1_loop.trips) (c0_i32_616 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v4442 : Index := Scalar.indexCast v944
  let c30_1643 : Index := 30#32
  let c0_1644 : Index := 0#32
  ![v4442.toNat, 30, 0]
def k0_off34 (k0_t1 : Fin k0_t1_loop.trips) (c0_i32_616 : BitVec 32) (c0_i32_624 : BitVec 32) (c0_i32_1676 : BitVec 32) : Fin 3 → Nat :=
  let c0_i32_402 : BitVec 32 := 0#32
  let c1_i32 : BitVec 32 := 1#32
  let arg28 : BitVec 32 := Scf.iv c0_i32_402 c1_i32 k0_t1
  let c2_i32 : BitVec 32 := 2#32
  let v892 : BitVec 32 := Scalar.muli arg28 c2_i32
  let v893 : BitVec 32 := Scalar.addi v892 c0_i32_616
  let c0_i32_641 : BitVec 32 := 0#32
  let v929 : BitVec 1 := Scalar.cmpi .sgt v893 c0_i32_641
  let v930 : BitVec 32 := Scalar.extui v929
  let c0_i32_642 : BitVec 32 := 0#32
  let v931 : BitVec 1 := Scalar.cmpi .slt v893 c0_i32_642
  let v932 : BitVec 32 := Scalar.extui v931
  let v933 : BitVec 32 := Scalar.subi v930 v932
  let c4_i32_640 : BitVec 32 := 4#32
  let c0_i32_643 : BitVec 32 := 0#32
  let v934 : BitVec 1 := Scalar.cmpi .sgt c4_i32_640 c0_i32_643
  let v935 : BitVec 32 := Scalar.extui v934
  let c0_i32_644 : BitVec 32 := 0#32
  let v936 : BitVec 1 := Scalar.cmpi .slt c4_i32_640 c0_i32_644
  let v937 : BitVec 32 := Scalar.extui v936
  let v938 : BitVec 32 := Scalar.subi v935 v937
  let v939 : BitVec 1 := Scalar.cmpi .ne v933 v938
  let v940 : BitVec 32 := Scalar.remsi v893 c4_i32_640
  let c0_i32_645 : BitVec 32 := 0#32
  let v941 : BitVec 1 := Scalar.cmpi .ne v940 c0_i32_645
  let v942 : BitVec 1 := Scalar.andi v939 v941
  let v928 : BitVec 32 := Scalar.divsi v893 c4_i32_640
  let c1_i32_646 : BitVec 32 := 1#32
  let v943 : BitVec 32 := Scalar.subi v928 c1_i32_646
  let v944 : BitVec 32 := Scalar.select v942 v943 v928
  let v4562 : Index := Scalar.indexCast v944
  let c0_i32_623 : BitVec 32 := 0#32
  let c4_i32 : BitVec 32 := 4#32
  let c0_i32_617 : BitVec 32 := 0#32
  let v894 : BitVec 1 := Scalar.cmpi .eq c4_i32 c0_i32_617
  let c1_i32_618 : BitVec 32 := 1#32
  let v895 : BitVec 32 := Scalar.select v894 c1_i32_618 c4_i32
  let v896 : BitVec 32 := Scalar.remsi v893 v895
  let c0_i32_620 : BitVec 32 := 0#32
  let v898 : BitVec 1 := Scalar.cmpi .slt v896 c0_i32_620
  let c0_i32_621 : BitVec 32 := 0#32
  let v899 : BitVec 1 := Scalar.cmpi .slt v895 c0_i32_621
  let v900 : BitVec 1 := Scalar.xori v898 v899
  let c0_i32_619 : BitVec 32 := 0#32
  let v897 : BitVec 1 := Scalar.cmpi .ne v896 c0_i32_619
  let v901 : BitVec 1 := Scalar.andi v900 v897
  let v902 : BitVec 32 := Scalar.addi v896 v895
  let v903 : BitVec 32 := Scalar.select v901 v902 v896
  let c128_i32 : BitVec 32 := 128#32
  let v907 : BitVec 32 := Scalar.muli v903 c128_i32
  let v908 : BitVec 32 := Scalar.addi c0_i32_623 v907
  let v909 : BitVec 32 := Scalar.addi v908 c0_i32_624
  let v4561 : BitVec 32 := Scalar.addi v909 c0_i32_1676
  let v4563 : Index := Scalar.indexCast v4561
  let c0_1677 : Index := 0#32
  ![v4562.toNat, v4563.toNat, 0]
def k0_off35 (k0_t1 : Fin k0_t1_loop.trips) (c0_i32_2836 : BitVec 32) : Fin 3 → Nat :=
  let c0_i32_402 : BitVec 32 := 0#32
  let c1_i32 : BitVec 32 := 1#32
  let arg28 : BitVec 32 := Scf.iv c0_i32_402 c1_i32 k0_t1
  let c6_i32_2835 : BitVec 32 := 6#32
  let v8482 : BitVec 32 := Scalar.muli arg28 c6_i32_2835
  let v8483 : BitVec 32 := Scalar.addi v8482 c0_i32_2836
  let c0_i32_2865 : BitVec 32 := 0#32
  let v8516 : BitVec 1 := Scalar.cmpi .sgt v8483 c0_i32_2865
  let v8517 : BitVec 32 := Scalar.extui v8516
  let c0_i32_2866 : BitVec 32 := 0#32
  let v8518 : BitVec 1 := Scalar.cmpi .slt v8483 c0_i32_2866
  let v8519 : BitVec 32 := Scalar.extui v8518
  let v8520 : BitVec 32 := Scalar.subi v8517 v8519
  let c4_i32_2864 : BitVec 32 := 4#32
  let c0_i32_2867 : BitVec 32 := 0#32
  let v8521 : BitVec 1 := Scalar.cmpi .sgt c4_i32_2864 c0_i32_2867
  let v8522 : BitVec 32 := Scalar.extui v8521
  let c0_i32_2868 : BitVec 32 := 0#32
  let v8523 : BitVec 1 := Scalar.cmpi .slt c4_i32_2864 c0_i32_2868
  let v8524 : BitVec 32 := Scalar.extui v8523
  let v8525 : BitVec 32 := Scalar.subi v8522 v8524
  let v8526 : BitVec 1 := Scalar.cmpi .ne v8520 v8525
  let v8527 : BitVec 32 := Scalar.remsi v8483 c4_i32_2864
  let c0_i32_2869 : BitVec 32 := 0#32
  let v8528 : BitVec 1 := Scalar.cmpi .ne v8527 c0_i32_2869
  let v8529 : BitVec 1 := Scalar.andi v8526 v8528
  let v8515 : BitVec 32 := Scalar.divsi v8483 c4_i32_2864
  let c1_i32_2870 : BitVec 32 := 1#32
  let v8530 : BitVec 32 := Scalar.subi v8515 c1_i32_2870
  let v8531 : BitVec 32 := Scalar.select v8529 v8530 v8515
  let v8532 : Index := Scalar.indexCast v8531
  let c0_2871 : Index := 0#32
  let c0_2872 : Index := 0#32
  ![v8532.toNat, 0, 0]
def k0_off36 (k0_t1 : Fin k0_t1_loop.trips) (c0_i32_2836 : BitVec 32) : Fin 3 → Nat :=
  let c0_i32_402 : BitVec 32 := 0#32
  let c1_i32 : BitVec 32 := 1#32
  let arg28 : BitVec 32 := Scf.iv c0_i32_402 c1_i32 k0_t1
  let c6_i32_2835 : BitVec 32 := 6#32
  let v8482 : BitVec 32 := Scalar.muli arg28 c6_i32_2835
  let v8483 : BitVec 32 := Scalar.addi v8482 c0_i32_2836
  let c0_i32_2865 : BitVec 32 := 0#32
  let v8516 : BitVec 1 := Scalar.cmpi .sgt v8483 c0_i32_2865
  let v8517 : BitVec 32 := Scalar.extui v8516
  let c0_i32_2866 : BitVec 32 := 0#32
  let v8518 : BitVec 1 := Scalar.cmpi .slt v8483 c0_i32_2866
  let v8519 : BitVec 32 := Scalar.extui v8518
  let v8520 : BitVec 32 := Scalar.subi v8517 v8519
  let c4_i32_2864 : BitVec 32 := 4#32
  let c0_i32_2867 : BitVec 32 := 0#32
  let v8521 : BitVec 1 := Scalar.cmpi .sgt c4_i32_2864 c0_i32_2867
  let v8522 : BitVec 32 := Scalar.extui v8521
  let c0_i32_2868 : BitVec 32 := 0#32
  let v8523 : BitVec 1 := Scalar.cmpi .slt c4_i32_2864 c0_i32_2868
  let v8524 : BitVec 32 := Scalar.extui v8523
  let v8525 : BitVec 32 := Scalar.subi v8522 v8524
  let v8526 : BitVec 1 := Scalar.cmpi .ne v8520 v8525
  let v8527 : BitVec 32 := Scalar.remsi v8483 c4_i32_2864
  let c0_i32_2869 : BitVec 32 := 0#32
  let v8528 : BitVec 1 := Scalar.cmpi .ne v8527 c0_i32_2869
  let v8529 : BitVec 1 := Scalar.andi v8526 v8528
  let v8515 : BitVec 32 := Scalar.divsi v8483 c4_i32_2864
  let c1_i32_2870 : BitVec 32 := 1#32
  let v8530 : BitVec 32 := Scalar.subi v8515 c1_i32_2870
  let v8531 : BitVec 32 := Scalar.select v8529 v8530 v8515
  let v8535 : Index := Scalar.indexCast v8531
  let c0_2873 : Index := 0#32
  let c0_2874 : Index := 0#32
  ![v8535.toNat, 0, 0]
def k0_off37 (k0_t1 : Fin k0_t1_loop.trips) (c0_i32_2836 : BitVec 32) (c0_i32_2844 : BitVec 32) (c_m2_i32_2875 : BitVec 32) : Fin 3 → Nat :=
  let c0_i32_402 : BitVec 32 := 0#32
  let c1_i32 : BitVec 32 := 1#32
  let arg28 : BitVec 32 := Scf.iv c0_i32_402 c1_i32 k0_t1
  let c6_i32_2835 : BitVec 32 := 6#32
  let v8482 : BitVec 32 := Scalar.muli arg28 c6_i32_2835
  let v8483 : BitVec 32 := Scalar.addi v8482 c0_i32_2836
  let c0_i32_2865 : BitVec 32 := 0#32
  let v8516 : BitVec 1 := Scalar.cmpi .sgt v8483 c0_i32_2865
  let v8517 : BitVec 32 := Scalar.extui v8516
  let c0_i32_2866 : BitVec 32 := 0#32
  let v8518 : BitVec 1 := Scalar.cmpi .slt v8483 c0_i32_2866
  let v8519 : BitVec 32 := Scalar.extui v8518
  let v8520 : BitVec 32 := Scalar.subi v8517 v8519
  let c4_i32_2864 : BitVec 32 := 4#32
  let c0_i32_2867 : BitVec 32 := 0#32
  let v8521 : BitVec 1 := Scalar.cmpi .sgt c4_i32_2864 c0_i32_2867
  let v8522 : BitVec 32 := Scalar.extui v8521
  let c0_i32_2868 : BitVec 32 := 0#32
  let v8523 : BitVec 1 := Scalar.cmpi .slt c4_i32_2864 c0_i32_2868
  let v8524 : BitVec 32 := Scalar.extui v8523
  let v8525 : BitVec 32 := Scalar.subi v8522 v8524
  let v8526 : BitVec 1 := Scalar.cmpi .ne v8520 v8525
  let v8527 : BitVec 32 := Scalar.remsi v8483 c4_i32_2864
  let c0_i32_2869 : BitVec 32 := 0#32
  let v8528 : BitVec 1 := Scalar.cmpi .ne v8527 c0_i32_2869
  let v8529 : BitVec 1 := Scalar.andi v8526 v8528
  let v8515 : BitVec 32 := Scalar.divsi v8483 c4_i32_2864
  let c1_i32_2870 : BitVec 32 := 1#32
  let v8530 : BitVec 32 := Scalar.subi v8515 c1_i32_2870
  let v8531 : BitVec 32 := Scalar.select v8529 v8530 v8515
  let v8541 : Index := Scalar.indexCast v8531
  let c16_i32_2846 : BitVec 32 := 16#32
  let c4_i32_2837 : BitVec 32 := 4#32
  let c0_i32_2838 : BitVec 32 := 0#32
  let v8484 : BitVec 1 := Scalar.cmpi .eq c4_i32_2837 c0_i32_2838
  let c1_i32_2839 : BitVec 32 := 1#32
  let v8485 : BitVec 32 := Scalar.select v8484 c1_i32_2839 c4_i32_2837
  let v8486 : BitVec 32 := Scalar.remsi v8483 v8485
  let c0_i32_2841 : BitVec 32 := 0#32
  let v8488 : BitVec 1 := Scalar.cmpi .slt v8486 c0_i32_2841
  let c0_i32_2842 : BitVec 32 := 0#32
  let v8489 : BitVec 1 := Scalar.cmpi .slt v8485 c0_i32_2842
  let v8490 : BitVec 1 := Scalar.xori v8488 v8489
  let c0_i32_2840 : BitVec 32 := 0#32
  let v8487 : BitVec 1 := Scalar.cmpi .ne v8486 c0_i32_2840
  let v8491 : BitVec 1 := Scalar.andi v8490 v8487
  let v8492 : BitVec 32 := Scalar.addi v8486 v8485
  let v8493 : BitVec 32 := Scalar.select v8491 v8492 v8486
  let c4_i32_2843 : BitVec 32 := 4#32
  let v8494 : BitVec 32 := Scalar.muli v8493 c4_i32_2843
  let v8495 : BitVec 32 := Scalar.addi v8494 c0_i32_2844
  let c32_i32_2845 : BitVec 32 := 32#32
  let v8496 : BitVec 32 := Scalar.muli v8495 c32_i32_2845
  let v8497 : BitVec 32 := Scalar.addi c16_i32_2846 v8496
  let v8540 : BitVec 32 := Scalar.addi v8497 c_m2_i32_2875
  let v8542 : Index := Scalar.indexCast v8540
  let c0_2876 : Index := 0#32
  ![v8541.toNat, v8542.toNat, 0]
def k0_off37_at (r : Fin 192) : BitVec 32 × BitVec 32 × BitVec 32 :=
  if r.val < 96 then
    if r.val < 48 then
      if r.val < 24 then
        if r.val < 12 then
          if r.val < 6 then
            if r.val < 3 then
              if r.val < 1 then
                (0#32, 0#32, 4294967294#32)
              else
                if r.val < 2 then
                  (0#32, 0#32, 4294967295#32)
                else
                  (0#32, 0#32, 0#32)
            else
              if r.val < 4 then
                (0#32, 0#32, 1#32)
              else
                if r.val < 5 then
                  (0#32, 1#32, 4294967294#32)
                else
                  (0#32, 1#32, 4294967295#32)
          else
            if r.val < 9 then
              if r.val < 7 then
                (0#32, 1#32, 0#32)
              else
                if r.val < 8 then
                  (0#32, 1#32, 1#32)
                else
                  (0#32, 2#32, 4294967294#32)
            else
              if r.val < 10 then
                (0#32, 2#32, 4294967295#32)
              else
                if r.val < 11 then
                  (0#32, 2#32, 0#32)
                else
                  (0#32, 2#32, 1#32)
        else
          if r.val < 18 then
            if r.val < 15 then
              if r.val < 13 then
                (0#32, 3#32, 4294967294#32)
              else
                if r.val < 14 then
                  (0#32, 3#32, 4294967295#32)
                else
                  (0#32, 3#32, 0#32)
            else
              if r.val < 16 then
                (0#32, 3#32, 1#32)
              else
                if r.val < 17 then
                  (0#32, 0#32, 2#32)
                else
                  (0#32, 1#32, 2#32)
          else
            if r.val < 21 then
              if r.val < 19 then
                (0#32, 2#32, 2#32)
              else
                if r.val < 20 then
                  (0#32, 3#32, 2#32)
                else
                  (0#32, 0#32, 3#32)
            else
              if r.val < 22 then
                (0#32, 1#32, 3#32)
              else
                if r.val < 23 then
                  (0#32, 2#32, 3#32)
                else
                  (0#32, 3#32, 3#32)
      else
        if r.val < 36 then
          if r.val < 30 then
            if r.val < 27 then
              if r.val < 25 then
                (0#32, 0#32, 4#32)
              else
                if r.val < 26 then
                  (0#32, 1#32, 4#32)
                else
                  (0#32, 2#32, 4#32)
            else
              if r.val < 28 then
                (0#32, 3#32, 4#32)
              else
                if r.val < 29 then
                  (0#32, 0#32, 5#32)
                else
                  (0#32, 1#32, 5#32)
          else
            if r.val < 33 then
              if r.val < 31 then
                (0#32, 2#32, 5#32)
              else
                if r.val < 32 then
                  (0#32, 3#32, 5#32)
                else
                  (1#32, 0#32, 4294967294#32)
            else
              if r.val < 34 then
                (1#32, 0#32, 4294967295#32)
              else
                if r.val < 35 then
                  (1#32, 0#32, 0#32)
                else
                  (1#32, 0#32, 1#32)
        else
          if r.val < 42 then
            if r.val < 39 then
              if r.val < 37 then
                (1#32, 1#32, 4294967294#32)
              else
                if r.val < 38 then
                  (1#32, 1#32, 4294967295#32)
                else
                  (1#32, 1#32, 0#32)
            else
              if r.val < 40 then
                (1#32, 1#32, 1#32)
              else
                if r.val < 41 then
                  (1#32, 2#32, 4294967294#32)
                else
                  (1#32, 2#32, 4294967295#32)
          else
            if r.val < 45 then
              if r.val < 43 then
                (1#32, 2#32, 0#32)
              else
                if r.val < 44 then
                  (1#32, 2#32, 1#32)
                else
                  (1#32, 3#32, 4294967294#32)
            else
              if r.val < 46 then
                (1#32, 3#32, 4294967295#32)
              else
                if r.val < 47 then
                  (1#32, 3#32, 0#32)
                else
                  (1#32, 3#32, 1#32)
    else
      if r.val < 72 then
        if r.val < 60 then
          if r.val < 54 then
            if r.val < 51 then
              if r.val < 49 then
                (1#32, 0#32, 2#32)
              else
                if r.val < 50 then
                  (1#32, 1#32, 2#32)
                else
                  (1#32, 2#32, 2#32)
            else
              if r.val < 52 then
                (1#32, 3#32, 2#32)
              else
                if r.val < 53 then
                  (1#32, 0#32, 3#32)
                else
                  (1#32, 1#32, 3#32)
          else
            if r.val < 57 then
              if r.val < 55 then
                (1#32, 2#32, 3#32)
              else
                if r.val < 56 then
                  (1#32, 3#32, 3#32)
                else
                  (1#32, 0#32, 4#32)
            else
              if r.val < 58 then
                (1#32, 1#32, 4#32)
              else
                if r.val < 59 then
                  (1#32, 2#32, 4#32)
                else
                  (1#32, 3#32, 4#32)
        else
          if r.val < 66 then
            if r.val < 63 then
              if r.val < 61 then
                (1#32, 0#32, 5#32)
              else
                if r.val < 62 then
                  (1#32, 1#32, 5#32)
                else
                  (1#32, 2#32, 5#32)
            else
              if r.val < 64 then
                (1#32, 3#32, 5#32)
              else
                if r.val < 65 then
                  (2#32, 0#32, 4294967294#32)
                else
                  (2#32, 0#32, 4294967295#32)
          else
            if r.val < 69 then
              if r.val < 67 then
                (2#32, 0#32, 0#32)
              else
                if r.val < 68 then
                  (2#32, 0#32, 1#32)
                else
                  (2#32, 1#32, 4294967294#32)
            else
              if r.val < 70 then
                (2#32, 1#32, 4294967295#32)
              else
                if r.val < 71 then
                  (2#32, 1#32, 0#32)
                else
                  (2#32, 1#32, 1#32)
      else
        if r.val < 84 then
          if r.val < 78 then
            if r.val < 75 then
              if r.val < 73 then
                (2#32, 2#32, 4294967294#32)
              else
                if r.val < 74 then
                  (2#32, 2#32, 4294967295#32)
                else
                  (2#32, 2#32, 0#32)
            else
              if r.val < 76 then
                (2#32, 2#32, 1#32)
              else
                if r.val < 77 then
                  (2#32, 3#32, 4294967294#32)
                else
                  (2#32, 3#32, 4294967295#32)
          else
            if r.val < 81 then
              if r.val < 79 then
                (2#32, 3#32, 0#32)
              else
                if r.val < 80 then
                  (2#32, 3#32, 1#32)
                else
                  (2#32, 0#32, 2#32)
            else
              if r.val < 82 then
                (2#32, 1#32, 2#32)
              else
                if r.val < 83 then
                  (2#32, 2#32, 2#32)
                else
                  (2#32, 3#32, 2#32)
        else
          if r.val < 90 then
            if r.val < 87 then
              if r.val < 85 then
                (2#32, 0#32, 3#32)
              else
                if r.val < 86 then
                  (2#32, 1#32, 3#32)
                else
                  (2#32, 2#32, 3#32)
            else
              if r.val < 88 then
                (2#32, 3#32, 3#32)
              else
                if r.val < 89 then
                  (2#32, 0#32, 4#32)
                else
                  (2#32, 1#32, 4#32)
          else
            if r.val < 93 then
              if r.val < 91 then
                (2#32, 2#32, 4#32)
              else
                if r.val < 92 then
                  (2#32, 3#32, 4#32)
                else
                  (2#32, 0#32, 5#32)
            else
              if r.val < 94 then
                (2#32, 1#32, 5#32)
              else
                if r.val < 95 then
                  (2#32, 2#32, 5#32)
                else
                  (2#32, 3#32, 5#32)
  else
    if r.val < 144 then
      if r.val < 120 then
        if r.val < 108 then
          if r.val < 102 then
            if r.val < 99 then
              if r.val < 97 then
                (3#32, 0#32, 4294967294#32)
              else
                if r.val < 98 then
                  (3#32, 0#32, 4294967295#32)
                else
                  (3#32, 0#32, 0#32)
            else
              if r.val < 100 then
                (3#32, 0#32, 1#32)
              else
                if r.val < 101 then
                  (3#32, 1#32, 4294967294#32)
                else
                  (3#32, 1#32, 4294967295#32)
          else
            if r.val < 105 then
              if r.val < 103 then
                (3#32, 1#32, 0#32)
              else
                if r.val < 104 then
                  (3#32, 1#32, 1#32)
                else
                  (3#32, 2#32, 4294967294#32)
            else
              if r.val < 106 then
                (3#32, 2#32, 4294967295#32)
              else
                if r.val < 107 then
                  (3#32, 2#32, 0#32)
                else
                  (3#32, 2#32, 1#32)
        else
          if r.val < 114 then
            if r.val < 111 then
              if r.val < 109 then
                (3#32, 3#32, 4294967294#32)
              else
                if r.val < 110 then
                  (3#32, 3#32, 4294967295#32)
                else
                  (3#32, 3#32, 0#32)
            else
              if r.val < 112 then
                (3#32, 3#32, 1#32)
              else
                if r.val < 113 then
                  (3#32, 0#32, 2#32)
                else
                  (3#32, 1#32, 2#32)
          else
            if r.val < 117 then
              if r.val < 115 then
                (3#32, 2#32, 2#32)
              else
                if r.val < 116 then
                  (3#32, 3#32, 2#32)
                else
                  (3#32, 0#32, 3#32)
            else
              if r.val < 118 then
                (3#32, 1#32, 3#32)
              else
                if r.val < 119 then
                  (3#32, 2#32, 3#32)
                else
                  (3#32, 3#32, 3#32)
      else
        if r.val < 132 then
          if r.val < 126 then
            if r.val < 123 then
              if r.val < 121 then
                (3#32, 0#32, 4#32)
              else
                if r.val < 122 then
                  (3#32, 1#32, 4#32)
                else
                  (3#32, 2#32, 4#32)
            else
              if r.val < 124 then
                (3#32, 3#32, 4#32)
              else
                if r.val < 125 then
                  (3#32, 0#32, 5#32)
                else
                  (3#32, 1#32, 5#32)
          else
            if r.val < 129 then
              if r.val < 127 then
                (3#32, 2#32, 5#32)
              else
                if r.val < 128 then
                  (3#32, 3#32, 5#32)
                else
                  (4#32, 0#32, 4294967294#32)
            else
              if r.val < 130 then
                (4#32, 0#32, 4294967295#32)
              else
                if r.val < 131 then
                  (4#32, 0#32, 0#32)
                else
                  (4#32, 0#32, 1#32)
        else
          if r.val < 138 then
            if r.val < 135 then
              if r.val < 133 then
                (4#32, 1#32, 4294967294#32)
              else
                if r.val < 134 then
                  (4#32, 1#32, 4294967295#32)
                else
                  (4#32, 1#32, 0#32)
            else
              if r.val < 136 then
                (4#32, 1#32, 1#32)
              else
                if r.val < 137 then
                  (4#32, 2#32, 4294967294#32)
                else
                  (4#32, 2#32, 4294967295#32)
          else
            if r.val < 141 then
              if r.val < 139 then
                (4#32, 2#32, 0#32)
              else
                if r.val < 140 then
                  (4#32, 2#32, 1#32)
                else
                  (4#32, 3#32, 4294967294#32)
            else
              if r.val < 142 then
                (4#32, 3#32, 4294967295#32)
              else
                if r.val < 143 then
                  (4#32, 3#32, 0#32)
                else
                  (4#32, 3#32, 1#32)
    else
      if r.val < 168 then
        if r.val < 156 then
          if r.val < 150 then
            if r.val < 147 then
              if r.val < 145 then
                (4#32, 0#32, 2#32)
              else
                if r.val < 146 then
                  (4#32, 1#32, 2#32)
                else
                  (4#32, 2#32, 2#32)
            else
              if r.val < 148 then
                (4#32, 3#32, 2#32)
              else
                if r.val < 149 then
                  (4#32, 0#32, 3#32)
                else
                  (4#32, 1#32, 3#32)
          else
            if r.val < 153 then
              if r.val < 151 then
                (4#32, 2#32, 3#32)
              else
                if r.val < 152 then
                  (4#32, 3#32, 3#32)
                else
                  (4#32, 0#32, 4#32)
            else
              if r.val < 154 then
                (4#32, 1#32, 4#32)
              else
                if r.val < 155 then
                  (4#32, 2#32, 4#32)
                else
                  (4#32, 3#32, 4#32)
        else
          if r.val < 162 then
            if r.val < 159 then
              if r.val < 157 then
                (4#32, 0#32, 5#32)
              else
                if r.val < 158 then
                  (4#32, 1#32, 5#32)
                else
                  (4#32, 2#32, 5#32)
            else
              if r.val < 160 then
                (4#32, 3#32, 5#32)
              else
                if r.val < 161 then
                  (5#32, 0#32, 4294967294#32)
                else
                  (5#32, 0#32, 4294967295#32)
          else
            if r.val < 165 then
              if r.val < 163 then
                (5#32, 0#32, 0#32)
              else
                if r.val < 164 then
                  (5#32, 0#32, 1#32)
                else
                  (5#32, 1#32, 4294967294#32)
            else
              if r.val < 166 then
                (5#32, 1#32, 4294967295#32)
              else
                if r.val < 167 then
                  (5#32, 1#32, 0#32)
                else
                  (5#32, 1#32, 1#32)
      else
        if r.val < 180 then
          if r.val < 174 then
            if r.val < 171 then
              if r.val < 169 then
                (5#32, 2#32, 4294967294#32)
              else
                if r.val < 170 then
                  (5#32, 2#32, 4294967295#32)
                else
                  (5#32, 2#32, 0#32)
            else
              if r.val < 172 then
                (5#32, 2#32, 1#32)
              else
                if r.val < 173 then
                  (5#32, 3#32, 4294967294#32)
                else
                  (5#32, 3#32, 4294967295#32)
          else
            if r.val < 177 then
              if r.val < 175 then
                (5#32, 3#32, 0#32)
              else
                if r.val < 176 then
                  (5#32, 3#32, 1#32)
                else
                  (5#32, 0#32, 2#32)
            else
              if r.val < 178 then
                (5#32, 1#32, 2#32)
              else
                if r.val < 179 then
                  (5#32, 2#32, 2#32)
                else
                  (5#32, 3#32, 2#32)
        else
          if r.val < 186 then
            if r.val < 183 then
              if r.val < 181 then
                (5#32, 0#32, 3#32)
              else
                if r.val < 182 then
                  (5#32, 1#32, 3#32)
                else
                  (5#32, 2#32, 3#32)
            else
              if r.val < 184 then
                (5#32, 3#32, 3#32)
              else
                if r.val < 185 then
                  (5#32, 0#32, 4#32)
                else
                  (5#32, 1#32, 4#32)
          else
            if r.val < 189 then
              if r.val < 187 then
                (5#32, 2#32, 4#32)
              else
                if r.val < 188 then
                  (5#32, 3#32, 4#32)
                else
                  (5#32, 0#32, 5#32)
            else
              if r.val < 190 then
                (5#32, 1#32, 5#32)
              else
                if r.val < 191 then
                  (5#32, 2#32, 5#32)
                else
                  (5#32, 3#32, 5#32)
def k0_off38 (k0_t1 : Fin k0_t1_loop.trips) (c0_i32_2836 : BitVec 32) : Fin 3 → Nat :=
  let c0_i32_402 : BitVec 32 := 0#32
  let c1_i32 : BitVec 32 := 1#32
  let arg28 : BitVec 32 := Scf.iv c0_i32_402 c1_i32 k0_t1
  let c6_i32_2835 : BitVec 32 := 6#32
  let v8482 : BitVec 32 := Scalar.muli arg28 c6_i32_2835
  let v8483 : BitVec 32 := Scalar.addi v8482 c0_i32_2836
  let c0_i32_2865 : BitVec 32 := 0#32
  let v8516 : BitVec 1 := Scalar.cmpi .sgt v8483 c0_i32_2865
  let v8517 : BitVec 32 := Scalar.extui v8516
  let c0_i32_2866 : BitVec 32 := 0#32
  let v8518 : BitVec 1 := Scalar.cmpi .slt v8483 c0_i32_2866
  let v8519 : BitVec 32 := Scalar.extui v8518
  let v8520 : BitVec 32 := Scalar.subi v8517 v8519
  let c4_i32_2864 : BitVec 32 := 4#32
  let c0_i32_2867 : BitVec 32 := 0#32
  let v8521 : BitVec 1 := Scalar.cmpi .sgt c4_i32_2864 c0_i32_2867
  let v8522 : BitVec 32 := Scalar.extui v8521
  let c0_i32_2868 : BitVec 32 := 0#32
  let v8523 : BitVec 1 := Scalar.cmpi .slt c4_i32_2864 c0_i32_2868
  let v8524 : BitVec 32 := Scalar.extui v8523
  let v8525 : BitVec 32 := Scalar.subi v8522 v8524
  let v8526 : BitVec 1 := Scalar.cmpi .ne v8520 v8525
  let v8527 : BitVec 32 := Scalar.remsi v8483 c4_i32_2864
  let c0_i32_2869 : BitVec 32 := 0#32
  let v8528 : BitVec 1 := Scalar.cmpi .ne v8527 c0_i32_2869
  let v8529 : BitVec 1 := Scalar.andi v8526 v8528
  let v8515 : BitVec 32 := Scalar.divsi v8483 c4_i32_2864
  let c1_i32_2870 : BitVec 32 := 1#32
  let v8530 : BitVec 32 := Scalar.subi v8515 c1_i32_2870
  let v8531 : BitVec 32 := Scalar.select v8529 v8530 v8515
  let v8636 : Index := Scalar.indexCast v8531
  let c1_2907 : Index := 1#32
  let c0_2908 : Index := 0#32
  ![v8636.toNat, 1, 0]
def k0_off39 (k0_t1 : Fin k0_t1_loop.trips) (c0_i32_2836 : BitVec 32) : Fin 3 → Nat :=
  let c0_i32_402 : BitVec 32 := 0#32
  let c1_i32 : BitVec 32 := 1#32
  let arg28 : BitVec 32 := Scf.iv c0_i32_402 c1_i32 k0_t1
  let c6_i32_2835 : BitVec 32 := 6#32
  let v8482 : BitVec 32 := Scalar.muli arg28 c6_i32_2835
  let v8483 : BitVec 32 := Scalar.addi v8482 c0_i32_2836
  let c0_i32_2865 : BitVec 32 := 0#32
  let v8516 : BitVec 1 := Scalar.cmpi .sgt v8483 c0_i32_2865
  let v8517 : BitVec 32 := Scalar.extui v8516
  let c0_i32_2866 : BitVec 32 := 0#32
  let v8518 : BitVec 1 := Scalar.cmpi .slt v8483 c0_i32_2866
  let v8519 : BitVec 32 := Scalar.extui v8518
  let v8520 : BitVec 32 := Scalar.subi v8517 v8519
  let c4_i32_2864 : BitVec 32 := 4#32
  let c0_i32_2867 : BitVec 32 := 0#32
  let v8521 : BitVec 1 := Scalar.cmpi .sgt c4_i32_2864 c0_i32_2867
  let v8522 : BitVec 32 := Scalar.extui v8521
  let c0_i32_2868 : BitVec 32 := 0#32
  let v8523 : BitVec 1 := Scalar.cmpi .slt c4_i32_2864 c0_i32_2868
  let v8524 : BitVec 32 := Scalar.extui v8523
  let v8525 : BitVec 32 := Scalar.subi v8522 v8524
  let v8526 : BitVec 1 := Scalar.cmpi .ne v8520 v8525
  let v8527 : BitVec 32 := Scalar.remsi v8483 c4_i32_2864
  let c0_i32_2869 : BitVec 32 := 0#32
  let v8528 : BitVec 1 := Scalar.cmpi .ne v8527 c0_i32_2869
  let v8529 : BitVec 1 := Scalar.andi v8526 v8528
  let v8515 : BitVec 32 := Scalar.divsi v8483 c4_i32_2864
  let c1_i32_2870 : BitVec 32 := 1#32
  let v8530 : BitVec 32 := Scalar.subi v8515 c1_i32_2870
  let v8531 : BitVec 32 := Scalar.select v8529 v8530 v8515
  let v8753 : Index := Scalar.indexCast v8531
  let c2_2941 : Index := 2#32
  let c0_2942 : Index := 0#32
  ![v8753.toNat, 2, 0]
def k0_off40 (k0_t1 : Fin k0_t1_loop.trips) (c0_i32_2836 : BitVec 32) : Fin 3 → Nat :=
  let c0_i32_402 : BitVec 32 := 0#32
  let c1_i32 : BitVec 32 := 1#32
  let arg28 : BitVec 32 := Scf.iv c0_i32_402 c1_i32 k0_t1
  let c6_i32_2835 : BitVec 32 := 6#32
  let v8482 : BitVec 32 := Scalar.muli arg28 c6_i32_2835
  let v8483 : BitVec 32 := Scalar.addi v8482 c0_i32_2836
  let c0_i32_2865 : BitVec 32 := 0#32
  let v8516 : BitVec 1 := Scalar.cmpi .sgt v8483 c0_i32_2865
  let v8517 : BitVec 32 := Scalar.extui v8516
  let c0_i32_2866 : BitVec 32 := 0#32
  let v8518 : BitVec 1 := Scalar.cmpi .slt v8483 c0_i32_2866
  let v8519 : BitVec 32 := Scalar.extui v8518
  let v8520 : BitVec 32 := Scalar.subi v8517 v8519
  let c4_i32_2864 : BitVec 32 := 4#32
  let c0_i32_2867 : BitVec 32 := 0#32
  let v8521 : BitVec 1 := Scalar.cmpi .sgt c4_i32_2864 c0_i32_2867
  let v8522 : BitVec 32 := Scalar.extui v8521
  let c0_i32_2868 : BitVec 32 := 0#32
  let v8523 : BitVec 1 := Scalar.cmpi .slt c4_i32_2864 c0_i32_2868
  let v8524 : BitVec 32 := Scalar.extui v8523
  let v8525 : BitVec 32 := Scalar.subi v8522 v8524
  let v8526 : BitVec 1 := Scalar.cmpi .ne v8520 v8525
  let v8527 : BitVec 32 := Scalar.remsi v8483 c4_i32_2864
  let c0_i32_2869 : BitVec 32 := 0#32
  let v8528 : BitVec 1 := Scalar.cmpi .ne v8527 c0_i32_2869
  let v8529 : BitVec 1 := Scalar.andi v8526 v8528
  let v8515 : BitVec 32 := Scalar.divsi v8483 c4_i32_2864
  let c1_i32_2870 : BitVec 32 := 1#32
  let v8530 : BitVec 32 := Scalar.subi v8515 c1_i32_2870
  let v8531 : BitVec 32 := Scalar.select v8529 v8530 v8515
  let v8870 : Index := Scalar.indexCast v8531
  let c3_2975 : Index := 3#32
  let c0_2976 : Index := 0#32
  ![v8870.toNat, 3, 0]
def k0_off41 (k0_t1 : Fin k0_t1_loop.trips) (c0_i32_2836 : BitVec 32) : Fin 3 → Nat :=
  let c0_i32_402 : BitVec 32 := 0#32
  let c1_i32 : BitVec 32 := 1#32
  let arg28 : BitVec 32 := Scf.iv c0_i32_402 c1_i32 k0_t1
  let c6_i32_2835 : BitVec 32 := 6#32
  let v8482 : BitVec 32 := Scalar.muli arg28 c6_i32_2835
  let v8483 : BitVec 32 := Scalar.addi v8482 c0_i32_2836
  let c0_i32_2865 : BitVec 32 := 0#32
  let v8516 : BitVec 1 := Scalar.cmpi .sgt v8483 c0_i32_2865
  let v8517 : BitVec 32 := Scalar.extui v8516
  let c0_i32_2866 : BitVec 32 := 0#32
  let v8518 : BitVec 1 := Scalar.cmpi .slt v8483 c0_i32_2866
  let v8519 : BitVec 32 := Scalar.extui v8518
  let v8520 : BitVec 32 := Scalar.subi v8517 v8519
  let c4_i32_2864 : BitVec 32 := 4#32
  let c0_i32_2867 : BitVec 32 := 0#32
  let v8521 : BitVec 1 := Scalar.cmpi .sgt c4_i32_2864 c0_i32_2867
  let v8522 : BitVec 32 := Scalar.extui v8521
  let c0_i32_2868 : BitVec 32 := 0#32
  let v8523 : BitVec 1 := Scalar.cmpi .slt c4_i32_2864 c0_i32_2868
  let v8524 : BitVec 32 := Scalar.extui v8523
  let v8525 : BitVec 32 := Scalar.subi v8522 v8524
  let v8526 : BitVec 1 := Scalar.cmpi .ne v8520 v8525
  let v8527 : BitVec 32 := Scalar.remsi v8483 c4_i32_2864
  let c0_i32_2869 : BitVec 32 := 0#32
  let v8528 : BitVec 1 := Scalar.cmpi .ne v8527 c0_i32_2869
  let v8529 : BitVec 1 := Scalar.andi v8526 v8528
  let v8515 : BitVec 32 := Scalar.divsi v8483 c4_i32_2864
  let c1_i32_2870 : BitVec 32 := 1#32
  let v8530 : BitVec 32 := Scalar.subi v8515 c1_i32_2870
  let v8531 : BitVec 32 := Scalar.select v8529 v8530 v8515
  let v8987 : Index := Scalar.indexCast v8531
  let c4_3009 : Index := 4#32
  let c0_3010 : Index := 0#32
  ![v8987.toNat, 4, 0]
def k0_off42 (k0_t1 : Fin k0_t1_loop.trips) (c0_i32_2836 : BitVec 32) (c0_i32_2847 : BitVec 32) (c0_i32_3043 : BitVec 32) : Fin 3 → Nat :=
  let c0_i32_402 : BitVec 32 := 0#32
  let c1_i32 : BitVec 32 := 1#32
  let arg28 : BitVec 32 := Scf.iv c0_i32_402 c1_i32 k0_t1
  let c6_i32_2835 : BitVec 32 := 6#32
  let v8482 : BitVec 32 := Scalar.muli arg28 c6_i32_2835
  let v8483 : BitVec 32 := Scalar.addi v8482 c0_i32_2836
  let c0_i32_2865 : BitVec 32 := 0#32
  let v8516 : BitVec 1 := Scalar.cmpi .sgt v8483 c0_i32_2865
  let v8517 : BitVec 32 := Scalar.extui v8516
  let c0_i32_2866 : BitVec 32 := 0#32
  let v8518 : BitVec 1 := Scalar.cmpi .slt v8483 c0_i32_2866
  let v8519 : BitVec 32 := Scalar.extui v8518
  let v8520 : BitVec 32 := Scalar.subi v8517 v8519
  let c4_i32_2864 : BitVec 32 := 4#32
  let c0_i32_2867 : BitVec 32 := 0#32
  let v8521 : BitVec 1 := Scalar.cmpi .sgt c4_i32_2864 c0_i32_2867
  let v8522 : BitVec 32 := Scalar.extui v8521
  let c0_i32_2868 : BitVec 32 := 0#32
  let v8523 : BitVec 1 := Scalar.cmpi .slt c4_i32_2864 c0_i32_2868
  let v8524 : BitVec 32 := Scalar.extui v8523
  let v8525 : BitVec 32 := Scalar.subi v8522 v8524
  let v8526 : BitVec 1 := Scalar.cmpi .ne v8520 v8525
  let v8527 : BitVec 32 := Scalar.remsi v8483 c4_i32_2864
  let c0_i32_2869 : BitVec 32 := 0#32
  let v8528 : BitVec 1 := Scalar.cmpi .ne v8527 c0_i32_2869
  let v8529 : BitVec 1 := Scalar.andi v8526 v8528
  let v8515 : BitVec 32 := Scalar.divsi v8483 c4_i32_2864
  let c1_i32_2870 : BitVec 32 := 1#32
  let v8530 : BitVec 32 := Scalar.subi v8515 c1_i32_2870
  let v8531 : BitVec 32 := Scalar.select v8529 v8530 v8515
  let v9109 : Index := Scalar.indexCast v8531
  let c4_i32_2837 : BitVec 32 := 4#32
  let c0_i32_2838 : BitVec 32 := 0#32
  let v8484 : BitVec 1 := Scalar.cmpi .eq c4_i32_2837 c0_i32_2838
  let c1_i32_2839 : BitVec 32 := 1#32
  let v8485 : BitVec 32 := Scalar.select v8484 c1_i32_2839 c4_i32_2837
  let v8486 : BitVec 32 := Scalar.remsi v8483 v8485
  let c0_i32_2841 : BitVec 32 := 0#32
  let v8488 : BitVec 1 := Scalar.cmpi .slt v8486 c0_i32_2841
  let c0_i32_2842 : BitVec 32 := 0#32
  let v8489 : BitVec 1 := Scalar.cmpi .slt v8485 c0_i32_2842
  let v8490 : BitVec 1 := Scalar.xori v8488 v8489
  let c0_i32_2840 : BitVec 32 := 0#32
  let v8487 : BitVec 1 := Scalar.cmpi .ne v8486 c0_i32_2840
  let v8491 : BitVec 1 := Scalar.andi v8490 v8487
  let v8492 : BitVec 32 := Scalar.addi v8486 v8485
  let v8493 : BitVec 32 := Scalar.select v8491 v8492 v8486
  let c4_i32_2843 : BitVec 32 := 4#32
  let v8494 : BitVec 32 := Scalar.muli v8493 c4_i32_2843
  let v8498 : BitVec 32 := Scalar.addi v8494 c0_i32_2847
  let c32_i32_2848 : BitVec 32 := 32#32
  let v8499 : BitVec 32 := Scalar.muli v8498 c32_i32_2848
  let v9108 : BitVec 32 := Scalar.addi v8499 c0_i32_3043
  let v9110 : Index := Scalar.indexCast v9108
  let c0_3044 : Index := 0#32
  ![v9109.toNat, v9110.toNat, 0]
def k0_off43 (k0_t1 : Fin k0_t1_loop.trips) (c0_i32_4277 : BitVec 32) : Fin 3 → Nat :=
  let c1_i32_4276 : BitVec 32 := 1#32
  let c0_i32_402 : BitVec 32 := 0#32
  let c1_i32 : BitVec 32 := 1#32
  let arg28 : BitVec 32 := Scf.iv c0_i32_402 c1_i32 k0_t1
  let c2_i32_4275 : BitVec 32 := 2#32
  let v13174 : BitVec 32 := Scalar.muli arg28 c2_i32_4275
  let v13175 : BitVec 32 := Scalar.addi c1_i32_4276 v13174
  let v13176 : BitVec 32 := Scalar.addi v13175 c0_i32_4277
  let v13178 : Index := Scalar.indexCast v13176
  let c0_4280 : Index := 0#32
  let c0_4281 : Index := 0#32
  ![v13178.toNat, 0, 0]
def k0_off44 (k0_t1 : Fin k0_t1_loop.trips) (c0_i32_4277 : BitVec 32) (c0_i32_4284 : BitVec 32) : Fin 3 → Nat :=
  let c2_i32_4283 : BitVec 32 := 2#32
  let c1_i32_4276 : BitVec 32 := 1#32
  let c0_i32_402 : BitVec 32 := 0#32
  let c1_i32 : BitVec 32 := 1#32
  let arg28 : BitVec 32 := Scf.iv c0_i32_402 c1_i32 k0_t1
  let c2_i32_4275 : BitVec 32 := 2#32
  let v13174 : BitVec 32 := Scalar.muli arg28 c2_i32_4275
  let v13175 : BitVec 32 := Scalar.addi c1_i32_4276 v13174
  let v13176 : BitVec 32 := Scalar.addi v13175 c0_i32_4277
  let v13183 : BitVec 32 := Scalar.muli c2_i32_4283 v13176
  let v13184 : BitVec 32 := Scalar.addi v13183 c0_i32_4284
  let v13185 : Index := Scalar.indexCast v13184
  let c16_4285 : Index := 16#32
  let c0_4286 : Index := 0#32
  ![v13185.toNat, 16, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.muli v1 c8_i32_0
  let c1_i32 : BitVec 32 := 1#32
  let v3 : BitVec 32 := Scalar.subi v2 c1_i32
  let c0_i32 : BitVec 32 := 0#32
  let v4 : BitVec 32 := Scalar.maxsi v3 c0_i32
  let c0_i32_1 : BitVec 32 := 0#32
  let c0_i32_2 : BitVec 32 := 0#32
  ![v4.toNat, c0_i32_1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.addi v1 c1_i32
  let c8_i32_0 : BitVec 32 := 8#32
  let v3 : BitVec 32 := Scalar.muli v2 c8_i32_0
  let c511_i32 : BitVec 32 := 511#32
  let v4 : BitVec 32 := Scalar.minsi v3 c511_i32
  let c0_i32 : BitVec 32 := 0#32
  let c0_i32_1 : BitVec 32 := 0#32
  ![v4.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S17x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S12x5x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S12x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x31x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S3x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S512x1536 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S2x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference5Ideal.lean ====
abbrev S32768x1024 : Shape := ⟨2, ![32768, 1024]⟩
abbrev S16x9x1024 : Shape := ⟨3, ![16, 9, 1024]⟩
abbrev S1024 : Shape := ⟨1, ![1024]⟩
abbrev S1024x5152 : Shape := ⟨2, ![1024, 5152]⟩
abbrev S5x1536 : Shape := ⟨2, ![5, 1536]⟩
abbrev S1536 : Shape := ⟨1, ![1536]⟩
abbrev S2x16 : Shape := ⟨2, ![2, 16]⟩
abbrev S31x512 : Shape := ⟨2, ![31, 512]⟩
abbrev S512 : Shape := ⟨1, ![512]⟩
abbrev S3x512 : Shape := ⟨2, ![3, 512]⟩
abbrev S8x9x1024 : Shape := ⟨3, ![8, 9, 1024]⟩
abbrev S9x8x1024 : Shape := ⟨3, ![9, 8, 1024]⟩
abbrev S9x8x1x1024 : Shape := ⟨4, ![9, 8, 1, 1024]⟩
abbrev S8x4096x1024 : Shape := ⟨3, ![8, 4096, 1024]⟩
abbrev S1x8x1x1024 : Shape := ⟨4, ![1, 8, 1, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5152 : Shape := ⟨3, ![8, 4096, 5152]⟩
abbrev S8x4096x32 : Shape := ⟨3, ![8, 4096, 32]⟩
abbrev S8x4096x2x16 : Shape := ⟨4, ![8, 4096, 2, 16]⟩
abbrev S1x1x2x16 : Shape := ⟨4, ![1, 1, 2, 16]⟩
abbrev S2x8x4096x16 : Shape := ⟨4, ![2, 8, 4096, 16]⟩
abbrev S2x32768x16 : Shape := ⟨3, ![2, 32768, 16]⟩
abbrev S2x32768x128 : Shape := ⟨3, ![2, 32768, 128]⟩

abbrev nBuf : Space → Nat
  | .hbm => 82
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x9x1024, .f32⟩
  | .hbm, ⟨2, _⟩ => ⟨S1024, .f32⟩
  | .hbm, ⟨3, _⟩ => ⟨S1024x5152, .bf16⟩
  | .hbm, ⟨4, _⟩ => ⟨S5x1536, .f32⟩
  | .hbm, ⟨5, _⟩ => ⟨S1536, .f32⟩
  | .hbm, ⟨6, _⟩ => ⟨S2x16, .f32⟩
  | .hbm, ⟨7, _⟩ => ⟨S31x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S3x512, .f32⟩
  | .hbm, ⟨12, _⟩ => ⟨S512, .f32⟩
  | .hbm, ⟨13, _⟩ => ⟨S8x9x1024, .f32⟩
  | .hbm, ⟨14, _⟩ => ⟨S9x8x1024, .f32⟩
  | .hbm, ⟨15, _⟩ => ⟨S9x8x1x1024, .f32⟩
  | .hbm, ⟨16, _⟩ => ⟨S8x4096x1024, .f32⟩
  | .hbm, ⟨17, _⟩ => ⟨S1x8x1x1024, .f32⟩
  | .hbm, ⟨18, _⟩ => ⟨S8x1x1024, .f32⟩
  | .hbm, ⟨19, _⟩ => ⟨S1x8x1x1024, .f32⟩
  | .hbm, ⟨20, _⟩ => ⟨S8x1x1024, .f32⟩
  | .hbm, ⟨21, _⟩ => ⟨S8x4096x1024, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S8x4096x1, .f32⟩
  | .hbm, ⟨32, _⟩ => ⟨S8x4096x1024, .f32⟩
  | .hbm, ⟨33, _⟩ => ⟨S8x4096x1024, .f32⟩
  | .hbm, ⟨34, _⟩ => ⟨S1x1x1024, .f32⟩
  | .hbm, ⟨35, _⟩ => ⟨S8x4096x1024, .f32⟩
  | .hbm, ⟨36, _⟩ => ⟨S8x4096x1024, .f32⟩
  | .hbm, ⟨37, _⟩ => ⟨S_, .f32⟩
  | .hbm, ⟨38, _⟩ => ⟨S8x1x1024, .f32⟩
  | .hbm, ⟨39, _⟩ => ⟨S8x1x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S1024x5152, .f32⟩
  | .hbm, ⟨45, _⟩ => ⟨S8x4096x5152, .f32⟩
  | .hbm, ⟨46, _⟩ => ⟨S8x4096x32, .f32⟩
  | .hbm, ⟨47, _⟩ => ⟨S8x4096x2x16, .f32⟩
  | .hbm, ⟨48, _⟩ => ⟨S1x1x2x16, .f32⟩
  | .hbm, ⟨49, _⟩ => ⟨S8x4096x2x16, .f32⟩
  | .hbm, ⟨50, _⟩ => ⟨S8x4096x2x16, .f32⟩
  | .hbm, ⟨51, _⟩ => ⟨S2x8x4096x16, .f32⟩
  | .hbm, ⟨52, _⟩ => ⟨S2x32768x16, .f32⟩
  | .hbm, ⟨53, _⟩ => ⟨S_, .i32⟩
  | .hbm, ⟨54, _⟩ => ⟨S_, .f32⟩
  | .hbm, ⟨55, _⟩ => ⟨S2x32768x128, .f32⟩
  | .hbm, ⟨56, _⟩ => ⟨S_, .f32⟩
  | .hbm, ⟨57, _⟩ => ⟨S2x32768x128, .f32⟩
  | .hbm, ⟨58, _⟩ => ⟨S2x32768x128, .f32⟩
  | .hbm, ⟨59, _⟩ => ⟨S2x32768x128, .f32⟩
  | .hbm, ⟨60, _⟩ => ⟨S2x32768x128, .f32⟩
  | .hbm, ⟨61, _⟩ => ⟨S2x32768x128, .i1⟩
  | .hbm, ⟨62, _⟩ => ⟨S2x32768x128, .f32⟩
  | .hbm, ⟨63, _⟩ => ⟨S2x32768x128, .f32⟩
  | .hbm, ⟨64, _⟩ => ⟨S2x32768x128, .f32⟩
  | .hbm, ⟨65, _⟩ => ⟨S2x32768x128, .f32⟩
  | .hbm, ⟨66, _⟩ => ⟨S2x32768x128, .f32⟩
  | .hbm, ⟨67, _⟩ => ⟨S2x32768x128, .f32⟩
  | .hbm, ⟨68, _⟩ => ⟨S2x32768x128, .f32⟩
  | .hbm, ⟨69, _⟩ => ⟨S2x32768x128, .f32⟩
  | .hbm, ⟨70, _⟩ => ⟨S8x4096x1024, .f32⟩
  | .hbm, ⟨71, _⟩ => ⟨S8x4096x1024, .f32⟩
  | .hbm, ⟨72, _⟩ => ⟨S8x4096x1024, .f32⟩
  | .hbm, ⟨73, _⟩ => ⟨S_, .f32⟩
  | .hbm, ⟨74, _⟩ => ⟨S8x4096x1024, .f32⟩
  | .hbm, ⟨75, _⟩ => ⟨S8x4096x1024, .f32⟩
  | .hbm, ⟨76, _⟩ => ⟨S_, .f32⟩
  | .hbm, ⟨77, _⟩ => ⟨S8x4096x1024, .f32⟩
  | .hbm, ⟨78, _⟩ => ⟨S8x4096x1024, .f32⟩
  | .hbm, ⟨79, _⟩ => ⟨S8x4096x1024, .f32⟩
  | .hbm, ⟨80, _⟩ => ⟨S32768x1024, .f32⟩
  | .hbm, ⟨81, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c : Ref sig .tc := ⟨.hbm, 53, rfl⟩
abbrev main_call0_v0 : Ref sig .tc := ⟨.hbm, 54, rfl⟩
abbrev main_v36 : Ref sig .tc := ⟨.hbm, 55, rfl⟩
abbrev main_call1_cst : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_v37 : Ref sig .tc := ⟨.hbm, 69, rfl⟩
abbrev main_v38 : Ref sig .tc := ⟨.hbm, 70, rfl⟩
abbrev main_call2_v0 : Ref sig .tc := ⟨.hbm, 71, rfl⟩
abbrev main_call2_v1 : Ref sig .tc := ⟨.hbm, 72, rfl⟩
abbrev main_call2_cst : Ref sig .tc := ⟨.hbm, 73, rfl⟩
abbrev main_call2_v2 : Ref sig .tc := ⟨.hbm, 74, rfl⟩
abbrev main_call2_v3 : Ref sig .tc := ⟨.hbm, 75, rfl⟩
abbrev main_call2_cst_0 : Ref sig .tc := ⟨.hbm, 76, rfl⟩
abbrev main_call2_v4 : Ref sig .tc := ⟨.hbm, 77, rfl⟩
abbrev main_call2_v5 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩

abbrev nD : Nat := 1
abbrev τ : Topo := Topo.v7x

variable {F : FTy → Type} [FloatOps F]
-- ==== Proof.Masks.lean ====
/- Reals inside the extended reals, and the integer masks of the kernel's body as propositions. -/
module

public import proofs.«01_k».proof.Proof.Gen.KernelIdeal.Skeleton
public import Idealize.ShloMosaic.Lib.Pointwise

@[expose] public section

set_option maxRecDepth 16384

noncomputable section

namespace Cert.Proof

open Idealize.ShloMosaic Idealize.SL.Sem Cert.KernelIdeal Cert.KernelIdeal.Gen

/-- A finite sum of reals, summed as extended reals, is the real sum. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The head (as a lane) that column `q` of a 1024-wide row belongs to. -/
def hd (q : Fin 1024) : Fin 128 := ⟨q.val / 64, by omega⟩

theorem hd_lt (q : Fin 1024) : (hd q).val < 16 := by unfold hd; simp only; omega

/-- The sum of a block's first `t + 1` decay exponents, per lane. -/
def cum (a : Fin 128 → Fin 128 → ℝ) (t h : Fin 128) : ℝ := ∑ k : Fin 128, if k ≤ t then a k h else 0
/-- The sum of a block's decay exponents from row `t` on, per lane. -/
def suf (a : Fin 128 → Fin 128 → ℝ) (t h : Fin 128) : ℝ := ∑ k : Fin 128, if t ≤ k then a k h else 0
/-- The sum of all of a block's decay exponents, per lane. -/
def tot (a : Fin 128 → Fin 128 → ℝ) (h : Fin 128) : ℝ := ∑ k : Fin 128, a k h

theorem cum_last (a : Fin 128 → Fin 128 → ℝ) (h : Fin 128) : cum a 127 h = tot a h := by
  unfold cum tot
  refine Finset.sum_congr rfl fun k _ => if_pos ?_
  exact Fin.le_def.2 (by have := k.isLt; show k.val ≤ 127; omega)

/-- The total less the sum up to `t`, plus the exponent at `t`, is the sum from `t` on. -/
theorem suf_eq (a : Fin 128 → Fin 128 → ℝ) (t h : Fin 128) : tot a h - cum a t h + a t h = suf a t h := by
  unfold cum tot suf
  have e : a t h = ∑ k : Fin 128, if k = t then a k h else 0 := by simp
  rw [e, ← Finset.sum_sub_distrib, ← Finset.sum_add_distrib]
  refine Finset.sum_congr rfl fun k _ => ?_
  rcases lt_trichotomy k t with h1 | h1 | h1
  · simp [h1.le, h1.ne, not_le.2 h1]
  · simp [h1]
  · simp [h1.le, h1.ne', not_le.2 h1]

/-! ### The integer masks -/

theorem sge_bit : ∀ t x : Fin 128, IntOp.cmpi .sge (BitVec.ofNat 32 t.val) (BitVec.ofNat 32 x.val) = if x ≤ t then 1#1 else 0#1 := by
  decide +kernel
theorem sle_bit : ∀ t x : Fin 128, IntOp.cmpi .sle (BitVec.ofNat 32 t.val) (BitVec.ofNat 32 x.val) = if t ≤ x then 1#1 else 0#1 := by
  decide +kernel
theorem eq_bit : ∀ t x : Fin 128, IntOp.cmpi .eq (BitVec.ofNat 32 t.val) (BitVec.ofNat 32 x.val) = if t = x then 1#1 else 0#1 := by
  decide +kernel
theorem slt64_bit : ∀ l : Fin 128, IntOp.cmpi .slt (BitVec.ofNat 32 l.val) 64#32 = if l.val < 64 then 1#1 else 0#1 := by
  decide +kernel

theorem bit_one : (FloatOps.sitofp .f32 (BitVec.setWidth 32 1#1) : Ideal .f32) = (1 : EReal) := by
  show (((BitVec.setWidth 32 1#1).toInt : ℝ) : EReal) = 1
  rw [show (BitVec.setWidth 32 1#1).toInt = 1 by decide]; simp
theorem bit_zero : (FloatOps.sitofp .f32 (BitVec.setWidth 32 0#1) : Ideal .f32) = (0 : EReal) := by
  show (((BitVec.setWidth 32 0#1).toInt : ℝ) : EReal) = 0
  rw [show (BitVec.setWidth 32 0#1).toInt = 0 by decide]; simp

theorem bit_ite (p : Prop) [Decidable p] :
    (FloatOps.sitofp .f32 (BitVec.setWidth 32 (if p then 1#1 else 0#1)) : Ideal .f32) = (if p then (1 : EReal) else 0) := by
  split
  · exact bit_one
  · exact bit_zero

/-- The forward direction's mask: row `t` sees the rows up to it. -/
theorem pay11_apply (t s : Fin 128) : k0_pay11 (ix2 t s) = if s ≤ t then 1#1 else 0#1 := by
  pointwise [k0_pay11]; exact sge_bit t s
/-- The reverse direction's mask: row `t` sees the rows from it on. -/
theorem pay12_apply (t s : Fin 128) : k0_pay12 (ix2 t s) = if t ≤ s then 1#1 else 0#1 := by
  pointwise [k0_pay12]; exact sle_bit t s
theorem pay33_apply (t l : Fin 128) : k0_pay33 (ix2 t l) = if l.val < 64 then 1#1 else 0#1 := by
  pointwise [k0_pay33]; exact slt64_bit l

/-- The selection rows: row `h` picks lane `h`. -/
theorem pay13_apply (h : Fin 16) (x : Fin 128) : k0_pay13 (ix2 h x) = if (⟨h.val, by omega⟩ : Fin 128) = x then 1#1 else 0#1 := by
  pointwise [k0_pay13]; exact eq_bit ⟨h.val, by omega⟩ x

theorem div64 : ∀ s : Fin 1024,
    (Scalar.select
            (IntOp.andi
              (IntOp.cmpi CmpIPredicate.ne
                (IntOp.subi (BitVec.setWidth 32 (IntOp.cmpi CmpIPredicate.sgt (BitVec.ofNat 32 s.val) 0#32))
                  (BitVec.setWidth 32 (IntOp.cmpi CmpIPredicate.slt (BitVec.ofNat 32 s.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 s.val) 64#32) 0#32))
            (IntOp.subi (IntOp.divsi ArithUnit.vector (BitVec.ofNat 32 s.val) 64#32) 1#32)
            (IntOp.divsi ArithUnit.vector (BitVec.ofNat 32 s.val) 64#32)) = BitVec.ofNat 32 (s.val / 64) := by
  decide +kernel

/-- The spreading matrix: lane `h` feeds the columns of head `h`. -/
theorem pay19_apply (h : Fin 128) (q : Fin 1024) : k0_pay19 (F := Ideal) (ix2 h q) = if h = hd q then (1 : EReal) else 0 := by
  pointwise [k0_pay19]
  rw [div64 q]
  have e := eq_bit h (hd q)
  unfold hd at e ⊢
  simp only at e ⊢
  rw [e]
  exact bit_ite _

/-- A sum over lanes against a selection of one lane. -/
theorem sum_sel (p : Fin 128) (f : Fin 128 → EReal) : ∑ x : Fin 128, (if p = x then (1 : EReal) else 0) * f x = f p := by
  simp
theorem sum_sel' (p : Fin 128) (f : Fin 128 → EReal) : ∑ x : Fin 128, f x * (if x = p then (1 : EReal) else 0) = f p := by
  simp

end Cert.Proof

end
-- ==== Proof.BlockSteps.lean ====
/- What the shared values of one grid step of the kernel hold at an index, when the step sizes and the decay rates are
   finite: the running sums of the decay exponents, their transposed rows, and the per-head scalars spread over columns. -/
module

public import proofs.«01_k».proof.Proof.Gen.KernelIdeal.Skeleton
public import Idealize.ShloMosaic.Lib.Pointwise
public import proofs.«01_k».proof.Proof.Masks

@[expose] public section

set_option maxRecDepth 16384

noncomputable section

namespace Cert.Proof

open Idealize.ShloMosaic Idealize.SL.Sem Cert.KernelIdeal Cert.KernelIdeal.Gen

section Steps

variable {v3 v5 : FVec Ideal S1x128x128 .f32} {v12 v19 : FVec Ideal S1x1x128 .f32} {D0 D1 : Fin 128 → Fin 128 → ℝ} {A0 A1 : Fin 128 → ℝ}

/-- The step sizes and the decay rates of a block are finite on the sixteen lanes in use, with these real values. -/
structure Steps (v3 v5 : FVec Ideal S1x128x128 .f32) (v12 v19 : FVec Ideal S1x1x128 .f32) (D0 D1 : Fin 128 → Fin 128 → ℝ)
    (A0 A1 : Fin 128 → ℝ) : Prop where
  d0 : ∀ t h : Fin 128, h.val < 16 → v3 (ix3 0 t h) = ((D0 t h : ℝ) : EReal)
  d1 : ∀ t h : Fin 128, h.val < 16 → v5 (ix3 0 t h) = ((D1 t h : ℝ) : EReal)
  a0 : ∀ h : Fin 128, h.val < 16 → 0 - Ideal.exp (v12 (ix3 0 0 h)) = ((A0 h : ℝ) : EReal)
  a1 : ∀ h : Fin 128, h.val < 16 → 0 - Ideal.exp (v19 (ix3 0 0 h)) = ((A1 h : ℝ) : EReal)

/-- The decay exponents of a direction: step size times rate. -/
abbrev dec (D : Fin 128 → Fin 128 → ℝ) (A : Fin 128 → ℝ) (t h : Fin 128) : ℝ := D t h * A h

variable (S : Steps v3 v5 v12 v19 D0 D1 A0 A1)
include S

theorem pay4_val (t h : Fin 128) (hh : h.val < 16) : k0_pay4 (F := Ideal) v5 v19 (ix2 t h) = ((dec D1 A1 t h : ℝ) : EReal) := by
  pointwise [k0_pay4, k0_pay3]
  rw [S.d1 t h hh, S.a1 h hh, EReal.coe_mul]

omit S in
theorem tri_sum (t : Fin 128) (f : Fin 128 → EReal) (g : Fin 128 → ℝ) (e : ∀ k, f k = ((g k : ℝ) : EReal)) :
    ∑ x : Fin 128, FloatOps.sitofp (F := Ideal) FTy.f32 (BitVec.setWidth 32 (IntOp.cmpi CmpIPredicate.sge (BitVec.ofNat 32 t.val) (BitVec.ofNat 32 x.val))) * f x
      = ((∑ k : Fin 128, if k ≤ t then g k else 0 : ℝ) : EReal) := by
  rw [← sum_coe]
  refine Finset.sum_congr rfl fun x _ => ?_
  rw [sge_bit t x, bit_ite, e x]
  split <;> simp

theorem pay6_val (t h : Fin 128) (hh : h.val < 16) : k0_pay6 (F := Ideal) v3 v5 v12 v19 (ix2 t h) = ((cum (dec D0 A0) t h : ℝ) : EReal) := by
  pointwise [k0_pay6, k0_pay5, k0_pay2]
  refine tri_sum t _ _ fun k => ?_
  rw [S.d0 k h hh, S.a0 h hh, EReal.coe_mul]

theorem pay7_val (t h : Fin 128) (hh : h.val < 16) : k0_pay7 (F := Ideal) v3 v5 v12 v19 (ix2 t h) = ((cum (dec D1 A1) t h : ℝ) : EReal) := by
  pointwise [k0_pay7, k0_pay5, k0_pay2]
  exact tri_sum t _ _ fun k => pay4_val S k h hh

theorem pay8_val (h : Fin 128) (hh : h.val < 16) : k0_pay8 (F := Ideal) v3 v5 v12 v19 (ix2 0 h) = ((tot (dec D0 A0) h : ℝ) : EReal) := by
  pointwise [k0_pay8]
  rw [← cum_last]; exact pay6_val S 127 h hh

theorem pay9_val (h : Fin 128) (hh : h.val < 16) : k0_pay9 (F := Ideal) v3 v5 v12 v19 (ix2 0 h) = ((tot (dec D1 A1) h : ℝ) : EReal) := by
  pointwise [k0_pay9]
  rw [← cum_last]; exact pay7_val S 127 h hh

theorem pay10_val (t h : Fin 128) (hh : h.val < 16) : k0_pay10 (F := Ideal) v3 v5 v12 v19 (ix2 t h) = ((suf (dec D1 A1) t h : ℝ) : EReal) := by
  pointwise [k0_pay10]
  rw [pay9_val S h hh, pay7_val S t h hh, pay4_val S t h hh, ← EReal.coe_sub, ← EReal.coe_add, suf_eq]

end Steps

/-! ### The transposed rows -/

section Rows

variable (v4 v6 v28 v34 : FVec Ideal S128x128 .f32) (h : Fin 16) (s : Fin 128)

theorem row_sum (f : Fin 128 → EReal) :
    ∑ x : Fin 128, FloatOps.sitofp (F := Ideal) FTy.f32 (BitVec.setWidth 32 (k0_pay13 (ix2 h x))) * f x = f ⟨h.val, by omega⟩ := by
  rw [← sum_sel ⟨h.val, by omega⟩ f]
  refine Finset.sum_congr rfl fun x _ => ?_
  rw [pay13_apply, bit_ite]

theorem pay15_apply : k0_pay15 v4 v6 v28 v34 k0_pay13 (ix2 h s) = v28 (ix2 s ⟨h.val, by omega⟩) := by
  pointwise [k0_pay15, k0_pay14]
  exact row_sum h _
theorem pay16_apply : k0_pay16 v4 v6 v28 v34 k0_pay13 (ix2 h s) = v34 (ix2 s ⟨h.val, by omega⟩) := by
  pointwise [k0_pay16, k0_pay14]
  refine (row_sum h _).trans ?_
  have hs : 256 + s.val - 128 - 128 = s.val := by omega
  simp only [show ¬ 256 + s.val < 128 by omega, show ¬ 256 + s.val - 128 < 128 by omega, show 256 + s.val - 128 - 128 < 128 by omega, hs, s.isLt, ↓reduceDIte, Fin.eta]
theorem pay17_apply : k0_pay17 v4 v6 v28 v34 k0_pay13 (ix2 h s) = v4 (ix2 s ⟨h.val, by omega⟩) := by
  pointwise [k0_pay17, k0_pay14]
  exact row_sum h _
theorem pay18_apply : k0_pay18 v4 v6 v28 v34 k0_pay13 (ix2 h s) = v6 (ix2 s ⟨h.val, by omega⟩) := by
  pointwise [k0_pay18, k0_pay14]
  refine (row_sum h _).trans ?_
  have hs : 384 + s.val - 128 - 128 - 128 = s.val := by omega
  simp only [show ¬ 384 + s.val < 128 by omega, show ¬ 384 + s.val - 128 < 128 by omega, show ¬ 384 + s.val - 128 - 128 < 128 by omega, hs, s.isLt, ↓reduceDIte, Fin.eta]

end Rows

/-! ### The per-head scalars spread over columns -/

section Spread

variable (v78 v82 v83 v87 : FVec Ideal S128x128 .f32) (v90 : FVec Ideal S8x128 .f32) (v91 : FVec Ideal S1x128 .f32) (t : Fin 128) (q : Fin 1024) (c : ℝ)

/-- Splitting a finite row into a head and a remainder and spreading both gives the row's entry at the column's head. -/
theorem spread_sum (f : Fin 128 → EReal) (e : f (hd q) = (c : EReal)) :
    ∑ x : Fin 128, f x * k0_pay19 (F := Ideal) (ix2 x q) + ∑ x : Fin 128, (f x - f x) * k0_pay19 (F := Ideal) (ix2 x q) = (c : EReal) := by
  have h1 : ∀ g : Fin 128 → EReal, ∑ x : Fin 128, g x * k0_pay19 (F := Ideal) (ix2 x q) = g (hd q) := fun g => by
    rw [← sum_sel' (hd q) g]
    exact Finset.sum_congr rfl fun x _ => by rw [pay19_apply]
  rw [h1 f, h1 fun x => f x - f x, e, ← EReal.coe_sub, sub_self, EReal.coe_zero, add_zero]

theorem pay27_val (e : v78 (ix2 t (hd q)) = (c : EReal)) : k0_pay27 k0_pay19 v78 v82 v83 v87 v90 v91 (ix2 t q) = (c : EReal) := by
  pointwise [k0_pay27, k0_pay26]
  exact spread_sum q c _ e
theorem pay28_val (e : v83 (ix2 t (hd q)) = (c : EReal)) : k0_pay28 k0_pay19 v78 v82 v83 v87 v90 v91 (ix2 t q) = (c : EReal) := by
  pointwise [k0_pay28, k0_pay26]
  refine spread_sum q c _ ?_
  have ht : 256 + t.val - 128 - 128 = t.val := by omega
  simp only [show ¬ 256 + t.val < 128 by omega, show ¬ 256 + t.val - 128 < 128 by omega, show 256 + t.val - 128 - 128 < 128 by omega, ht, t.isLt, ↓reduceDIte, Fin.eta]
  exact e
theorem pay29_val (e : v82 (ix2 t (hd q)) = (c : EReal)) : k0_pay29 k0_pay19 v78 v82 v83 v87 v90 v91 (ix2 t q) = (c : EReal) := by
  pointwise [k0_pay29, k0_pay26]
  exact spread_sum q c _ e
theorem pay30_val (e : v87 (ix2 t (hd q)) = (c : EReal)) : k0_pay30 k0_pay19 v78 v82 v83 v87 v90 v91 (ix2 t q) = (c : EReal) := by
  pointwise [k0_pay30, k0_pay26]
  refine spread_sum q c _ ?_
  have ht : 384 + t.val - 128 - 128 - 128 = t.val := by omega
  simp only [show ¬ 384 + t.val < 128 by omega, show ¬ 384 + t.val - 128 < 128 by omega, show ¬ 384 + t.val - 128 - 128 < 128 by omega, show 384 + t.val - 128 - 128 - 128 < 128 by omega, ht, t.isLt, ↓reduceDIte, Fin.eta]
  exact e
theorem pay31_val (e : v90 (ix2 0 (hd q)) = (c : EReal)) : k0_pay31 k0_pay19 v78 v82 v83 v87 v90 v91 (ix2 0 q) = (c : EReal) := by
  pointwise [k0_pay31, k0_pay26]
  exact spread_sum q c _ e
theorem pay32_val (e : v91 (ix2 0 (hd q)) = (c : EReal)) : k0_pay32 k0_pay19 v78 v82 v83 v87 v90 v91 (ix2 0 q) = (c : EReal) := by
  pointwise [k0_pay32, k0_pay26]
  exact spread_sum q c _ e

end Spread

end Cert.Proof

end
-- ==== Proof.BlockVals.lean ====
/- What one grid step of the kernel writes, at an index, when its inputs are finite: the two output blocks (a masked-decay
   sum over the block's rows plus the state's contribution) and the updated state. -/
module

public import proofs.«01_k».proof.Proof.BlockSteps

@[expose] public section

set_option maxRecDepth 16384

noncomputable section

namespace Cert.Proof

open Idealize.ShloMosaic Idealize.SL.Sem Cert.KernelIdeal Cert.KernelIdeal.Gen

/-- One head's masked decay matrix times its step sizes: the score times the decay from row `s` to row `t` times the step size of `s`. -/
def halfT (w : FVec Ideal S128x128 .f32) (mask : IVec S128x128 1) (wt dtt : FVec Ideal S16x128 .f32) (cb : FVec Ideal S128x128 .f32)
    (h : ℕ) (hw : S128x128.Slices ![0, h] S128x1) (ht : S16x128.Slices ![h, 0] S1x128) : FVec Ideal S128x128 .bf16 :=
  truncf .bf16 (mulf (mulf cb (exp (select mask
    (subf (broadcastTo S128x128 (extractStridedSlice S128x1 ![0, h] w hw) broadcasts_S128x1_S128x128)
      (broadcastTo S128x128 (extractStridedSlice S1x128 ![h, 0] wt ht) broadcasts_S1x128_S128x128))
    (broadcast S128x128 (Named.named κ "mask" 0xF149F2CA#32)))))
    (broadcastTo S128x128 (extractStridedSlice S1x128 ![h, 0] dtt ht) broadcasts_S1x128_S128x128)) bitsLt_bf16_f32

/-- A pair of heads' matrices side by side against the pair's inputs, each head's columns masked to its own half. -/
def pairT (l0 l1 : FVec Ideal S128x128 .bf16) (left : IVec S128x128 1) (xp : FVec Ideal S128x128 .bf16) : FVec Ideal S128x128 .f32 :=
  matmul dot_S128x256_S256x128_S128x128_1_0_0_1_n_n none
    (concatenate S128x256 1 [⟨S128x128, l0⟩, ⟨S128x128, l1⟩] concatenates_S128x128_S128x128_S128x256_d1)
    (concatenate S256x128 0 [⟨S128x128, select left xp (broadcast S128x128 (Scalar.ofBits .bf16 0x0000#16))⟩,
      ⟨S128x128, select left (broadcast S128x128 (Scalar.ofBits .bf16 0x0000#16)) xp⟩] concatenates_S128x128_S128x128_S256x128_d0)
    (constant S128x128 .f32 0x00000000#32)

/-- The masked decay: `exp (w_t − w_s)` where row `t` sees row `s`, else zero. -/
def decay (M : Fin 128 → Fin 128 → Bool) (W : Fin 128 → ℝ) (t s : Fin 128) : ℝ := if M t s then Real.exp (W t - W s) else 0

theorem mask_bot : (Named.named (F := Ideal) κ "mask" (φ := .f32) 0xF149F2CA#32) = (⊥ : EReal) := by
  show ((κ "mask").getD _ : EReal) = ⊥
  rfl

theorem halfT_val {w : FVec Ideal S128x128 .f32} {mask : IVec S128x128 1} {wt dtt : FVec Ideal S16x128 .f32} {cb : FVec Ideal S128x128 .f32}
    {h : ℕ} (hw : S128x128.Slices ![0, h] S128x1) (ht : S16x128.Slices ![h, 0] S1x128) (hh : h < 16)
    {M : Fin 128 → Fin 128 → Bool} {W D : Fin 128 → ℝ} {CB : Fin 128 → Fin 128 → ℝ}
    (eM : ∀ t s, mask (ix2 t s) = if M t s then 1#1 else 0#1) (eW : ∀ t, w (ix2 t ⟨h, by omega⟩) = ((W t : ℝ) : EReal))
    (eT : ∀ s, wt (ix2 ⟨h, hh⟩ s) = ((W s : ℝ) : EReal)) (eD : ∀ s, dtt (ix2 ⟨h, hh⟩ s) = ((D s : ℝ) : EReal))
    (eC : ∀ t s, cb (ix2 t s) = ((CB t s : ℝ) : EReal)) (t s : Fin 128) :
    halfT w mask wt dtt cb h hw ht (ix2 t s) = ((CB t s * decay M W t s * D s : ℝ) : EReal) := by
  pointwise [halfT]
  rw [eM, eD, eC, eW, eT, mask_bot]
  unfold decay
  cases M t s <;> simp [ValueIdx.select_one, ValueIdx.select_zero, EReal.coe_mul, ← EReal.coe_sub]

theorem pairT_val {l0 l1 : FVec Ideal S128x128 .bf16} {xp : FVec Ideal S128x128 .bf16} {L0 L1 X : Fin 128 → Fin 128 → ℝ}
    (e0 : ∀ t s, l0 (ix2 t s) = ((L0 t s : ℝ) : EReal)) (e1 : ∀ t s, l1 (ix2 t s) = ((L1 t s : ℝ) : EReal))
    (eX : ∀ s l, xp (ix2 s l) = ((X s l : ℝ) : EReal)) (t l : Fin 128) :
    pairT l0 l1 k0_pay33 xp (ix2 t l) = ((∑ s, (if l.val < 64 then L0 t s else L1 t s) * X s l : ℝ) : EReal) := by
  pointwise [pairT]
  simp only [pay33_apply, e0, e1, eX]
  by_cases hl : l.val < 64
  · simp only [hl, ↓reduceIte, ValueIdx.select_one, Finset.sum_const_zero, add_zero, ← EReal.coe_mul, sum_coe]
  · simp only [hl, ↓reduceIte, ValueIdx.select_zero, Finset.sum_const_zero, zero_add, ← EReal.coe_mul, sum_coe]

end Cert.Proof

end
-- ==== Proof.BlockTiles.lean ====
/- The pieces a grid step stores, at an index: a tile of a direction's output rows, and a group's part of the updated state. -/
module

public import proofs.«01_k».proof.Proof.BlockVals

@[expose] public section

set_option maxRecDepth 16384

noncomputable section

namespace Cert.Proof

open Idealize.ShloMosaic Idealize.SL.Sem Cert.KernelIdeal Cert.KernelIdeal.Gen

/-! ### The row factors -/

section Factors
variable {w dt : FVec Ideal S128x128 .f32} {tt : FVec Ideal S1x128 .f32} {t h : Fin 128} {c d e : ℝ}

theorem pay20_val (hw : w (ix2 t h) = (c : EReal)) : k0_pay20 w (ix2 t h) = ((Real.exp c : ℝ) : EReal) := by
  pointwise [k0_pay20]; rw [hw]; rfl
theorem pay22_val (hw : w (ix2 t h) = (c : EReal)) : k0_pay22 w (ix2 t h) = ((Real.exp c : ℝ) : EReal) := by
  pointwise [k0_pay22]; rw [hw]; rfl
theorem pay21_val (hw : w (ix2 t h) = (c : EReal)) (hd : dt (ix2 t h) = (d : EReal)) (ht : tt (ix2 0 h) = (e : EReal)) :
    k0_pay21 dt w tt (ix2 t h) = ((Real.exp (e - c) * d : ℝ) : EReal) := by
  pointwise [k0_pay21]; rw [hw, hd, ht, ← EReal.coe_sub, EReal.coe_mul]; rfl
theorem pay23_val (hw : w (ix2 t h) = (c : EReal)) (hd : dt (ix2 t h) = (d : EReal)) (ht : tt (ix2 0 h) = (e : EReal)) :
    k0_pay23 dt tt w (ix2 t h) = ((Real.exp (e - c) * d : ℝ) : EReal) := by
  pointwise [k0_pay23]; rw [hw, hd, ht, ← EReal.coe_sub, EReal.coe_mul]; rfl
theorem pay24_val (ht : tt (ix2 0 h) = (e : EReal)) : k0_pay24 tt (ix2 0 h) = ((Real.exp e : ℝ) : EReal) := by
  pointwise [k0_pay24]; rw [ht]; rfl
theorem pay25_val (ht : tt (ix2 0 h) = (e : EReal)) : k0_pay25 tt (ix2 0 h) = ((Real.exp e : ℝ) : EReal) := by
  pointwise [k0_pay25]; rw [ht]; rfl

end Factors

/-! ### Scores and state contributions -/

section Rows
variable {b cc : FVec Ideal S128x128 .bf16} {B C : Fin 128 → Fin 128 → ℝ} {v115 : FVec Ideal S1x1x128x512 .f32}

/-- The scores of a group: row `t`'s query against row `s`'s key. -/
def score (C B : Fin 128 → Fin 128 → ℝ) (t s : Fin 128) : ℝ := ∑ n, C t n * B s n

theorem pay36_val (eB : ∀ s n, b (ix2 s n) = ((B s n : ℝ) : EReal)) (eC : ∀ t n, cc (ix2 t n) = ((C t n : ℝ) : EReal)) (t s : Fin 128) :
    k0_pay36 (F := Ideal) b cc (ix2 t s) = ((score C B t s : ℝ) : EReal) := by
  pointwise [k0_pay36]; simp only [eB, eC, ← EReal.coe_mul, sum_coe, score]
theorem pay37_val (eB : ∀ s n, b (ix2 s n) = ((B s n : ℝ) : EReal)) (eC : ∀ t n, cc (ix2 t n) = ((C t n : ℝ) : EReal)) (t s : Fin 128) :
    k0_pay37 (F := Ideal) b cc (ix2 t s) = ((score C B t s : ℝ) : EReal) := by
  pointwise [k0_pay37]; simp only [eB, eC, ← EReal.coe_mul, sum_coe, score]
theorem pay61_val (eB : ∀ s n, b (ix2 s n) = ((B s n : ℝ) : EReal)) (eC : ∀ t n, cc (ix2 t n) = ((C t n : ℝ) : EReal)) (t s : Fin 128) :
    k0_pay61 (F := Ideal) b cc (ix2 t s) = ((score C B t s : ℝ) : EReal) := by
  pointwise [k0_pay61]; simp only [eB, eC, ← EReal.coe_mul, sum_coe, score]
theorem pay62_val (eB : ∀ s n, b (ix2 s n) = ((B s n : ℝ) : EReal)) (eC : ∀ t n, cc (ix2 t n) = ((C t n : ℝ) : EReal)) (t s : Fin 128) :
    k0_pay62 (F := Ideal) b cc (ix2 t s) = ((score C B t s : ℝ) : EReal) := by
  pointwise [k0_pay62]; simp only [eB, eC, ← EReal.coe_mul, sum_coe, score]

variable {v77 : FVec Ideal S128x1024 .bf16} {v78 v82 v83 v87 : FVec Ideal S128x128 .f32} {v90 : FVec Ideal S8x128 .f32} {v91 : FVec Ideal S1x128 .f32}

theorem pay38_val (t : Fin 128) (j : Fin 512) (q : Fin 1024) (hq : q.val = j.val) {c : EReal} (e : k0_pay27 v77 v78 v82 v83 v87 v90 v91 (ix2 t q) = c) :
    k0_pay38 v77 v78 v82 v83 v87 v90 v91 cc v115 (ix2 t j) = (∑ n, cc (ix2 t n) * v115 (ix4 0 0 n j)) * c := by
  obtain ⟨q, _⟩ := q; simp only at hq; subst hq
  pointwise [k0_pay38, k0_pay34]; rw [← e]
theorem pay39_val (t : Fin 128) (j : Fin 512) (q : Fin 1024) (hq : q.val = j.val) {c : EReal} (e : k0_pay28 v77 v78 v82 v83 v87 v90 v91 (ix2 t q) = c) :
    k0_pay39 v77 v78 v82 v83 v87 v90 v91 cc v115 (ix2 t j) = (∑ n, cc (ix2 t n) * v115 (ix4 0 0 n j)) * c := by
  obtain ⟨q, _⟩ := q; simp only at hq; subst hq
  pointwise [k0_pay39, k0_pay35]; rw [← e]
theorem pay63_val {v102 : FVec Ideal S128x1024 .f32} (t : Fin 128) (j : Fin 512) (q : Fin 1024) (hq : q.val = 512 + j.val) {c : EReal} (e : v102 (ix2 t q) = c) :
    k0_pay63 v102 cc v115 (ix2 t j) = (∑ n, cc (ix2 t n) * v115 (ix4 0 0 n j)) * c := by
  obtain ⟨q, _⟩ := q; simp only at hq; subst hq
  pointwise [k0_pay63, k0_pay59]; rw [← e]
theorem pay64_val {v102 : FVec Ideal S128x1024 .f32} (t : Fin 128) (j : Fin 512) (q : Fin 1024) (hq : q.val = 512 + j.val) {c : EReal} (e : v102 (ix2 t q) = c) :
    k0_pay64 v102 cc v115 (ix2 t j) = (∑ n, cc (ix2 t n) * v115 (ix4 0 0 n j)) * c := by
  obtain ⟨q, _⟩ := q; simp only at hq; subst hq
  pointwise [k0_pay64, k0_pay60]; rw [← e]

end Rows

/-! ### The updated state -/

section State
variable {v104 : FVec Ideal S128x1024 .f32} {v106 : FVec Ideal S1x1024 .f32} {b : FVec Ideal S128x128 .bf16} {st : FVec Ideal S1x1x128x512 .f32}
  {x : FVec Ideal S128x512 .bf16} {B : Fin 128 → Fin 128 → ℝ} {X E : Fin 128 → ℝ} {c : EReal} (n : Fin 128) (j : Fin 512) (q : Fin 1024)

theorem pay57_val (hq : q.val = j.val) (eE : ∀ s, v104 (ix2 s q) = ((E s : ℝ) : EReal)) (eT : v106 (ix2 0 q) = c)
    (eB : ∀ s n, b (ix2 s n) = ((B s n : ℝ) : EReal)) (eX : ∀ s, x (ix2 s j) = ((X s : ℝ) : EReal)) :
    k0_pay57 v104 v106 b (k0_pay34 st) x (ix4 0 0 n j) = c * st (ix4 0 0 n j) + ((∑ s, B s n * (X s * E s) : ℝ) : EReal) := by
  obtain ⟨q, _⟩ := q; simp only at hq; subst hq
  pointwise [k0_pay57, k0_pay34]
  simp only [eB, eX, eE, eT, ← EReal.coe_mul, sum_coe]
theorem pay58_val (hq : q.val = j.val) (eE : ∀ s, v104 (ix2 s q) = ((E s : ℝ) : EReal)) (eT : v106 (ix2 0 q) = c)
    (eB : ∀ s n, b (ix2 s n) = ((B s n : ℝ) : EReal)) (eX : ∀ s, x (ix2 s j) = ((X s : ℝ) : EReal)) :
    k0_pay58 v104 v106 b (k0_pay35 st) x (ix4 0 0 n j) = c * st (ix4 0 0 n j) + ((∑ s, B s n * (X s * E s) : ℝ) : EReal) := by
  obtain ⟨q, _⟩ := q; simp only at hq; subst hq
  pointwise [k0_pay58, k0_pay35]
  simp only [eB, eX, eE, eT, ← EReal.coe_mul, sum_coe]
theorem pay82_val (hq : q.val = 512 + j.val) (eE : ∀ s, v104 (ix2 s q) = ((E s : ℝ) : EReal)) (eT : v106 (ix2 0 q) = c)
    (eB : ∀ s n, b (ix2 s n) = ((B s n : ℝ) : EReal)) (eX : ∀ s, x (ix2 s j) = ((X s : ℝ) : EReal)) :
    k0_pay82 v104 v106 b (k0_pay59 st) x (ix4 0 0 n j) = c * st (ix4 0 0 n j) + ((∑ s, B s n * (X s * E s) : ℝ) : EReal) := by
  obtain ⟨q, _⟩ := q; simp only at hq; subst hq
  pointwise [k0_pay82, k0_pay59]
  simp only [eB, eX, eE, eT, ← EReal.coe_mul, sum_coe]
theorem pay1_val (hq : q.val = 512 + j.val) (eE : ∀ s, v104 (ix2 s q) = ((E s : ℝ) : EReal)) (eT : v106 (ix2 0 q) = c)
    (eB : ∀ s n, b (ix2 s n) = ((B s n : ℝ) : EReal)) (eX : ∀ s, x (ix2 s j) = ((X s : ℝ) : EReal)) :
    k0_pay1 v104 v106 b (k0_pay60 st) x (ix4 0 0 n j) = c * st (ix4 0 0 n j) + ((∑ s, B s n * (X s * E s) : ℝ) : EReal) := by
  obtain ⟨q, _⟩ := q; simp only at hq; subst hq
  pointwise [k0_pay1, k0_pay60]
  simp only [eB, eX, eE, eT, ← EReal.coe_mul, sum_coe]

end State

/-! ### A tile of output rows -/

/-- A tile of the second direction's rows: the pair's product plus the state's contribution. -/
def yB (w : FVec Ideal S128x128 .f32) (mask : IVec S128x128 1) (wt dtt : FVec Ideal S16x128 .f32) (cb : FVec Ideal S128x128 .f32)
    (yo : FVec Ideal S128x512 .f32) (xp : FVec Ideal S128x128 .bf16) (h g off : ℕ)
    (hw : S128x128.Slices ![0, h] S128x1) (ht : S16x128.Slices ![h, 0] S1x128)
    (hw' : S128x128.Slices ![0, g] S128x1) (ht' : S16x128.Slices ![g, 0] S1x128) (ho : S128x512.Slices ![0, off] S128x128) : FVec Ideal S128x128 .f32 :=
  addf (pairT (halfT w mask wt dtt cb h hw ht) (halfT w mask wt dtt cb g hw' ht') k0_pay33 xp) (extractStridedSlice S128x128 ![0, off] yo ho)

/-- A tile of the first direction's rows: the same plus the input scaled by the skip weights. -/
def yF (y : FVec Ideal S128x128 .f32) (xp : FVec Ideal S128x128 .bf16) (dsk : FVec Ideal S1x128 .f32) : FVec Ideal S128x128 .bf16 :=
  truncf .bf16 (addf y (mulf (broadcastTo S128x128 (shapeCast S1x128 dsk shapeCasts_S1x128_S1x128) broadcasts_S1x128_S128x128)
    (extf .f32 xp bitsLt_bf16_f32))) bitsLt_bf16_f32

section Tile
variable {w : FVec Ideal S128x128 .f32} {mask : IVec S128x128 1} {wt dtt : FVec Ideal S16x128 .f32} {cb : FVec Ideal S128x128 .f32}
    {yo : FVec Ideal S128x512 .f32} {xp : FVec Ideal S128x128 .bf16} {dsk : FVec Ideal S1x128 .f32} {h g off : ℕ}
    {M : Fin 128 → Fin 128 → Bool} {W D : Fin 128 → Fin 128 → ℝ} {CB X : Fin 128 → Fin 128 → ℝ}

/-- What the tile holds at row `t`, lane `l` of the pair of heads `h`, `h + 1`. -/
theorem yB_val (t l : Fin 128) (q : Fin 1024) (j : Fin 512) (hh : g < 16) (hg : g = h + 1) (hq : q.val = 64 * h + l.val) (hj : j.val = off + l.val)
    (hw : S128x128.Slices ![0, h] S128x1) (ht : S16x128.Slices ![h, 0] S1x128)
    (hw' : S128x128.Slices ![0, g] S128x1) (ht' : S16x128.Slices ![g, 0] S1x128) (ho : S128x512.Slices ![0, off] S128x128)
    (eM : ∀ t s, mask (ix2 t s) = if M t s then 1#1 else 0#1) (eW : ∀ t h : Fin 128, h.val < 16 → w (ix2 t h) = ((W t h : ℝ) : EReal))
    (eT : ∀ (h : Fin 16) s, wt (ix2 h s) = w (ix2 s ⟨h.val, by omega⟩)) (eD : ∀ (h : Fin 16) s, dtt (ix2 h s) = ((D s ⟨h.val, by omega⟩ : ℝ) : EReal))
    (eC : ∀ t s, cb (ix2 t s) = ((CB t s : ℝ) : EReal)) (eX : ∀ s l, xp (ix2 s l) = ((X s l : ℝ) : EReal)) :
    yB w mask wt dtt cb yo xp h g off hw ht hw' ht' ho (ix2 t l)
      = ((∑ s, CB t s * decay M (W · (hd q)) t s * D s (hd q) * X s l : ℝ) : EReal) + yo (ix2 t j) := by
  subst hg
  have e0 := pairT_val (l0 := halfT w mask wt dtt cb h hw ht) (l1 := halfT w mask wt dtt cb (h + 1) hw' ht')
    (fun t s => halfT_val hw ht (by omega) eM (fun t => eW t _ (by show h < 16; omega))
      (fun s => (eT ⟨h, by omega⟩ s).trans (eW s _ (by show h < 16; omega))) (fun s => eD ⟨h, by omega⟩ s) eC t s)
    (fun t s => halfT_val hw' ht' hh eM (fun t => eW t _ hh)
      (fun s => (eT ⟨h + 1, by omega⟩ s).trans (eW s _ hh)) (fun s => eD ⟨h + 1, by omega⟩ s) eC t s) eX t l
  obtain ⟨j, _⟩ := j; simp only at hj; subst hj
  pointwise [yB]
  rw [e0]
  by_cases hl : l.val < 64
  · obtain hhd : hd q = ⟨h, by omega⟩ := Fin.ext (by show q.val / 64 = h; omega)
    simp only [hl, ↓reduceIte, hhd]
  · obtain hhd : hd q = ⟨h + 1, by omega⟩ := Fin.ext (by show q.val / 64 = h + 1; omega)
    simp only [hl, ↓reduceIte, hhd]

theorem yF_val {y : FVec Ideal S128x128 .f32} (t l : Fin 128) : yF y xp dsk (ix2 t l) = y (ix2 t l) + dsk (ix2 0 l) * xp (ix2 t l) := by
  pointwise [yF]

end Tile

end Cert.Proof

end
-- ==== Proof.BlockOut.lean ====
/- What one grid step leaves in its two output blocks and in the state, in terms of the step's finite inputs. -/
module

public import proofs.«01_k».proof.Proof.BlockTiles
public import Idealize.ShloMosaic.Lib.Pipeline.ValueKit.Tiles

@[expose] public section

set_option maxRecDepth 16384

noncomputable section

namespace Cert.Proof

open Idealize.ShloMosaic Idealize.SL.Sem Cert.KernelIdeal Cert.KernelIdeal.Gen

/-- The column of `x`, of the group's `B` and of its `C` that lane `q` uses. -/
def xcol (q : Fin 1024) : Fin 1536 := ⟨q.val, by omega⟩
def bcol (q : Fin 1024) (n : Fin 128) : Fin 1536 := ⟨1024 + 128 * (q.val / 512) + n.val, by omega⟩
def ccol (q : Fin 1024) (n : Fin 128) : Fin 1536 := ⟨1280 + 128 * (q.val / 512) + n.val, by omega⟩

/-- A chunk's output at row `t`, lane `q`: the rows it sees inside the chunk, plus the state it starts from. -/
def rowOut (X : Fin 128 → Fin 1536 → ℝ) (D W : Fin 128 → Fin 128 → ℝ) (M : Fin 128 → Fin 128 → Bool) (st : Fin 128 → Fin 1024 → EReal)
    (t : Fin 128) (q : Fin 1024) : EReal :=
  ((∑ s, score (fun t n => X t (ccol q n)) (fun s n => X s (bcol q n)) t s * decay M (W · (hd q)) t s * D s (hd q) * X s (xcol q) : ℝ) : EReal)
    + (∑ n, (X t (ccol q n) : EReal) * st n q) * ((Real.exp (W t (hd q)) : ℝ) : EReal)

/-- The state after the chunk: the old one decayed over the whole chunk plus every row's contribution decayed to its end. -/
def stOut (X : Fin 128 → Fin 1536 → ℝ) (D W : Fin 128 → Fin 128 → ℝ) (T : Fin 128 → ℝ) (st : Fin 128 → Fin 1024 → EReal)
    (n : Fin 128) (q : Fin 1024) : EReal :=
  ((Real.exp (T (hd q)) : ℝ) : EReal) * st n q
    + ((∑ s, X s (bcol q n) * (X s (xcol q) * (Real.exp (T (hd q) - W s (hd q)) * D s (hd q))) : ℝ) : EReal)

/-- The step's finite inputs as real numbers: the two direction's rows, step sizes and decay rates. -/
structure Ins (x0 x1 : Vec Ideal S128x1536 .bf16) (x2 x3 : Vec Ideal S1x128x128 .f32) (x4 : Vec Ideal S2x1x128 .f32)
    (X0 X1 : Fin 128 → Fin 1536 → ℝ) (D0 D1 : Fin 128 → Fin 128 → ℝ) (A0 A1 : Fin 128 → ℝ) : Prop where
  x0v : ∀ s k, x0 (ix2 s k) = ((X0 s k : ℝ) : EReal)
  x1v : ∀ s k, x1 (ix2 s k) = ((X1 s k : ℝ) : EReal)
  d0 : ∀ t h : Fin 128, h.val < 16 → x2 (ix3 0 t h) = ((D0 t h : ℝ) : EReal)
  d1 : ∀ t h : Fin 128, h.val < 16 → x3 (ix3 0 t h) = ((D1 t h : ℝ) : EReal)
  a0 : ∀ h : Fin 128, h.val < 16 → 0 - Ideal.exp (x4 (ix3 0 0 h)) = ((A0 h : ℝ) : EReal)
  a1 : ∀ h : Fin 128, h.val < 16 → 0 - Ideal.exp (x4 (ix3 1 0 h)) = ((A1 h : ℝ) : EReal)

/-- A load of columns `o …` of a two-axis block, at an index. -/
theorem ld2 {r c m n : ℕ} {e : EltTy} (x : (⟨2, ![r, c]⟩ : Shape).Idx → Elt Ideal e) (o : ℕ)
    (inb : ∀ a, (![0, o] : Fin 2 → ℕ) a + (![m, n] : Fin 2 → ℕ) a ≤ (⟨2, ![r, c]⟩ : Shape).size a)
    (s : Fin m) (l : Fin n) (s' : Fin r) (k : Fin c) (hs : s'.val = s.val) (hk : k.val = o + l.val) :
    View.ld x (Rect.unit (s := ⟨2, ![r, c]⟩) ![0, o] ![m, n] inb) (ix2 s l) = x (ix2 s' k) :=
  View.ld_unit_apply_of x _ _ _ _ _ (by intro a; fin_cases a <;> simp [hs, hk])

/-- A load from a three-axis block's first coordinate `o`, at an index. -/
theorem ld3 {r a b m : ℕ} {e : EltTy} (x : (⟨3, ![r, a, b]⟩ : Shape).Idx → Elt Ideal e) (o : ℕ)
    (inb : ∀ i, (![o, 0, 0] : Fin 3 → ℕ) i + (![m, a, b] : Fin 3 → ℕ) i ≤ (⟨3, ![r, a, b]⟩ : Shape).size i)
    (s : Fin m) (t : Fin a) (l : Fin b) (s' : Fin r) (hs : s'.val = o + s.val) :
    View.ld x (Rect.unit (s := ⟨3, ![r, a, b]⟩) ![o, 0, 0] ![m, a, b] inb) (ix3 s t l) = x (ix3 s' t l) :=
  View.ld_unit_apply_of x _ _ _ _ _ (by intro a; fin_cases a <;> simp [hs])

/-- A load of a direction `d` and columns `o …` of the state, at an index. -/
theorem ld4 (x : Vec Ideal S1x2x128x1024 .f32) (d o : ℕ)
    (inb : ∀ i, (![0, d, 0, o] : Fin 4 → ℕ) i + (![1, 1, 128, 512] : Fin 4 → ℕ) i ≤ S1x2x128x1024.size i)
    (n : Fin 128) (j : Fin 512) (d' : Fin 2) (q : Fin 1024) (hd' : d'.val = d) (hq : q.val = o + j.val) :
    View.ld x (Rect.unit (s := S1x2x128x1024) ![0, d, 0, o] ![1, 1, 128, 512] inb) (ix4 0 0 n j) = x (ix4 0 d' n q) :=
  View.ld_unit_apply_of x _ _ _ _ _ (by intro a; fin_cases a <;> simp [hd', hq])

section
variable {x0 x1 : Vec Ideal S128x1536 .bf16} {x2 x3 : Vec Ideal S1x128x128 .f32} {x4 : Vec Ideal S2x1x128 .f32}
    {X0 X1 : Fin 128 → Fin 1536 → ℝ} {D0 D1 : Fin 128 → Fin 128 → ℝ} {A0 A1 : Fin 128 → ℝ} (I : Ins x0 x1 x2 x3 x4 X0 X1 D0 D1 A0 A1)

include I in
theorem Ins.steps (i2 i3 i4 i5) : Steps (View.ld x2 (Rect.unit (s := S1x128x128) ![0, 0, 0] ![1, 128, 128] i2)) (View.ld x3 (Rect.unit (s := S1x128x128) ![0, 0, 0] ![1, 128, 128] i3))
    (View.ld x4 (Rect.unit (s := S2x1x128) ![0, 0, 0] ![1, 1, 128] i4)) (View.ld x4 (Rect.unit (s := S2x1x128) ![1, 0, 0] ![1, 1, 128] i5)) D0 D1 A0 A1 where
  d0 := fun t h hh => (ld3 x2 0 _ 0 t h 0 rfl).trans (I.d0 t h hh)
  d1 := fun t h hh => (ld3 x3 0 _ 0 t h 0 rfl).trans (I.d1 t h hh)
  a0 := fun h hh => (congrArg (fun z => 0 - Ideal.exp z) (ld3 x4 0 i4 0 0 h 0 rfl)).trans (I.a0 h hh)
  a1 := fun h hh => (congrArg (fun z => 0 - Ideal.exp z) (ld3 x4 1 i5 0 0 h 1 rfl)).trans (I.a1 h hh)

include I in
theorem Ins.ld0 {o : ℕ} {n : ℕ} (i) (s : Fin 128) (l : Fin n) (k : Fin 1536) (hk : k.val = o + l.val) :
    View.ld x0 (Rect.unit (s := S128x1536) ![0, o] ![128, n] i) (ix2 s l) = ((X0 s k : ℝ) : EReal) :=
  (ld2 x0 o i s l s k rfl hk).trans (I.x0v s k)

include I in
theorem Ins.ld1 {o : ℕ} {n : ℕ} (i) (s : Fin 128) (l : Fin n) (k : Fin 1536) (hk : k.val = o + l.val) :
    View.ld x1 (Rect.unit (s := S128x1536) ![0, o] ![128, n] i) (ix2 s l) = ((X1 s k : ℝ) : EReal) :=
  (ld2 x1 o i s l s k rfl hk).trans (I.x1v s k)

end

/-! ### One tile, with the shared factors in place -/

section Tile
variable {v3 v5 : FVec Ideal S1x128x128 .f32} {v12 v19 : FVec Ideal S1x1x128 .f32} {D0 D1 : Fin 128 → Fin 128 → ℝ} {A0 A1 : Fin 128 → ℝ}
  (S : Steps v3 v5 v12 v19 D0 D1 A0 A1)
  {cb : FVec Ideal S128x128 .f32} {yo : FVec Ideal S128x512 .f32} {xp : FVec Ideal S128x128 .bf16} {dsk : FVec Ideal S1x128 .f32}
  {X : Fin 128 → Fin 1536 → ℝ} {st : Fin 128 → Fin 1024 → EReal} {h g off : ℕ} (t l : Fin 128) (q : Fin 1024) (j : Fin 512)
  (hq : q.val = 64 * h + l.val) (hj : j.val = off + l.val) (hh : g < 16) (hg : g = h + 1)
  (hw : S128x128.Slices ![0, h] S128x1) (ht : S16x128.Slices ![h, 0] S1x128)
  (hw' : S128x128.Slices ![0, g] S128x1) (ht' : S16x128.Slices ![g, 0] S1x128) (ho : S128x512.Slices ![0, off] S128x128)
  (eC : ∀ t s, cb (ix2 t s) = ((score (fun t n => X t (ccol q n)) (fun s n => X s (bcol q n)) t s : ℝ) : EReal))
  (eX : ∀ s (l : Fin 128) (k : Fin 1536), k.val = 64 * h + l.val → xp (ix2 s l) = ((X s k : ℝ) : EReal))

include S hj eC hh hg hq eX in
theorem tileF {c : EReal} (eS : dsk (ix2 0 l) = c)
    (eY : yo (ix2 t j) = (∑ n, (X t (ccol q n) : EReal) * st n q) * ((Real.exp (cum (dec D0 A0) t (hd q)) : ℝ) : EReal)) :
    yF (yB (k0_pay6 v3 v5 v12 v19) k0_pay11 (k0_pay15 (k0_pay2 v3) (k0_pay3 v5) (k0_pay6 v3 v5 v12 v19) (k0_pay10 v3 v5 v12 v19) k0_pay13)
      (k0_pay17 (k0_pay2 v3) (k0_pay3 v5) (k0_pay6 v3 v5 v12 v19) (k0_pay10 v3 v5 v12 v19) k0_pay13) cb yo xp h g off hw ht hw' ht' ho) xp dsk (ix2 t l)
      = rowOut X D0 (cum (dec D0 A0)) (fun t s => decide (s ≤ t)) st t q + c * ((X t (xcol q) : ℝ) : EReal) := by
  rw [yF_val, yB_val (M := fun t s => decide (s ≤ t)) (W := cum (dec D0 A0)) (D := D0) (X := fun s l => X s ⟨64 * h + l.val, by omega⟩)
    t l q j hh hg hq hj hw ht hw' ht' ho ?_ (fun t h hh => pay6_val S t h hh) (fun h s => pay15_apply _ _ _ _ h s) ?_ eC (fun s l => eX s l _ rfl), eS, eY,
    eX t l (xcol q) hq]
  · unfold rowOut
    rw [show xcol q = ⟨64 * h + l.val, by omega⟩ from Fin.ext hq]
  · intro t s; rw [pay11_apply]; simp
  · intro h s
    rw [pay17_apply, ← S.d0 s ⟨h.val, by omega⟩ h.isLt]; pointwise [k0_pay2]

include S hj eC hh hg hq eX in
theorem tileB (eY : yo (ix2 t j) = (∑ n, (X t (ccol q n) : EReal) * st n q) * ((Real.exp (suf (dec D1 A1) t (hd q)) : ℝ) : EReal)) :
    truncf .bf16 (yB (k0_pay10 v3 v5 v12 v19) k0_pay12 (k0_pay16 (k0_pay2 v3) (k0_pay3 v5) (k0_pay6 v3 v5 v12 v19) (k0_pay10 v3 v5 v12 v19) k0_pay13)
      (k0_pay18 (k0_pay2 v3) (k0_pay3 v5) (k0_pay6 v3 v5 v12 v19) (k0_pay10 v3 v5 v12 v19) k0_pay13) cb yo xp h g off hw ht hw' ht' ho) bitsLt_bf16_f32 (ix2 t l)
      = rowOut X D1 (suf (dec D1 A1)) (fun t s => decide (t ≤ s)) st t q := by
  refine (yB_val (M := fun t s => decide (t ≤ s)) (W := suf (dec D1 A1)) (D := D1) (X := fun s l => X s ⟨64 * h + l.val, by omega⟩)
    t l q j hh hg hq hj hw ht hw' ht' ho ?_ (fun t h hh => pay10_val S t h hh) (fun h s => pay16_apply _ _ _ _ h s) ?_ eC (fun s l => eX s l _ rfl)).trans ?_
  · intro t s; rw [pay12_apply]; simp
  · intro h s
    rw [pay18_apply, ← S.d1 s ⟨h.val, by omega⟩ h.isLt]; pointwise [k0_pay3]
  · rw [eY]; unfold rowOut
    rw [show xcol q = ⟨64 * h + l.val, by omega⟩ from Fin.ext hq]

end Tile

/-! ### The factors at a step's loads -/

section Factor
variable {v3 v5 : FVec Ideal S1x128x128 .f32} {v12 v19 : FVec Ideal S1x1x128 .f32} {D0 D1 : Fin 128 → Fin 128 → ℝ} {A0 A1 : Fin 128 → ℝ}
  (S : Steps v3 v5 v12 v19 D0 D1 A0 A1) {b82 b87 b78 b83 : FVec Ideal S128x128 .f32} {b90 : FVec Ideal S8x128 .f32} {b91 : FVec Ideal S1x128 .f32}
  (t : Fin 128) (q : Fin 1024)

include S

theorem pay2_val (h : Fin 128) (hh : h.val < 16) : k0_pay2 (F := Ideal) v3 (ix2 t h) = ((D0 t h : ℝ) : EReal) := by
  rw [← S.d0 t h hh]; pointwise [k0_pay2]
theorem pay3_val (h : Fin 128) (hh : h.val < 16) : k0_pay3 (F := Ideal) v5 (ix2 t h) = ((D1 t h : ℝ) : EReal) := by
  rw [← S.d1 t h hh]; pointwise [k0_pay3]
theorem ein0 : k0_pay27 k0_pay19 (k0_pay20 (k0_pay6 v3 v5 v12 v19)) b82 b83 b87 b90 b91 (ix2 t q)
    = ((Real.exp (cum (dec D0 A0) t (hd q)) : ℝ) : EReal) := pay27_val (e := pay20_val (pay6_val S t (hd q) (hd_lt q))) ..
theorem ein1 : k0_pay28 k0_pay19 b78 b82 (k0_pay22 (k0_pay10 v3 v5 v12 v19)) b87 b90 b91 (ix2 t q)
    = ((Real.exp (suf (dec D1 A1) t (hd q)) : ℝ) : EReal) := pay28_val (e := pay22_val (pay10_val S t (hd q) (hd_lt q))) ..
theorem eout0 : k0_pay29 k0_pay19 b78 (k0_pay21 (k0_pay2 v3) (k0_pay6 v3 v5 v12 v19) (k0_pay8 v3 v5 v12 v19)) b83 b87 b90 b91 (ix2 t q)
    = ((Real.exp (tot (dec D0 A0) (hd q) - cum (dec D0 A0) t (hd q)) * D0 t (hd q) : ℝ) : EReal) :=
  pay29_val (e := pay21_val (pay6_val S t (hd q) (hd_lt q)) (pay2_val S t _ (hd_lt q)) (pay8_val S (hd q) (hd_lt q))) ..
theorem eout1 : k0_pay30 k0_pay19 b78 b82 b83 (k0_pay23 (k0_pay3 v5) (k0_pay9 v3 v5 v12 v19) (k0_pay10 v3 v5 v12 v19)) b90 b91 (ix2 t q)
    = ((Real.exp (tot (dec D1 A1) (hd q) - suf (dec D1 A1) t (hd q)) * D1 t (hd q) : ℝ) : EReal) :=
  pay30_val (e := pay23_val (pay10_val S t (hd q) (hd_lt q)) (pay3_val S t _ (hd_lt q)) (pay9_val S (hd q) (hd_lt q))) ..
theorem etot0 : k0_pay31 k0_pay19 b78 b82 b83 b87 (k0_pay24 (k0_pay8 v3 v5 v12 v19)) b91 (ix2 0 q)
    = ((Real.exp (tot (dec D0 A0) (hd q)) : ℝ) : EReal) := pay31_val (e := pay24_val (pay8_val S (hd q) (hd_lt q))) ..
theorem etot1 : k0_pay32 k0_pay19 b78 b82 b83 b87 b90 (k0_pay25 (k0_pay9 v3 v5 v12 v19)) (ix2 0 q)
    = ((Real.exp (tot (dec D1 A1) (hd q)) : ℝ) : EReal) := pay32_val (e := pay25_val (pay9_val S (hd q) (hd_lt q))) ..

end Factor

end Cert.Proof

end
-- ==== Proof.Seq.lean ====
/- The scan along a whole sequence: chunk by chunk, a state decayed and added to, is one decayed sum over all the earlier rows. -/
module

public import proofs.«01_k».proof.Proof.BlockOut

@[expose] public section

set_option maxRecDepth 16384

noncomputable section

namespace Cert.Proof

open Idealize.ShloMosaic

/-! ### Extended reals: a real factor over a sum with a real term -/

theorem coe_mul_add_coe (c b : ℝ) (a : EReal) : (c : EReal) * (a + (b : EReal)) = (c : EReal) * a + ((c * b : ℝ) : EReal) := by
  induction a with
  | coe a => rw [← EReal.coe_add, ← EReal.coe_mul, ← EReal.coe_mul, ← EReal.coe_add, mul_add]
  | top =>
    rcases lt_trichotomy c 0 with h | rfl | h
    · rw [EReal.top_add_coe, EReal.coe_mul_top_of_neg h, EReal.bot_add]
    · simp
    · rw [EReal.top_add_coe, EReal.coe_mul_top_of_pos h, EReal.top_add_coe]
  | bot =>
    rcases lt_trichotomy c 0 with h | rfl | h
    · rw [EReal.bot_add, EReal.coe_mul_bot_of_neg h, EReal.top_add_coe]
    · simp
    · rw [EReal.bot_add, EReal.coe_mul_bot_of_pos h, EReal.bot_add]

theorem coe_mul_sum {n : ℕ} {E : ℝ} (hE : 0 ≤ E) (f : Fin n → EReal) : (E : EReal) * ∑ i, f i = ∑ i, (E : EReal) * f i := by
  have key : ∀ s : Finset (Fin n), (E : EReal) * ∑ i ∈ s, f i = ∑ i ∈ s, (E : EReal) * f i := by
    intro s
    induction s using Finset.induction_on with
    | empty => simp
    | insert a s ha ih =>
      rw [Finset.sum_insert ha, Finset.sum_insert ha, EReal.left_distrib_of_nonneg_of_ne_top (by exact_mod_cast hE) (EReal.coe_ne_top E), ih]
  exact key _

/-- A decayed state that is itself a decayed start plus a real sum. -/
theorem state_step (et E f u : ℝ) (h : EReal) :
    (et : EReal) * ((E : EReal) * h + (f : EReal)) + (u : EReal) = ((E * et : ℝ) : EReal) * h + ((et * f + u : ℝ) : EReal) := by
  rw [coe_mul_add_coe, ← mul_assoc, ← EReal.coe_mul, add_assoc, ← EReal.coe_add, mul_comm et E]

/-- A query against such a state, decayed to the query's row. -/
theorem query_step {E w : ℝ} (hE : 0 ≤ E) (c f : Fin 128 → ℝ) (h : Fin 128 → EReal) :
    (∑ n, (c n : EReal) * ((E : EReal) * h n + (f n : EReal))) * (w : EReal)
      = (∑ n, (c n : EReal) * h n) * ((E * w : ℝ) : EReal) + ((w * ∑ n, c n * f n : ℝ) : EReal) := by
  have e : ∑ n, (c n : EReal) * ((E : EReal) * h n + (f n : EReal)) = (E : EReal) * (∑ n, (c n : EReal) * h n) + ((∑ n, c n * f n : ℝ) : EReal) := by
    rw [coe_mul_sum hE, ← sum_coe, ← Finset.sum_add_distrib]
    refine Finset.sum_congr rfl fun n _ => ?_
    rw [coe_mul_add_coe, ← mul_assoc, ← mul_assoc, mul_comm (c n : EReal) (E : EReal)]
  rw [e, mul_comm, coe_mul_add_coe, ← mul_assoc, ← EReal.coe_mul, mul_comm w E, mul_comm ((E * w : ℝ) : EReal)]

/-! ### A sequence and its chunks -/

section
variable (X : ℕ → Fin 1536 → ℝ) (D : ℕ → Fin 128 → ℝ) (A : Fin 128 → ℝ) (h0 : Fin 128 → Fin 1024 → EReal)

/-- The decay exponents of the first `k` rows, summed. -/
def pre (k : ℕ) (h : Fin 128) : ℝ := ∑ j ∈ Finset.range k, D j h * A h

/-- Row `s`'s contribution to what lane `q` of row `l` reads, decayed from `s` to `l`, if `l` sees `s`. -/
def term (l : ℕ) (q : Fin 1024) (s : ℕ) : ℝ :=
  if s ≤ l then (∑ n, X l (ccol q n) * X s (bcol q n)) * Real.exp (pre D A (l + 1) (hd q) - pre D A (s + 1) (hd q)) * D s (hd q) * X s (xcol q) else 0

/-- The scan's output at row `l`, lane `q`: every row it sees, and the initial state decayed to it. -/
def yOut (l : ℕ) (q : Fin 1024) : EReal :=
  ((∑ s ∈ Finset.range 4096, term X D A l q s : ℝ) : EReal)
    + (∑ n, (X l (ccol q n) : EReal) * h0 n q) * ((Real.exp (pre D A (l + 1) (hd q)) : ℝ) : EReal)

/-- The sum of the rows before row `k`, each decayed to the start of row `k`. -/
def acc (k : ℕ) (n : Fin 128) (q : Fin 1024) : ℝ :=
  ∑ s ∈ Finset.range k, X s (bcol q n) * (X s (xcol q) * (Real.exp (pre D A k (hd q) - pre D A (s + 1) (hd q)) * D s (hd q)))

/-- The state before row `k`. -/
def sAt (k : ℕ) (n : Fin 128) (q : Fin 1024) : EReal :=
  ((Real.exp (pre D A k (hd q)) : ℝ) : EReal) * h0 n q + ((acc X D A k n q : ℝ) : EReal)

/-- A chunk's rows. -/
def blk {α : Type} (X : ℕ → α) (c : ℕ) (t : Fin 128) : α := X (128 * c + t.val)

theorem pre_add (k n : ℕ) (h : Fin 128) : pre D A (k + n) h = pre D A k h + ∑ j ∈ Finset.range n, D (k + j) h * A h := by
  unfold pre; rw [Finset.sum_range_add]

theorem cum_blk (c : ℕ) (t h : Fin 128) : cum (dec (blk D c) A) t h = pre D A (128 * c + t.val + 1) h - pre D A (128 * c) h := by
  rw [add_assoc, pre_add, add_sub_cancel_left]
  unfold cum dec blk
  rw [Finset.sum_ite, Finset.sum_const_zero, add_zero]
  refine Finset.sum_bij' (fun k _ => k.val) (fun k hk => ⟨k, by have := Finset.mem_range.1 hk; omega⟩) ?_ ?_ ?_ ?_ ?_
  · intro k hk; have := (Finset.mem_filter.1 hk).2; exact Finset.mem_range.2 (by have := Fin.le_def.1 this; omega)
  · intro k hk; exact Finset.mem_filter.2 ⟨Finset.mem_univ _, Fin.le_def.2 (by have := Finset.mem_range.1 hk; simp only; omega)⟩
  · intro k hk; rfl
  · intro k hk; rfl
  · intro k hk; rfl

theorem tot_blk (c : ℕ) (h : Fin 128) : tot (dec (blk D c) A) h = pre D A (128 * (c + 1)) h - pre D A (128 * c) h := by
  rw [← cum_last, cum_blk]; rfl

/-- One chunk's update of the state. -/
theorem stOut_sAt (c : ℕ) (n : Fin 128) (q : Fin 1024) :
    stOut (blk X c) (blk D c) (cum (dec (blk D c) A)) (tot (dec (blk D c) A)) (fun n q => sAt X D A h0 (128 * c) n q) n q
      = sAt X D A h0 (128 * (c + 1)) n q := by
  unfold stOut sAt
  rw [state_step]
  congr 1
  · congr 2; rw [← Real.exp_add, tot_blk]; congr 1; ring
  · congr 1
    unfold acc
    rw [mul_add, mul_one, Finset.sum_range_add, Finset.mul_sum]
    congr 1
    · refine Finset.sum_congr rfl fun s _ => ?_
      rw [tot_blk, show pre D A (128 * c + 128) (hd q) - pre D A (s + 1) (hd q) = (pre D A (128 * (c + 1)) (hd q) - pre D A (128 * c) (hd q)) + (pre D A (128 * c) (hd q) - pre D A (s + 1) (hd q)) by
        rw [mul_add, mul_one]; ring, Real.exp_add]
      ring
    · rw [Finset.sum_range]
      refine Finset.sum_congr rfl fun s _ => ?_
      rw [tot_blk, cum_blk, mul_add, mul_one, sub_sub_sub_cancel_right]; rfl

/-- One chunk's output rows. -/
theorem rowOut_sAt (c : ℕ) (hc : c < 32) (t : Fin 128) (q : Fin 1024) :
    rowOut (blk X c) (blk D c) (cum (dec (blk D c) A)) (fun t s => decide (s ≤ t)) (fun n q => sAt X D A h0 (128 * c) n q) t q
      = yOut X D A h0 (128 * c + t.val) q := by
  unfold rowOut sAt yOut
  rw [query_step (Real.exp_pos _).le, ← add_assoc, add_comm, ← add_assoc, ← EReal.coe_add, cum_blk]
  congr 1
  · congr 1
    have h1 : ∀ s ∈ Finset.range 4096, s ∉ Finset.range (128 * c + 128) → term X D A (128 * c + t.val) q s = 0 := by
      intro s _ hs
      have h2 : ¬ s < 128 * c + 128 := fun h => hs (Finset.mem_range.2 h)
      unfold term; rw [if_neg (by omega)]
    rw [← Finset.sum_subset (Finset.range_subset_range.2 (by omega)) h1, Finset.sum_range_add]
    congr 1
    · unfold acc
      have h3 : ∀ n, blk X c t (ccol q n) * ∑ s ∈ Finset.range (128 * c), X s (bcol q n) * (X s (xcol q) * (Real.exp (pre D A (128 * c) (hd q) - pre D A (s + 1) (hd q)) * D s (hd q)))
          = ∑ s ∈ Finset.range (128 * c), blk X c t (ccol q n) * (X s (bcol q n) * (X s (xcol q) * (Real.exp (pre D A (128 * c) (hd q) - pre D A (s + 1) (hd q)) * D s (hd q)))) :=
        fun n => Finset.mul_sum _ _ _
      simp only [h3]
      rw [Finset.sum_comm, Finset.mul_sum]
      refine Finset.sum_congr rfl fun s hs => ?_
      have hs' := Finset.mem_range.1 hs
      unfold term
      rw [if_pos (by omega), show pre D A (128 * c + t.val + 1) (hd q) - pre D A (s + 1) (hd q) = (pre D A (128 * c + t.val + 1) (hd q) - pre D A (128 * c) (hd q)) + (pre D A (128 * c) (hd q) - pre D A (s + 1) (hd q)) by ring,
        Real.exp_add, Finset.mul_sum, Finset.sum_mul, Finset.sum_mul, Finset.sum_mul]
      refine Finset.sum_congr rfl fun n _ => ?_
      unfold blk; ring
    · rw [Finset.sum_range]
      refine Finset.sum_congr rfl fun s _ => ?_
      unfold term decay score
      simp only [cum_blk, sub_sub_sub_cancel_right]
      by_cases h : s ≤ t
      · have h' : s.val ≤ t.val := h
        have h2 : 128 * c + s.val ≤ 128 * c + t.val := by omega
        rw [if_pos h2, if_pos (by simpa using h)]
        rfl
      · have h' : ¬ s.val ≤ t.val := h
        have h2 : ¬ 128 * c + s.val ≤ 128 * c + t.val := by omega
        rw [if_neg h2, if_neg (by simpa using h), mul_zero, zero_mul, zero_mul]
  · rw [← Real.exp_add, add_sub_cancel]; rfl

end

/-! ### A chunk read backwards -/

/-- The rows of a chunk in reverse order. -/
def rv {α : Type} (X : Fin 128 → α) (t : Fin 128) : α := X t.rev

theorem suf_rv (D : Fin 128 → Fin 128 → ℝ) (A : Fin 128 → ℝ) (t h : Fin 128) : suf (dec D A) t h = cum (dec (rv D) A) t.rev h := by
  unfold suf cum dec rv
  rw [← Equiv.sum_comp Fin.revPerm]
  refine Finset.sum_congr rfl fun k _ => ?_
  simp only [Fin.revPerm_apply, Fin.le_rev_iff (i := t)]

theorem tot_rv (D : Fin 128 → Fin 128 → ℝ) (A : Fin 128 → ℝ) (h : Fin 128) : tot (dec D A) h = tot (dec (rv D) A) h := by
  unfold tot dec rv
  rw [← Equiv.sum_comp Fin.revPerm]; rfl

theorem rowOut_rv (X : Fin 128 → Fin 1536 → ℝ) (D : Fin 128 → Fin 128 → ℝ) (A : Fin 128 → ℝ) (st : Fin 128 → Fin 1024 → EReal) (t : Fin 128) (q : Fin 1024) :
    rowOut X D (suf (dec D A)) (fun t s => decide (t ≤ s)) st t q
      = rowOut (rv X) (rv D) (cum (dec (rv D) A)) (fun t s => decide (s ≤ t)) st t.rev q := by
  unfold rowOut decay score
  simp only [suf_rv]
  congr 1
  · rw [← Equiv.sum_comp Fin.revPerm]
    congr 1
    refine Finset.sum_congr rfl fun s _ => ?_
    simp only [Fin.revPerm_apply, rv, Fin.rev_rev]
    congr 3
    simp only [decide_eq_true_eq, Fin.le_rev_iff (i := t)]
  · simp only [rv, Fin.rev_rev]

theorem stOut_rv (X : Fin 128 → Fin 1536 → ℝ) (D : Fin 128 → Fin 128 → ℝ) (A : Fin 128 → ℝ) (st : Fin 128 → Fin 1024 → EReal) (n : Fin 128) (q : Fin 1024) :
    stOut X D (suf (dec D A)) (tot (dec D A)) st n q = stOut (rv X) (rv D) (cum (dec (rv D) A)) (tot (dec (rv D) A)) st n q := by
  unfold stOut
  simp only [suf_rv, tot_rv D A]
  congr 1
  rw [← Equiv.sum_comp Fin.revPerm]
  simp only [Fin.revPerm_apply, rv, Fin.rev_rev]

end Cert.Proof

end
-- ==== Proof.Inputs.lean ====
/- What a grid step reads: its blocks of the arguments, index by index, and the real values behind them. -/
module

public import proofs.«01_k».proof.Proof.Seq
public import proofs.«01_k».proof.Proof.Gen.KernelIdeal.Value
public import Idealize.ShloMosaic.Lib.Pipeline.ValueKit.Point
public import Idealize.ShloMosaic.Lib.Pointwise

@[expose] public section
set_option maxRecDepth 16384
noncomputable section
namespace Cert.Proof
open Idealize.ShloMosaic Idealize.ShloMosaic.TcCoe Idealize.SL.Sem Cert.KernelIdeal Cert.KernelIdeal.Gen

variable (m : (ℓ : Loc nD τ sig) → Buf (Elt Ideal) ℓ)

theorem idxs : ∀ t : Fin cfg0.N, win0_0.index t = ![t.val, 0] ∧ win0_1.index t = ![t.val / 32 * 32 + (31 - t.val % 32), 0]
    ∧ win0_2.index t = ![0, t.val, 0] ∧ win0_3.index t = ![1, t.val / 32 * 32 + (31 - t.val % 32), 0]
    ∧ win0_4.index t = ![0, 0, 0] ∧ win0_5.index t = ![0, 0] ∧ win0_6.index t = ![t.val / 32, 0, 0, 0]
    ∧ win0_7.index t = ![t.val, 0] ∧ win0_8.index t = ![t.val / 32 * 32 + (31 - t.val % 32), 0] ∧ win0_9.index t = ![t.val / 32, 0, 0, 0] := by
  decide +kernel

theorem in0 (c : Dev nD) (t : Fin cfg0.N) (s : Fin 128) (k : Fin 1536) (r : Fin 32768) (hr : r.val = 128 * t.val + s.val) :
    iblk m c 0 t (ix2 s k) = m ((c : Thread nD τ).loc main_arg0) (ix2 r k) := by
  blk_ext [iblk, V, idxs t]

theorem in1 (c : Dev nD) (t : Fin cfg0.N) (s : Fin 128) (k : Fin 1536) (r : Fin 32768) (hr : r.val = 128 * (t.val / 32 * 32 + (31 - t.val % 32)) + s.val) :
    iblk m c 1 t (ix2 s k) = m ((c : Thread nD τ).loc main_arg0) (ix2 r k) := by
  blk_ext [iblk, V, idxs t]

theorem in2 (c : Dev nD) (t : Fin cfg0.N) (s : Fin 128) (k : Fin 128) (r : Fin 32768) (hr : r.val = 128 * t.val + s.val) :
    iblk m c 2 t (ix3 0 s k) = m ((c : Thread nD τ).loc main_arg1) (ix3 0 r k) := by
  blk_ext [iblk, V, idxs t]

theorem in3 (c : Dev nD) (t : Fin cfg0.N) (s : Fin 128) (k : Fin 128) (r : Fin 32768) (hr : r.val = 128 * (t.val / 32 * 32 + (31 - t.val % 32)) + s.val) :
    iblk m c 3 t (ix3 0 s k) = m ((c : Thread nD τ).loc main_arg1) (ix3 1 r k) := by
  blk_ext [iblk, V, idxs t]

theorem in6 (c : Dev nD) (t : Fin cfg0.N) (d : Fin 2) (n : Fin 128) (q : Fin 1024) (b : Fin 8) (hb : b.val = t.val / 32) :
    iblk m c 6 t (ix4 0 d n q) = m ((c : Thread nD τ).loc main_arg4) (ix4 b d n q) := by
  blk_ext [iblk, V, idxs t]

theorem pad_read (a : Vec Ideal S2x16 .f32) (v : Vec Ideal S_ .f32) (d : Fin 2) (h : Fin 128) (h' : Fin 16) (e : h'.val = h.val) :
    pad S2x128 ![0, 0] ![0, 112] ![0, 0] a v pads_S2x16_S2x128_000_01120 h_S_ (ix2 d h) = a (ix2 d h') := by
  obtain ⟨h, hh⟩ := h
  obtain ⟨h', hh'⟩ := h'
  simp only at e
  subst e
  pointwise
  rw [dif_pos hh']

theorem in4 (c : Dev nD) (t : Fin cfg0.N) (d : Fin 2) (h : Fin 128) (h' : Fin 16) (e : h'.val = h.val) :
    iblk m c 4 t (ix3 d 0 h) = m ((c : Thread nD τ).loc main_arg2) (ix2 d h') := by
  have : iblk m c 4 t (ix3 d 0 h) = V m c main_v1 (ix3 d 0 h) := by blk_ext [iblk, V, idxs t]
  rw [this]
  unfold V hostOps0 hostOps0_1 hostOps0_2
  simp only [List.flatten_cons, List.flatten_nil, List.cons_append, List.nil_append]
  entry_read
  pointwise
  exact pad_read (m ((c : Thread nD τ).loc main_arg2)) (sitofp (F := Ideal) .f32 (constantI S_ 32 0#32)) d h h' e

theorem in5 (c : Dev nD) (t : Fin cfg0.N) (q : Fin 1024) (h' : Fin 16) (e : h'.val = q.val / 64) :
    iblk m c 5 t (ix2 0 q) = m ((c : Thread nD τ).loc main_arg3) (ix1 h') := by
  have : iblk m c 5 t (ix2 0 q) = V m c main_v4 (ix2 0 q) := by blk_ext [iblk, V, idxs t]
  rw [this]
  unfold V hostOps0 hostOps0_1 hostOps0_2
  simp only [List.flatten_cons, List.flatten_nil, List.cons_append, List.nil_append]
  entry_read
  pointwise
  obtain ⟨h', hh⟩ := h'
  simp only at e
  subst e
  rfl

/-! ### The real values of the arguments -/

/-- What the claim asks of the arguments: finite `x`, `B`, `C`, finite used lanes of `dt`, and `a_log` below `+∞`. -/
structure Tame (x : Vec Ideal S32768x1536 .bf16) (dt : Vec Ideal S2x32768x128 .f32) (al : Vec Ideal S2x16 .f32) : Prop where
  xf : ∀ r k, x (ix2 r k) ≠ (⊤ : EReal) ∧ x (ix2 r k) ≠ (⊥ : EReal)
  df : ∀ (d : Fin 2) (r : Fin 32768) (h : Fin 128), h.val < 16 → dt (ix3 d r h) ≠ (⊤ : EReal) ∧ dt (ix3 d r h) ≠ (⊥ : EReal)
  af : ∀ d h, al (ix2 d h) ≠ (⊤ : EReal)

/-- The row of the arrays that holds row `l` of batch `b`, in direction `d`'s order. -/
def row (d : Fin 2) (b l : ℕ) : ℕ := 4096 * b + if d = 0 then l else 4095 - l

/-- `x`, `B`, `C` along batch `b` in direction `d`'s order. -/
def Xs (x : Vec Ideal S32768x1536 .bf16) (d : Fin 2) (b l : ℕ) (k : Fin 1536) : ℝ :=
  if h : row d b l < 32768 then EReal.toReal (x (ix2 ⟨row d b l, h⟩ k)) else 0

/-- `dt` along batch `b` in direction `d`'s order. -/
def Ds (dt : Vec Ideal S2x32768x128 .f32) (d : Fin 2) (b l : ℕ) (k : Fin 128) : ℝ :=
  if h : row d b l < 32768 then EReal.toReal (dt (ix3 d ⟨row d b l, h⟩ k)) else 0

/-- The decay rates `A = -exp a_log`. -/
def As (al : Vec Ideal S2x16 .f32) (d : Fin 2) (h : Fin 128) : ℝ :=
  if h' : h.val < 16 then - EReal.toReal (Ideal.exp (al (ix2 d ⟨h.val, h'⟩))) else 0

theorem Xs_coe {x : Vec Ideal S32768x1536 .bf16} {dt : Vec Ideal S2x32768x128 .f32} {al : Vec Ideal S2x16 .f32} (T : Tame x dt al)
    (d : Fin 2) (b l : ℕ) (r : Fin 32768) (hr : r.val = row d b l) (k : Fin 1536) : x (ix2 r k) = ((Xs x d b l k : ℝ) : EReal) := by
  have h : row d b l < 32768 := hr ▸ r.isLt
  obtain rfl : r = ⟨row d b l, h⟩ := Fin.ext hr
  unfold Xs
  rw [dif_pos h, EReal.coe_toReal (T.xf _ _).1 (T.xf _ _).2]

theorem Ds_coe {x : Vec Ideal S32768x1536 .bf16} {dt : Vec Ideal S2x32768x128 .f32} {al : Vec Ideal S2x16 .f32} (T : Tame x dt al)
    (d : Fin 2) (b l : ℕ) (r : Fin 32768) (hr : r.val = row d b l) (k : Fin 128) (hk : k.val < 16) :
    dt (ix3 d r k) = ((Ds dt d b l k : ℝ) : EReal) := by
  have h : row d b l < 32768 := hr ▸ r.isLt
  obtain rfl : r = ⟨row d b l, h⟩ := Fin.ext hr
  unfold Ds
  rw [dif_pos h, EReal.coe_toReal (T.df _ _ _ hk).1 (T.df _ _ _ hk).2]

theorem exp_fin (a : EReal) (h : a ≠ ⊤) : Ideal.exp a ≠ (⊤ : EReal) ∧ Ideal.exp a ≠ (⊥ : EReal) := by
  induction a with
  | bot => exact ⟨(EReal.coe_ne_top 0 : ((0 : ℝ) : EReal) ≠ ⊤), (EReal.coe_ne_bot 0 : ((0 : ℝ) : EReal) ≠ ⊥)⟩
  | top => exact absurd rfl h
  | coe r => exact ⟨EReal.coe_ne_top (Real.exp r), EReal.coe_ne_bot (Real.exp r)⟩

theorem As_coe {x : Vec Ideal S32768x1536 .bf16} {dt : Vec Ideal S2x32768x128 .f32} {al : Vec Ideal S2x16 .f32} (T : Tame x dt al)
    (d : Fin 2) (h : Fin 128) (h' : Fin 16) (e : h'.val = h.val) : (- Ideal.exp (al (ix2 d h')) : EReal) = ((As al d h : ℝ) : EReal) := by
  have hh : h.val < 16 := e ▸ h'.isLt
  obtain rfl : h' = ⟨h.val, hh⟩ := Fin.ext e
  unfold As
  rw [dif_pos hh, EReal.coe_neg, EReal.coe_toReal (exp_fin _ (T.af _ _)).1 (exp_fin _ (T.af _ _)).2]

/-- A step's input blocks hold the real values of its chunk: forwards of chunk `t % 32`, backwards of the mirrored one. -/
theorem ins {c : Dev nD} (T : Tame (m ((c : Thread nD τ).loc main_arg0)) (m ((c : Thread nD τ).loc main_arg1)) (m ((c : Thread nD τ).loc main_arg2))) (t : Fin cfg0.N) :
    Ins (iblk m c 0 t) (iblk m c 1 t) (iblk m c 2 t) (iblk m c 3 t) (iblk m c 4 t)
      (blk (Xs (m ((c : Thread nD τ).loc main_arg0)) 0 (t.val / 32)) (t.val % 32)) (rv (blk (Xs (m ((c : Thread nD τ).loc main_arg0)) 1 (t.val / 32)) (t.val % 32)))
      (blk (Ds (m ((c : Thread nD τ).loc main_arg1)) 0 (t.val / 32)) (t.val % 32)) (rv (blk (Ds (m ((c : Thread nD τ).loc main_arg1)) 1 (t.val / 32)) (t.val % 32)))
      (As (m ((c : Thread nD τ).loc main_arg2)) 0) (As (m ((c : Thread nD τ).loc main_arg2)) 1) := by
  have ht : t.val < 256 := t.isLt
  refine ⟨fun s k => ?_, fun s k => ?_, fun s h hh => ?_, fun s h hh => ?_, fun h hh => ?_, fun h hh => ?_⟩
  · rw [in0 m c t s k ⟨128 * t.val + s.val, by omega⟩ rfl]
    exact Xs_coe T 0 _ _ _ (by simp only [row, if_true]; omega) k
  · rw [in1 m c t s k ⟨128 * (t.val / 32 * 32 + (31 - t.val % 32)) + s.val, by omega⟩ rfl]
    exact Xs_coe T 1 _ _ _ (by simp only [row, Fin.val_rev]; rw [if_neg (by decide)]; omega) k
  · rw [in2 m c t s h ⟨128 * t.val + s.val, by omega⟩ rfl]
    exact Ds_coe T 0 _ _ _ (by simp only [row, if_true]; omega) h hh
  · rw [in3 m c t s h ⟨128 * (t.val / 32 * 32 + (31 - t.val % 32)) + s.val, by omega⟩ rfl]
    exact Ds_coe T 1 _ _ _ (by simp only [row, Fin.val_rev]; rw [if_neg (by decide)]; omega) h hh
  · rw [in4 m c t 0 h ⟨h.val, hh⟩ rfl, ← As_coe T 0 h ⟨h.val, hh⟩ rfl, sub_eq_add_neg, zero_add]
  · rw [in4 m c t 1 h ⟨h.val, hh⟩ rfl, ← As_coe T 1 h ⟨h.val, hh⟩ rfl, sub_eq_add_neg, zero_add]

end Cert.Proof

end
-- ==== Proof.Pre.lean ====
/- The precondition, read: which argument elements it makes finite. -/
module

public import proofs.«01_k».proof.Defs
public import proofs.«01_k».proof.Proof.Inputs
public import Idealize.ShloMosaic.Lib.ReduceAll
public import Idealize.ShloMosaic.Lib.Pointwise

@[expose] public section

set_option maxRecDepth 16384

noncomputable section

namespace Cert.Proof

open Idealize.ShloMosaic

theorem preFacts : Cert.Pre_tame.Facts where
  bitsLt_bf16_f32 := by decide
  bcast_S_S32768x1536 := by decide
  reducesTo_S32768x1536_S_d0_1 := by decide
  h_S_ := by decide
  slices_S2x32768x128_S2x32768x16_0_0_0 := by decide
  bcast_S_S2x32768x16 := by decide
  reducesTo_S2x32768x16_S_d0_1_2 := by decide
  bcast_S_S2x16 := by decide
  reducesTo_S2x16_S_d0_1 := by decide

theorem inf_word : (Ideal.ofBits .f32 0x7F800000#32 : EReal) = ⊤ := by simp [Ideal.ofBits, Ideal.ieee]

theorem lt_of_cmp (a b : EReal) (h : Ideal.cmp .olt a b = 1#1) : a < b := by
  by_contra hn
  simp [Ideal.cmp, hn] at h

theorem fin_of_abs (a : EReal) (h : max a (-a) < ⊤) : a ≠ ⊤ ∧ a ≠ ⊥ := by
  rw [max_lt_iff] at h
  exact ⟨h.1.ne, fun e => by rw [e] at h; simp at h⟩

theorem and_split (a b : BitVec 1) (h : IntOp.andi a b = 1#1) : a = 1#1 ∧ b = 1#1 := by
  revert a b; decide

instance : Subsingleton Cert.Pre_tame.S_.Idx := ⟨fun a b => funext fun i => i.elim0⟩

/-- Where the precondition is all ones, the arguments are tame. -/
theorem tame_of_pre [Cert.Pre_tame.Facts] (x : FVec Ideal Cert.Pre_tame.S32768x1536 .bf16) (dt : FVec Ideal Cert.Pre_tame.S2x32768x128 .f32) (al : FVec Ideal Cert.Pre_tame.S2x16 .f32)
    (ds : FVec Ideal Cert.Pre_tame.S16 .f32) (h0 : FVec Ideal Cert.Pre_tame.S8x2x128x1024 .f32)
    (h : Cert.Pre_tame.fn (F := Ideal) x dt al ds h0 = fun _ => 1#1) : Tame x dt al := by
  have h1 := congrFun h ix0
  unfold Cert.Pre_tame.fn at h1
  dsimp only at h1
  obtain ⟨h12, h3⟩ := and_split _ _ h1
  obtain ⟨h1, h2⟩ := and_split _ _ h12
  constructor
  · intro r k
    have e := Host.reduce_andi_all _ _ _ _ _ h1 (ix2 r k)
    have e' := lt_of_cmp (max (x (ix2 r k)) (-(x (ix2 r k)))) (Ideal.ofBits .f32 0x7F800000#32) e
    rw [inf_word] at e'
    exact fin_of_abs _ e'
  · intro d r k hk
    have e := Host.reduce_andi_all _ _ _ _ _ h2 (ix3 d r (⟨k.val, hk⟩ : Fin 16))
    have e1 : extractStridedSlice Cert.Pre_tame.S2x32768x16 ![0, 0, 0] dt Cert.Pre_tame.Facts.slices_S2x32768x128_S2x32768x16_0_0_0 (ix3 d r (⟨k.val, hk⟩ : Fin 16)) = dt (ix3 d r k) := by
      pointwise
    have e' := lt_of_cmp (max (extractStridedSlice Cert.Pre_tame.S2x32768x16 ![0, 0, 0] dt Cert.Pre_tame.Facts.slices_S2x32768x128_S2x32768x16_0_0_0 (ix3 d r (⟨k.val, hk⟩ : Fin 16)) : EReal)
      (-(extractStridedSlice Cert.Pre_tame.S2x32768x16 ![0, 0, 0] dt Cert.Pre_tame.Facts.slices_S2x32768x128_S2x32768x16_0_0_0 (ix3 d r (⟨k.val, hk⟩ : Fin 16)) : EReal))) (Ideal.ofBits .f32 0x7F800000#32) e
    rw [inf_word, e1] at e'
    exact fin_of_abs _ e'
  · intro d k
    have e := Host.reduce_andi_all _ _ _ _ _ h3 (ix2 d k)
    have e' := lt_of_cmp (al (ix2 d k)) (Ideal.ofBits .f32 0x7F800000#32) e
    rw [inf_word] at e'
    exact e'.ne

end Cert.Proof

end
-- ==== Proof.BlockPieces.lean ====
/- The pieces a grid step stores, at the step's own loads: one statement per direction and group of heads. -/
module

public import proofs.«01_k».proof.Proof.BlockOut

@[expose] public section

set_option maxRecDepth 16384

noncomputable section

namespace Cert.Proof

open Idealize.ShloMosaic Idealize.SL.Sem Cert.KernelIdeal Cert.KernelIdeal.Gen

variable {x0 x1 : Vec Ideal S128x1536 .bf16} {x2 x3 : Vec Ideal S1x128x128 .f32} {x4 : Vec Ideal S2x1x128 .f32}
    {X0 X1 : Fin 128 → Fin 1536 → ℝ} {D0 D1 : Fin 128 → Fin 128 → ℝ} {A0 A1 : Fin 128 → ℝ} (I : Ins x0 x1 x2 x3 x4 X0 X1 D0 D1 A0 A1)
    {v3 v5 : FVec Ideal S1x128x128 .f32} {v12 v19 : FVec Ideal S1x1x128 .f32} (S : Steps v3 v5 v12 v19 D0 D1 A0 A1)

/-- The state's contribution to a row, from the two factors the kernel multiplies. -/
theorem yo_of {cc : FVec Ideal S128x128 .bf16} {v115 : FVec Ideal S1x1x128x512 .f32} {X : Fin 128 → Fin 1536 → ℝ} {st : Fin 128 → Fin 1024 → EReal}
    {t : Fin 128} {j : Fin 512} {q : Fin 1024} {y c : EReal} (e : y = (∑ n, cc (ix2 t n) * v115 (ix4 0 0 n j)) * c)
    (ec : ∀ n, cc (ix2 t n) = ((X t (ccol q n) : ℝ) : EReal)) (es : ∀ n, v115 (ix4 0 0 n j) = st n q) :
    y = (∑ n, (X t (ccol q n) : EReal) * st n q) * c := by
  rw [e]; congr 1; exact Finset.sum_congr rfl fun n _ => by rw [ec, es]

theorem ccol_lo {q : Fin 1024} (hq : q.val < 512) (n : Fin 128) : (ccol q n).val = 1280 + n.val := by
  have : q.val / 512 = 0 := by omega
  show 1280 + 128 * (q.val / 512) + n.val = _; omega
theorem ccol_hi {q : Fin 1024} (hq : 512 ≤ q.val) (n : Fin 128) : (ccol q n).val = 1408 + n.val := by
  have : q.val / 512 = 1 := by omega
  show 1280 + 128 * (q.val / 512) + n.val = _; omega
theorem bcol_lo {q : Fin 1024} (hq : q.val < 512) (n : Fin 128) : (bcol q n).val = 1024 + n.val := by
  have : q.val / 512 = 0 := by omega
  show 1024 + 128 * (q.val / 512) + n.val = _; omega
theorem bcol_hi {q : Fin 1024} (hq : 512 ≤ q.val) (n : Fin 128) : (bcol q n).val = 1152 + n.val := by
  have : q.val / 512 = 1 := by omega
  show 1024 + 128 * (q.val / 512) + n.val = _; omega

section Rows
variable {v115 : FVec Ideal S1x1x128x512 .f32} {st : Fin 128 → Fin 1024 → EReal} {x5 : Vec Ideal S1x1024 .f32} {h g off xo : ℕ} (t l : Fin 128) (q : Fin 1024)
  (hg : g = h + 1) (hx : xo = 64 * h) (hq : q.val = xo + l.val)
  (hw : S128x128.Slices ![0, h] S128x1) (ht : S16x128.Slices ![h, 0] S1x128)
  (hw' : S128x128.Slices ![0, g] S128x1) (ht' : S16x128.Slices ![g, 0] S1x128) (ho : S128x512.Slices ![0, off] S128x128)
include I S hx hg hq

theorem pieceF0 (hh : g < 8) (hoff : xo = off) (i5 ic ib ix) (hst : ∀ n (j : Fin 512), q.val = j.val → v115 (ix4 0 0 n j) = st n q) :
    yF (yB (k0_pay6 v3 v5 v12 v19) k0_pay11 (k0_pay15 (k0_pay2 v3) (k0_pay3 v5) (k0_pay6 v3 v5 v12 v19) (k0_pay10 v3 v5 v12 v19) k0_pay13)
      (k0_pay17 (k0_pay2 v3) (k0_pay3 v5) (k0_pay6 v3 v5 v12 v19) (k0_pay10 v3 v5 v12 v19) k0_pay13) (k0_pay36 (View.ld x0 (Rect.unit (s := S128x1536) ![0, 1024] ![128, 128] ib)) (View.ld x0 (Rect.unit (s := S128x1536) ![0, 1280] ![128, 128] ic)))
      (k0_pay38 k0_pay19 (k0_pay20 (k0_pay6 v3 v5 v12 v19)) (k0_pay21 (k0_pay2 v3) (k0_pay6 v3 v5 v12 v19) (k0_pay8 v3 v5 v12 v19))
      (k0_pay22 (k0_pay10 v3 v5 v12 v19)) (k0_pay23 (k0_pay3 v5) (k0_pay9 v3 v5 v12 v19) (k0_pay10 v3 v5 v12 v19)) (k0_pay24 (k0_pay8 v3 v5 v12 v19)) (k0_pay25 (k0_pay9 v3 v5 v12 v19)) (View.ld x0 (Rect.unit (s := S128x1536) ![0, 1280] ![128, 128] ic)) v115)
      (View.ld x0 (Rect.unit (s := S128x1536) ![0, xo] ![128, 128] ix)) h g off hw ht hw' ht' ho) (View.ld x0 (Rect.unit (s := S128x1536) ![0, xo] ![128, 128] ix)) (View.ld x5 (Rect.unit (s := S1x1024) ![0, xo] ![1, 128] i5)) (ix2 t l)
      = rowOut X0 D0 (cum (dec D0 A0)) (fun t s => decide (s ≤ t)) st t q + x5 (ix2 0 q) * ((X0 t (xcol q) : ℝ) : EReal) := by
  have hql : q.val < 512 := by omega
  have hl := l.isLt
  refine tileF S t l q ⟨off + l.val, by omega⟩ (by omega) rfl (by omega) hg hw ht hw' ht' ho
    (pay36_val (fun s n => I.ld0 _ s n _ (bcol_lo hql n)) (fun t n => I.ld0 _ t n _ (ccol_lo hql n)))
    (fun s l k hk => I.ld0 _ s l k (by omega)) (ld2 x5 xo _ 0 l 0 q rfl hq) ?_
  exact yo_of (pay38_val t _ q (by show q.val = _; simp only; omega) (ein0 S t q)) (fun n => I.ld0 _ t n _ (ccol_lo hql n)) (fun n => hst n _ (by simp only; omega))
theorem pieceF1 (hh : g < 16) (hoff : xo = 512 + off) (i5 ic ib ix) (hst : ∀ n (j : Fin 512), q.val = 512 + j.val → v115 (ix4 0 0 n j) = st n q) :
    yF (yB (k0_pay6 v3 v5 v12 v19) k0_pay11 (k0_pay15 (k0_pay2 v3) (k0_pay3 v5) (k0_pay6 v3 v5 v12 v19) (k0_pay10 v3 v5 v12 v19) k0_pay13)
      (k0_pay17 (k0_pay2 v3) (k0_pay3 v5) (k0_pay6 v3 v5 v12 v19) (k0_pay10 v3 v5 v12 v19) k0_pay13) (k0_pay61 (View.ld x0 (Rect.unit (s := S128x1536) ![0, 1152] ![128, 128] ib)) (View.ld x0 (Rect.unit (s := S128x1536) ![0, 1408] ![128, 128] ic)))
      (k0_pay63 (k0_pay27 k0_pay19 (k0_pay20 (k0_pay6 v3 v5 v12 v19)) (k0_pay21 (k0_pay2 v3) (k0_pay6 v3 v5 v12 v19) (k0_pay8 v3 v5 v12 v19))
      (k0_pay22 (k0_pay10 v3 v5 v12 v19)) (k0_pay23 (k0_pay3 v5) (k0_pay9 v3 v5 v12 v19) (k0_pay10 v3 v5 v12 v19)) (k0_pay24 (k0_pay8 v3 v5 v12 v19)) (k0_pay25 (k0_pay9 v3 v5 v12 v19))) (View.ld x0 (Rect.unit (s := S128x1536) ![0, 1408] ![128, 128] ic)) v115)
      (View.ld x0 (Rect.unit (s := S128x1536) ![0, xo] ![128, 128] ix)) h g off hw ht hw' ht' ho) (View.ld x0 (Rect.unit (s := S128x1536) ![0, xo] ![128, 128] ix)) (View.ld x5 (Rect.unit (s := S1x1024) ![0, xo] ![1, 128] i5)) (ix2 t l)
      = rowOut X0 D0 (cum (dec D0 A0)) (fun t s => decide (s ≤ t)) st t q + x5 (ix2 0 q) * ((X0 t (xcol q) : ℝ) : EReal) := by
  have hql : 512 ≤ q.val := by omega
  have hl := l.isLt
  refine tileF S t l q ⟨off + l.val, by omega⟩ (by omega) rfl (by omega) hg hw ht hw' ht' ho
    (pay61_val (fun s n => I.ld0 _ s n _ (bcol_hi hql n)) (fun t n => I.ld0 _ t n _ (ccol_hi hql n)))
    (fun s l k hk => I.ld0 _ s l k (by omega)) (ld2 x5 xo _ 0 l 0 q rfl hq) ?_
  exact yo_of (pay63_val t _ q (by show q.val = _; simp only; omega) (ein0 S t q)) (fun n => I.ld0 _ t n _ (ccol_hi hql n)) (fun n => hst n _ (by simp only; omega))
theorem pieceB0 (hh : g < 8) (hoff : xo = off) (ic ib ix) (hst : ∀ n (j : Fin 512), q.val = j.val → v115 (ix4 0 0 n j) = st n q) :
    truncf .bf16 (yB (k0_pay10 v3 v5 v12 v19) k0_pay12 (k0_pay16 (k0_pay2 v3) (k0_pay3 v5) (k0_pay6 v3 v5 v12 v19) (k0_pay10 v3 v5 v12 v19) k0_pay13)
      (k0_pay18 (k0_pay2 v3) (k0_pay3 v5) (k0_pay6 v3 v5 v12 v19) (k0_pay10 v3 v5 v12 v19) k0_pay13) (k0_pay37 (View.ld x1 (Rect.unit (s := S128x1536) ![0, 1024] ![128, 128] ib)) (View.ld x1 (Rect.unit (s := S128x1536) ![0, 1280] ![128, 128] ic)))
      (k0_pay39 k0_pay19 (k0_pay20 (k0_pay6 v3 v5 v12 v19)) (k0_pay21 (k0_pay2 v3) (k0_pay6 v3 v5 v12 v19) (k0_pay8 v3 v5 v12 v19))
      (k0_pay22 (k0_pay10 v3 v5 v12 v19)) (k0_pay23 (k0_pay3 v5) (k0_pay9 v3 v5 v12 v19) (k0_pay10 v3 v5 v12 v19)) (k0_pay24 (k0_pay8 v3 v5 v12 v19)) (k0_pay25 (k0_pay9 v3 v5 v12 v19)) (View.ld x1 (Rect.unit (s := S128x1536) ![0, 1280] ![128, 128] ic)) v115)
      (View.ld x1 (Rect.unit (s := S128x1536) ![0, xo] ![128, 128] ix)) h g off hw ht hw' ht' ho) bitsLt_bf16_f32 (ix2 t l)
      = rowOut X1 D1 (suf (dec D1 A1)) (fun t s => decide (t ≤ s)) st t q := by
  have hql : q.val < 512 := by omega
  have hl := l.isLt
  refine tileB S t l q ⟨off + l.val, by omega⟩ (by omega) rfl (by omega) hg hw ht hw' ht' ho
    (pay37_val (fun s n => I.ld1 _ s n _ (bcol_lo hql n)) (fun t n => I.ld1 _ t n _ (ccol_lo hql n)))
    (fun s l k hk => I.ld1 _ s l k (by omega)) ?_
  exact yo_of (pay39_val t _ q (by show q.val = _; simp only; omega) (ein1 S t q)) (fun n => I.ld1 _ t n _ (ccol_lo hql n)) (fun n => hst n _ (by simp only; omega))
theorem pieceB1 (hh : g < 16) (hoff : xo = 512 + off) (ic ib ix) (hst : ∀ n (j : Fin 512), q.val = 512 + j.val → v115 (ix4 0 0 n j) = st n q) :
    truncf .bf16 (yB (k0_pay10 v3 v5 v12 v19) k0_pay12 (k0_pay16 (k0_pay2 v3) (k0_pay3 v5) (k0_pay6 v3 v5 v12 v19) (k0_pay10 v3 v5 v12 v19) k0_pay13)
      (k0_pay18 (k0_pay2 v3) (k0_pay3 v5) (k0_pay6 v3 v5 v12 v19) (k0_pay10 v3 v5 v12 v19) k0_pay13) (k0_pay62 (View.ld x1 (Rect.unit (s := S128x1536) ![0, 1152] ![128, 128] ib)) (View.ld x1 (Rect.unit (s := S128x1536) ![0, 1408] ![128, 128] ic)))
      (k0_pay64 (k0_pay28 k0_pay19 (k0_pay20 (k0_pay6 v3 v5 v12 v19)) (k0_pay21 (k0_pay2 v3) (k0_pay6 v3 v5 v12 v19) (k0_pay8 v3 v5 v12 v19))
      (k0_pay22 (k0_pay10 v3 v5 v12 v19)) (k0_pay23 (k0_pay3 v5) (k0_pay9 v3 v5 v12 v19) (k0_pay10 v3 v5 v12 v19)) (k0_pay24 (k0_pay8 v3 v5 v12 v19)) (k0_pay25 (k0_pay9 v3 v5 v12 v19))) (View.ld x1 (Rect.unit (s := S128x1536) ![0, 1408] ![128, 128] ic)) v115)
      (View.ld x1 (Rect.unit (s := S128x1536) ![0, xo] ![128, 128] ix)) h g off hw ht hw' ht' ho) bitsLt_bf16_f32 (ix2 t l)
      = rowOut X1 D1 (suf (dec D1 A1)) (fun t s => decide (t ≤ s)) st t q := by
  have hql : 512 ≤ q.val := by omega
  have hl := l.isLt
  refine tileB S t l q ⟨off + l.val, by omega⟩ (by omega) rfl (by omega) hg hw ht hw' ht' ho
    (pay62_val (fun s n => I.ld1 _ s n _ (bcol_hi hql n)) (fun t n => I.ld1 _ t n _ (ccol_hi hql n)))
    (fun s l k hk => I.ld1 _ s l k (by omega)) ?_
  exact yo_of (pay64_val t _ q (by show q.val = _; simp only; omega) (ein1 S t q)) (fun n => I.ld1 _ t n _ (ccol_hi hql n)) (fun n => hst n _ (by simp only; omega))

end Rows

section State
variable {v115 : FVec Ideal S1x1x128x512 .f32} {st : Fin 128 → Fin 1024 → EReal} (n : Fin 128) (j : Fin 512) (q : Fin 1024)
include I S

theorem pieceS00 (hq : q.val = j.val) (ib ix) (hst : v115 (ix4 0 0 n j) = st n q) :
    k0_pay57 (k0_pay29 k0_pay19 (k0_pay20 (k0_pay6 v3 v5 v12 v19)) (k0_pay21 (k0_pay2 v3) (k0_pay6 v3 v5 v12 v19) (k0_pay8 v3 v5 v12 v19))
      (k0_pay22 (k0_pay10 v3 v5 v12 v19)) (k0_pay23 (k0_pay3 v5) (k0_pay9 v3 v5 v12 v19) (k0_pay10 v3 v5 v12 v19)) (k0_pay24 (k0_pay8 v3 v5 v12 v19)) (k0_pay25 (k0_pay9 v3 v5 v12 v19))) (k0_pay31 k0_pay19 (k0_pay20 (k0_pay6 v3 v5 v12 v19)) (k0_pay21 (k0_pay2 v3) (k0_pay6 v3 v5 v12 v19) (k0_pay8 v3 v5 v12 v19))
      (k0_pay22 (k0_pay10 v3 v5 v12 v19)) (k0_pay23 (k0_pay3 v5) (k0_pay9 v3 v5 v12 v19) (k0_pay10 v3 v5 v12 v19)) (k0_pay24 (k0_pay8 v3 v5 v12 v19)) (k0_pay25 (k0_pay9 v3 v5 v12 v19)))
      (View.ld x0 (Rect.unit (s := S128x1536) ![0, 1024] ![128, 128] ib)) (k0_pay34 v115) (View.ld x0 (Rect.unit (s := S128x1536) ![0, 0] ![128, 512] ix)) (ix4 0 0 n j)
      = stOut X0 D0 (cum (dec D0 A0)) (tot (dec D0 A0)) st n q := by
  have hql : q.val < 512 := by omega
  refine (pay57_val n j q hq (fun s => eout0 S s q) (etot0 S q) (fun s n => I.ld0 _ s n (bcol q n) (bcol_lo hql n))
    (fun s => I.ld0 _ s j (xcol q) (by show q.val = _; omega))).trans ?_
  rw [hst]; rfl
theorem pieceS10 (hq : q.val = j.val) (ib ix) (hst : v115 (ix4 0 0 n j) = st n q) :
    k0_pay58 (k0_pay30 k0_pay19 (k0_pay20 (k0_pay6 v3 v5 v12 v19)) (k0_pay21 (k0_pay2 v3) (k0_pay6 v3 v5 v12 v19) (k0_pay8 v3 v5 v12 v19))
      (k0_pay22 (k0_pay10 v3 v5 v12 v19)) (k0_pay23 (k0_pay3 v5) (k0_pay9 v3 v5 v12 v19) (k0_pay10 v3 v5 v12 v19)) (k0_pay24 (k0_pay8 v3 v5 v12 v19)) (k0_pay25 (k0_pay9 v3 v5 v12 v19))) (k0_pay32 k0_pay19 (k0_pay20 (k0_pay6 v3 v5 v12 v19)) (k0_pay21 (k0_pay2 v3) (k0_pay6 v3 v5 v12 v19) (k0_pay8 v3 v5 v12 v19))
      (k0_pay22 (k0_pay10 v3 v5 v12 v19)) (k0_pay23 (k0_pay3 v5) (k0_pay9 v3 v5 v12 v19) (k0_pay10 v3 v5 v12 v19)) (k0_pay24 (k0_pay8 v3 v5 v12 v19)) (k0_pay25 (k0_pay9 v3 v5 v12 v19)))
      (View.ld x1 (Rect.unit (s := S128x1536) ![0, 1024] ![128, 128] ib)) (k0_pay35 v115) (View.ld x1 (Rect.unit (s := S128x1536) ![0, 0] ![128, 512] ix)) (ix4 0 0 n j)
      = stOut X1 D1 (suf (dec D1 A1)) (tot (dec D1 A1)) st n q := by
  have hql : q.val < 512 := by omega
  refine (pay58_val n j q hq (fun s => eout1 S s q) (etot1 S q) (fun s n => I.ld1 _ s n (bcol q n) (bcol_lo hql n))
    (fun s => I.ld1 _ s j (xcol q) (by show q.val = _; omega))).trans ?_
  rw [hst]; rfl
theorem pieceS01 (hq : q.val = 512 + j.val) (ib ix) (hst : v115 (ix4 0 0 n j) = st n q) :
    k0_pay82 (k0_pay29 k0_pay19 (k0_pay20 (k0_pay6 v3 v5 v12 v19)) (k0_pay21 (k0_pay2 v3) (k0_pay6 v3 v5 v12 v19) (k0_pay8 v3 v5 v12 v19))
      (k0_pay22 (k0_pay10 v3 v5 v12 v19)) (k0_pay23 (k0_pay3 v5) (k0_pay9 v3 v5 v12 v19) (k0_pay10 v3 v5 v12 v19)) (k0_pay24 (k0_pay8 v3 v5 v12 v19)) (k0_pay25 (k0_pay9 v3 v5 v12 v19))) (k0_pay31 k0_pay19 (k0_pay20 (k0_pay6 v3 v5 v12 v19)) (k0_pay21 (k0_pay2 v3) (k0_pay6 v3 v5 v12 v19) (k0_pay8 v3 v5 v12 v19))
      (k0_pay22 (k0_pay10 v3 v5 v12 v19)) (k0_pay23 (k0_pay3 v5) (k0_pay9 v3 v5 v12 v19) (k0_pay10 v3 v5 v12 v19)) (k0_pay24 (k0_pay8 v3 v5 v12 v19)) (k0_pay25 (k0_pay9 v3 v5 v12 v19)))
      (View.ld x0 (Rect.unit (s := S128x1536) ![0, 1152] ![128, 128] ib)) (k0_pay59 v115) (View.ld x0 (Rect.unit (s := S128x1536) ![0, 512] ![128, 512] ix)) (ix4 0 0 n j)
      = stOut X0 D0 (cum (dec D0 A0)) (tot (dec D0 A0)) st n q := by
  have hql : 512 ≤ q.val := by omega
  refine (pay82_val n j q hq (fun s => eout0 S s q) (etot0 S q) (fun s n => I.ld0 _ s n (bcol q n) (bcol_hi hql n))
    (fun s => I.ld0 _ s j (xcol q) (by show q.val = _; omega))).trans ?_
  rw [hst]; rfl
theorem pieceS11 (hq : q.val = 512 + j.val) (ib ix) (hst : v115 (ix4 0 0 n j) = st n q) :
    k0_pay1 (k0_pay30 k0_pay19 (k0_pay20 (k0_pay6 v3 v5 v12 v19)) (k0_pay21 (k0_pay2 v3) (k0_pay6 v3 v5 v12 v19) (k0_pay8 v3 v5 v12 v19))
      (k0_pay22 (k0_pay10 v3 v5 v12 v19)) (k0_pay23 (k0_pay3 v5) (k0_pay9 v3 v5 v12 v19) (k0_pay10 v3 v5 v12 v19)) (k0_pay24 (k0_pay8 v3 v5 v12 v19)) (k0_pay25 (k0_pay9 v3 v5 v12 v19))) (k0_pay32 k0_pay19 (k0_pay20 (k0_pay6 v3 v5 v12 v19)) (k0_pay21 (k0_pay2 v3) (k0_pay6 v3 v5 v12 v19) (k0_pay8 v3 v5 v12 v19))
      (k0_pay22 (k0_pay10 v3 v5 v12 v19)) (k0_pay23 (k0_pay3 v5) (k0_pay9 v3 v5 v12 v19) (k0_pay10 v3 v5 v12 v19)) (k0_pay24 (k0_pay8 v3 v5 v12 v19)) (k0_pay25 (k0_pay9 v3 v5 v12 v19)))
      (View.ld x1 (Rect.unit (s := S128x1536) ![0, 1152] ![128, 128] ib)) (k0_pay60 v115) (View.ld x1 (Rect.unit (s := S128x1536) ![0, 512] ![128, 512] ix)) (ix4 0 0 n j)
      = stOut X1 D1 (suf (dec D1 A1)) (tot (dec D1 A1)) st n q := by
  have hql : 512 ≤ q.val := by omega
  refine (pay1_val n j q hq (fun s => eout1 S s q) (etot1 S q) (fun s n => I.ld1 _ s n (bcol q n) (bcol_hi hql n))
    (fun s => I.ld1 _ s j (xcol q) (by show q.val = _; omega))).trans ?_
  rw [hst]; rfl

end State

end Cert.Proof

end
-- ==== Proof.StateReads.lean ====
/- The state read back after the first grid step of a row block has stored the initial state over it. -/
module

public import proofs.«01_k».proof.Proof.BlockPieces
public import Idealize.ShloMosaic.Lib.Pipeline.ReadBack

@[expose] public section

set_option maxRecDepth 16384

noncomputable section

namespace Cert.Proof

open Idealize.ShloMosaic Idealize.SL.Sem Cert.KernelIdeal Cert.KernelIdeal.Gen

/-- The state's block right after the step has stored the initial state over the whole of it. -/
theorem whole6 (x6 : Vec Ideal S1x2x128x1024 .f32) (v : View sig .tc .vmem S1x2x128x1024 .f32) (i i') (d o : ℕ)
    (inb : ∀ i, (![0, d, 0, o] : Fin 4 → ℕ) i + (![1, 1, 128, 512] : Fin 4 → ℕ) i ≤ S1x2x128x1024.size i)
    (n : Fin 128) (j : Fin 512) (d' : Fin 2) (q : Fin 1024) (hd' : d'.val = d) (hq : q.val = o + j.val) :
    View.readCov (Val := Elt Ideal) v [⟨Rect.unit (s := S1x2x128x1024) ![0, 0, 0, 0] ![1, 2, 128, 1024] i, View.ld (Val := Elt Ideal) (e' := .f32) x6 (Rect.unit (s := S1x2x128x1024) ![0, 0, 0, 0] ![1, 2, 128, 1024] i')⟩]
      (Rect.unit (s := S1x2x128x1024) ![0, d, 0, o] ![1, 1, 128, 512] inb).toLoadRect (ix4 0 0 n j) = x6 (ix4 0 d' n q) := by
  refine (congrFun (View.readCov_fill v i _ [] _ (by decide)) _).trans ?_
  refine (ld4 _ d o inb n j d' q hd' hq).trans ?_
  exact View.ld_unit_apply_of x6 ![0, 0, 0, 0] ![1, 2, 128, 1024] i' (ix4 0 d' n q) (ix4 0 d' n q) (by intro a; fin_cases a <;> simp)

/-- The same for the second group's columns, after the first group's have been updated. -/
theorem after6 (x6 : Vec Ideal S1x2x128x1024 .f32) (v : View sig .tc .vmem S1x2x128x1024 .f32) (i i') (d : ℕ)
    (inb : ∀ i, (![0, d, 0, 512] : Fin 4 → ℕ) i + (![1, 1, 128, 512] : Fin 4 → ℕ) i ≤ S1x2x128x1024.size i) (i0 i1) (w0 w1)
    (n : Fin 128) (j : Fin 512) (d' : Fin 2) (q : Fin 1024) (hd' : d'.val = d) (hq : q.val = 512 + j.val) :
    View.readCov (Val := Elt Ideal) v [⟨Rect.unit (s := S1x2x128x1024) ![0, 1, 0, 0] ![1, 1, 128, 512] i1, w1⟩, ⟨Rect.unit (s := S1x2x128x1024) ![0, 0, 0, 0] ![1, 1, 128, 512] i0, w0⟩,
        ⟨Rect.unit (s := S1x2x128x1024) ![0, 0, 0, 0] ![1, 2, 128, 1024] i, View.ld (Val := Elt Ideal) (e' := .f32) x6 (Rect.unit (s := S1x2x128x1024) ![0, 0, 0, 0] ![1, 2, 128, 1024] i')⟩]
      (Rect.unit (s := S1x2x128x1024) ![0, d, 0, 512] ![1, 1, 128, 512] inb).toLoadRect (ix4 0 0 n j) = x6 (ix4 0 d' n q) := by
  obtain rfl | rfl : d = 0 ∨ d = 1 := by omega
  all_goals
    refine (congrFun (View.readCov_skip v _ _ _ _ (by rfl)) _).trans ?_
    refine (congrFun (View.readCov_skip v _ _ _ _ (by rfl)) _).trans ?_
    exact whole6 x6 v i i' _ 512 inb n j d' q hd' hq

/-- Four stores that together cover the buffer hide an earlier one. -/
theorem canon_init4 {S : Shape} (p1 p2 p3 p4 w : View.Piece (Elt Ideal) S .f32) (y : S.Idx) (hc : ∃ p ∈ [p1, p2, p3, p4], y ∈ p.1.set) :
    View.canon [p1, p2, p3, p4, w] y = View.canon [p1, p2, p3, p4] y := by
  have key : ∀ L : List (View.Piece (Elt Ideal) S .f32), (∃ p ∈ L, y ∈ p.1.set) → View.canon (L ++ [w]) y = View.canon L y := by
    intro L
    induction L with
    | nil => rintro ⟨p, hp, _⟩; exact absurd hp List.not_mem_nil
    | cons p L ih =>
      intro h
      by_cases hm : y ∈ p.1.set
      · obtain ⟨x, rfl⟩ := p.1.exists_idx_of_mem hm
        rw [show p.1.idx x = p.1.emb x from rfl, List.cons_append, View.canon_cons_emb, View.canon_cons_emb]
      · rw [List.cons_append, View.canon_cons_of_not_mem _ _ hm, View.canon_cons_of_not_mem _ _ hm]
        refine ih ?_
        obtain ⟨q, hq, hy⟩ := h
        rcases List.mem_cons.mp hq with rfl | hq'
        · exact absurd hy hm
        · exact ⟨q, hq', hy⟩
  exact key _ hc

end Cert.Proof

end
-- ==== Proof.StepA.lean ====
/- The first grid step of a row block: what it leaves in the two output blocks and in the state, at an index. -/
module

public import proofs.«01_k».proof.Proof.StateReads
public import proofs.«01_k».proof.Proof.Gen.KernelIdeal.Frame

@[expose] public section

set_option maxHeartbeats 2000000
set_option maxRecDepth 16384

noncomputable section

namespace Cert.Proof

open Idealize.ShloMosaic Idealize.SL.Sem Cert.KernelIdeal Cert.KernelIdeal.Gen

theorem outA7 (c : Dev nD) (i : grid0.Coords) (arg2 : Memref sig .tc .vmem S128x1536 .bf16) (harg2 : arg2.IsWhole) (arg3 : Memref sig .tc .vmem S128x1536 .bf16) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S2x1x128 .f32) (harg6 : arg6.IsWhole) (arg7 : Memref sig .tc .vmem S1x1024 .f32) (harg7 : arg7.IsWhole) (arg8 : Memref sig .tc .vmem S1x2x128x1024 .f32) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S1x2x128x1024 .f32) (harg11 : arg11.IsWhole) (hc0 : cond0_0 i) (x0 : Vec Ideal S128x1536 .bf16) (x1 : Vec Ideal S128x1536 .bf16) (x2 : Vec Ideal S1x128x128 .f32) (x3 : Vec Ideal S1x128x128 .f32) (x4 : Vec Ideal S2x1x128 .f32) (x5 : Vec Ideal S1x1024 .f32) (x6 : Vec Ideal S1x2x128x1024 .f32)
    {X0 X1 : Fin 128 → Fin 1536 → ℝ} {D0 D1 : Fin 128 → Fin 128 → ℝ} {A0 A1 : Fin 128 → ℝ} (I : Ins x0 x1 x2 x3 x4 X0 X1 D0 D1 A0 A1) (t : Fin 128) (q : Fin 1024) :
    out0_A_7 (F := Ideal) c i arg2 harg2 arg3 harg3 arg4 harg4 arg5 harg5 arg6 harg6 arg7 harg7 arg8 harg8 arg9 harg9 arg10 harg10 arg11 harg11 hc0 x0 x1 x2 x3 x4 x5 x6 (ix2 t q)
      = rowOut X0 D0 (cum (dec D0 A0)) (fun t s => decide (s ≤ t)) (fun n q => x6 (ix4 0 0 n q)) t q + x5 (ix2 0 q) * ((X0 t (xcol q) : ℝ) : EReal) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  simp only [View.readAt_eq_ld, Memref.IsWhole.read_unread]
  have S := I.steps inb_S1x128x128_S1x128x128_0_0_0 inb_S1x128x128_S1x128x128_0_0_0 inb_S2x1x128_S1x1x128_0_0_0 inb_S2x1x128_S1x1x128_1_0_0
  canon_tiles y e
  all_goals
    obtain ⟨t', l, rfl⟩ : ∃ a b, y = ix2 a b := ⟨_, _, eq_ix2 y⟩
    obtain rfl : t = t' := Fin.ext e0
  · exact pieceF1 I S t l q (h := 14) (g := 15) (off := 384) (xo := 896) rfl rfl e1 (by decide) (by decide) (by decide) (by decide) (by decide) (by decide) rfl (by decide) (by decide) (by decide) (by decide) (fun n j hj => after6 x6 arg11.view _ _ 0 _ _ _ _ _ n j 0 q rfl (by omega))
  · exact pieceF1 I S t l q (h := 12) (g := 13) (off := 256) (xo := 768) rfl rfl e1 (by decide) (by decide) (by decide) (by decide) (by decide) (by decide) rfl (by decide) (by decide) (by decide) (by decide) (fun n j hj => after6 x6 arg11.view _ _ 0 _ _ _ _ _ n j 0 q rfl (by omega))
  · exact pieceF1 I S t l q (h := 10) (g := 11) (off := 128) (xo := 640) rfl rfl e1 (by decide) (by decide) (by decide) (by decide) (by decide) (by decide) rfl (by decide) (by decide) (by decide) (by decide) (fun n j hj => after6 x6 arg11.view _ _ 0 _ _ _ _ _ n j 0 q rfl (by omega))
  · exact pieceF1 I S t l q (h := 8) (g := 9) (off := 0) (xo := 512) rfl rfl e1 (by decide) (by decide) (by decide) (by decide) (by decide) (by decide) rfl (by decide) (by decide) (by decide) (by decide) (fun n j hj => after6 x6 arg11.view _ _ 0 _ _ _ _ _ n j 0 q rfl (by omega))
  · exact pieceF0 I S t l q (h := 6) (g := 7) (off := 384) (xo := 384) rfl rfl e1 (by decide) (by decide) (by decide) (by decide) (by decide) (by decide) rfl (by decide) (by decide) (by decide) (by decide) (fun n j hj => whole6 x6 arg11.view _ _ 0 0 _ n j 0 q rfl (by omega))
  · exact pieceF0 I S t l q (h := 4) (g := 5) (off := 256) (xo := 256) rfl rfl e1 (by decide) (by decide) (by decide) (by decide) (by decide) (by decide) rfl (by decide) (by decide) (by decide) (by decide) (fun n j hj => whole6 x6 arg11.view _ _ 0 0 _ n j 0 q rfl (by omega))
  · exact pieceF0 I S t l q (h := 2) (g := 3) (off := 128) (xo := 128) rfl rfl e1 (by decide) (by decide) (by decide) (by decide) (by decide) (by decide) rfl (by decide) (by decide) (by decide) (by decide) (fun n j hj => whole6 x6 arg11.view _ _ 0 0 _ n j 0 q rfl (by omega))
  · exact pieceF0 I S t l q (h := 0) (g := 1) (off := 0) (xo := 0) rfl rfl (e1.trans (Nat.zero_add _).symm) (by decide) (by decide) (by decide) (by decide) (by decide) (by decide) rfl (by decide) (by decide) (by decide) (by decide) (fun n j hj => whole6 x6 arg11.view _ _ 0 0 _ n j 0 q rfl (by omega))

theorem outA8 (c : Dev nD) (i : grid0.Coords) (arg2 : Memref sig .tc .vmem S128x1536 .bf16) (harg2 : arg2.IsWhole) (arg3 : Memref sig .tc .vmem S128x1536 .bf16) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S2x1x128 .f32) (harg6 : arg6.IsWhole) (arg7 : Memref sig .tc .vmem S1x1024 .f32) (harg7 : arg7.IsWhole) (arg8 : Memref sig .tc .vmem S1x2x128x1024 .f32) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S1x2x128x1024 .f32) (harg11 : arg11.IsWhole) (hc0 : cond0_0 i) (x0 : Vec Ideal S128x1536 .bf16) (x1 : Vec Ideal S128x1536 .bf16) (x2 : Vec Ideal S1x128x128 .f32) (x3 : Vec Ideal S1x128x128 .f32) (x4 : Vec Ideal S2x1x128 .f32) (x5 : Vec Ideal S1x1024 .f32) (x6 : Vec Ideal S1x2x128x1024 .f32)
    {X0 X1 : Fin 128 → Fin 1536 → ℝ} {D0 D1 : Fin 128 → Fin 128 → ℝ} {A0 A1 : Fin 128 → ℝ} (I : Ins x0 x1 x2 x3 x4 X0 X1 D0 D1 A0 A1) (t : Fin 128) (q : Fin 1024) :
    out0_A_8 (F := Ideal) c i arg2 harg2 arg3 harg3 arg4 harg4 arg5 harg5 arg6 harg6 arg7 harg7 arg8 harg8 arg9 harg9 arg10 harg10 arg11 harg11 hc0 x0 x1 x2 x3 x4 x5 x6 (ix2 t q)
      = rowOut X1 D1 (suf (dec D1 A1)) (fun t s => decide (t ≤ s)) (fun n q => x6 (ix4 0 1 n q)) t q := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  simp only [View.readAt_eq_ld, Memref.IsWhole.read_unread]
  have S := I.steps inb_S1x128x128_S1x128x128_0_0_0 inb_S1x128x128_S1x128x128_0_0_0 inb_S2x1x128_S1x1x128_0_0_0 inb_S2x1x128_S1x1x128_1_0_0
  canon_tiles y e
  all_goals
    obtain ⟨t', l, rfl⟩ : ∃ a b, y = ix2 a b := ⟨_, _, eq_ix2 y⟩
    obtain rfl : t = t' := Fin.ext e0
  · exact pieceB1 I S t l q (h := 14) (g := 15) (off := 384) (xo := 896) rfl rfl e1 (by decide) (by decide) (by decide) (by decide) (by decide) (by decide) rfl (by decide) (by decide) (by decide) (fun n j hj => after6 x6 arg11.view _ _ 1 _ _ _ _ _ n j 1 q rfl (by omega))
  · exact pieceB1 I S t l q (h := 12) (g := 13) (off := 256) (xo := 768) rfl rfl e1 (by decide) (by decide) (by decide) (by decide) (by decide) (by decide) rfl (by decide) (by decide) (by decide) (fun n j hj => after6 x6 arg11.view _ _ 1 _ _ _ _ _ n j 1 q rfl (by omega))
  · exact pieceB1 I S t l q (h := 10) (g := 11) (off := 128) (xo := 640) rfl rfl e1 (by decide) (by decide) (by decide) (by decide) (by decide) (by decide) rfl (by decide) (by decide) (by decide) (fun n j hj => after6 x6 arg11.view _ _ 1 _ _ _ _ _ n j 1 q rfl (by omega))
  · exact pieceB1 I S t l q (h := 8) (g := 9) (off := 0) (xo := 512) rfl rfl e1 (by decide) (by decide) (by decide) (by decide) (by decide) (by decide) rfl (by decide) (by decide) (by decide) (fun n j hj => after6 x6 arg11.view _ _ 1 _ _ _ _ _ n j 1 q rfl (by omega))
  · exact pieceB0 I S t l q (h := 6) (g := 7) (off := 384) (xo := 384) rfl rfl e1 (by decide) (by decide) (by decide) (by decide) (by decide) (by decide) rfl (by decide) (by decide) (by decide) (fun n j hj => whole6 x6 arg11.view _ _ 1 0 _ n j 1 q rfl (by omega))
  · exact pieceB0 I S t l q (h := 4) (g := 5) (off := 256) (xo := 256) rfl rfl e1 (by decide) (by decide) (by decide) (by decide) (by decide) (by decide) rfl (by decide) (by decide) (by decide) (fun n j hj => whole6 x6 arg11.view _ _ 1 0 _ n j 1 q rfl (by omega))
  · exact pieceB0 I S t l q (h := 2) (g := 3) (off := 128) (xo := 128) rfl rfl e1 (by decide) (by decide) (by decide) (by decide) (by decide) (by decide) rfl (by decide) (by decide) (by decide) (fun n j hj => whole6 x6 arg11.view _ _ 1 0 _ n j 1 q rfl (by omega))
  · exact pieceB0 I S t l q (h := 0) (g := 1) (off := 0) (xo := 0) rfl rfl (e1.trans (Nat.zero_add _).symm) (by decide) (by decide) (by decide) (by decide) (by decide) (by decide) rfl (by decide) (by decide) (by decide) (fun n j hj => whole6 x6 arg11.view _ _ 1 0 _ n j 1 q rfl (by omega))

end Cert.Proof

end
-- ==== Proof.StepA9.lean ====
/- The first grid step of a row block: what it leaves in the two output blocks and in the state, at an index. -/
module

public import proofs.«01_k».proof.Proof.StateReads
public import proofs.«01_k».proof.Proof.Gen.KernelIdeal.Frame

@[expose] public section

set_option maxHeartbeats 2000000
set_option maxRecDepth 16384

noncomputable section

namespace Cert.Proof

open Idealize.ShloMosaic Idealize.SL.Sem Cert.KernelIdeal Cert.KernelIdeal.Gen

theorem outA9 (c : Dev nD) (i : grid0.Coords) (arg2 : Memref sig .tc .vmem S128x1536 .bf16) (harg2 : arg2.IsWhole) (arg3 : Memref sig .tc .vmem S128x1536 .bf16) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S2x1x128 .f32) (harg6 : arg6.IsWhole) (arg7 : Memref sig .tc .vmem S1x1024 .f32) (harg7 : arg7.IsWhole) (arg8 : Memref sig .tc .vmem S1x2x128x1024 .f32) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S1x2x128x1024 .f32) (harg11 : arg11.IsWhole) (hc0 : cond0_0 i) (x0 : Vec Ideal S128x1536 .bf16) (x1 : Vec Ideal S128x1536 .bf16) (x2 : Vec Ideal S1x128x128 .f32) (x3 : Vec Ideal S1x128x128 .f32) (x4 : Vec Ideal S2x1x128 .f32) (x5 : Vec Ideal S1x1024 .f32) (x6 : Vec Ideal S1x2x128x1024 .f32)
    {X0 X1 : Fin 128 → Fin 1536 → ℝ} {D0 D1 : Fin 128 → Fin 128 → ℝ} {A0 A1 : Fin 128 → ℝ} (I : Ins x0 x1 x2 x3 x4 X0 X1 D0 D1 A0 A1) (d : Fin 2) (n : Fin 128) (q : Fin 1024) :
    out0_A_9 (F := Ideal) c i arg2 harg2 arg3 harg3 arg4 harg4 arg5 harg5 arg6 harg6 arg7 harg7 arg8 harg8 arg9 harg9 arg10 harg10 arg11 harg11 hc0 x0 x1 x2 x3 x4 x5 x6 (ix4 0 d n q)
      = if d = 0 then stOut X0 D0 (cum (dec D0 A0)) (tot (dec D0 A0)) (fun n q => x6 (ix4 0 0 n q)) n q
        else stOut X1 D1 (suf (dec D1 A1)) (tot (dec D1 A1)) (fun n q => x6 (ix4 0 1 n q)) n q := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  simp only [View.readAt_eq_ld, Memref.IsWhole.read_unread]
  have S := I.steps inb_S1x128x128_S1x128x128_0_0_0 inb_S1x128x128_S1x128x128_0_0_0 inb_S2x1x128_S1x1x128_0_0_0 inb_S2x1x128_S1x1x128_1_0_0
  refine (canon_init4 _ _ _ _ _ _ (View.cover_of_tiled_head _ _ _ (by rfl) _)).trans ?_
  canon_tiles y e
  all_goals
    obtain ⟨u, v, n', j, rfl⟩ : ∃ u v n' j, y = ix4 u v n' j := ⟨_, _, _, _, eq_ix4 y⟩
    obtain rfl : u = 0 := Fin.ext (by omega)
    obtain rfl : v = 0 := Fin.ext (by omega)
    obtain rfl : n = n' := Fin.ext e2
  · obtain rfl : d = 1 := Fin.ext e1
    exact pieceS11 I S (st := fun n q => x6 (ix4 0 1 n q)) n j q e3 (by decide) (by decide) (after6 x6 arg11.view _ _ 1 _ _ _ _ _ n j 1 q rfl e3)
  · obtain rfl : d = 0 := Fin.ext e1
    exact pieceS01 I S (st := fun n q => x6 (ix4 0 0 n q)) n j q e3 (by decide) (by decide) (after6 x6 arg11.view _ _ 0 _ _ _ _ _ n j 0 q rfl e3)
  · obtain rfl : d = 1 := Fin.ext e1
    exact pieceS10 I S (st := fun n q => x6 (ix4 0 1 n q)) n j q e3 (by decide) (by decide) (whole6 x6 arg11.view _ _ 1 0 _ n j 1 q rfl (e3.trans (Nat.zero_add _).symm))
  · obtain rfl : d = 0 := Fin.ext e1
    exact pieceS00 I S (st := fun n q => x6 (ix4 0 0 n q)) n j q e3 (by decide) (by decide) (whole6 x6 arg11.view _ _ 0 0 _ n j 0 q rfl (e3.trans (Nat.zero_add _).symm))

end Cert.Proof

end
-- ==== Proof.StepB.lean ====
/- A grid step after the first of its row block: what it leaves in the two output blocks and in the state, at an index. -/
module

public import proofs.«01_k».proof.Proof.BlockPieces
public import proofs.«01_k».proof.Proof.Gen.KernelIdeal.Frame

@[expose] public section

set_option maxHeartbeats 2000000
set_option maxRecDepth 16384

noncomputable section

namespace Cert.Proof

open Idealize.ShloMosaic Idealize.SL.Sem Cert.KernelIdeal Cert.KernelIdeal.Gen

theorem outB7 (c : Dev nD) (i : grid0.Coords) (arg2 : Memref sig .tc .vmem S128x1536 .bf16) (harg2 : arg2.IsWhole) (arg3 : Memref sig .tc .vmem S128x1536 .bf16) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S2x1x128 .f32) (harg6 : arg6.IsWhole) (arg7 : Memref sig .tc .vmem S1x1024 .f32) (harg7 : arg7.IsWhole) (arg8 : Memref sig .tc .vmem S1x2x128x1024 .f32) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S1x2x128x1024 .f32) (harg11 : arg11.IsWhole) (hc0 : ¬cond0_0 i) (x0 : Vec Ideal S128x1536 .bf16) (x1 : Vec Ideal S128x1536 .bf16) (x2 : Vec Ideal S1x128x128 .f32) (x3 : Vec Ideal S1x128x128 .f32) (x4 : Vec Ideal S2x1x128 .f32) (x5 : Vec Ideal S1x1024 .f32) (x6 : Vec Ideal S1x2x128x1024 .f32) (xo9 : Vec Ideal S1x2x128x1024 .f32)
    {X0 X1 : Fin 128 → Fin 1536 → ℝ} {D0 D1 : Fin 128 → Fin 128 → ℝ} {A0 A1 : Fin 128 → ℝ} (I : Ins x0 x1 x2 x3 x4 X0 X1 D0 D1 A0 A1) (t : Fin 128) (q : Fin 1024) :
    out0_B_7 (F := Ideal) c i arg2 harg2 arg3 harg3 arg4 harg4 arg5 harg5 arg6 harg6 arg7 harg7 arg8 harg8 arg9 harg9 arg10 harg10 arg11 harg11 hc0 x0 x1 x2 x3 x4 x5 x6 xo9 (ix2 t q)
      = rowOut X0 D0 (cum (dec D0 A0)) (fun t s => decide (s ≤ t)) (fun n q => xo9 (ix4 0 0 n q)) t q + x5 (ix2 0 q) * ((X0 t (xcol q) : ℝ) : EReal) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 x6 xo9)]
  unfold kernelRun0_B
  dsimp only
  sl_unfold_words
  simp only [View.readAt_eq_ld, Memref.IsWhole.read_unread]
  have S := I.steps inb_S1x128x128_S1x128x128_0_0_0 inb_S1x128x128_S1x128x128_0_0_0 inb_S2x1x128_S1x1x128_0_0_0 inb_S2x1x128_S1x1x128_1_0_0
  canon_tiles y e
  all_goals
    obtain ⟨t', l, rfl⟩ : ∃ a b, y = ix2 a b := ⟨_, _, eq_ix2 y⟩
    obtain rfl : t = t' := Fin.ext e0
  · exact pieceF1 I S t l q (h := 14) (g := 15) (off := 384) (xo := 896) rfl rfl e1 (by decide) (by decide) (by decide) (by decide) (by decide) (by decide) rfl (by decide) (by decide) (by decide) (by decide) (fun n j hj => ld4 xo9 0 512 _ n j 0 q rfl (by omega))
  · exact pieceF1 I S t l q (h := 12) (g := 13) (off := 256) (xo := 768) rfl rfl e1 (by decide) (by decide) (by decide) (by decide) (by decide) (by decide) rfl (by decide) (by decide) (by decide) (by decide) (fun n j hj => ld4 xo9 0 512 _ n j 0 q rfl (by omega))
  · exact pieceF1 I S t l q (h := 10) (g := 11) (off := 128) (xo := 640) rfl rfl e1 (by decide) (by decide) (by decide) (by decide) (by decide) (by decide) rfl (by decide) (by decide) (by decide) (by decide) (fun n j hj => ld4 xo9 0 512 _ n j 0 q rfl (by omega))
  · exact pieceF1 I S t l q (h := 8) (g := 9) (off := 0) (xo := 512) rfl rfl e1 (by decide) (by decide) (by decide) (by decide) (by decide) (by decide) rfl (by decide) (by decide) (by decide) (by decide) (fun n j hj => ld4 xo9 0 512 _ n j 0 q rfl (by omega))
  · exact pieceF0 I S t l q (h := 6) (g := 7) (off := 384) (xo := 384) rfl rfl e1 (by decide) (by decide) (by decide) (by decide) (by decide) (by decide) rfl (by decide) (by decide) (by decide) (by decide) (fun n j hj => ld4 xo9 0 0 _ n j 0 q rfl (by omega))
  · exact pieceF0 I S t l q (h := 4) (g := 5) (off := 256) (xo := 256) rfl rfl e1 (by decide) (by decide) (by decide) (by decide) (by decide) (by decide) rfl (by decide) (by decide) (by decide) (by decide) (fun n j hj => ld4 xo9 0 0 _ n j 0 q rfl (by omega))
  · exact pieceF0 I S t l q (h := 2) (g := 3) (off := 128) (xo := 128) rfl rfl e1 (by decide) (by decide) (by decide) (by decide) (by decide) (by decide) rfl (by decide) (by decide) (by decide) (by decide) (fun n j hj => ld4 xo9 0 0 _ n j 0 q rfl (by omega))
  · exact pieceF0 I S t l q (h := 0) (g := 1) (off := 0) (xo := 0) rfl rfl (e1.trans (Nat.zero_add _).symm) (by decide) (by decide) (by decide) (by decide) (by decide) (by decide) rfl (by decide) (by decide) (by decide) (by decide) (fun n j hj => ld4 xo9 0 0 _ n j 0 q rfl (by omega))

theorem outB8 (c : Dev nD) (i : grid0.Coords) (arg2 : Memref sig .tc .vmem S128x1536 .bf16) (harg2 : arg2.IsWhole) (arg3 : Memref sig .tc .vmem S128x1536 .bf16) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S2x1x128 .f32) (harg6 : arg6.IsWhole) (arg7 : Memref sig .tc .vmem S1x1024 .f32) (harg7 : arg7.IsWhole) (arg8 : Memref sig .tc .vmem S1x2x128x1024 .f32) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S1x2x128x1024 .f32) (harg11 : arg11.IsWhole) (hc0 : ¬cond0_0 i) (x0 : Vec Ideal S128x1536 .bf16) (x1 : Vec Ideal S128x1536 .bf16) (x2 : Vec Ideal S1x128x128 .f32) (x3 : Vec Ideal S1x128x128 .f32) (x4 : Vec Ideal S2x1x128 .f32) (x5 : Vec Ideal S1x1024 .f32) (x6 : Vec Ideal S1x2x128x1024 .f32) (xo9 : Vec Ideal S1x2x128x1024 .f32)
    {X0 X1 : Fin 128 → Fin 1536 → ℝ} {D0 D1 : Fin 128 → Fin 128 → ℝ} {A0 A1 : Fin 128 → ℝ} (I : Ins x0 x1 x2 x3 x4 X0 X1 D0 D1 A0 A1) (t : Fin 128) (q : Fin 1024) :
    out0_B_8 (F := Ideal) c i arg2 harg2 arg3 harg3 arg4 harg4 arg5 harg5 arg6 harg6 arg7 harg7 arg8 harg8 arg9 harg9 arg10 harg10 arg11 harg11 hc0 x0 x1 x2 x3 x4 x5 x6 xo9 (ix2 t q)
      = rowOut X1 D1 (suf (dec D1 A1)) (fun t s => decide (t ≤ s)) (fun n q => xo9 (ix4 0 1 n q)) t q := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 x4 x5 x6 xo9)]
  unfold kernelRun0_B
  dsimp only
  sl_unfold_words
  simp only [View.readAt_eq_ld, Memref.IsWhole.read_unread]
  have S := I.steps inb_S1x128x128_S1x128x128_0_0_0 inb_S1x128x128_S1x128x128_0_0_0 inb_S2x1x128_S1x1x128_0_0_0 inb_S2x1x128_S1x1x128_1_0_0
  canon_tiles y e
  all_goals
    obtain ⟨t', l, rfl⟩ : ∃ a b, y = ix2 a b := ⟨_, _, eq_ix2 y⟩
    obtain rfl : t = t' := Fin.ext e0
  · exact pieceB1 I S t l q (h := 14) (g := 15) (off := 384) (xo := 896) rfl rfl e1 (by decide) (by decide) (by decide) (by decide) (by decide) (by decide) rfl (by decide) (by decide) (by decide) (fun n j hj => ld4 xo9 1 512 _ n j 1 q rfl (by omega))
  · exact pieceB1 I S t l q (h := 12) (g := 13) (off := 256) (xo := 768) rfl rfl e1 (by decide) (by decide) (by decide) (by decide) (by decide) (by decide) rfl (by decide) (by decide) (by decide) (fun n j hj => ld4 xo9 1 512 _ n j 1 q rfl (by omega))
  · exact pieceB1 I S t l q (h := 10) (g := 11) (off := 128) (xo := 640) rfl rfl e1 (by decide) (by decide) (by decide) (by decide) (by decide) (by decide) rfl (by decide) (by decide) (by decide) (fun n j hj => ld4 xo9 1 512 _ n j 1 q rfl (by omega))
  · exact pieceB1 I S t l q (h := 8) (g := 9) (off := 0) (xo := 512) rfl rfl e1 (by decide) (by decide) (by decide) (by decide) (by decide) (by decide) rfl (by decide) (by decide) (by decide) (fun n j hj => ld4 xo9 1 512 _ n j 1 q rfl (by omega))
  · exact pieceB0 I S t l q (h := 6) (g := 7) (off := 384) (xo := 384) rfl rfl e1 (by decide) (by decide) (by decide) (by decide) (by decide) (by decide) rfl (by decide) (by decide) (by decide) (fun n j hj => ld4 xo9 1 0 _ n j 1 q rfl (by omega))
  · exact pieceB0 I S t l q (h := 4) (g := 5) (off := 256) (xo := 256) rfl rfl e1 (by decide) (by decide) (by decide) (by decide) (by decide) (by decide) rfl (by decide) (by decide) (by decide) (fun n j hj => ld4 xo9 1 0 _ n j 1 q rfl (by omega))
  · exact pieceB0 I S t l q (h := 2) (g := 3) (off := 128) (xo := 128) rfl rfl e1 (by decide) (by decide) (by decide) (by decide) (by decide) (by decide) rfl (by decide) (by decide) (by decide) (fun n j hj => ld4 xo9 1 0 _ n j 1 q rfl (by omega))
  · exact pieceB0 I S t l q (h := 0) (g := 1) (off := 0) (xo := 0) rfl rfl (e1.trans (Nat.zero_add _).symm) (by decide) (by decide) (by decide) (by decide) (by decide) (by decide) rfl (by decide) (by decide) (by decide) (fun n j hj => ld4 xo9 1 0 _ n j 1 q rfl (by omega))

theorem outB9 (c : Dev nD) (i : grid0.Coords) (arg2 : Memref sig .tc .vmem S128x1536 .bf16) (harg2 : arg2.IsWhole) (arg3 : Memref sig .tc .vmem S128x1536 .bf16) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S2x1x128 .f32) (harg6 : arg6.IsWhole) (arg7 : Memref sig .tc .vmem S1x1024 .f32) (harg7 : arg7.IsWhole) (arg8 : Memref sig .tc .vmem S1x2x128x1024 .f32) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S1x2x128x1024 .f32) (harg11 : arg11.IsWhole) (hc0 : ¬cond0_0 i) (x0 : Vec Ideal S128x1536 .bf16) (x1 : Vec Ideal S128x1536 .bf16) (x2 : Vec Ideal S1x128x128 .f32) (x3 : Vec Ideal S1x128x128 .f32) (x4 : Vec Ideal S2x1x128 .f32) (x5 : Vec Ideal S1x1024 .f32) (x6 : Vec Ideal S1x2x128x1024 .f32) (xo9 : Vec Ideal S1x2x128x1024 .f32)
    {X0 X1 : Fin 128 → Fin 1536 → ℝ} {D0 D1 : Fin 128 → Fin 128 → ℝ} {A0 A1 : Fin 128 → ℝ} (I : Ins x0 x1 x2 x3 x4 X0 X1 D0 D1 A0 A1) (d : Fin 2) (n : Fin 128) (q : Fin 1024) :
    out0_B_9 (F := Ideal) c i arg2 harg2 arg3 harg3 arg4 harg4 arg5 harg5 arg6 harg6 arg7 harg7 arg8 harg8 arg9 harg9 arg10 harg10 arg11 harg11 hc0 x0 x1 x2 x3 x4 x5 x6 xo9 (ix4 0 d n q)
      = if d = 0 then stOut X0 D0 (cum (dec D0 A0)) (tot (dec D0 A0)) (fun n q => xo9 (ix4 0 0 n q)) n q
        else stOut X1 D1 (suf (dec D1 A1)) (tot (dec D1 A1)) (fun n q => xo9 (ix4 0 1 n q)) n q := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 hc0 x0 x1 x2 x3 x4 x5 x6 xo9)]
  unfold kernelRun0_B
  dsimp only
  sl_unfold_words
  simp only [View.readAt_eq_ld, Memref.IsWhole.read_unread]
  have S := I.steps inb_S1x128x128_S1x128x128_0_0_0 inb_S1x128x128_S1x128x128_0_0_0 inb_S2x1x128_S1x1x128_0_0_0 inb_S2x1x128_S1x1x128_1_0_0
  canon_tiles y e
  all_goals
    obtain ⟨u, v, n', j, rfl⟩ : ∃ u v n' j, y = ix4 u v n' j := ⟨_, _, _, _, eq_ix4 y⟩
    obtain rfl : u = 0 := Fin.ext (by omega)
    obtain rfl : v = 0 := Fin.ext (by omega)
    obtain rfl : n = n' := Fin.ext e2
  · obtain rfl : d = 1 := Fin.ext e1
    exact pieceS11 I S (st := fun n q => xo9 (ix4 0 1 n q)) n j q e3 (by decide) (by decide) (ld4 xo9 1 512 (by decide) n j 1 q rfl e3)
  · obtain rfl : d = 0 := Fin.ext e1
    exact pieceS01 I S (st := fun n q => xo9 (ix4 0 0 n q)) n j q e3 (by decide) (by decide) (ld4 xo9 0 512 (by decide) n j 0 q rfl e3)
  · obtain rfl : d = 1 := Fin.ext e1
    exact pieceS10 I S (st := fun n q => xo9 (ix4 0 1 n q)) n j q e3 (by decide) (by decide) (ld4 xo9 1 0 (by decide) n j 1 q rfl (e3.trans (Nat.zero_add _).symm))
  · obtain rfl : d = 0 := Fin.ext e1
    exact pieceS00 I S (st := fun n q => xo9 (ix4 0 0 n q)) n j q e3 (by decide) (by decide) (ld4 xo9 0 0 (by decide) n j 0 q rfl (e3.trans (Nat.zero_add _).symm))

end Cert.Proof

end
-- ==== Proof.Arrays.lean ====
/- The three arrays that the kernel leaves, index by index: the scan in both directions, and its final states. -/
module

public import proofs.«01_k».proof.Proof.Inputs
public import proofs.«01_k».proof.Proof.StepA
public import proofs.«01_k».proof.Proof.StepA9
public import proofs.«01_k».proof.Proof.StepB

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

/-- The initial state of batch `b` in direction `d`. -/
def Hs (h0 : Vec Ideal S8x2x128x1024 .f32) (d : Fin 2) (b : ℕ) (n : Fin 128) (q : Fin 1024) : EReal :=
  if h : b < 8 then h0 (ix4 ⟨b, h⟩ d n q) else 0

/-- Direction `d`'s scan of batch `b` at its row `l`. -/
def Ys (x : Vec Ideal S32768x1536 .bf16) (dt : Vec Ideal S2x32768x128 .f32) (al : Vec Ideal S2x16 .f32) (h0 : Vec Ideal S8x2x128x1024 .f32)
    (d : Fin 2) (b l : ℕ) (q : Fin 1024) : EReal :=
  yOut (Xs x d b) (Ds dt d b) (As al d) (Hs h0 d b) l q

/-- Direction `d`'s state of batch `b` before its row `k`. -/
def Ss (x : Vec Ideal S32768x1536 .bf16) (dt : Vec Ideal S2x32768x128 .f32) (al : Vec Ideal S2x16 .f32) (h0 : Vec Ideal S8x2x128x1024 .f32)
    (d : Fin 2) (b k : ℕ) (n : Fin 128) (q : Fin 1024) : EReal :=
  sAt (Xs x d b) (Ds dt d b) (As al d) (Hs h0 d b) k n q

/-- A head's skip weight. -/
def skip (ds : Vec Ideal S16 .f32) (h : Fin 16) : EReal := ds (ix1 h)

theorem sAt_zero (X : ℕ → Fin 1536 → ℝ) (D : ℕ → Fin 128 → ℝ) (A : Fin 128 → ℝ) (h0 : Fin 128 → Fin 1024 → EReal) (n : Fin 128) (q : Fin 1024) :
    sAt X D A h0 0 n q = h0 n q := by
  unfold sAt acc pre
  simp

theorem rv_rv {α : Type} (X : Fin 128 → α) : rv (rv X) = X := funext fun t => by unfold rv; rw [Fin.rev_rev]

variable (m : (ℓ : Loc nD τ sig) → Buf (Elt Ideal) ℓ)

/-- `Ss` at the launch's arguments. -/
abbrev SsM (c : Dev nD) := Ss (m ((c : Thread nD τ).loc main_arg0)) (m ((c : Thread nD τ).loc main_arg1)) (m ((c : Thread nD τ).loc main_arg2)) (m ((c : Thread nD τ).loc main_arg4))

/-- `Ys` at the launch's arguments. -/
abbrev YsM (c : Dev nD) := Ys (m ((c : Thread nD τ).loc main_arg0)) (m ((c : Thread nD τ).loc main_arg1)) (m ((c : Thread nD τ).loc main_arg2)) (m ((c : Thread nD τ).loc main_arg4))

/-- The state block that the first step of a batch reads is the initial state. -/
theorem first (c : Dev nD) (t : Fin cfg0.N) (h0 : t.val % 32 = 0) (d : Fin 2) :
    (fun n q => iblk m c 6 t (ix4 0 d n q)) = SsM m c d (t.val / 32) (128 * (t.val % 32)) := by
  have ht : t.val < 256 := t.isLt
  funext n q
  rw [in6 m c t d n q ⟨t.val / 32, by omega⟩ rfl, h0, Nat.mul_zero]
  unfold SsM Ss
  rw [sAt_zero]
  unfold Hs
  rw [dif_pos (by omega)]

variable {c : Dev nD} (T : Tame (m ((c : Thread nD τ).loc main_arg0)) (m ((c : Thread nD τ).loc main_arg1)) (m ((c : Thread nD τ).loc main_arg2)))
include T

/-- The state after a step is the state before the next chunk. -/
theorem state_after : ∀ (k : ℕ) (hk : k < cfg0.N) (d : Fin 2) (n : Fin 128) (q : Fin 1024),
    (outsAt0 m c k hk).2.2 (ix4 0 d n q) = SsM m c d (k / 32) (128 * (k % 32 + 1)) n q := by
  have fwd : ∀ t : Fin cfg0.N, ∀ (n : Fin 128) (q : Fin 1024), _ := fun t =>
    stOut_sAt (Xs (m ((c : Thread nD τ).loc main_arg0)) 0 (t.val / 32)) (Ds (m ((c : Thread nD τ).loc main_arg1)) 0 (t.val / 32)) (As (m ((c : Thread nD τ).loc main_arg2)) 0)
      (Hs (m ((c : Thread nD τ).loc main_arg4)) 0 (t.val / 32)) (t.val % 32)
  have bwd : ∀ t : Fin cfg0.N, ∀ (n : Fin 128) (q : Fin 1024), _ := fun t =>
    stOut_sAt (Xs (m ((c : Thread nD τ).loc main_arg0)) 1 (t.val / 32)) (Ds (m ((c : Thread nD τ).loc main_arg1)) 1 (t.val / 32)) (As (m ((c : Thread nD τ).loc main_arg2)) 1)
      (Hs (m ((c : Thread nD τ).loc main_arg4)) 1 (t.val / 32)) (t.val % 32)
  have key : ∀ (t : Fin cfg0.N) (o : Vec Ideal S1x2x128x1024 .f32),
      (∀ d, (fun n q => o (ix4 0 d n q)) = SsM m c d (t.val / 32) (128 * (t.val % 32))) → ∀ (d : Fin 2) (n : Fin 128) (q : Fin 1024),
      (if d = 0 then stOut (blk (Xs (m ((c : Thread nD τ).loc main_arg0)) 0 (t.val / 32)) (t.val % 32)) (blk (Ds (m ((c : Thread nD τ).loc main_arg1)) 0 (t.val / 32)) (t.val % 32))
          (cum (dec (blk (Ds (m ((c : Thread nD τ).loc main_arg1)) 0 (t.val / 32)) (t.val % 32)) (As (m ((c : Thread nD τ).loc main_arg2)) 0)))
          (tot (dec (blk (Ds (m ((c : Thread nD τ).loc main_arg1)) 0 (t.val / 32)) (t.val % 32)) (As (m ((c : Thread nD τ).loc main_arg2)) 0))) (fun n q => o (ix4 0 0 n q)) n q
        else stOut (rv (blk (Xs (m ((c : Thread nD τ).loc main_arg0)) 1 (t.val / 32)) (t.val % 32))) (rv (blk (Ds (m ((c : Thread nD τ).loc main_arg1)) 1 (t.val / 32)) (t.val % 32)))
          (suf (dec (rv (blk (Ds (m ((c : Thread nD τ).loc main_arg1)) 1 (t.val / 32)) (t.val % 32))) (As (m ((c : Thread nD τ).loc main_arg2)) 1)))
          (tot (dec (rv (blk (Ds (m ((c : Thread nD τ).loc main_arg1)) 1 (t.val / 32)) (t.val % 32))) (As (m ((c : Thread nD τ).loc main_arg2)) 1))) (fun n q => o (ix4 0 1 n q)) n q)
        = SsM m c d (t.val / 32) (128 * (t.val % 32 + 1)) n q := by
    intro t o ho d n q
    obtain rfl | rfl : d = 0 ∨ d = 1 := by omega
    · rw [if_pos rfl, ho 0]; exact fwd t n q
    · rw [if_neg (by decide), ho 1, stOut_rv, rv_rv, rv_rv]; exact bwd t n q
  intro k
  induction k with
  | zero =>
    intro hk d n q
    rw [outsAt0_A m c ⟨0, hk⟩ rfl]
    dsimp only
    rw [outA9 _ _ _ _ _ _ _ _ _ _ _ _ _ _ _ _ _ _ _ _ _ _ _ _ _ _ _ _ _ _ (ins m T ⟨0, hk⟩) d n q]
    exact key ⟨0, hk⟩ _ (first m c ⟨0, hk⟩ rfl) d n q
  | succ k ih =>
    intro hk d n q
    by_cases h0 : (k + 1) % 32 = 0
    · rw [outsAt0_A m c ⟨k + 1, hk⟩ h0]
      dsimp only
      rw [outA9 _ _ _ _ _ _ _ _ _ _ _ _ _ _ _ _ _ _ _ _ _ _ _ _ _ _ _ _ _ _ (ins m T ⟨k + 1, hk⟩) d n q]
      exact key ⟨k + 1, hk⟩ _ (first m c ⟨k + 1, hk⟩ h0) d n q
    · rw [outsAt0_B m c ⟨k + 1, hk⟩ h0]
      dsimp only
      rw [outB9 _ _ _ _ _ _ _ _ _ _ _ _ _ _ _ _ _ _ _ _ _ _ _ _ _ _ _ _ _ _ _ (ins m T ⟨k + 1, hk⟩) d n q]
      refine key ⟨k + 1, hk⟩ _ (fun d => ?_) d n q
      funext n q
      rw [show (k + 1) / 32 = k / 32 by omega, show (k + 1) % 32 = k % 32 + 1 by omega]
      exact ih _ d n q

/-- The state that a step starts from, in the buffer that it reads: the initial block, or what the step before left. -/
theorem state_before (t : Fin cfg0.N) (h0 : ¬ t.val % 32 = 0) (d : Fin 2) (hk : t.val - 1 < cfg0.N) :
    (fun n q => (outsAt0 m c (t.val - 1) hk).2.2 (ix4 0 d n q)) = SsM m c d (t.val / 32) (128 * (t.val % 32)) := by
  funext n q
  rw [state_after m T, show (t.val - 1) / 32 = t.val / 32 by omega, show (t.val - 1) % 32 + 1 = t.val % 32 by omega]

/-- The forward rows of a chunk. -/
theorem fwd_row (t : Fin cfg0.N) (st : Fin 128 → Fin 1024 → EReal) (hs : st = SsM m c 0 (t.val / 32) (128 * (t.val % 32))) (s : Fin 128) (q : Fin 1024) :
    rowOut (blk (Xs (m ((c : Thread nD τ).loc main_arg0)) 0 (t.val / 32)) (t.val % 32)) (blk (Ds (m ((c : Thread nD τ).loc main_arg1)) 0 (t.val / 32)) (t.val % 32))
        (cum (dec (blk (Ds (m ((c : Thread nD τ).loc main_arg1)) 0 (t.val / 32)) (t.val % 32)) (As (m ((c : Thread nD τ).loc main_arg2)) 0)))
        (fun t s => decide (s ≤ t)) st s q
      = YsM m c 0 (t.val / 32) (128 * (t.val % 32) + s.val) q := by
  subst hs
  exact rowOut_sAt _ _ _ _ _ (by omega) s q

/-- The backward rows of a chunk. -/
theorem bwd_row (t : Fin cfg0.N) (st : Fin 128 → Fin 1024 → EReal) (hs : st = SsM m c 1 (t.val / 32) (128 * (t.val % 32))) (s : Fin 128) (q : Fin 1024) :
    rowOut (rv (blk (Xs (m ((c : Thread nD τ).loc main_arg0)) 1 (t.val / 32)) (t.val % 32))) (rv (blk (Ds (m ((c : Thread nD τ).loc main_arg1)) 1 (t.val / 32)) (t.val % 32)))
        (suf (dec (rv (blk (Ds (m ((c : Thread nD τ).loc main_arg1)) 1 (t.val / 32)) (t.val % 32))) (As (m ((c : Thread nD τ).loc main_arg2)) 1)))
        (fun t s => decide (t ≤ s)) st s q
      = YsM m c 1 (t.val / 32) (128 * (t.val % 32) + s.rev.val) q := by
  subst hs
  rw [rowOut_rv, rv_rv, rv_rv]
  exact rowOut_sAt _ _ _ _ _ (by omega) s.rev q

/-- The first output block after a step. -/
theorem out7 (t : Fin cfg0.N) (s : Fin 128) (q : Fin 1024) (h' : Fin 16) (e : h'.val = q.val / 64) :
    (outsAt0 m c t.val t.isLt).1 (ix2 s q) = YsM m c 0 (t.val / 32) (128 * (t.val % 32) + s.val) q
      + skip (m ((c : Thread nD τ).loc main_arg3)) h' * ((Xs (m ((c : Thread nD τ).loc main_arg0)) 0 (t.val / 32) (128 * (t.val % 32) + s.val) (xcol q) : ℝ) : EReal) := by
  by_cases h0 : t.val % 32 = 0
  · rw [outsAt0_A m c t h0]
    dsimp only
    rw [outA7 _ _ _ _ _ _ _ _ _ _ _ _ _ _ _ _ _ _ _ _ _ _ _ _ _ _ _ _ _ _ (ins m T t) s q, fwd_row m T t _ (first m c t h0 0), in5 m c t q h' e]
    rfl
  · rw [outsAt0_B m c t h0]
    dsimp only
    rw [outB7 _ _ _ _ _ _ _ _ _ _ _ _ _ _ _ _ _ _ _ _ _ _ _ _ _ _ _ _ _ _ _ (ins m T t) s q, fwd_row m T t _ (state_before m T t h0 0 _), in5 m c t q h' e]
    rfl

/-- The second output block after a step. -/
theorem out8 (t : Fin cfg0.N) (s : Fin 128) (q : Fin 1024) :
    (outsAt0 m c t.val t.isLt).2.1 (ix2 s q) = YsM m c 1 (t.val / 32) (128 * (t.val % 32) + s.rev.val) q := by
  by_cases h0 : t.val % 32 = 0
  · rw [outsAt0_A m c t h0]
    dsimp only
    rw [outA8 _ _ _ _ _ _ _ _ _ _ _ _ _ _ _ _ _ _ _ _ _ _ _ _ _ _ _ _ _ _ (ins m T t) s q, bwd_row m T t _ (first m c t h0 1)]
  · rw [outsAt0_B m c t h0]
    dsimp only
    rw [outB8 _ _ _ _ _ _ _ _ _ _ _ _ _ _ _ _ _ _ _ _ _ _ _ _ _ _ _ _ _ _ _ (ins m T t) s q, bwd_row m T t _ (state_before m T t h0 1 _)]

/-! ### The whole arrays -/

/-- The forward result, with its skip term. -/
def G7 (x : Vec Ideal S32768x1536 .bf16) (dt : Vec Ideal S2x32768x128 .f32) (al : Vec Ideal S2x16 .f32) (ds : Vec Ideal S16 .f32) (h0 : Vec Ideal S8x2x128x1024 .f32) :
    Vec Ideal S32768x1024 .bf16 := fun i =>
  (Ys x dt al h0 0 ((i 0).val / 4096) ((i 0).val % 4096) (i 1) + skip ds ⟨(i 1).val / 64, by have := (i 1).isLt; simp only [S32768x1024] at this; change (i 1).val < 1024 at this; omega⟩
    * ((Xs x 0 ((i 0).val / 4096) ((i 0).val % 4096) (xcol (i 1)) : ℝ) : EReal) : EReal)

/-- The backward result. -/
def G8 (x : Vec Ideal S32768x1536 .bf16) (dt : Vec Ideal S2x32768x128 .f32) (al : Vec Ideal S2x16 .f32) (h0 : Vec Ideal S8x2x128x1024 .f32) :
    Vec Ideal S32768x1024 .bf16 := fun i => Ys x dt al h0 1 ((i 0).val / 4096) (4095 - (i 0).val % 4096) (i 1)

/-- The final states. -/
def G9 (x : Vec Ideal S32768x1536 .bf16) (dt : Vec Ideal S2x32768x128 .f32) (al : Vec Ideal S2x16 .f32) (h0 : Vec Ideal S8x2x128x1024 .f32) :
    Vec Ideal S8x2x128x1024 .f32 := fun i => Ss x dt al h0 (i 1) (i 0).val 4096 (i 2) (i 3)

omit T in
theorem G7_ix (x : Vec Ideal S32768x1536 .bf16) (dt : Vec Ideal S2x32768x128 .f32) (al : Vec Ideal S2x16 .f32) (ds : Vec Ideal S16 .f32) (h0 : Vec Ideal S8x2x128x1024 .f32)
    (r : Fin 32768) (q : Fin 1024) (b l : ℕ) (h' : Fin 16) (hb : b = r.val / 4096) (hl : l = r.val % 4096) (e : h'.val = q.val / 64) :
    G7 x dt al ds h0 (ix2 r q) = (Ys x dt al h0 0 b l q + skip ds h' * ((Xs x 0 b l (xcol q) : ℝ) : EReal) : EReal) := by
  obtain ⟨h', hh⟩ := h'
  simp only at e
  subst hb hl e
  rfl

omit T in
theorem G8_ix (x : Vec Ideal S32768x1536 .bf16) (dt : Vec Ideal S2x32768x128 .f32) (al : Vec Ideal S2x16 .f32) (h0 : Vec Ideal S8x2x128x1024 .f32)
    (r : Fin 32768) (q : Fin 1024) (b l : ℕ) (hb : b = r.val / 4096) (hl : l = 4095 - r.val % 4096) :
    G8 x dt al h0 (ix2 r q) = Ys x dt al h0 1 b l q := by
  subst hb hl
  rfl

end Cert.Proof

end
-- ==== Proof.Results.lean ====
/- The result arrays after the run, from what each grid step writes back. -/
module

public import proofs.«01_k».proof.Proof.Arrays

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) {c : Dev nD}
  (T : Tame (m ((c : Thread nD τ).loc main_arg0)) (m ((c : Thread nD τ).loc main_arg1)) (m ((c : Thread nD τ).loc main_arg2)))
include T

theorem arr7 : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have ht : t.val < 256 := t.isLt
  blk_simp
  rw [after0_7]
  obtain ⟨s, q, rfl⟩ : ∃ (s : Fin 128) (q : Fin 1024), y = ix2 s q := ⟨_, _, eq_ix2 y⟩
  have e : (win0_7.blk t).view.emb (ix2 s q) = ix2 (⟨128 * t.val + s.val, by omega⟩ : Fin 32768) q := by blk_ext [idxs t]
  rw [e, G7_ix _ _ _ _ _ _ q (t.val / 32) (128 * (t.val % 32) + s.val) ⟨q.val / 64, by omega⟩ (by dsimp only; omega) (by dsimp only; omega) rfl]
  exact out7 m T t s q _ rfl

theorem arr8 : (dats m 0 c).arrAt 8 cfg0.N = G8 (m ((c : Thread nD τ).loc main_arg0)) (m ((c : Thread nD τ).loc main_arg1)) (m ((c : Thread nD τ).loc main_arg2)) (m ((c : Thread nD τ).loc main_arg4)) := by
  refine (dats m 0 c).arrAt_eq_of_covers 8 _ (by decide +kernel) fun t hf y => ?_
  have ht : t.val < 256 := t.isLt
  blk_simp
  rw [after0_8]
  obtain ⟨s, q, rfl⟩ : ∃ (s : Fin 128) (q : Fin 1024), y = ix2 s q := ⟨_, _, eq_ix2 y⟩
  have e : (win0_8.blk t).view.emb (ix2 s q) = ix2 (⟨128 * (t.val / 32 * 32 + (31 - t.val % 32)) + s.val, by omega⟩ : Fin 32768) q := by blk_ext [idxs t]
  rw [e, G8_ix _ _ _ _ _ q (t.val / 32) (128 * (t.val % 32) + s.rev.val) (by dsimp only; omega) (by simp only [Fin.val_rev]; omega)]
  exact out8 m T t s q

theorem arr9 : (dats m 0 c).arrAt 9 cfg0.N = G9 (m ((c : Thread nD τ).loc main_arg0)) (m ((c : Thread nD τ).loc main_arg1)) (m ((c : Thread nD τ).loc main_arg2)) (m ((c : Thread nD τ).loc main_arg4)) := by
  refine (dats m 0 c).arrAt_eq_of_covers 9 _ (by decide +kernel) fun t hf y => ?_
  have ht : t.val < 256 := t.isLt
  have h31 := (flush0_9 t).mp hf
  blk_simp
  rw [after0_9]
  obtain ⟨z, d, n, q, rfl⟩ : ∃ (z : Fin 1) (d : Fin 2) (n : Fin 128) (q : Fin 1024), y = ix4 z d n q := ⟨_, _, _, _, eq_ix4 y⟩
  have e : (win0_9.blk t).view.emb (ix4 z d n q) = ix4 (⟨t.val / 32, by omega⟩ : Fin 8) d n q := by blk_ext [idxs t]
  obtain rfl : z = 0 := Subsingleton.elim _ _
  rw [e, state_after m T, h31]
  rfl

end Cert.Proof

end
-- ==== Proof.Scan.lean ====
/- One direction of the reference's scan, with the whole sequence as one chunk, as a function of its operands: what each array of it holds at an index. -/
module

public import proofs.«01_k».proof.Proof.Gen.ReferenceIdeal.Read
public import Idealize.ShloMosaic.Lib.Pointwise

@[expose] public section

set_option maxRecDepth 16384

noncomputable section

namespace Cert.Proof.Ref

open Idealize.ShloMosaic Cert.ReferenceIdeal Cert.ReferenceIdeal.Gen

/-- `dt · A`, heads by group, time last. -/
def expo (dt : FVec Ideal S8x4096x16 .f32) (A : FVec Ideal S16 .f32) : FVec Ideal S8x2x8x4096 .f32 :=
  transpose S8x2x8x4096 [0, 2, 3, 1] (shapeCast S8x4096x2x8 (mulf dt (broadcastInDim S8x4096x16 ![0, 1, 2] bcast_S1x1x16_S8x4096x16_0_1_2
    (broadcastInDim S1x1x16 ![2] bcast_S16_S1x1x16_2 A))) shapeCasts_S8x4096x16_S8x4096x2x8) transposes_S8x4096x2x8_S8x2x8x4096_0_2_3_1

/-- The running sum along time. -/
def runSum (a : FVec Ideal S8x2x8x4096 .f32) : FVec Ideal S8x2x8x4096 .f32 :=
  Host.reduceWindowAdd ![1, 1, 1, 4096] ![1, 1, 1, 1] ![0, 0, 0, 4095] ![0, 0, 0, 0] a
    (broadcastInDim S_ ![] bcast_S_S_ (constant S_ .f32 0x00000000#32))
    reduceWindows_S8x2x8x4096_S8x2x8x4096_w1s1p0_0_w1s1p0_0_w1s1p0_0_w4096s1p4095_0 h_S_

/-- `x · dt`, heads by group. -/
def xdt (x : FVec Ideal S8x4096x16x64 .f32) (dt : FVec Ideal S8x4096x16 .f32) : FVec Ideal S8x4096x2x8x64 .f32 :=
  shapeCast S8x4096x2x8x64 (mulf x (broadcastInDim S8x4096x16x64 ![0, 1, 2, 3] bcast_S8x4096x16x1_S8x4096x16x64_0_1_2_3
    (broadcastInDim S8x4096x16x1 ![0, 1, 2] bcast_S8x4096x16_S8x4096x16x1_0_1_2 dt))) shapeCasts_S8x4096x16x64_S8x4096x2x8x64

/-- The lower-triangular decays between any two rows. -/
def lmat (c : FVec Ideal S8x2x8x4096 .f32) : FVec Ideal S8x2x8x4096x4096 .f32 :=
  Host.exp (select (broadcastInDim S8x2x8x4096x4096 ![3, 4] bcast_S4096x4096_S8x2x8x4096x4096_3_4 (cmpi .sge (iotaInDim S4096x4096 32 0) (iotaInDim S4096x4096 32 1)))
    (subf (broadcastInDim S8x2x8x4096x4096 ![0, 1, 2, 3, 4] bcast_S8x2x8x4096x1_S8x2x8x4096x4096_0_1_2_3_4 (broadcastInDim S8x2x8x4096x1 ![0, 1, 2, 3] bcast_S8x2x8x4096_S8x2x8x4096x1_0_1_2_3 c))
      (broadcastInDim S8x2x8x4096x4096 ![0, 1, 2, 3, 4] bcast_S8x2x8x1x4096_S8x2x8x4096x4096_0_1_2_3_4 (broadcastInDim S8x2x8x1x4096 ![0, 1, 2, 4] bcast_S8x2x8x4096_S8x2x8x1x4096_0_1_2_4 c)))
    (broadcastInDim S8x2x8x4096x4096 ![] bcast_S_S8x2x8x4096x4096 (constant S_ .f32 0xFF800000#32)))

/-- What row `l` weighs row `s` with: the query against the key, and the decay between them. -/
def wts (B C : FVec Ideal S8x4096x2x128 .f32) (c : FVec Ideal S8x2x8x4096 .f32) : FVec Ideal S8x2x8x4096x4096 .f32 :=
  mulf (broadcastInDim S8x2x8x4096x4096 ![0, 1, 2, 3, 4] bcast_S8x2x1x4096x4096_S8x2x8x4096x4096_0_1_2_3_4
    (broadcastInDim S8x2x1x4096x4096 ![0, 1, 3, 4] bcast_S8x2x4096x4096_S8x2x1x4096x4096_0_1_3_4
      (Host.dotGeneral dot_S8x4096x2x128_S8x4096x2x128_S8x2x4096x4096_3_3_1_1_02_02 none C B))) (lmat c)

/-- The rows seen by each row. -/
def diag (xd : FVec Ideal S8x4096x2x8x64 .f32) (w : FVec Ideal S8x2x8x4096x4096 .f32) : FVec Ideal S8x4096x2x8x64 .f32 :=
  transpose S8x4096x2x8x64 [0, 4, 1, 2, 3] (Host.dotGeneral dot_S8x4096x2x8x64_S8x2x8x4096x4096_S8x2x8x64x4096_1_4_4_3_023_012 none xd w) transposes_S8x2x8x64x4096_S8x4096x2x8x64_0_4_1_2_3

/-- A factor by batch, time, group and head, spread over a head's lanes. -/
def spread (e : FVec Ideal S8x2x8x4096 .f32) : FVec Ideal S8x4096x2x8x64 .f32 :=
  broadcastInDim S8x4096x2x8x64 ![0, 1, 2, 3, 4] bcast_S8x4096x2x8x1_S8x4096x2x8x64_0_1_2_3_4 (broadcastInDim S8x4096x2x8x1 ![0, 1, 2, 3] bcast_S8x4096x2x8_S8x4096x2x8x1_0_1_2_3
    (transpose S8x4096x2x8 [0, 3, 1, 2] e transposes_S8x2x8x4096_S8x4096x2x8_0_3_1_2))

/-- The initial state read by each row. -/
def off (h : FVec Ideal S8x2x8x64x128 .f32) (C : FVec Ideal S8x4096x2x128 .f32) (c : FVec Ideal S8x2x8x4096 .f32) : FVec Ideal S8x4096x2x8x64 .f32 :=
  mulf (transpose S8x4096x2x8x64 [0, 4, 1, 2, 3] (Host.dotGeneral dot_S8x2x8x64x128_S8x4096x2x128_S8x2x8x64x4096_4_3_23_1_01_02 none h C) transposes_S8x2x8x64x4096_S8x4096x2x8x64_0_4_1_2_3)
    (spread (Host.exp c))

/-- The last running sum. -/
def lastSum (c : FVec Ideal S8x2x8x4096 .f32) : FVec Ideal S8x2x8x1 .f32 := extractStridedSlice S8x2x8x1 ![0, 0, 0, 4095] c slices_S8x2x8x4096_S8x2x8x1_0_0_0_4095

/-- The rows summed into the final state. -/
def contrib (xd : FVec Ideal S8x4096x2x8x64 .f32) (B : FVec Ideal S8x4096x2x128 .f32) (c : FVec Ideal S8x2x8x4096 .f32) : FVec Ideal S8x2x8x64x128 .f32 :=
  Host.dotGeneral dot_S8x4096x2x8x64_S8x4096x2x128_S8x2x8x64x128_1_1_34_3_02_02 none
    (mulf xd (spread (Host.exp (subf (broadcastInDim S8x2x8x4096 ![0, 1, 2, 3] bcast_S8x2x8x1_S8x2x8x4096_0_1_2_3 (lastSum c)) c)))) B

/-- The initial state, decayed to the end. -/
def carried (h : FVec Ideal S8x2x8x64x128 .f32) (c : FVec Ideal S8x2x8x4096 .f32) : FVec Ideal S8x2x8x64x128 .f32 :=
  mulf (broadcastInDim S8x2x8x64x128 ![0, 1, 2, 3, 4] bcast_S8x2x8x1x1_S8x2x8x64x128_0_1_2_3_4 (broadcastInDim S8x2x8x1x1 ![0, 1, 2] bcast_S8x2x8_S8x2x8x1x1_0_1_2
    (Host.exp (shapeCast S8x2x8 (lastSum c) shapeCasts_S8x2x8x1_S8x2x8)))) h

/-- The scan's rows. -/
def scanY (x : FVec Ideal S8x4096x16x64 .f32) (dt : FVec Ideal S8x4096x16 .f32) (A : FVec Ideal S16 .f32) (B C : FVec Ideal S8x4096x2x128 .f32) (h : FVec Ideal S8x16x64x128 .f32) :
    FVec Ideal S8x4096x16x64 .f32 :=
  shapeCast S8x4096x16x64 (addf (diag (xdt x dt) (wts B C (runSum (expo dt A))))
    (off (shapeCast S8x2x8x64x128 h shapeCasts_S8x16x64x128_S8x2x8x64x128) C (runSum (expo dt A)))) shapeCasts_S8x4096x2x8x64_S8x4096x16x64

/-- The scan's final state. -/
def scanS (x : FVec Ideal S8x4096x16x64 .f32) (dt : FVec Ideal S8x4096x16 .f32) (A : FVec Ideal S16 .f32) (B : FVec Ideal S8x4096x2x128 .f32) (h : FVec Ideal S8x16x64x128 .f32) :
    FVec Ideal S8x16x64x128 .f32 :=
  shapeCast S8x16x64x128 (addf (carried (shapeCast S8x2x8x64x128 h shapeCasts_S8x16x64x128_S8x2x8x64x128) (runSum (expo dt A)))
    (contrib (xdt x dt) B (runSum (expo dt A)))) shapeCasts_S8x2x8x64x128_S8x16x64x128

section
variable (x : FVec Ideal S8x4096x16x64 .f32) (dt : FVec Ideal S8x4096x16 .f32) (A : FVec Ideal S16 .f32) (B C : FVec Ideal S8x4096x2x128 .f32) (h : FVec Ideal S8x16x64x128 .f32)
  (c : FVec Ideal S8x2x8x4096 .f32)

theorem expo_ix (b : Fin 8) (g : Fin 2) (r : Fin 8) (l : Fin 4096) (k : Fin 16) (hk : k.val = g.val * 8 + r.val) :
    expo dt A (ix4 b g r l) = (dt (ix3 b l k) * A (ix1 k) : EReal) := by
  obtain ⟨k, hk'⟩ := k
  simp only at hk
  subst hk
  pointwise [expo]

theorem xdt_ix (b : Fin 8) (l : Fin 4096) (g : Fin 2) (r : Fin 8) (p : Fin 64) (k : Fin 16) (hk : k.val = g.val * 8 + r.val) :
    xdt x dt (ix5 b l g r p) = (x (ix4 b l k p) * dt (ix3 b l k) : EReal) := by
  obtain ⟨k, hk'⟩ := k
  simp only at hk
  subst hk
  pointwise [xdt]

theorem sge_bit (l s : Fin 4096) : IntOp.cmpi .sge (BitVec.ofNat 32 l.val) (BitVec.ofNat 32 s.val) = if s.val ≤ l.val then 1#1 else 0#1 := by
  have hl : (BitVec.ofNat 32 l.val).toInt = l.val := by
    rw [BitVec.toInt_eq_toNat_of_lt] <;> simp <;> omega
  have hs : (BitVec.ofNat 32 s.val).toInt = s.val := by
    rw [BitVec.toInt_eq_toNat_of_lt] <;> simp <;> omega
  have e : (BitVec.ofNat 32 s.val).sle (BitVec.ofNat 32 l.val) = decide (s.val ≤ l.val) := by
    rw [BitVec.sle, hl, hs]; simp
  show BitVec.ofBool ((BitVec.ofNat 32 s.val).sle (BitVec.ofNat 32 l.val)) = _
  rw [e]
  by_cases h : s.val ≤ l.val <;> simp [h]

theorem lmat_ix (b : Fin 8) (g : Fin 2) (r : Fin 8) (l s : Fin 4096) :
    lmat c (ix5 b g r l s) = if s.val ≤ l.val then Ideal.exp (c (ix4 b g r l) - c (ix4 b g r s)) else (0 : EReal) := by
  pointwise [lmat]
  rw [sge_bit]
  by_cases h : s.val ≤ l.val
  · rw [if_pos h, if_pos h, ValueIdx.select_one]
  · rw [if_neg h, if_neg h, ValueIdx.select_zero, show Ideal.ofBits FTy.f32 4286578688#32 = (⊥ : EReal) by simp [Ideal.ofBits, Ideal.ieee]]
    rfl

theorem wts_ix (b : Fin 8) (g : Fin 2) (r : Fin 8) (l s : Fin 4096) :
    wts B C c (ix5 b g r l s) = (((∑ n : Fin 128, (C (ix4 b l g n) * B (ix4 b s g n) : EReal)) * lmat c (ix5 b g r l s) : EReal)) := by
  pointwise [wts]

theorem diag_ix (xd : FVec Ideal S8x4096x2x8x64 .f32) (w : FVec Ideal S8x2x8x4096x4096 .f32) (b : Fin 8) (l : Fin 4096) (g : Fin 2) (r : Fin 8) (p : Fin 64) :
    diag xd w (ix5 b l g r p) = ∑ s : Fin 4096, (xd (ix5 b s g r p) * w (ix5 b g r l s) : EReal) := by
  pointwise [diag]

theorem off_ix (h : FVec Ideal S8x2x8x64x128 .f32) (b : Fin 8) (l : Fin 4096) (g : Fin 2) (r : Fin 8) (p : Fin 64) :
    off h C c (ix5 b l g r p) = ((∑ n : Fin 128, (h (ix5 b g r p n) * C (ix4 b l g n) : EReal)) * Ideal.exp (c (ix4 b g r l)) : EReal) := by
  pointwise [off, spread]

theorem contrib_ix (xd : FVec Ideal S8x4096x2x8x64 .f32) (b : Fin 8) (g : Fin 2) (r : Fin 8) (p : Fin 64) (n : Fin 128) :
    contrib xd B c (ix5 b g r p n) = ∑ s : Fin 4096, (xd (ix5 b s g r p) * Ideal.exp (c (ix4 b g r (4095 : Fin 4096)) - c (ix4 b g r s)) * B (ix4 b s g n) : EReal) := by
  pointwise [contrib, spread, lastSum]

theorem carried_ix (h : FVec Ideal S8x2x8x64x128 .f32) (b : Fin 8) (g : Fin 2) (r : Fin 8) (p : Fin 64) (n : Fin 128) :
    carried h c (ix5 b g r p n) = (Ideal.exp (c (ix4 b g r (4095 : Fin 4096))) * h (ix5 b g r p n) : EReal) := by
  pointwise [carried, lastSum]

theorem split_ix (b : Fin 8) (k : Fin 16) (p : Fin 64) (n : Fin 128) (g : Fin 2) (r : Fin 8) (hk : k.val = g.val * 8 + r.val) :
    shapeCast S8x2x8x64x128 h shapeCasts_S8x16x64x128_S8x2x8x64x128 (ix5 b g r p n) = h (ix4 b k p n) := by
  obtain ⟨k, hk'⟩ := k
  simp only at hk
  subst hk
  pointwise

theorem scanY_ix (b : Fin 8) (l : Fin 4096) (k : Fin 16) (p : Fin 64) (g : Fin 2) (r : Fin 8) (hk : k.val = g.val * 8 + r.val) :
    scanY x dt A B C h (ix4 b l k p) = (diag (xdt x dt) (wts B C (runSum (expo dt A))) (ix5 b l g r p)
      + (∑ n : Fin 128, (h (ix4 b k p n) * C (ix4 b l g n) : EReal)) * Ideal.exp (runSum (expo dt A) (ix4 b g r l)) : EReal) := by
  pointwise [scanY]
  have eg : (⟨k.val / 8, by omega⟩ : Fin 2) = g := Fin.ext (by dsimp only; omega)
  have er : (⟨k.val % 8, by omega⟩ : Fin 8) = r := Fin.ext (by dsimp only; omega)
  rw [eg, er, off_ix]
  simp only [split_ix h b k p _ _ _ hk]

theorem scanS_ix (b : Fin 8) (k : Fin 16) (p : Fin 64) (n : Fin 128) (g : Fin 2) (r : Fin 8) (hk : k.val = g.val * 8 + r.val) :
    scanS x dt A B h (ix4 b k p n) = (Ideal.exp (runSum (expo dt A) (ix4 b g r (4095 : Fin 4096))) * h (ix4 b k p n) + contrib (xdt x dt) B (runSum (expo dt A)) (ix5 b g r p n) : EReal) := by
  pointwise [scanS]
  have eg : (⟨k.val / 8, by omega⟩ : Fin 2) = g := Fin.ext (by dsimp only; omega)
  have er : (⟨k.val % 8, by omega⟩ : Fin 8) = r := Fin.ext (by dsimp only; omega)
  rw [eg, er, carried_ix, split_ix h b k p _ _ _ hk]

/-! ### The running sum -/

theorem foldl_add {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- Position `k` of the window is time `l + k - 4095`, if that is not padding. -/
theorem window_sum (f : ℕ → EReal) (l : ℕ) (hl : l < 4096) :
    ∑ k ∈ Finset.range 4096, (if 4095 ≤ l + k then f (l + k - 4095) else 0) = ∑ j ∈ Finset.range (l + 1), f j := by
  rw [show 4096 = (4095 - l) + (l + 1) by omega, Finset.sum_range_add]
  rw [Finset.sum_eq_zero fun k hk => if_neg (by have := Finset.mem_range.1 hk; omega), zero_add]
  refine Finset.sum_congr rfl fun k hk => ?_
  rw [if_pos (by omega), show l + (4095 - l + k) - 4095 = k by omega]

theorem runSum_ix (a : FVec Ideal S8x2x8x4096 .f32) (b : Fin 8) (g : Fin 2) (r : Fin 8) (l : Fin 4096) (f : ℕ → EReal)
    (hf : ∀ j : Fin 4096, a (ix4 b g r j) = f j.val) :
    runSum a (ix4 b g r l) = ∑ j ∈ Finset.range (l.val + 1), f j := by
  unfold runSum Host.reduceWindowAdd
  rw [show ∀ v, (FloatOps.hostReduceWindowAdd (F := Ideal) ![1, 1, 1, 4096] ![1, 1, 1, 1] ![0, 0, 0, 4095] ![0, 0, 0, 0]
    reduceWindows_S8x2x8x4096_S8x2x8x4096_w1s1p0_0_w1s1p0_0_w1s1p0_0_w4096s1p4095_0 .single a v) = Ideal.hostReduceWindowAdd _ _ _ _ _ a v from fun _ => rfl]
  unfold Ideal.hostReduceWindowAdd Host.reduceWindow
  dsimp only
  rw [foldl_add, show (broadcastInDim S_ ![] bcast_S_S_ (constant (F := Ideal) S_ .f32 0x00000000#32) (Shape.Idx.first h_S_)) = (0 : EReal) by
    show Ideal.ofBits .f32 0x00000000#32 = 0
    simp [Ideal.ofBits, Ideal.ieee], zero_add, ← Fin.sum_univ_def]
  have hN : (⟨4, ![1, 1, 1, 4096]⟩ : Shape).numel = 4096 := by simp [Shape.numel, Fin.prod_univ_succ]
  have hs : ∀ n : Fin (⟨4, ![1, 1, 1, 4096]⟩ : Shape).numel, (⟨4, ![1, 1, 1, 4096]⟩ : Shape).rowMajor.symm n = ix4 (0 : Fin 1) (0 : Fin 1) (0 : Fin 1) (n.cast hN) := fun n =>
    ((⟨4, ![1, 1, 1, 4096]⟩ : Shape).rowMajor.symm_apply_eq).2 (Fin.ext (by rw [Shape.rowMajor_val_four]; simp))
  have hW : ∑ k : Fin (⟨4, ![1, 1, 1, 4096]⟩ : Shape).numel, (if 4095 ≤ l.val + k.val then f (l.val + k.val - 4095) else 0) = ∑ j ∈ Finset.range (l.val + 1), f j := by
    rw [Fin.sum_univ_eq_sum_range (fun k => if 4095 ≤ l.val + k then f (l.val + k - 4095) else 0), hN, window_sum f l.val l.isLt]
  refine Eq.trans ?_ hW
  refine Finset.sum_congr rfl fun n _ => ?_
  have hn : n.val < 4096 := by have := n.isLt; omega
  split
  · next hin =>
    have h3 := hin 3
    simp [hs n] at h3
    rw [if_pos (by omega), ← hf ⟨l.val + n.val - 4095, by omega⟩]
    congr 1
    funext a
    fin_cases a <;> refine Fin.ext ?_ <;> simp [hs n]
  · next hin =>
    rw [if_neg]
    intro h3
    apply hin
    intro a
    fin_cases a <;> simp [hs n]
    all_goals omega

end
end Cert.Proof.Ref
end
-- ==== Proof.ScanVal.lean ====
/- The reference's scan at an index, where its operands are real: one decayed sum over the whole sequence. -/
module

public import proofs.«01_k».proof.Proof.Scan
public import proofs.«01_k».proof.Proof.Seq

@[expose] public section

set_option maxRecDepth 16384

noncomputable section

namespace Cert.Proof.Ref

open Idealize.ShloMosaic Cert.ReferenceIdeal Cert.ReferenceIdeal.Gen Cert.Proof

/-- The operands of one direction's scan, at batch `b`, are these sequences. -/
structure Ops (x : FVec Ideal S8x4096x16x64 .f32) (dt : FVec Ideal S8x4096x16 .f32) (A : FVec Ideal S16 .f32) (B C : FVec Ideal S8x4096x2x128 .f32) (h : FVec Ideal S8x16x64x128 .f32)
    (b : Fin 8) (X : ℕ → Fin 1536 → ℝ) (D : ℕ → Fin 128 → ℝ) (A' : Fin 128 → ℝ) (H : Fin 128 → Fin 1024 → EReal) : Prop where
  x : ∀ (l : Fin 4096) (k : Fin 16) (p : Fin 64) (q : Fin 1024), q.val = k.val * 64 + p.val → x (ix4 b l k p) = ((X l.val (xcol q) : ℝ) : EReal)
  dt : ∀ (l : Fin 4096) (k : Fin 16) (q : Fin 1024), q.val / 64 = k.val → dt (ix3 b l k) = ((D l.val (hd q) : ℝ) : EReal)
  A : ∀ (k : Fin 16) (q : Fin 1024), q.val / 64 = k.val → A (ix1 k) = ((A' (hd q) : ℝ) : EReal)
  B : ∀ (l : Fin 4096) (g : Fin 2) (n : Fin 128) (q : Fin 1024), q.val / 512 = g.val → B (ix4 b l g n) = ((X l.val (bcol q n) : ℝ) : EReal)
  C : ∀ (l : Fin 4096) (g : Fin 2) (n : Fin 128) (q : Fin 1024), q.val / 512 = g.val → C (ix4 b l g n) = ((X l.val (ccol q n) : ℝ) : EReal)
  h : ∀ (k : Fin 16) (p : Fin 64) (n : Fin 128) (q : Fin 1024), q.val = k.val * 64 + p.val → h (ix4 b k p n) = H n q

variable {x : FVec Ideal S8x4096x16x64 .f32} {dt : FVec Ideal S8x4096x16 .f32} {A : FVec Ideal S16 .f32} {B C : FVec Ideal S8x4096x2x128 .f32} {h : FVec Ideal S8x16x64x128 .f32}
  {b : Fin 8} {X : ℕ → Fin 1536 → ℝ} {D : ℕ → Fin 128 → ℝ} {A' : Fin 128 → ℝ} {H : Fin 128 → Fin 1024 → EReal}
  (O : Ops x dt A B C h b X D A' H)
include O

/-- The running sum of the decay exponents. -/
theorem Ops.sum (g : Fin 2) (r : Fin 8) (l : Fin 4096) (q : Fin 1024) (hq : q.val / 64 = g.val * 8 + r.val) :
    runSum (expo dt A) (ix4 b g r l) = ((pre D A' (l.val + 1) (hd q) : ℝ) : EReal) := by
  have hf : ∀ j : Fin 4096, expo dt A (ix4 b g r j) = ((D j.val (hd q) * A' (hd q) : ℝ) : EReal) := fun j => by
    obtain ⟨k, hk⟩ : ∃ k : Fin 16, k.val = g.val * 8 + r.val := ⟨⟨g.val * 8 + r.val, by omega⟩, rfl⟩
    rw [expo_ix dt A b g r j k hk, O.dt j k q (by omega), O.A k q (by omega), ← EReal.coe_mul]
  generalize expo dt A = a at hf
  rw [runSum_ix a b g r l (fun j => ((D j (hd q) * A' (hd q) : ℝ) : EReal)) hf]
  unfold pre
  generalize hd q = i
  clear hf O hq
  induction l.val + 1 with
  | zero => simp
  | succ m ih => rw [Finset.sum_range_succ, Finset.sum_range_succ, ih, EReal.coe_add]

theorem Ops.xd (l : Fin 4096) (g : Fin 2) (r : Fin 8) (p : Fin 64) (q : Fin 1024) (hq : q.val = (g.val * 8 + r.val) * 64 + p.val) :
    xdt x dt (ix5 b l g r p) = ((X l.val (xcol q) * D l.val (hd q) : ℝ) : EReal) := by
  obtain ⟨k, hk⟩ : ∃ k : Fin 16, k.val = g.val * 8 + r.val := ⟨⟨g.val * 8 + r.val, by omega⟩, rfl⟩
  rw [xdt_ix x dt b l g r p k hk, O.x l k p q (by omega), O.dt l k q (by omega), ← EReal.coe_mul]

omit O in
theorem coe_exp (a : ℝ) : Ideal.exp ((a : ℝ) : EReal) = ((Real.exp a : ℝ) : EReal) := rfl

/-- The scan's rows. -/
theorem Ops.Y (l : Fin 4096) (k : Fin 16) (p : Fin 64) (q : Fin 1024) (hq : q.val = k.val * 64 + p.val) :
    scanY x dt A B C h (ix4 b l k p) = yOut X D A' H l.val q := by
  obtain ⟨g, hg⟩ : ∃ g : Fin 2, g.val = k.val / 8 := ⟨⟨k.val / 8, by omega⟩, rfl⟩
  obtain ⟨r, hr⟩ : ∃ r : Fin 8, r.val = k.val % 8 := ⟨⟨k.val % 8, by omega⟩, rfl⟩
  rw [scanY_ix x dt A B C h b l k p g r (by omega), diag_ix, O.sum g r l q (by omega), coe_exp]
  unfold yOut
  congr 1
  · rw [Finset.sum_range, ← sum_coe]
    refine Finset.sum_congr rfl fun s _ => ?_
    rw [O.xd s g r p q (by omega), wts_ix, lmat_ix, O.sum g r l q (by omega), O.sum g r s q (by omega)]
    have e : ∀ n : Fin 128, (C (ix4 b l g n) * B (ix4 b s g n) : EReal) = ((X l.val (ccol q n) * X s.val (bcol q n) : ℝ) : EReal) := fun n => by
      rw [O.C l g n q (by omega), O.B s g n q (by omega), ← EReal.coe_mul]
    simp only [e]
    rw [sum_coe]
    unfold term
    by_cases hs : s.val ≤ l.val
    · rw [if_pos hs, if_pos hs, ← EReal.coe_sub, coe_exp, ← EReal.coe_mul, ← EReal.coe_mul]
      congr 1
      ring
    · rw [if_neg hs, if_neg hs, mul_zero, mul_zero]; rfl
  · congr 1
    refine Finset.sum_congr rfl fun n _ => ?_
    rw [O.C l g n q (by omega), O.h k p n q hq, mul_comm]

/-- The scan's final state. -/
theorem Ops.S (k : Fin 16) (p : Fin 64) (n : Fin 128) (q : Fin 1024) (hq : q.val = k.val * 64 + p.val) :
    scanS x dt A B h (ix4 b k p n) = sAt X D A' H 4096 n q := by
  obtain ⟨g, hg⟩ : ∃ g : Fin 2, g.val = k.val / 8 := ⟨⟨k.val / 8, by omega⟩, rfl⟩
  obtain ⟨r, hr⟩ : ∃ r : Fin 8, r.val = k.val % 8 := ⟨⟨k.val % 8, by omega⟩, rfl⟩
  rw [scanS_ix x dt A B h b k p n g r (by omega), contrib_ix, O.sum g r 4095 q (by omega), coe_exp, O.h k p n q hq]
  unfold sAt acc
  congr 1
  rw [Finset.sum_range, ← sum_coe]
  refine Finset.sum_congr rfl fun s _ => ?_
  rw [O.xd s g r p q (by omega), O.sum g r s q (by omega), ← EReal.coe_sub, coe_exp, O.B s g n q (by omega), ← EReal.coe_mul, ← EReal.coe_mul]
  congr 1
  show _ = X s.val (bcol q n) * (X s.val (xcol q) * (Real.exp (pre D A' ((4095 : Fin 4096).val + 1) (hd q) - pre D A' (s.val + 1) (hd q)) * D s.val (hd q)))
  ring

end Cert.Proof.Ref

end
-- ==== Proof.RefOps.lean ====
/- What the reference's two scans are fed with, and what they leave. -/
module

public import proofs.«01_k».proof.Proof.ScanVal
public import proofs.«01_k».proof.Proof.Arrays

@[expose] public section

set_option maxRecDepth 16384

noncomputable section

namespace Cert.Proof.Ref

open Idealize.ShloMosaic Cert.ReferenceIdeal Cert.ReferenceIdeal.Gen Cert.ReferenceIdeal.Read Cert.Proof

variable (x : FVec Ideal S32768x1536 .bf16) (dt : FVec Ideal S2x32768x128 .f32) (al : FVec Ideal S2x16 .f32) (ds : FVec Ideal S16 .f32) (h0 : FVec Ideal S8x2x128x1024 .f32)

theorem v3_ix (b : Fin 8) (l : Fin 4096) (k : Fin 16) (p : Fin 64) (r : Fin 32768) (c : Fin 1536) (hr : r.val = 4096 * b.val + l.val) (hc : c.val = k.val * 64 + p.val) :
    val_main_v3 (F := Ideal) x (ix4 b l k p) = (x (ix2 r c) : EReal) := by
  pointwise [val_main_v3, val_main_v2, val_main_v1, val_main_v0]
  exact congrArg x (congrArg₂ (ix2) (Fin.ext (by dsimp only; omega)) (Fin.ext (by dsimp only; omega)))

theorem v5_ix (b : Fin 8) (l : Fin 4096) (g : Fin 2) (n : Fin 128) (r : Fin 32768) (c : Fin 1536) (hr : r.val = 4096 * b.val + l.val) (hc : c.val = 1024 + 128 * g.val + n.val) :
    val_main_v5 (F := Ideal) x (ix4 b l g n) = (x (ix2 r c) : EReal) := by
  pointwise [val_main_v5, val_main_v4, val_main_v1, val_main_v0]
  exact congrArg x (congrArg₂ (ix2) (Fin.ext (by dsimp only; omega)) (Fin.ext (by dsimp only; omega)))

theorem v7_ix (b : Fin 8) (l : Fin 4096) (g : Fin 2) (n : Fin 128) (r : Fin 32768) (c : Fin 1536) (hr : r.val = 4096 * b.val + l.val) (hc : c.val = 1280 + 128 * g.val + n.val) :
    val_main_v7 (F := Ideal) x (ix4 b l g n) = (x (ix2 r c) : EReal) := by
  pointwise [val_main_v7, val_main_v6, val_main_v1, val_main_v0]
  exact congrArg x (congrArg₂ (ix2) (Fin.ext (by dsimp only; omega)) (Fin.ext (by dsimp only; omega)))

theorem v15_ix (b : Fin 8) (l : Fin 4096) (k : Fin 16) (r : Fin 32768) (c : Fin 128) (hr : r.val = 4096 * b.val + l.val) (hc : c.val = k.val) :
    val_main_v15 (F := Ideal) dt (ix3 b l k) = (dt (ix3 0 r c) : EReal) := by
  pointwise [val_main_v15, val_main_v14, val_main_v9, val_main_v8]
  exact congrArg dt (congrArg₂ (ix3 _) (Fin.ext (by dsimp only; omega)) (Fin.ext (by dsimp only; omega)))

theorem v76_ix (b : Fin 8) (l : Fin 4096) (k : Fin 16) (r : Fin 32768) (c : Fin 128) (hr : r.val = 4096 * b.val + l.val) (hc : c.val = k.val) :
    val_main_v76 (F := Ideal) dt (ix3 b l k) = (dt (ix3 1 r c) : EReal) := by
  pointwise [val_main_v76, val_main_v75, val_main_v9, val_main_v8]
  exact congrArg dt (congrArg₂ (ix3 _) (Fin.ext (by dsimp only; omega)) (Fin.ext (by dsimp only; omega)))

theorem v17_ix (k : Fin 16) : val_main_v17 (F := Ideal) al (ix1 k) = (- Ideal.exp (al (ix2 0 k)) : EReal) := by
  pointwise [val_main_v17, val_main_v16, val_main_v11, val_main_v10]

theorem v79_ix (k : Fin 16) : val_main_v79 (F := Ideal) al (ix1 k) = (- Ideal.exp (al (ix2 1 k)) : EReal) := by
  pointwise [val_main_v79, val_main_v78, val_main_v11, val_main_v10]

theorem v19_ix (b : Fin 8) (k : Fin 16) (p : Fin 64) (n : Fin 128) (q : Fin 1024) (hq : q.val = k.val * 64 + p.val) :
    val_main_v19 (F := Ideal) h0 (ix4 b k p n) = (h0 (ix4 b 0 n q) : EReal) := by
  obtain ⟨q, hq'⟩ := q
  simp only at hq
  subst hq
  pointwise [val_main_v19, val_main_v18, val_main_v13, val_main_v12]

theorem v83_ix (b : Fin 8) (k : Fin 16) (p : Fin 64) (n : Fin 128) (q : Fin 1024) (hq : q.val = k.val * 64 + p.val) :
    val_main_v83 (F := Ideal) h0 (ix4 b k p n) = (h0 (ix4 b 1 n q) : EReal) := by
  obtain ⟨q, hq'⟩ := q
  simp only at hq
  subst hq
  pointwise [val_main_v83, val_main_v82, val_main_v13, val_main_v12]

/-- The forward rows are the scan of the arguments. -/
theorem v72_eq : val_main_v72 (F := Ideal) x dt al h0 = scanY (val_main_v3 (F := Ideal) x) (val_main_v15 (F := Ideal) dt) (val_main_v17 (F := Ideal) al) (val_main_v5 (F := Ideal) x) (val_main_v7 (F := Ideal) x) (val_main_v19 (F := Ideal) h0) := rfl

theorem v73_eq : val_main_v73 (F := Ideal) x dt al h0 = scanS (val_main_v3 (F := Ideal) x) (val_main_v15 (F := Ideal) dt) (val_main_v17 (F := Ideal) al) (val_main_v5 (F := Ideal) x) (val_main_v19 (F := Ideal) h0) := rfl

theorem v136_eq : val_main_v136 (F := Ideal) x dt al h0 = scanY (val_main_v74 (F := Ideal) x) (val_main_v77 (F := Ideal) dt) (val_main_v79 (F := Ideal) al) (val_main_v80 (F := Ideal) x) (val_main_v81 (F := Ideal) x) (val_main_v83 (F := Ideal) h0) := rfl

theorem v137_eq : val_main_v137 (F := Ideal) x dt al h0 = scanS (val_main_v74 (F := Ideal) x) (val_main_v77 (F := Ideal) dt) (val_main_v79 (F := Ideal) al) (val_main_v80 (F := Ideal) x) (val_main_v83 (F := Ideal) h0) := rfl

theorem row0 (b l : ℕ) : row 0 b l = 4096 * b + l := by unfold row; rw [if_pos rfl]
theorem row1 (b l : ℕ) : row 1 b l = 4096 * b + (4095 - l) := by unfold row; rw [if_neg (by decide)]

theorem flip4 (f : FVec Ideal S8x4096x16x64 .f32) (b : Fin 8) (l : Fin 4096) (k : Fin 16) (p : Fin 64) : Host.reverse [1] f (ix4 b l k p) = f (ix4 b l.rev k p) := by
  show f _ = f _
  exact congrArg f (funext fun a => by fin_cases a <;> rfl)

theorem flipBC (f : FVec Ideal S8x4096x2x128 .f32) (b : Fin 8) (l : Fin 4096) (g : Fin 2) (n : Fin 128) : Host.reverse [1] f (ix4 b l g n) = f (ix4 b l.rev g n) := by
  show f _ = f _
  exact congrArg f (funext fun a => by fin_cases a <;> rfl)

theorem flipDt (f : FVec Ideal S8x4096x16 .f32) (b : Fin 8) (l : Fin 4096) (k : Fin 16) : Host.reverse [1] f (ix3 b l k) = f (ix3 b l.rev k) := by
  show f _ = f _
  exact congrArg f (funext fun a => by fin_cases a <;> rfl)

theorem Hs_ix (d : Fin 2) (b : Fin 8) (n : Fin 128) (q : Fin 1024) : Hs h0 d b.val n q = (h0 (ix4 b d n q) : EReal) := by
  unfold Hs; rw [dif_pos b.isLt]

variable {x dt al}
variable (T : Tame x dt al)
include T

/-- The forward scan is fed with the arguments in their order. -/
theorem opsF (b : Fin 8) : Ops (val_main_v3 (F := Ideal) x) (val_main_v15 (F := Ideal) dt) (val_main_v17 (F := Ideal) al) (val_main_v5 (F := Ideal) x) (val_main_v7 (F := Ideal) x) (val_main_v19 (F := Ideal) h0)
    b (Xs x 0 b.val) (Ds dt 0 b.val) (As al 0) (Hs h0 0 b.val) where
  x l k p q hq := by
    rw [v3_ix x b l k p ⟨4096 * b.val + l.val, by omega⟩ (xcol q) rfl hq]
    exact Xs_coe T 0 _ _ _ (row0 _ _).symm _
  dt l k q hq := by
    rw [v15_ix dt b l k ⟨4096 * b.val + l.val, by omega⟩ (hd q) rfl hq]
    exact Ds_coe T 0 _ _ _ (row0 _ _).symm _ (by show q.val / 64 < 16; omega)
  A k q hq := by
    rw [v17_ix al k]
    exact As_coe T 0 _ _ hq.symm
  B l g n q hq := by
    rw [v5_ix x b l g n ⟨4096 * b.val + l.val, by omega⟩ (bcol q n) rfl (by show 1024 + 128 * (q.val / 512) + n.val = _; rw [hq])]
    exact Xs_coe T 0 _ _ _ (row0 _ _).symm _
  C l g n q hq := by
    rw [v7_ix x b l g n ⟨4096 * b.val + l.val, by omega⟩ (ccol q n) rfl (by show 1280 + 128 * (q.val / 512) + n.val = _; rw [hq])]
    exact Xs_coe T 0 _ _ _ (row0 _ _).symm _
  h k p n q hq := by rw [v19_ix h0 b k p n q hq, Hs_ix]

/-- The backward scan is fed with the arguments in reverse order. -/
theorem opsB (b : Fin 8) : Ops (val_main_v74 (F := Ideal) x) (val_main_v77 (F := Ideal) dt) (val_main_v79 (F := Ideal) al) (val_main_v80 (F := Ideal) x) (val_main_v81 (F := Ideal) x) (val_main_v83 (F := Ideal) h0)
    b (Xs x 1 b.val) (Ds dt 1 b.val) (As al 1) (Hs h0 1 b.val) where
  x l k p q hq := by
    unfold val_main_v74
    rw [flip4, v3_ix x b l.rev k p ⟨4096 * b.val + l.rev.val, by omega⟩ (xcol q) rfl hq]
    exact Xs_coe T 1 _ _ _ (by rw [row1]; simp only [Fin.val_rev]; omega) _
  dt l k q hq := by
    unfold val_main_v77
    rw [flipDt, v76_ix dt b l.rev k ⟨4096 * b.val + l.rev.val, by omega⟩ (hd q) rfl hq]
    exact Ds_coe T 1 _ _ _ (by rw [row1]; simp only [Fin.val_rev]; omega) _ (by show q.val / 64 < 16; omega)
  A k q hq := by
    rw [v79_ix al k]
    exact As_coe T 1 _ _ hq.symm
  B l g n q hq := by
    unfold val_main_v80
    rw [flipBC, v5_ix x b l.rev g n ⟨4096 * b.val + l.rev.val, by omega⟩ (bcol q n) rfl (by show 1024 + 128 * (q.val / 512) + n.val = _; rw [hq])]
    exact Xs_coe T 1 _ _ _ (by rw [row1]; simp only [Fin.val_rev]; omega) _
  C l g n q hq := by
    unfold val_main_v81
    rw [flipBC, v7_ix x b l.rev g n ⟨4096 * b.val + l.rev.val, by omega⟩ (ccol q n) rfl (by show 1280 + 128 * (q.val / 512) + n.val = _; rw [hq])]
    exact Xs_coe T 1 _ _ _ (by rw [row1]; simp only [Fin.val_rev]; omega) _
  h k p n q hq := by rw [v83_ix h0 b k p n q hq, Hs_ix]

end Cert.Proof.Ref

end
-- ==== Proof.RefRes.lean ====
/- The reference's three results are the same functions of the arguments as the kernel's. -/
module

public import proofs.«01_k».proof.Proof.RefOps

@[expose] public section

set_option maxRecDepth 16384

noncomputable section

namespace Cert.Proof.Ref

open Idealize.ShloMosaic Cert.ReferenceIdeal Cert.ReferenceIdeal.Gen Cert.ReferenceIdeal.Read Cert.Proof

variable (x : FVec Ideal S32768x1536 .bf16) (dt : FVec Ideal S2x32768x128 .f32) (al : FVec Ideal S2x16 .f32) (ds : FVec Ideal S16 .f32) (h0 : FVec Ideal S8x2x128x1024 .f32)

theorem v149_ix (r : Fin 32768) (q : Fin 1024) (b : Fin 8) (l : Fin 4096) (k : Fin 16) (p : Fin 64) (hr : r.val = 4096 * b.val + l.val) (hq : q.val = k.val * 64 + p.val) :
    val_main_v149 (F := Ideal) x dt al ds h0 (ix2 r q) = (val_main_v72 (F := Ideal) x dt al h0 (ix4 b l k p) + ds (ix1 k) * val_main_v3 (F := Ideal) x (ix4 b l k p) : EReal) := by
  pointwise [val_main_v149, val_main_v148, val_main_v142, val_main_v141, val_main_v140, val_main_v139, val_main_v138]
  have e0 : (⟨r.val / 4096, by omega⟩ : Fin 8) = b := Fin.ext (by dsimp only; omega)
  have e1 : (⟨r.val % 4096, by omega⟩ : Fin 4096) = l := Fin.ext (by dsimp only; omega)
  have e2 : (⟨q.val / 64, by omega⟩ : Fin 16) = k := Fin.ext (by dsimp only; omega)
  have e3 : (⟨q.val % 64, by omega⟩ : Fin 64) = p := Fin.ext (by dsimp only; omega)
  rw [e0, e1, e2, e3]

theorem v152_ix (r : Fin 32768) (q : Fin 1024) (b : Fin 8) (l : Fin 4096) (k : Fin 16) (p : Fin 64) (hr : r.val = 4096 * b.val + l.rev.val) (hq : q.val = k.val * 64 + p.val) :
    val_main_v152 (F := Ideal) x dt al h0 (ix2 r q) = (val_main_v136 (F := Ideal) x dt al h0 (ix4 b l k p) : EReal) := by
  have hl := l.rev.isLt
  pointwise [val_main_v152, val_main_v151]
  have e0 : (⟨r.val / 4096, by omega⟩ : Fin 8) = b := Fin.ext (by dsimp only; omega)
  have e1 : (⟨r.val % 4096, by omega⟩ : Fin 4096) = l.rev := Fin.ext (by dsimp only; omega)
  have e2 : (⟨q.val / 64, by omega⟩ : Fin 16) = k := Fin.ext (by dsimp only; omega)
  have e3 : (⟨q.val % 64, by omega⟩ : Fin 64) = p := Fin.ext (by dsimp only; omega)
  rw [e0, e1, e2, e3]
  unfold val_main_v150
  rw [flip4, Fin.rev_rev]

theorem v147_0 (b : Fin 8) (n : Fin 128) (q : Fin 1024) (k : Fin 16) (p : Fin 64) (hq : q.val = k.val * 64 + p.val) :
    val_main_v147 (F := Ideal) x dt al h0 (ix4 b 0 n q) = (val_main_v73 (F := Ideal) x dt al h0 (ix4 b k p n) : EReal) := by
  pointwise [val_main_v147, val_main_v146, val_main_v145, val_main_v144, val_main_v143]
  have e2 : (⟨q.val / 64, by omega⟩ : Fin 16) = k := Fin.ext (by dsimp only; omega)
  have e3 : (⟨q.val % 64, by omega⟩ : Fin 64) = p := Fin.ext (by dsimp only; omega)
  rw [e2, e3]

theorem v147_1 (b : Fin 8) (n : Fin 128) (q : Fin 1024) (k : Fin 16) (p : Fin 64) (hq : q.val = k.val * 64 + p.val) :
    val_main_v147 (F := Ideal) x dt al h0 (ix4 b 1 n q) = (val_main_v137 (F := Ideal) x dt al h0 (ix4 b k p n) : EReal) := by
  pointwise [val_main_v147, val_main_v146, val_main_v145, val_main_v144, val_main_v143]
  have e2 : (⟨q.val / 64, by omega⟩ : Fin 16) = k := Fin.ext (by dsimp only; omega)
  have e3 : (⟨q.val % 64, by omega⟩ : Fin 64) = p := Fin.ext (by dsimp only; omega)
  rw [e2, e3]

variable {x dt al}
variable (T : Tame x dt al)
include T

theorem res7 : val_main_v149 (F := Ideal) x dt al ds h0 = G7 x dt al ds h0 := by
  funext i
  rw [eq_ix2 i]
  generalize i 0 = r
  generalize i 1 = q
  change Fin 32768 at r
  change Fin 1024 at q
  obtain ⟨b, hb⟩ : ∃ b : Fin 8, b.val = r.val / 4096 := ⟨⟨r.val / 4096, by omega⟩, rfl⟩
  obtain ⟨l, hl⟩ : ∃ l : Fin 4096, l.val = r.val % 4096 := ⟨⟨r.val % 4096, by omega⟩, rfl⟩
  obtain ⟨k, hk⟩ : ∃ k : Fin 16, k.val = q.val / 64 := ⟨⟨q.val / 64, by omega⟩, rfl⟩
  obtain ⟨p, hp⟩ : ∃ p : Fin 64, p.val = q.val % 64 := ⟨⟨q.val % 64, by omega⟩, rfl⟩
  have hq : q.val = k.val * 64 + p.val := by omega
  refine (v149_ix x dt al ds h0 r q b l k p (by omega) hq).trans ?_
  rw [G7_ix x dt al ds h0 r q b.val l.val k hb hl hk, v72_eq, (opsF h0 T b).Y l k p q hq, (opsF h0 T b).x l k p q hq]
  rfl

theorem res8 : val_main_v152 (F := Ideal) x dt al h0 = G8 x dt al h0 := by
  funext i
  rw [eq_ix2 i]
  generalize i 0 = r
  generalize i 1 = q
  change Fin 32768 at r
  change Fin 1024 at q
  obtain ⟨b, hb⟩ : ∃ b : Fin 8, b.val = r.val / 4096 := ⟨⟨r.val / 4096, by omega⟩, rfl⟩
  obtain ⟨l, hl⟩ : ∃ l : Fin 4096, l.val = 4095 - r.val % 4096 := ⟨⟨4095 - r.val % 4096, by omega⟩, rfl⟩
  obtain ⟨k, hk⟩ : ∃ k : Fin 16, k.val = q.val / 64 := ⟨⟨q.val / 64, by omega⟩, rfl⟩
  obtain ⟨p, hp⟩ : ∃ p : Fin 64, p.val = q.val % 64 := ⟨⟨q.val % 64, by omega⟩, rfl⟩
  have hq : q.val = k.val * 64 + p.val := by omega
  refine (v152_ix x dt al h0 r q b l k p (by simp only [Fin.val_rev]; omega) hq).trans ?_
  rw [G8_ix x dt al h0 r q b.val l.val hb hl, v136_eq, (opsB h0 T b).Y l k p q hq]
  rfl

theorem res9 : val_main_v147 (F := Ideal) x dt al h0 = G9 x dt al h0 := by
  funext i
  rw [eq_ix4 i]
  generalize i 0 = b
  generalize i 1 = d
  generalize i 2 = n
  generalize i 3 = q
  change Fin 8 at b
  change Fin 2 at d
  change Fin 128 at n
  change Fin 1024 at q
  obtain ⟨k, hk⟩ : ∃ k : Fin 16, k.val = q.val / 64 := ⟨⟨q.val / 64, by omega⟩, rfl⟩
  obtain ⟨p, hp⟩ : ∃ p : Fin 64, p.val = q.val % 64 := ⟨⟨q.val % 64, by omega⟩, rfl⟩
  have hq : q.val = k.val * 64 + p.val := by omega
  obtain rfl | rfl : d = 0 ∨ d = 1 := by omega
  · refine (v147_0 x dt al h0 b n q k p hq).trans ?_
    rw [v73_eq, (opsF h0 T b).S k p n q hq]
    rfl
  · refine (v147_1 x dt al h0 b n q k p hq).trans ?_
    rw [v137_eq, (opsB h0 T b).S k p n q hq]
    rfl

end Cert.Proof.Ref

end
-- ==== Proof.SsdClaims.lean ====
/- The scan's claims: the frames, the named mask, and the kernel's three results equal to the reference's. -/
module

public import proofs.«01_k».proof.Proof.Pre
public import proofs.«01_k».proof.Proof.Results
public import proofs.«01_k».proof.Proof.RefRes
public import proofs.«01_k».proof.Proof.Gen.Kernel
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The reference runs, changes no argument and declares no semaphore. -/
theorem ref_frame : Cert.quiescent_ReferenceIdeal (hReferenceIdeal := Cert.ReferenceIdeal.Gen.facts) := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- The kernel and the reference end with equal results. -/
theorem ssd_algebraic : Cert.algebraic_KernelIdeal_ReferenceIdeal_pre_tame (hKernelIdeal := Cert.KernelIdeal.Gen.facts)
    (hReferenceIdeal := Cert.ReferenceIdeal.Gen.facts) (hPre_tame := preFacts) := by
  intro m g m' g' hpre hagree
  have T := fun c => @tame_of_pre preFacts _ _ _ _ _ (hpre c)
  refine ⟨_, _, _, Cert.KernelIdeal.Value.run_blocks (F := Ideal) m g, ?_⟩
  refine (θ_run Cert.ReferenceIdeal.defs _ _).mono (fun r h c => ?_) (Cert.ReferenceIdeal.Value.run (F := Ideal) m' g')
  obtain ⟨a0, a1, a2, a3, a4⟩ := hagree c
  obtain ⟨r0, r1, r2, rest⟩ := h c
  refine ⟨r0.trans ?_, r1.trans ?_, r2.trans ?_, rest⟩
  · rw [Cert.ReferenceIdeal.Read.val_main_v149_eq, a0, a1, a2, a3, a4]
    exact (Ref.res7 _ _ (T c)).trans (arr7 m (T c)).symm
  · rw [Cert.ReferenceIdeal.Read.val_main_v152_eq, a0, a1, a2, a4]
    exact (Ref.res8 _ (T c)).trans (arr8 m (T c)).symm
  · rw [Cert.ReferenceIdeal.Read.val_main_v147_eq, a0, a1, a2, a4]
    exact (Ref.res9 _ (T c)).trans (arr9 m (T c)).symm

end Cert.Proof

end
-- ==== Proof.FfnStep.lean ====
/- One step of the feed-forward kernel: what 256 hidden columns add to a row of the down projection. -/
module

public import proofs.«01_k».proof.Proof.Gen.Kernel2Ideal.Value
public import Idealize.ShloMosaic.Lib.Pipeline.ValueKit.Point
public import Idealize.ShloMosaic.Lib.Pointwise

@[expose] public section

set_option maxRecDepth 16384

noncomputable section

namespace Cert.Proof.Ffn

open Idealize.ShloMosaic Cert.Kernel2Ideal Cert.Kernel2Ideal.Gen

/-- The 256 hidden columns behind `a` and `b`, silu-gated and sent down by `w`. -/
def stepV (u : FVec Ideal S512x1024 .bf16) (a b : FVec Ideal S1024x256 .bf16) (w : FVec Ideal S256x1024 .bf16) : FVec Ideal S512x1024 .f32 :=
  matmul dot_S512x256_S256x1024_S512x1024_1_0_0_1_n_n none
    (truncf .bf16 (mulf (mulf (matmul dot_S512x1024_S1024x256_S512x256_1_0_0_1_n_n none u a (constant S512x256 .f32 0x00000000#32))
        (logistic (matmul dot_S512x1024_S1024x256_S512x256_1_0_0_1_n_n none u a (constant S512x256 .f32 0x00000000#32))))
      (matmul dot_S512x1024_S1024x256_S512x256_1_0_0_1_n_n none u b (constant S512x256 .f32 0x00000000#32))) bitsLt_bf16_f32)
    w (constant S512x1024 .f32 0x00000000#32)

theorem stepV_ix (u : FVec Ideal S512x1024 .bf16) (a b : FVec Ideal S1024x256 .bf16) (w : FVec Ideal S256x1024 .bf16) (s : Fin 512) (q : Fin 1024) :
    (stepV u a b w (ix2 s q) : EReal) = ∑ j : Fin 256, ((∑ k : Fin 1024, u (ix2 s k) * a (ix2 k j)) * Ideal.logistic (∑ k : Fin 1024, u (ix2 s k) * a (ix2 k j))
      * ∑ k : Fin 1024, u (ix2 s k) * b (ix2 k j)) * w (ix2 j q) := by
  pointwise [stepV]

theorem pay4_ix (v0 : Vec Ideal S512x1024 .f32) (v1 : Vec Ideal S1x9x1024 .f32) (v6 : Vec Ideal S1x1024 .f32) (s : Fin 512) (q : Fin 1024) :
    (k0_pay4 v0 v1 v6 (ix2 s q) : EReal) = v0 (ix2 s q) * Ideal.rsqrt (Ideal.div (∑ k : Fin 1024, v0 (ix2 s k) * v0 (ix2 s k)) (Ideal.ofBits FTy.f32 0x44800000#32) + Ideal.ofBits FTy.f32 0x358637BD#32)
      * v6 (ix2 0 q) * (1 + v1 (ix3 0 7 q)) + v1 (ix3 0 6 q) := by
  pointwise [k0_pay4, k0_pay2]

theorem pay5_eq (v0 : Vec Ideal S512x1024 .f32) (v1 : Vec Ideal S1x9x1024 .f32) (v6 : Vec Ideal S1x1024 .f32) (a b w) :
    k0_pay5 v0 v1 v6 a b w = stepV (k0_pay4 v0 v1 v6) a b w := rfl

theorem pay6_eq (u : FVec Ideal S512x1024 .bf16) (v : FVec Ideal S512x1024 .f32) (a b w a' b' w' a'' b'' w'') :
    k0_pay6 u v a b w a' b' w' a'' b'' w'' = addf (addf (addf v (stepV u a b w)) (stepV u a' b' w')) (stepV u a'' b'' w'') := rfl

theorem pay7_eq (u : FVec Ideal S512x1024 .bf16) (v : FVec Ideal S512x1024 .f32) (a b w a' b' w' a'' b'' w'') :
    k0_pay7 u v a b w a' b' w' a'' b'' w'' = addf (addf (addf v (stepV u a b w)) (stepV u a' b' w')) (stepV u a'' b'' w'') := rfl

theorem pay8_eq (u : FVec Ideal S512x1024 .bf16) (v : FVec Ideal S512x1024 .f32) (a b w a' b' w' a'' b'' w'') :
    k0_pay8 u v a b w a' b' w' a'' b'' w'' = addf (addf (addf v (stepV u a b w)) (stepV u a' b' w')) (stepV u a'' b'' w'') := rfl

/-- The closing half: the row normalised, gated and added to the row it started from. -/
def lastV (v0 : Vec Ideal S512x1024 .f32) (v5 : FVec Ideal S1x1024 .f32) (v : FVec Ideal S512x1024 .f32) (g : Vec Ideal S1x1024 .f32) : FVec Ideal S512x1024 .f32 :=
  addf v0 (mulf (broadcastTo S512x1024 (mulf (broadcast S1x1024 (Scalar.ofBits .f32 0x3F000000#32)) v5) broadcasts_S1x1024_S512x1024)
    (mulf (mulf v (broadcastTo S512x1024 (rsqrt (addf (divf (shapeCast S512x1 (multiReduction .add [1] S512 (mulf v v) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
      (broadcastTo S512x1024 (shapeCast S1x1024 g shapeCasts_S1x1024_S1x1024) broadcasts_S1x1024_S512x1024)))

theorem pay1_eq (v0 : Vec Ideal S512x1024 .f32) (v5 : FVec Ideal S1x1024 .f32) (u : FVec Ideal S512x1024 .bf16) (v : FVec Ideal S512x1024 .f32) (a b w g) :
    k0_pay1 v0 v5 u v a b w g = lastV v0 v5 (addf v (stepV u a b w)) g := rfl

theorem lastV_ix (v0 : Vec Ideal S512x1024 .f32) (v1 : Vec Ideal S1x9x1024 .f32) (v : FVec Ideal S512x1024 .f32) (g : Vec Ideal S1x1024 .f32) (s : Fin 512) (q : Fin 1024) :
    (lastV v0 (k0_pay3 v1) v g (ix2 s q) : EReal) = v0 (ix2 s q) + Ideal.ofBits FTy.f32 0x3F000000#32 * v1 (ix3 0 8 q)
      * (v (ix2 s q) * Ideal.rsqrt (Ideal.div (∑ k : Fin 1024, v (ix2 s k) * v (ix2 s k)) (Ideal.ofBits FTy.f32 0x44800000#32) + Ideal.ofBits FTy.f32 0x358637BD#32) * g (ix2 0 q)) := by
  pointwise [lastV, k0_pay3, k0_pay2]

end Cert.Proof.Ffn

end
-- ==== Proof.FfnSpec.lean ====
/- The feed-forward half-step as closed sums over its arguments' entries: what both programs are shown to compute. -/
module

public import Idealize.ShloMosaic.Lib.Pipeline.ValueKit.Point
public import Idealize.ShloMosaic.Lib.Pointwise

@[expose] public section

noncomputable section

namespace Cert.Proof.Ffn

open Idealize.ShloMosaic

/-- A row scaled to mean square one (1024 entries, and the small constant under the root), its entry `q` weighted by `g`. -/
def rms (f : Fin 1024 → EReal) (g : EReal) (q : Fin 1024) : EReal :=
  f q * Ideal.rsqrt (Ideal.div (∑ k : Fin 1024, f k * f k) (Ideal.ofBits FTy.f32 0x44800000#32) + Ideal.ofBits FTy.f32 0x358637BD#32) * g

/-- Hidden column `j` of a row `u`: the gate's silu times the up projection. -/
def hid (u : Fin 1024 → EReal) (wg wu : (⟨2, ![1024, 2816]⟩ : Shape).Idx → EReal) (j : Fin 2816) : EReal :=
  (∑ k : Fin 1024, u k * wg (ix2 k j)) * Ideal.logistic (∑ k : Fin 1024, u k * wg (ix2 k j)) * ∑ k : Fin 1024, u k * wu (ix2 k j)

/-- Entry `q` of the down projection. -/
def down (u : Fin 1024 → EReal) (wg wu : (⟨2, ![1024, 2816]⟩ : Shape).Idx → EReal) (wd : (⟨2, ![2816, 1024]⟩ : Shape).Idx → EReal) (q : Fin 1024) : EReal :=
  ∑ j : Fin 2816, hid u wg wu j * wd (ix2 j q)

/-- A normalised and modulated row. -/
def modRow (h : (⟨2, ![32768, 1024]⟩ : Shape).Idx → EReal) (md : (⟨3, ![16, 9, 1024]⟩ : Shape).Idx → EReal) (g : (⟨1, ![1024]⟩ : Shape).Idx → EReal)
    (b : Fin 16) (r : Fin 32768) (k : Fin 1024) : EReal :=
  rms (fun k => h (ix2 r k)) (g (ix1 k)) k * (1 + md (ix3 b 7 k)) + md (ix3 b 6 k)

/-- The half-step's entry at row `r` of batch `b` and column `q`. -/
def out (h : (⟨2, ![32768, 1024]⟩ : Shape).Idx → EReal) (md : (⟨3, ![16, 9, 1024]⟩ : Shape).Idx → EReal) (g g' : (⟨1, ![1024]⟩ : Shape).Idx → EReal)
    (wg wu : (⟨2, ![1024, 2816]⟩ : Shape).Idx → EReal) (wd : (⟨2, ![2816, 1024]⟩ : Shape).Idx → EReal) (b : Fin 16) (r : Fin 32768) (q : Fin 1024) : EReal :=
  h (ix2 r q) + Ideal.ofBits FTy.f32 0x3F000000#32 * md (ix3 b 8 q) * rms (down (modRow h md g b r) wg wu wd) (g' (ix1 q)) q

/-- The half-step's whole result. -/
def res (h : (⟨2, ![32768, 1024]⟩ : Shape).Idx → EReal) (md : (⟨3, ![16, 9, 1024]⟩ : Shape).Idx → EReal) (g g' : (⟨1, ![1024]⟩ : Shape).Idx → EReal)
    (wg wu : (⟨2, ![1024, 2816]⟩ : Shape).Idx → EReal) (wd : (⟨2, ![2816, 1024]⟩ : Shape).Idx → EReal) (i : (⟨2, ![32768, 1024]⟩ : Shape).Idx) : EReal :=
  out h md g g' wg wu wd ⟨(show Fin 32768 from i 0).val / 4096, by have := (show Fin 32768 from i 0).isLt; omega⟩ (i 0) (i 1)

theorem res_ix (h : (⟨2, ![32768, 1024]⟩ : Shape).Idx → EReal) (md g g' wg wu wd) (r : Fin 32768) (q : Fin 1024) (b : Fin 16) (hb : b.val = r.val / 4096) :
    res h md g g' wg wu wd (ix2 r q) = out h md g g' wg wu wd b r q := by
  obtain ⟨b, hb'⟩ := b
  simp only at hb
  subst hb
  rfl

/-- A sum over 2816 columns, 256 at a time. -/
theorem sum_chunks (f : Fin 2816 → EReal) : ∑ j : Fin 2816, f j = ∑ n : Fin 11, ∑ l : Fin 256, f ⟨256 * n.val + l.val, by omega⟩ := by
  rw [Fin.sum_univ_tiles 11 256 rfl f]
  refine Finset.sum_congr rfl fun n _ => Finset.sum_congr rfl fun l _ => congrArg f (Fin.ext ?_)
  dsimp only
  omega

/-- Eleven terms, one after another. -/
theorem sum_eleven (f : Fin 11 → EReal) : ∑ n : Fin 11, f n = f 0 + f 1 + f 2 + f 3 + f 4 + f 5 + f 6 + f 7 + f 8 + f 9 + f 10 := by
  simp only [Fin.sum_univ_castSucc, Finset.univ_eq_empty, Finset.sum_empty, zero_add]
  rfl

end Cert.Proof.Ffn

end
-- ==== Proof.FfnBlock.lean ====
/- The feed-forward kernel's block: what one grid step writes, from the blocks it reads. -/
module

public import proofs.«01_k».proof.Proof.FfnStep
public import proofs.«01_k».proof.Proof.FfnSpec

@[expose] public section

set_option maxRecDepth 16384

noncomputable section

namespace Cert.Proof.Ffn

open Idealize.ShloMosaic Cert.Kernel2Ideal Cert.Kernel2Ideal.Gen

/-- A load of a rectangle of a two-axis block, at an index. -/
theorem ldr {r c m n : ℕ} {e : EltTy} (x : (⟨2, ![r, c]⟩ : Shape).Idx → Elt Ideal e) (o o' : ℕ)
    (inb : ∀ a, (![o, o'] : Fin 2 → ℕ) a + (![m, n] : Fin 2 → ℕ) a ≤ (⟨2, ![r, c]⟩ : Shape).size a)
    (s : Fin m) (l : Fin n) (s' : Fin r) (k : Fin c) (hs : s'.val = o + s.val) (hk : k.val = o' + l.val) :
    View.ld x (Rect.unit (s := ⟨2, ![r, c]⟩) ![o, o'] ![m, n] inb) (ix2 s l) = x (ix2 s' k) :=
  View.ld_unit_apply_of x _ _ _ _ _ (by intro a; fin_cases a <;> simp [hs, hk])

variable (x4 x5 : Vec Ideal S1024x2816 .bf16) (x6 : Vec Ideal S2816x1024 .bf16)

/-- The hidden columns `o … o + 255` of the weights, in one step. -/
theorem step_ix (u : FVec Ideal S512x1024 .bf16) (o n : ℕ) (hn : n < 11) (ho : o = 256 * n) (i4 i5 i6) (s : Fin 512) (q : Fin 1024) :
    (stepV u (View.ld x4 (Rect.unit (s := S1024x2816) ![0, o] ![1024, 256] i4)) (View.ld x5 (Rect.unit (s := S1024x2816) ![0, o] ![1024, 256] i5))
      (View.ld x6 (Rect.unit (s := S2816x1024) ![o, 0] ![256, 1024] i6)) (ix2 s q) : EReal)
      = ∑ l : Fin 256, hid (fun k => u (ix2 s k)) x4 x5 ⟨256 * n + l.val, by omega⟩ * x6 (ix2 ⟨256 * n + l.val, by omega⟩ q) := by
  rw [stepV_ix]
  refine Finset.sum_congr rfl fun l _ => ?_
  obtain ⟨j, hj⟩ : ∃ j : Fin 2816, j.val = 256 * n + l.val := ⟨⟨256 * n + l.val, by omega⟩, rfl⟩
  have e4 : ∀ k : Fin 1024, View.ld x4 (Rect.unit (s := S1024x2816) ![0, o] ![1024, 256] i4) (ix2 k l) = x4 (ix2 k j) :=
    fun k => ldr x4 0 o i4 k l k j (by omega) (by omega)
  have e5 : ∀ k : Fin 1024, View.ld x5 (Rect.unit (s := S1024x2816) ![0, o] ![1024, 256] i5) (ix2 k l) = x5 (ix2 k j) :=
    fun k => ldr x5 0 o i5 k l k j (by omega) (by omega)
  have e6 : View.ld x6 (Rect.unit (s := S2816x1024) ![o, 0] ![256, 1024] i6) (ix2 l q) = x6 (ix2 j q) :=
    ldr x6 o 0 i6 l q j q (by omega) (by omega)
  have hjj : (⟨256 * n + l.val, by omega⟩ : Fin 2816) = j := Fin.ext hj.symm
  rw [hjj]
  unfold hid
  simp only [e4, e5, e6]

variable (x0 : Vec Ideal S512x1024 .f32) (x1 : Vec Ideal S1x9x1024 .f32) (x2 x3 : Vec Ideal S1x1024 .f32)

/-- What the body has accumulated after its eleven steps. -/
def accV (u : FVec Ideal S512x1024 .bf16) : FVec Ideal S512x1024 .f32 :=
  addf (addf (addf (addf (addf (addf (addf (addf (addf (addf (stepV u (View.ld x4 r0_3) (View.ld x5 r0_3) (View.ld x6 r0_4))
    (stepV u (View.ld x4 r0_5) (View.ld x5 r0_5) (View.ld x6 r0_6))) (stepV u (View.ld x4 r0_7) (View.ld x5 r0_7) (View.ld x6 r0_8)))
    (stepV u (View.ld x4 r0_9) (View.ld x5 r0_9) (View.ld x6 r0_10))) (stepV u (View.ld x4 r0_11) (View.ld x5 r0_11) (View.ld x6 r0_12)))
    (stepV u (View.ld x4 r0_13) (View.ld x5 r0_13) (View.ld x6 r0_14))) (stepV u (View.ld x4 r0_15) (View.ld x5 r0_15) (View.ld x6 r0_16)))
    (stepV u (View.ld x4 r0_17) (View.ld x5 r0_17) (View.ld x6 r0_18))) (stepV u (View.ld x4 r0_19) (View.ld x5 r0_19) (View.ld x6 r0_20)))
    (stepV u (View.ld x4 r0_21) (View.ld x5 r0_21) (View.ld x6 r0_22))) (stepV u (View.ld x4 r0_23) (View.ld x5 r0_23) (View.ld x6 r0_24))

theorem accV_ix (u : FVec Ideal S512x1024 .bf16) (s : Fin 512) (q : Fin 1024) :
    (accV x4 x5 x6 u (ix2 s q) : EReal) = down (fun k => u (ix2 s k)) x4 x5 x6 q := by
  unfold down
  rw [sum_chunks, sum_eleven]
  have st := step_ix x4 x5 x6 u
  unfold accV
  simp only [addf_apply, Ideal.addf_def]
  rw [st 0 0 (by omega) rfl, st 256 1 (by omega) rfl, st 512 2 (by omega) rfl, st 768 3 (by omega) rfl, st 1024 4 (by omega) rfl, st 1280 5 (by omega) rfl,
    st 1536 6 (by omega) rfl, st 1792 7 (by omega) rfl, st 2048 8 (by omega) rfl, st 2304 9 (by omega) rfl, st 2560 10 (by omega) rfl]
  rfl

theorem out7_eq : out0_7 x0 x1 x2 x3 x4 x5 x6 = lastV x0 (k0_pay3 x1) (accV x4 x5 x6 (k0_pay4 x0 x1 x2)) x3 := by
  unfold out0_7 k0_pay9
  rw [View.canon_cons_unit_lit' _ _ _ (by decide)]
  rw [pay1_eq, pay8_eq, pay7_eq, pay6_eq, pay5_eq]
  rw [View.ld_unit_lit' _ x0 (by decide), View.ld_unit_lit' _ x1 (by decide), View.ld_unit_lit' _ x2 (by decide), View.ld_unit_lit' _ x3 (by decide)]
  rfl

end Cert.Proof.Ffn

end
-- ==== Proof.FfnArr.lean ====
/- The feed-forward kernel's result array, as a function of its arguments. -/
module

public import proofs.«01_k».proof.Proof.FfnBlock

@[expose] public section

set_option maxRecDepth 16384

noncomputable section

namespace Cert.Proof.Ffn

open Idealize.ShloMosaic Idealize.ShloMosaic.TcCoe Idealize.SL.Sem Cert.Kernel2Ideal Cert.Kernel2Ideal.Gen
open Idealize.ShloMosaic.Pipeline (Dat)

variable (m : (ℓ : Loc nD τ sig) → Buf (Elt Ideal) ℓ)

theorem idxs : ∀ t : Fin cfg0.N, win0_0.index t = ![t.val, 0] ∧ win0_1.index t = ![t.val / 8, 0, 0]
    ∧ win0_2.index t = ![0, 0] ∧ win0_3.index t = ![0, 0] ∧ win0_4.index t = ![0, 0] ∧ win0_5.index t = ![0, 0] ∧ win0_6.index t = ![0, 0]
    ∧ win0_7.index t = ![t.val, 0] := by
  decide +kernel

theorem in0 (c : Dev nD) (t : Fin cfg0.N) (s : Fin 512) (k : Fin 1024) (r : Fin 32768) (hr : r.val = 512 * t.val + s.val) :
    iblk m c 0 t (ix2 s k) = m ((c : Thread nD τ).loc main_arg0) (ix2 r k) := by
  blk_ext [iblk, V, idxs t]

theorem in1 (c : Dev nD) (t : Fin cfg0.N) (j : Fin 9) (k : Fin 1024) (b : Fin 16) (hb : b.val = t.val / 8) :
    iblk m c 1 t (ix3 0 j k) = m ((c : Thread nD τ).loc main_arg1) (ix3 b j k) := by
  blk_ext [iblk, V, idxs t]

theorem in2 (c : Dev nD) (t : Fin cfg0.N) (k : Fin 1024) : iblk m c 2 t (ix2 0 k) = m ((c : Thread nD τ).loc main_arg2) (ix1 k) := by
  have : iblk m c 2 t (ix2 0 k) = V m c main_v0 (ix2 0 k) := by blk_ext [iblk, V, idxs t]
  rw [this]
  unfold V hostOps0
  simp only [List.flatten_cons, List.flatten_nil, List.cons_append, List.nil_append]
  entry_read
  pointwise

theorem in3 (c : Dev nD) (t : Fin cfg0.N) (k : Fin 1024) : iblk m c 3 t (ix2 0 k) = m ((c : Thread nD τ).loc main_arg3) (ix1 k) := by
  have : iblk m c 3 t (ix2 0 k) = V m c main_v1 (ix2 0 k) := by blk_ext [iblk, V, idxs t]
  rw [this]
  unfold V hostOps0
  simp only [List.flatten_cons, List.flatten_nil, List.cons_append, List.nil_append]
  entry_read
  pointwise

theorem in4 (c : Dev nD) (t : Fin cfg0.N) (k : Fin 1024) (j : Fin 2816) : iblk m c 4 t (ix2 k j) = m ((c : Thread nD τ).loc main_arg4) (ix2 k j) := by
  blk_ext [iblk, V, idxs t]

theorem in5 (c : Dev nD) (t : Fin cfg0.N) (k : Fin 1024) (j : Fin 2816) : iblk m c 5 t (ix2 k j) = m ((c : Thread nD τ).loc main_arg5) (ix2 k j) := by
  blk_ext [iblk, V, idxs t]

theorem in6 (c : Dev nD) (t : Fin cfg0.N) (j : Fin 2816) (k : Fin 1024) : iblk m c 6 t (ix2 j k) = m ((c : Thread nD τ).loc main_arg6) (ix2 j k) := by
  blk_ext [iblk, V, idxs t]

/-- What step `t` leaves in its block, from the arguments. -/
theorem block_ix (c : Dev nD) (t : Fin cfg0.N) (s : Fin 512) (q : Fin 1024) (r : Fin 32768) (hr : r.val = 512 * t.val + s.val) (b : Fin 16) (hb : b.val = t.val / 8) :
    (out0_7 (iblk m c 0 t) (iblk m c 1 t) (iblk m c 2 t) (iblk m c 3 t) (iblk m c 4 t) (iblk m c 5 t) (iblk m c 6 t) (ix2 s q) : EReal)
      = out (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) b r q := by
  rw [out7_eq, lastV_ix]
  simp only [accV_ix]
  have hu : (fun k : Fin 1024 => (k0_pay4 (iblk m c 0 t) (iblk m c 1 t) (iblk m c 2 t) (ix2 s k) : EReal))
      = modRow (m ((c : Thread nD τ).loc main_arg0)) (m ((c : Thread nD τ).loc main_arg1)) (m ((c : Thread nD τ).loc main_arg2)) b r := by
    funext k
    rw [pay4_ix, in1 m c t 7 k b hb, in1 m c t 6 k b hb, in2 m c t k]
    unfold modRow rms
    simp only [in0 m c t s _ r hr]
  have hd : ∀ u : Fin 1024 → EReal, down u (iblk m c 4 t) (iblk m c 5 t) (iblk m c 6 t)
      = down u (m ((c : Thread nD τ).loc main_arg4)) (m ((c : Thread nD τ).loc main_arg5)) (m ((c : Thread nD τ).loc main_arg6)) := by
    intro u
    funext q
    unfold down hid
    simp only [in4 m c t, in5 m c t, in6 m c t]
  rw [hu, hd, in0 m c t s q r hr, in1 m c t 8 q b hb, in3 m c t q]
  rfl

theorem arr7 (c : Dev nD) : (dats m 0 c).arrAt 7 cfg0.N
    = res (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (dats m 0 c).arrAt_eq_of_covers 7 _ (by decide +kernel) fun t hf y => ?_
  have ht : t.val < 64 := t.isLt
  blk_simp
  rw [after0_7]
  obtain ⟨s, q, rfl⟩ : ∃ (s : Fin 512) (q : Fin 1024), y = ix2 s q := ⟨_, _, eq_ix2 y⟩
  have e : (win0_7.blk t).view.emb (ix2 s q) = ix2 (⟨512 * t.val + s.val, by omega⟩ : Fin 32768) q := by blk_ext [idxs t]
  rw [e, res_ix _ _ _ _ _ _ _ _ q ⟨t.val / 8, by omega⟩ (by dsimp only; omega)]
  exact block_ix m c t s q _ rfl _ rfl

end Cert.Proof.Ffn

end
-- ==== Proof.FfnRef.lean ====
/- The feed-forward reference, at an index. -/
module

public import proofs.«01_k».proof.Proof.FfnSpec
public import proofs.«01_k».proof.Proof.Gen.Reference2Ideal.Read
public import proofs.«01_k».proof.Proof.Gen.Reference2Ideal.Run

@[expose] public section

set_option maxRecDepth 16384

noncomputable section

namespace Cert.Proof.Ffn

open Idealize.ShloMosaic Cert.Reference2Ideal Cert.Reference2Ideal.Gen Cert.Reference2Ideal.Read

variable (x0 : FVec Ideal S32768x1024 .f32) (x1 : FVec Ideal S16x9x1024 .f32) (x2 x3 : FVec Ideal S1024 .f32) (x4 x5 : FVec Ideal S1024x2816 .bf16) (x6 : FVec Ideal S2816x1024 .bf16)

theorem ref6_ix (b : Fin 8) (l : Fin 4096) (k : Fin 1024) (r : Fin 32768) (hr : r.val = 4096 * b.val + l.val) :
    (val_main_v6 (F := Ideal) x0 (ix3 b l k) : EReal) = x0 (ix2 r k) := by
  pointwise [val_main_v6]
  exact congrArg x0 (congrArg₂ (ix2) (Fin.ext (by dsimp only; omega)) rfl)

theorem ref8_ix (b : Fin 8) (k : Fin 1024) (b' : Fin 16) (hb : b'.val = b.val) :
    (val_main_v8 (F := Ideal) x1 (ix3 b 0 k) : EReal) = x1 (ix3 b' 6 k) := by
  obtain ⟨b', h'⟩ := b'
  simp only at hb
  subst hb
  pointwise [val_main_v8, val_main_v7, val_main_v2, val_main_v1, val_main_v0]

theorem ref10_ix (b : Fin 8) (k : Fin 1024) (b' : Fin 16) (hb : b'.val = b.val) :
    (val_main_v10 (F := Ideal) x1 (ix3 b 0 k) : EReal) = x1 (ix3 b' 7 k) := by
  obtain ⟨b', h'⟩ := b'
  simp only at hb
  subst hb
  pointwise [val_main_v10, val_main_v9, val_main_v2, val_main_v1, val_main_v0]

theorem ref36_ix (b : Fin 8) (k : Fin 1024) (b' : Fin 16) (hb : b'.val = b.val) :
    (val_main_v36 (F := Ideal) x1 (ix3 b 0 k) : EReal) = x1 (ix3 b' 8 k) := by
  obtain ⟨b', h'⟩ := b'
  simp only at hb
  subst hb
  pointwise [val_main_v36, val_main_v35, val_main_v2, val_main_v1, val_main_v0]

/-- The normalised and modulated row. -/
theorem ref29_ix (b : Fin 8) (l : Fin 4096) (k : Fin 1024) (r : Fin 32768) (hr : r.val = 4096 * b.val + l.val) (b' : Fin 16) (hb : b'.val = b.val) :
    (val_main_v29 (F := Ideal) x0 x1 x2 (ix3 b l k) : EReal) = modRow x0 x1 x2 b' r k := by
  pointwise [val_main_v29, val_main_v28, val_main_v27, val_main_v26, val_main_v25, val_main_v24, val_main_cst_2, val_main_v23, val_main_v22, val_main_v21, val_main_v20, val_main_v19,
    val_main_v18, val_main_v17, val_main_v16, val_main_cst_1, val_main_v15, val_main_v14, val_main_cst_0, val_main_v13, val_main_v12, val_main_cst, val_main_v11]
  simp only [ref6_ix x0 b l _ r hr, ref8_ix x1 b _ b' hb, ref10_ix x1 b _ b' hb]
  rfl

/-- The hidden row. -/
theorem ref33_ix (b : Fin 8) (l : Fin 4096) (j : Fin 2816) (r : Fin 32768) (hr : r.val = 4096 * b.val + l.val) (b' : Fin 16) (hb : b'.val = b.val) :
    (val_main_v33 (F := Ideal) x0 x1 x2 x4 x5 (ix3 b l j) : EReal) = hid (modRow x0 x1 x2 b' r) x4 x5 j := by
  pointwise [val_main_v33, val_main_v32, val_main_v31, val_main_call0_v5, val_main_call0_v4, val_main_call0_cst_0, val_main_call0_v3, val_main_call0_v2, val_main_call0_cst,
    val_main_call0_v1, val_main_call0_v0, val_main_v30, val_main_v4, val_main_v3]
  simp only [ref29_ix x0 x1 x2 b l _ r hr b' hb]
  rfl

/-- The row sent down. -/
theorem ref34_ix (b : Fin 8) (l : Fin 4096) (q : Fin 1024) (r : Fin 32768) (hr : r.val = 4096 * b.val + l.val) (b' : Fin 16) (hb : b'.val = b.val) :
    (val_main_v34 (F := Ideal) x0 x1 x2 x4 x5 x6 (ix3 b l q) : EReal) = down (modRow x0 x1 x2 b' r) x4 x5 x6 q := by
  pointwise [val_main_v34, val_main_v5]
  simp only [ref33_ix x0 x1 x2 x4 x5 b l _ r hr b' hb]
  rfl

theorem ref54_ix (b : Fin 8) (l : Fin 4096) (q : Fin 1024) (r : Fin 32768) (hr : r.val = 4096 * b.val + l.val) (b' : Fin 16) (hb : b'.val = b.val) :
    (val_main_v54 (F := Ideal) x0 x1 x2 x3 x4 x5 x6 (ix3 b l q) : EReal) = out x0 x1 x2 x3 x4 x5 x6 b' r q := by
  pointwise [val_main_v54, val_main_v53, val_main_v52, val_main_v51, val_main_v50, val_main_v49, val_main_v48, val_main_v47, val_main_v46, val_main_v45, val_main_v44, val_main_cst_6,
    val_main_v43, val_main_v42, val_main_cst_5, val_main_v41, val_main_v40, val_main_cst_4, val_main_v39, val_main_v38, val_main_v37, val_main_cst_3]
  simp only [ref34_ix x0 x1 x2 x4 x5 x6 b l _ r hr b' hb, ref6_ix x0 b l _ r hr, ref36_ix x1 b _ b' hb]
  rfl

theorem ref_eq : val_main_v55 (F := Ideal) x0 x1 x2 x3 x4 x5 x6 = res x0 x1 x2 x3 x4 x5 x6 := by
  funext i
  rw [eq_ix2 i]
  generalize i 0 = r
  generalize i 1 = q
  change Fin 32768 at r
  change Fin 1024 at q
  rw [res_ix _ _ _ _ _ _ _ r q ⟨r.val / 4096, by omega⟩ rfl]
  pointwise [val_main_v55]
  refine (congrArg (val_main_v54 (F := Ideal) x0 x1 x2 x3 x4 x5 x6) ?_).trans (ref54_ix x0 x1 x2 x3 x4 x5 x6 ⟨r.val / 4096, by omega⟩ ⟨r.val % 4096, by omega⟩ q r (by dsimp only; omega) _ rfl)
  congr 1 <;> first | rfl | exact Fin.ext (by dsimp only; omega)

end Cert.Proof.Ffn

end
-- ==== Proof.FfnClaims.lean ====
/- The feed-forward half-step: kernel and reference end alike. -/
module

public import proofs.«01_k».proof.Proof.FfnArr
public import proofs.«01_k».proof.Proof.FfnRef
public import proofs.«01_k».proof.Proof.Gen.Kernel2Ideal.Frame
public import proofs.«01_k».proof.Defs
public import Idealize.ShloMosaic.Adequacy
public import Idealize.ShloMosaic.Init

@[expose] public section

set_option maxRecDepth 16384

noncomputable section

namespace Cert.Proof.Ffn

open Idealize.ShloMosaic Idealize.SL.Sem

theorem ref_frame : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

theorem value : Cert.algebraic_Kernel2Ideal_Reference2Ideal (hKernel2Ideal := Cert.Kernel2Ideal.Gen.facts) (hReference2Ideal := Cert.Reference2Ideal.Gen.facts) := by
  intro m g m' g' hpre hagree
  refine ⟨_, Cert.Kernel2Ideal.Value.run_blocks (F := Ideal) m g, ?_⟩
  refine (θ_run Cert.Reference2Ideal.defs _ _).mono (fun r h c => ?_) (Cert.Reference2Ideal.Value.run (F := Ideal) m' g')
  obtain ⟨a0, a1, a2, a3, a4, a5, a6⟩ := hagree c
  obtain ⟨r0, rest⟩ := h c
  refine ⟨r0.trans ?_, rest⟩
  rw [Cert.Reference2Ideal.Read.val_main_v55_eq, a0, a1, a2, a3, a4, a5, a6]
  exact (ref_eq ..).trans (arr7 m c).symm

end Cert.Proof.Ffn

end
-- ==== Proof.PostBody.lean ====
/- The output projection's block: what one grid step writes, from the blocks it reads; and its closed sums. -/
module

public import proofs.«01_k».proof.Proof.FfnSpec
public import proofs.«01_k».proof.Proof.Gen.Kernel3Ideal.Value

@[expose] public section

set_option maxRecDepth 16384

noncomputable section

namespace Cert.Proof.Post

open Idealize.ShloMosaic Cert.Kernel3Ideal Cert.Kernel3Ideal.Gen Cert.Proof.Ffn

/-- A row of the projection: the scan's part, the conformer's part and the short convolution's part, each with its rows of the weights. -/
def proj (u : Fin 1024 → EReal) (y z : Fin 512 → EReal) (w : (⟨2, ![2048, 1024]⟩ : Shape).Idx → EReal) (q : Fin 1024) : EReal :=
  (∑ k : Fin 1024, u k * w (ix2 ⟨k.val, by omega⟩ q)) + (∑ k : Fin 512, y k * w (ix2 ⟨1024 + k.val, by omega⟩ q))
    + ∑ k : Fin 512, z k * w (ix2 ⟨1536 + k.val, by omega⟩ q)

/-- The gated and normalised row of the scan. -/
def scanRow (a b z : (⟨2, ![32768, 1024]⟩ : Shape).Idx → EReal) (g : (⟨1, ![1024]⟩ : Shape).Idx → EReal) (r : Fin 32768) (k : Fin 1024) : EReal :=
  rms (fun k => (a (ix2 r k) + b (ix2 r k)) * z (ix2 r k)) (g (ix1 k)) k

/-- The projection's entry at row `r` of batch `b` and column `q`. -/
def out (h a a' z : (⟨2, ![32768, 1024]⟩ : Shape).Idx → EReal) (y y' : (⟨2, ![32768, 512]⟩ : Shape).Idx → EReal) (md : (⟨3, ![16, 9, 1024]⟩ : Shape).Idx → EReal)
    (g g' : (⟨1, ![1024]⟩ : Shape).Idx → EReal) (w : (⟨2, ![2048, 1024]⟩ : Shape).Idx → EReal) (b : Fin 16) (r : Fin 32768) (q : Fin 1024) : EReal :=
  h (ix2 r q) + md (ix3 b 5 q) * rms (proj (scanRow a a' z g r) (fun k => y (ix2 r k)) (fun k => y' (ix2 r k)) w) (g' (ix1 q)) q

/-- The whole result. -/
def res (h a a' z : (⟨2, ![32768, 1024]⟩ : Shape).Idx → EReal) (y y' : (⟨2, ![32768, 512]⟩ : Shape).Idx → EReal) (md : (⟨3, ![16, 9, 1024]⟩ : Shape).Idx → EReal)
    (g g' : (⟨1, ![1024]⟩ : Shape).Idx → EReal) (w : (⟨2, ![2048, 1024]⟩ : Shape).Idx → EReal) (i : (⟨2, ![32768, 1024]⟩ : Shape).Idx) : EReal :=
  out h a a' z y y' md g g' w ⟨(show Fin 32768 from i 0).val / 4096, by have := (show Fin 32768 from i 0).isLt; omega⟩ (i 0) (i 1)

theorem res_ix (h a a' z : (⟨2, ![32768, 1024]⟩ : Shape).Idx → EReal) (y y' md g g' w) (r : Fin 32768) (q : Fin 1024) (b : Fin 16) (hb : b.val = r.val / 4096) :
    res h a a' z y y' md g g' w (ix2 r q) = out h a a' z y y' md g g' w b r q := by
  obtain ⟨b, hb'⟩ := b
  simp only at hb
  subst hb
  rfl

/-- The first two products of the projection. -/
theorem pay3_ix (v3 v5 v8 : Vec Ideal S512x1024 .bf16) (v11 : Vec Ideal S1x1024 .f32) (v26 : Vec Ideal S1024x1024 .bf16) (v29 : Vec Ideal S512x512 .bf16) (v30 : Vec Ideal S512x1024 .bf16)
    (s : Fin 512) (q : Fin 1024) : (k0_pay3 v3 v5 v8 v11 v26 v29 v30 (ix2 s q) : EReal)
      = (∑ k : Fin 1024, rms (fun k => (v3 (ix2 s k) + v5 (ix2 s k)) * v8 (ix2 s k)) (v11 (ix2 0 k)) k * v26 (ix2 k q)) + ∑ k : Fin 512, v29 (ix2 s k) * v30 (ix2 k q) := by
  unfold rms
  pointwise [k0_pay3]

/-- The third product, and the closing half. -/
theorem pay1_ix (v0 : Vec Ideal S1x9x1024 .f32) (v33 : FVec Ideal S512x1024 .f32) (v34 : Vec Ideal S512x512 .bf16) (v35 : Vec Ideal S512x1024 .bf16) (v39 : Vec Ideal S512x1024 .f32) (v40 : Vec Ideal S1x1024 .f32)
    (s : Fin 512) (q : Fin 1024) : (k0_pay1 (k0_pay2 v0) v33 v34 v35 v39 v40 (ix2 s q) : EReal)
      = v39 (ix2 s q) + v0 (ix3 0 5 q) * rms (fun q => (v33 (ix2 s q) : EReal) + ∑ k : Fin 512, v34 (ix2 s k) * v35 (ix2 k q)) (v40 (ix2 0 q)) q := by
  unfold rms
  pointwise [k0_pay1, k0_pay2]

theorem out12_eq (x0 x1 x2 x3 x4 x5 x6 x7 x8 x9 x10 x11) :
    out0_12 (F := Ideal) x0 x1 x2 x3 x4 x5 x6 x7 x8 x9 x10 x11 = k0_pay1 (k0_pay2 x6) (k0_pay3 x1 x2 x3 x7 x9 x4 x10) x5 x11 x0 x8 := by
  unfold out0_12
  rw [View.canon_cons_unit_lit' _ _ _ (by decide)]
  rw [View.ld_unit_lit' _ x0 (by decide), View.ld_unit_lit' _ x1 (by decide), View.ld_unit_lit' _ x2 (by decide), View.ld_unit_lit' _ x3 (by decide), View.ld_unit_lit' _ x4 (by decide),
    View.ld_unit_lit' _ x5 (by decide), View.ld_unit_lit' _ x6 (by decide), View.ld_unit_lit' _ x7 (by decide), View.ld_unit_lit' _ x8 (by decide), View.ld_unit_lit' _ x9 (by decide),
    View.ld_unit_lit' _ x10 (by decide), View.ld_unit_lit' _ x11 (by decide)]

end Cert.Proof.Post

end
-- ==== Proof.PostArr.lean ====
/- The output projection's result array, as a function of its arguments. -/
module

public import proofs.«01_k».proof.Proof.PostBody

@[expose] public section

set_option maxRecDepth 16384

noncomputable section

namespace Cert.Proof.Post

open Idealize.ShloMosaic Idealize.ShloMosaic.TcCoe Idealize.SL.Sem Cert.Kernel3Ideal Cert.Kernel3Ideal.Gen Cert.Proof.Ffn
open Idealize.ShloMosaic.Pipeline (Dat)

variable (m : (ℓ : Loc nD τ sig) → Buf (Elt Ideal) ℓ)

theorem idxs : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val / 8, 0, 0]
    ∧ win0_7.index t = ![0, 0] ∧ win0_8.index t = ![0, 0] ∧ win0_9.index t = ![0, 0] ∧ win0_10.index t = ![0, 0] ∧ win0_11.index t = ![0, 0]
    ∧ win0_12.index t = ![t.val, 0] := by
  decide +kernel

theorem in0 (c : Dev nD) (t : Fin cfg0.N) (s : Fin 512) (k : Fin 1024) (r : Fin 32768) (hr : r.val = 512 * t.val + s.val) :
    iblk m c 0 t (ix2 s k) = m ((c : Thread nD τ).loc main_arg0) (ix2 r k) := by
  blk_ext [iblk, V, idxs t]

theorem in1 (c : Dev nD) (t : Fin cfg0.N) (s : Fin 512) (k : Fin 1024) (r : Fin 32768) (hr : r.val = 512 * t.val + s.val) :
    iblk m c 1 t (ix2 s k) = m ((c : Thread nD τ).loc main_arg1) (ix2 r k) := by
  blk_ext [iblk, V, idxs t]

theorem in2 (c : Dev nD) (t : Fin cfg0.N) (s : Fin 512) (k : Fin 1024) (r : Fin 32768) (hr : r.val = 512 * t.val + s.val) :
    iblk m c 2 t (ix2 s k) = m ((c : Thread nD τ).loc main_arg2) (ix2 r k) := by
  blk_ext [iblk, V, idxs t]

theorem in3 (c : Dev nD) (t : Fin cfg0.N) (s : Fin 512) (k : Fin 1024) (r : Fin 32768) (hr : r.val = 512 * t.val + s.val) :
    iblk m c 3 t (ix2 s k) = m ((c : Thread nD τ).loc main_arg3) (ix2 r k) := by
  blk_ext [iblk, V, idxs t]

theorem in4 (c : Dev nD) (t : Fin cfg0.N) (s : Fin 512) (k : Fin 512) (r : Fin 32768) (hr : r.val = 512 * t.val + s.val) :
    iblk m c 4 t (ix2 s k) = m ((c : Thread nD τ).loc main_arg4) (ix2 r k) := by
  blk_ext [iblk, V, idxs t]

theorem in5 (c : Dev nD) (t : Fin cfg0.N) (s : Fin 512) (k : Fin 512) (r : Fin 32768) (hr : r.val = 512 * t.val + s.val) :
    iblk m c 5 t (ix2 s k) = m ((c : Thread nD τ).loc main_arg5) (ix2 r k) := by
  blk_ext [iblk, V, idxs t]

theorem in6 (c : Dev nD) (t : Fin cfg0.N) (j : Fin 9) (k : Fin 1024) (b : Fin 16) (hb : b.val = t.val / 8) :
    iblk m c 6 t (ix3 0 j k) = m ((c : Thread nD τ).loc main_arg6) (ix3 b j k) := by
  blk_ext [iblk, V, idxs t]

theorem in7 (c : Dev nD) (t : Fin cfg0.N) (k : Fin 1024) : iblk m c 7 t (ix2 0 k) = m ((c : Thread nD τ).loc main_arg7) (ix1 k) := by
  have : iblk m c 7 t (ix2 0 k) = V m c main_v3 (ix2 0 k) := by blk_ext [iblk, V, idxs t]
  rw [this]
  unfold V hostOps0
  entry_read
  pointwise

theorem in8 (c : Dev nD) (t : Fin cfg0.N) (k : Fin 1024) : iblk m c 8 t (ix2 0 k) = m ((c : Thread nD τ).loc main_arg8) (ix1 k) := by
  have : iblk m c 8 t (ix2 0 k) = V m c main_v4 (ix2 0 k) := by blk_ext [iblk, V, idxs t]
  rw [this]
  unfold V hostOps0
  entry_read
  pointwise

theorem in9 (c : Dev nD) (t : Fin cfg0.N) (k : Fin 1024) (q : Fin 1024) : iblk m c 9 t (ix2 k q) = m ((c : Thread nD τ).loc main_arg9) (ix2 ⟨k.val, by omega⟩ q) := by
  have : iblk m c 9 t (ix2 k q) = V m c main_v0 (ix2 k q) := by blk_ext [iblk, V, idxs t]
  rw [this]
  unfold V hostOps0
  entry_read
  pointwise

theorem in10 (c : Dev nD) (t : Fin cfg0.N) (k : Fin 512) (q : Fin 1024) : iblk m c 10 t (ix2 k q) = m ((c : Thread nD τ).loc main_arg9) (ix2 ⟨1024 + k.val, by omega⟩ q) := by
  have : iblk m c 10 t (ix2 k q) = V m c main_v1 (ix2 k q) := by blk_ext [iblk, V, idxs t]
  rw [this]
  unfold V hostOps0
  entry_read
  pointwise

theorem in11 (c : Dev nD) (t : Fin cfg0.N) (k : Fin 512) (q : Fin 1024) : iblk m c 11 t (ix2 k q) = m ((c : Thread nD τ).loc main_arg9) (ix2 ⟨1536 + k.val, by omega⟩ q) := by
  have : iblk m c 11 t (ix2 k q) = V m c main_v2 (ix2 k q) := by blk_ext [iblk, V, idxs t]
  rw [this]
  unfold V hostOps0
  entry_read
  pointwise

/-- What step `t` leaves in its block, from the arguments. -/
theorem block_ix (c : Dev nD) (t : Fin cfg0.N) (s : Fin 512) (q : Fin 1024) (r : Fin 32768) (hr : r.val = 512 * t.val + s.val) (b : Fin 16) (hb : b.val = t.val / 8) :
    (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 s q) : EReal)
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b r q := by
  rw [out12_eq, pay1_ix]
  unfold out
  have hp : (fun q : Fin 1024 => (k0_pay3 (iblk m c 1 t) (iblk m c 2 t) (iblk m c 3 t) (iblk m c 7 t) (iblk m c 9 t) (iblk m c 4 t) (iblk m c 10 t) (ix2 s q) : EReal)
        + ∑ k : Fin 512, (show EReal from iblk m c 5 t (ix2 s k)) * (show EReal from iblk m c 11 t (ix2 k q)))
      = proj (scanRow (m ((c : Thread nD τ).loc main_arg1)) (m ((c : Thread nD τ).loc main_arg2)) (m ((c : Thread nD τ).loc main_arg3)) (m ((c : Thread nD τ).loc main_arg7)) r)
          (fun k => m ((c : Thread nD τ).loc main_arg4) (ix2 r k)) (fun k => m ((c : Thread nD τ).loc main_arg5) (ix2 r k)) (m ((c : Thread nD τ).loc main_arg9)) := by
    funext q
    rw [pay3_ix]
    unfold proj scanRow
    simp only [in1 m c t s _ r hr, in2 m c t s _ r hr, in3 m c t s _ r hr, in4 m c t s _ r hr, in5 m c t s _ r hr, in7 m c t, in9 m c t, in10 m c t, in11 m c t]
  rw [hp, in0 m c t s q r hr, in6 m c t 5 q b hb, in8 m c t q]

theorem arr12 (c : Dev nD) : (dats m 0 c).arrAt 12 cfg0.N
    = res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 12 _ (by decide +kernel) fun t hf y => ?_
  have ht : t.val < 64 := t.isLt
  blk_simp
  rw [after0_12]
  obtain ⟨s, q, rfl⟩ : ∃ (s : Fin 512) (q : Fin 1024), y = ix2 s q := ⟨_, _, eq_ix2 y⟩
  have e : (win0_12.blk t).view.emb (ix2 s q) = ix2 (⟨512 * t.val + s.val, by omega⟩ : Fin 32768) q := by blk_ext [idxs t]
  rw [e, res_ix _ _ _ _ _ _ _ _ _ _ _ q ⟨t.val / 8, by omega⟩ (by dsimp only; omega)]
  exact block_ix m c t s q _ rfl _ rfl

end Cert.Proof.Post

end
-- ==== Proof.PostRef.lean ====
/- The output projection's reference, at an index. -/
module

public import proofs.«01_k».proof.Proof.PostBody
public import proofs.«01_k».proof.Proof.Gen.Reference3Ideal.Read
public import proofs.«01_k».proof.Proof.Gen.Reference3Ideal.Run

@[expose] public section

set_option maxRecDepth 16384

noncomputable section

namespace Cert.Proof.Post

open Idealize.ShloMosaic Cert.Reference3Ideal Cert.Reference3Ideal.Gen Cert.Reference3Ideal.Read Cert.Proof.Ffn

variable (x0 : FVec Ideal S32768x1024 .f32) (x1 x2 x3 : FVec Ideal S32768x1024 .bf16) (x4 x5 : FVec Ideal S32768x512 .bf16) (x6 : FVec Ideal S16x9x1024 .f32)
  (x7 x8 : FVec Ideal S1024 .f32) (x9 : FVec Ideal S2048x1024 .bf16)

theorem ref0_ix (b : Fin 8) (l : Fin 4096) (k : Fin 1024) (r : Fin 32768) (hr : r.val = 4096 * b.val + l.val) :
    (val_main_v0 (F := Ideal) x0 (ix3 b l k) : EReal) = x0 (ix2 r k) := by
  pointwise [val_main_v0]
  exact congrArg x0 (congrArg₂ (ix2) (Fin.ext (by dsimp only; omega)) rfl)

theorem ref2_ix (b : Fin 8) (l : Fin 4096) (k : Fin 1024) (r : Fin 32768) (hr : r.val = 4096 * b.val + l.val) :
    (val_main_v2 (F := Ideal) x1 (ix3 b l k) : EReal) = x1 (ix2 r k) := by
  pointwise [val_main_v2, val_main_v1]
  exact congrArg x1 (congrArg₂ (ix2) (Fin.ext (by dsimp only; omega)) rfl)

theorem ref4_ix (b : Fin 8) (l : Fin 4096) (k : Fin 1024) (r : Fin 32768) (hr : r.val = 4096 * b.val + l.val) :
    (val_main_v4 (F := Ideal) x2 (ix3 b l k) : EReal) = x2 (ix2 r k) := by
  pointwise [val_main_v4, val_main_v3]
  exact congrArg x2 (congrArg₂ (ix2) (Fin.ext (by dsimp only; omega)) rfl)

theorem ref6_ix (b : Fin 8) (l : Fin 4096) (k : Fin 1024) (r : Fin 32768) (hr : r.val = 4096 * b.val + l.val) :
    (val_main_v6 (F := Ideal) x3 (ix3 b l k) : EReal) = x3 (ix2 r k) := by
  pointwise [val_main_v6, val_main_v5]
  exact congrArg x3 (congrArg₂ (ix2) (Fin.ext (by dsimp only; omega)) rfl)

theorem ref8_ix (b : Fin 8) (l : Fin 4096) (k : Fin 512) (r : Fin 32768) (hr : r.val = 4096 * b.val + l.val) :
    (val_main_v8 (F := Ideal) x4 (ix3 b l k) : EReal) = x4 (ix2 r k) := by
  pointwise [val_main_v8, val_main_v7]
  exact congrArg x4 (congrArg₂ (ix2) (Fin.ext (by dsimp only; omega)) rfl)

theorem ref10_ix (b : Fin 8) (l : Fin 4096) (k : Fin 512) (r : Fin 32768) (hr : r.val = 4096 * b.val + l.val) :
    (val_main_v10 (F := Ideal) x5 (ix3 b l k) : EReal) = x5 (ix2 r k) := by
  pointwise [val_main_v10, val_main_v9]
  exact congrArg x5 (congrArg₂ (ix2) (Fin.ext (by dsimp only; omega)) rfl)

theorem ref33_ix (b : Fin 8) (k : Fin 1024) (b' : Fin 16) (hb : b'.val = b.val) :
    (val_main_v33 (F := Ideal) x6 (ix3 b 0 k) : EReal) = x6 (ix3 b' 5 k) := by
  obtain ⟨b', h'⟩ := b'
  simp only at hb
  subst hb
  pointwise [val_main_v33, val_main_v32, val_main_v13, val_main_v12, val_main_v11]

/-- The scan's row, gated and normalised. -/
theorem ref28_ix (b : Fin 8) (l : Fin 4096) (k : Fin 1024) (r : Fin 32768) (hr : r.val = 4096 * b.val + l.val) :
    (val_main_v28 (F := Ideal) x1 x2 x3 x7 (ix3 b l k) : EReal) = scanRow x1 x2 x3 x7 r k := by
  pointwise [val_main_v28, val_main_v27, val_main_v26, val_main_v25, val_main_v24, val_main_v23, val_main_v22, val_main_v21, val_main_cst_1, val_main_v20, val_main_v19, val_main_cst_0,
    val_main_v18, val_main_v17, val_main_cst, val_main_v16, val_main_v15, val_main_v14]
  simp only [ref2_ix x1 b l _ r hr, ref4_ix x2 b l _ r hr, ref6_ix x3 b l _ r hr]
  rfl

/-- The projected row: the sum over the joined axis, cut at the joints. -/
theorem ref31_ix (b : Fin 8) (l : Fin 4096) (q : Fin 1024) (r : Fin 32768) (hr : r.val = 4096 * b.val + l.val) :
    (val_main_v31 (F := Ideal) x1 x2 x3 x4 x5 x7 x9 (ix3 b l q) : EReal) = proj (scanRow x1 x2 x3 x7 r) (fun k => x4 (ix2 r k)) (fun k => x5 (ix2 r k)) x9 q := by
  pointwise [val_main_v31, val_main_v30, val_main_v29, sumSplitAll]
  simp only [ref28_ix x1 x2 x3 x7 b l _ r hr, ref8_ix x4 b l _ r hr, ref10_ix x5 b l _ r hr, ← Nat.add_assoc]
  exact (add_assoc _ _ _).symm

theorem ref51_ix (b : Fin 8) (l : Fin 4096) (q : Fin 1024) (r : Fin 32768) (hr : r.val = 4096 * b.val + l.val) (b' : Fin 16) (hb : b'.val = b.val) :
    (val_main_v51 (F := Ideal) x0 x1 x2 x3 x4 x5 x6 x7 x8 x9 (ix3 b l q) : EReal) = out x0 x1 x2 x3 x4 x5 x6 x7 x8 x9 b' r q := by
  pointwise [val_main_v51, val_main_v50, val_main_v49, val_main_v48, val_main_v47, val_main_v46, val_main_v45, val_main_v44, val_main_v43, val_main_v42, val_main_v41, val_main_cst_5,
    val_main_v40, val_main_v39, val_main_cst_4, val_main_v38, val_main_v37, val_main_cst_3, val_main_v36, val_main_v35, val_main_v34, val_main_cst_2]
  simp only [ref31_ix x1 x2 x3 x4 x5 x7 x9 b l _ r hr, ref0_ix x0 b l _ r hr, ref33_ix x6 b _ b' hb]
  rfl

theorem ref_eq : val_main_v52 (F := Ideal) x0 x1 x2 x3 x4 x5 x6 x7 x8 x9 = res x0 x1 x2 x3 x4 x5 x6 x7 x8 x9 := by
  funext i
  rw [eq_ix2 i]
  generalize i 0 = r
  generalize i 1 = q
  change Fin 32768 at r
  change Fin 1024 at q
  rw [res_ix _ _ _ _ _ _ _ _ _ _ r q ⟨r.val / 4096, by omega⟩ rfl]
  pointwise [val_main_v52]
  refine (congrArg (val_main_v51 (F := Ideal) x0 x1 x2 x3 x4 x5 x6 x7 x8 x9) ?_).trans (ref51_ix x0 x1 x2 x3 x4 x5 x6 x7 x8 x9 ⟨r.val / 4096, by omega⟩ ⟨r.val % 4096, by omega⟩ q r (by dsimp only; omega) _ rfl)
  congr 1 <;> first | rfl | exact Fin.ext (by dsimp only; omega)

end Cert.Proof.Post

end
-- ==== Proof.PostClaims.lean ====
/- The output projection: kernel and reference end alike. -/
module

public import proofs.«01_k».proof.Proof.PostArr
public import proofs.«01_k».proof.Proof.PostRef
public import proofs.«01_k».proof.Proof.Gen.Kernel3Ideal.Frame
public import proofs.«01_k».proof.Defs
public import Idealize.ShloMosaic.Adequacy
public import Idealize.ShloMosaic.Init

@[expose] public section

set_option maxRecDepth 16384

noncomputable section

namespace Cert.Proof.Post

open Idealize.ShloMosaic Idealize.SL.Sem

theorem ref_frame : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

theorem value : Cert.algebraic_Kernel3Ideal_Reference3Ideal (hKernel3Ideal := Cert.Kernel3Ideal.Gen.facts) (hReference3Ideal := Cert.Reference3Ideal.Gen.facts) := by
  intro m g m' g' hpre hagree
  refine ⟨_, Cert.Kernel3Ideal.Value.run_blocks (F := Ideal) m g, ?_⟩
  refine (θ_run Cert.Reference3Ideal.defs _ _).mono (fun r h c => ?_) (Cert.Reference3Ideal.Value.run (F := Ideal) m' g')
  obtain ⟨a0, a1, a2, a3, a4, a5, a6, a7, a8, a9⟩ := hagree c
  obtain ⟨r0, rest⟩ := h c
  refine ⟨r0.trans ?_, rest⟩
  rw [Cert.Reference3Ideal.Read.val_main_v52_eq, a0, a1, a2, a3, a4, a5, a6, a7, a8, a9]
  exact (ref_eq ..).trans (arr12 m c).symm

end Cert.Proof.Post

end
-- ==== Proof.ModArr.lean ====
/- The modulation vectors: the kernel's result array, as a closed sum over its arguments. -/
module

public import proofs.«01_k».proof.Proof.Gen.Kernel4Ideal.Value
public import Idealize.ShloMosaic.Lib.Pipeline.ValueKit.Point
public import Idealize.ShloMosaic.Lib.Pointwise

@[expose] public section

set_option maxRecDepth 16384

noncomputable section

namespace Cert.Proof.Mod

open Idealize.ShloMosaic Idealize.ShloMosaic.TcCoe Idealize.SL.Sem Cert.Kernel4Ideal Cert.Kernel4Ideal.Gen
open Idealize.ShloMosaic.Pipeline (Dat)

/-- Entry `q` of row `r`'s modulation vector in layer `l`. -/
def out (x : (⟨2, ![16, 1024]⟩ : Shape).Idx → EReal) (w : (⟨3, ![2, 1024, 9216]⟩ : Shape).Idx → EReal) (b : (⟨2, ![2, 9216]⟩ : Shape).Idx → EReal)
    (l : Fin 2) (r : Fin 16) (q : Fin 9216) : EReal :=
  (∑ k : Fin 1024, (x (ix2 r k) * Ideal.logistic (x (ix2 r k))) * w (ix3 l k q)) + b (ix2 l q)

/-- The whole result. -/
def res (x : (⟨2, ![16, 1024]⟩ : Shape).Idx → EReal) (w : (⟨3, ![2, 1024, 9216]⟩ : Shape).Idx → EReal) (b : (⟨2, ![2, 9216]⟩ : Shape).Idx → EReal)
    (i : (⟨3, ![2, 16, 9216]⟩ : Shape).Idx) : EReal :=
  out x w b (i 0) (i 1) (i 2)

theorem pay1_ix (v0 : Vec Ideal S16x1024 .f32) (v3 : Vec Ideal S1x1024x1152 .f32) (v6 : Vec Ideal S1x1x1152 .f32) (r : Fin 16) (q : Fin 1152) :
    (k0_pay1 v0 v3 v6 (ix3 0 r q) : EReal) = (∑ k : Fin 1024, (v0 (ix2 r k) * Ideal.logistic (v0 (ix2 r k))) * v3 (ix3 0 k q)) + v6 (ix3 0 0 q) := by
  pointwise [k0_pay1]

theorem out3_eq (x0 x1 x2) : out0_3 (F := Ideal) x0 x1 x2 = k0_pay1 x0 x1 x2 := by
  unfold out0_3
  rw [View.canon_cons_unit_lit' _ _ _ (by decide)]
  rw [View.ld_unit_lit' _ x0 (by decide), View.ld_unit_lit' _ x1 (by decide), View.ld_unit_lit' _ x2 (by decide)]

variable (m : (ℓ : Loc nD τ sig) → Buf (Elt Ideal) ℓ)

theorem idxs : ∀ t : Fin cfg0.N, win0_0.index t = ![0, 0] ∧ win0_1.index t = ![t.val / 8, 0, t.val % 8] ∧ win0_2.index t = ![t.val / 8, 0, t.val % 8]
    ∧ win0_3.index t = ![t.val / 8, 0, t.val % 8] := by
  decide +kernel

theorem in0 (c : Dev nD) (t : Fin cfg0.N) (r : Fin 16) (k : Fin 1024) : iblk m c 0 t (ix2 r k) = m ((c : Thread nD τ).loc main_arg0) (ix2 r k) := by
  blk_ext [iblk, V, idxs t]

theorem in1 (c : Dev nD) (t : Fin cfg0.N) (k : Fin 1024) (s : Fin 1152) (l : Fin 2) (q : Fin 9216) (hl : l.val = t.val / 8) (hq : q.val = 1152 * (t.val % 8) + s.val) :
    iblk m c 1 t (ix3 0 k s) = m ((c : Thread nD τ).loc main_arg1) (ix3 l k q) := by
  blk_ext [iblk, V, idxs t]

theorem in2 (c : Dev nD) (t : Fin cfg0.N) (s : Fin 1152) (l : Fin 2) (q : Fin 9216) (hl : l.val = t.val / 8) (hq : q.val = 1152 * (t.val % 8) + s.val) :
    iblk m c 2 t (ix3 0 0 s) = m ((c : Thread nD τ).loc main_arg2) (ix2 l q) := by
  have : iblk m c 2 t (ix3 0 0 s) = V m c main_v0 (ix3 l 0 q) := by blk_ext [iblk, V, idxs t]
  rw [this]
  unfold V hostOps0
  entry_read
  pointwise

/-- What step `t` leaves in its block, from the arguments. -/
theorem block_ix (c : Dev nD) (t : Fin cfg0.N) (r : Fin 16) (s : Fin 1152) (l : Fin 2) (q : Fin 9216) (hl : l.val = t.val / 8) (hq : q.val = 1152 * (t.val % 8) + s.val) :
    (out0_3 (iblk m c 0 t) (iblk m c 1 t) (iblk m c 2 t) (ix3 0 r s) : EReal)
      = out (m ((c : Thread nD τ).loc main_arg0)) (m ((c : Thread nD τ).loc main_arg1)) (m ((c : Thread nD τ).loc main_arg2)) l r q := by
  rw [out3_eq, pay1_ix]
  unfold out
  simp only [in0 m c t, in1 m c t _ s l q hl hq, in2 m c t s l q hl hq]

theorem arr3 (c : Dev nD) : (dats m 0 c).arrAt 3 cfg0.N
    = res (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 16 := t.isLt
  blk_simp
  rw [after0_3]
  obtain ⟨z, r, s, rfl⟩ : ∃ (z : Fin 1) (r : Fin 16) (s : Fin 1152), y = ix3 z r s := ⟨_, _, _, eq_ix3 y⟩
  obtain rfl : z = 0 := Subsingleton.elim _ _
  have e : (win0_3.blk t).view.emb (ix3 0 r s) = ix3 (⟨t.val / 8, by omega⟩ : Fin 2) r (⟨1152 * (t.val % 8) + s.val, by omega⟩ : Fin 9216) := by blk_ext [idxs t]
  rw [e]
  exact block_ix m c t r s _ _ rfl rfl

end Cert.Proof.Mod

end
-- ==== Proof.ModRef.lean ====
/- The modulation vectors' reference, at an index. -/
module

public import proofs.«01_k».proof.Proof.ModArr
public import proofs.«01_k».proof.Proof.Gen.Reference4Ideal.Read
public import proofs.«01_k».proof.Proof.Gen.Reference4Ideal.Run

@[expose] public section

set_option maxRecDepth 16384

noncomputable section

namespace Cert.Proof.Mod

open Idealize.ShloMosaic Cert.Reference4Ideal Cert.Reference4Ideal.Gen Cert.Reference4Ideal.Read

variable (x0 : FVec Ideal S16x1024 .f32) (x1 : FVec Ideal S2x1024x9216 .f32) (x2 : FVec Ideal S2x9216 .f32)

theorem ref8_ix (r : Fin 16) (q : Fin 9216) : (val_main_v8 (F := Ideal) x0 x1 x2 (ix2 r q) : EReal) = out x0 x1 x2 0 r q := by
  pointwise [val_main_v8, val_main_v7, val_main_v6, val_main_v5, val_main_v4, val_main_v3, val_main_v2, val_main_v1, val_main_v0, val_main_call0_v5, val_main_call0_v4, val_main_call0_cst_0,
    val_main_call0_v3, val_main_call0_v2, val_main_call0_cst, val_main_call0_v1, val_main_call0_v0]
  rfl

theorem ref17_ix (r : Fin 16) (q : Fin 9216) : (val_main_v17 (F := Ideal) x0 x1 x2 (ix2 r q) : EReal) = out x0 x1 x2 1 r q := by
  pointwise [val_main_v17, val_main_v16, val_main_v15, val_main_v14, val_main_v13, val_main_v12, val_main_v11, val_main_v10, val_main_v9, val_main_call1_v5, val_main_call1_v4, val_main_call1_cst_0,
    val_main_call1_v3, val_main_call1_v2, val_main_call1_cst, val_main_call1_v1, val_main_call1_v0]
  rfl

theorem ref_eq : val_main_v20 (F := Ideal) x0 x1 x2 = res x0 x1 x2 := by
  funext i
  rw [eq_ix3 i]
  generalize i 0 = l
  generalize i 1 = r
  generalize i 2 = q
  change Fin 2 at l
  change Fin 16 at r
  change Fin 9216 at q
  fin_cases l
  · refine Eq.trans ?_ (ref8_ix x0 x1 x2 r q)
    pointwise [val_main_v20, val_main_v18]
  · refine Eq.trans ?_ (ref17_ix x0 x1 x2 r q)
    pointwise [val_main_v20, val_main_v19]

end Cert.Proof.Mod

end
-- ==== Proof.ModClaims.lean ====
/- The modulation vectors: kernel and reference end alike. -/
module

public import proofs.«01_k».proof.Proof.ModArr
public import proofs.«01_k».proof.Proof.ModRef
public import proofs.«01_k».proof.Proof.Gen.Kernel4Ideal.Frame
public import proofs.«01_k».proof.Defs
public import Idealize.ShloMosaic.Adequacy
public import Idealize.ShloMosaic.Init

@[expose] public section

set_option maxRecDepth 16384

noncomputable section

namespace Cert.Proof.Mod

open Idealize.ShloMosaic Idealize.SL.Sem

theorem ref_frame : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩)
    (Cert.Reference4Ideal.Value.run (F := Ideal) m g)

theorem value : Cert.algebraic_Kernel4Ideal_Reference4Ideal (hKernel4Ideal := Cert.Kernel4Ideal.Gen.facts) (hReference4Ideal := Cert.Reference4Ideal.Gen.facts) := by
  intro m g m' g' hpre hagree
  refine ⟨_, Cert.Kernel4Ideal.Value.run_blocks (F := Ideal) m g, ?_⟩
  refine (θ_run Cert.Reference4Ideal.defs _ _).mono (fun r h c => ?_) (Cert.Reference4Ideal.Value.run (F := Ideal) m' g')
  obtain ⟨a0, a1, a2⟩ := hagree c
  obtain ⟨r0, rest⟩ := h c
  refine ⟨r0.trans ?_, rest⟩
  rw [Cert.Reference4Ideal.Read.val_main_v20_eq, a0, a1, a2]
  exact (ref_eq ..).trans (arr3 m c).symm

end Cert.Proof.Mod

end
-- ==== Proof.InChunk.lean ====
/-
  One chunk of the projection, and what it means that the buffer of the projections holds it.
-/
module

public import proofs.«01_k».proof.Proof.Gen.Kernel5Ideal.Frame
public import Idealize.ShloMosaic.Lib.Pipeline.ValueKit.Point
public import Idealize.ShloMosaic.Lib.Pointwise

@[expose] public section

noncomputable section

namespace Cert.Proof.Inp

open Cert.Kernel5Ideal Cert.Kernel5Ideal.Gen
open Idealize.ShloMosaic Idealize.SL.Sem

variable {F : FTy → Type} [FloatOps F]

/-- Chunk `n` of the projection: the modulated rows times the chunk's weights. -/
def prj (x23 : Vec F S512x1024 .bf16) (x8 : Vec F S17x1024x256 .bf16) (n : Fin 17) : FVec F S512x256 .f32 :=
  matmul dot_S512x1024_S1024x256_S512x256_1_0_0_1_n_n none x23 (fun j => x8 (ix3 n (j 0) (j 1))) (constant S512x256 .f32 0x00000000#32)

/-- The buffer `d` holds chunk `n` in the middle rows of its two blocks. -/
def Chunk (x23 : Vec F S512x1024 .bf16) (x8 : Vec F S17x1024x256 .bf16) (d : Vec F S34x544x128 .f32) (n : Fin 17) : Prop :=
  ∀ (h : Fin 2) (r : Fin 512) (l : Fin 128), d (ix3 ⟨2 * n.val + h.val, by omega⟩ ⟨16 + r.val, by omega⟩ l) = prj x23 x8 n (ix2 r ⟨128 * h.val + l.val, by omega⟩)

/-- The buffer `d` differs from `d'` at most in chunk `n`'s two blocks. -/
def Off (d d' : Vec F S34x544x128 .f32) (n : Fin 17) : Prop :=
  ∀ (b : Fin 34) (r : Fin 544) (l : Fin 128), b.val / 2 ≠ n.val → d (ix3 b r l) = d' (ix3 b r l)

theorem Chunk.keep {x23 : Vec F S512x1024 .bf16} {x8 : Vec F S17x1024x256 .bf16} {d d' : Vec F S34x544x128 .f32} {n n' : Fin 17}
    (hc : Chunk x23 x8 d' n') (ho : Off d d' n) (hn : n'.val ≠ n.val) : Chunk x23 x8 d n' := fun h r l =>
  (ho _ _ _ (by simp only; omega)).trans (hc h r l)

/-- The two stores of a chunk. -/
theorem two (arg : Memref sig .tc .vmem S34x544x128 .f32) (x23 : Vec F S512x1024 .bf16) (x8 : Vec F S17x1024x256 .bf16)
    (f : arg.view.ty.Contents (Elt F)) (n : Fin 17) (o0 o1 : Fin 3 → Nat) (h0 : o0 = ![2 * n.val, 16, 0]) (h1 : o1 = ![2 * n.val + 1, 16, 0])
    (i0 : ∀ a, o0 a + S1x512x128.size a ≤ S34x544x128.size a) (i1 : ∀ a, o1 a + S1x512x128.size a ≤ S34x544x128.size a)
    (w0 w1 : Vec F S1x512x128 .f32) (hw0 : ∀ (r : Fin 512) (l : Fin 128), w0 (ix3 0 r l) = prj x23 x8 n (ix2 r ⟨l.val, by omega⟩))
    (hw1 : ∀ (r : Fin 512) (l : Fin 128), w1 (ix3 0 r l) = prj x23 x8 n (ix2 r ⟨128 + l.val, by omega⟩)) :
    Chunk x23 x8 (arg.view.read (Elt F) (arg.view.writes (Elt F) f [⟨Rect.unit o1 S1x512x128.size i1, w1⟩, ⟨Rect.unit o0 S1x512x128.size i0, w0⟩])) n
      ∧ Off (arg.view.read (Elt F) (arg.view.writes (Elt F) f [⟨Rect.unit o1 S1x512x128.size i1, w1⟩, ⟨Rect.unit o0 S1x512x128.size i0, w0⟩])) (arg.view.read (Elt F) f) n := by
  subst h0 h1
  constructor
  · intro h r l
    match h with
    | 0 =>
      rw [View.read_writes_cons_miss_of_axis _ _ _ _ _ 0 (2 * n.val + 1) 1 rfl rfl rfl (by left; show 2 * n.val + 0 < 2 * n.val + 1; omega)]
      rw [View.read_writes_cons_hit_of_coords _ _ _ _ _ (ix3 0 r l) _ (by intro a; fin_cases a <;> simp <;> rfl)]
      refine (hw0 r l).trans (congrArg (fun q => prj x23 x8 n (ix2 r q)) (Fin.ext ?_))
      show l.val = 128 * 0 + l.val
      omega
    | 1 =>
      rw [View.read_writes_cons_hit_of_coords _ _ _ _ _ (ix3 0 r l) _ (by intro a; fin_cases a <;> simp <;> rfl)]
      exact hw1 r l
  · intro b r l hb
    rw [View.read_writes_cons_miss_of_axis _ _ _ _ _ 0 (2 * n.val + 1) 1 rfl rfl rfl (by show b.val < _ ∨ _ ≤ b.val; omega),
      View.read_writes_cons_miss_of_axis _ _ _ _ _ 0 (2 * n.val) 1 rfl rfl rfl (by show b.val < _ ∨ _ ≤ b.val; omega)]
    rfl

/-- The chunk that trip `k` projects first. -/
def nOdd (k : Fin k0_t1_loop.trips) : Fin 17 := ⟨2 * k.val + 1, by have : k.val < 8 := k.isLt; omega⟩

/-- The chunk that trip `k` projects second. -/
def nEven (k : Fin k0_t1_loop.trips) : Fin 17 := ⟨2 * k.val + 2, by have : k.val < 8 := k.isLt; omega⟩

theorem at_odd0 (k : Fin k0_t1_loop.trips) : k0_off44 k 0#32 0#32 = ![2 * (nOdd k).val, 16, 0] := by revert k; decide +kernel
theorem at_odd1 (k : Fin k0_t1_loop.trips) : k0_off44 k 0#32 1#32 = ![2 * (nOdd k).val + 1, 16, 0] := by revert k; decide +kernel
theorem at_even0 (k : Fin k0_t1_loop.trips) : k0_off44 k 1#32 0#32 = ![2 * (nEven k).val, 16, 0] := by revert k; decide +kernel
theorem at_even1 (k : Fin k0_t1_loop.trips) : k0_off44 k 1#32 1#32 = ![2 * (nEven k).val + 1, 16, 0] := by revert k; decide +kernel
theorem wt_odd (k : Fin k0_t1_loop.trips) : k0_off43 k 0#32 = ![(nOdd k).val, 0, 0] := by revert k; decide +kernel
theorem wt_even (k : Fin k0_t1_loop.trips) : k0_off43 k 1#32 = ![(nEven k).val, 0, 0] := by revert k; decide +kernel

/-- Dropping the leading axis. -/
theorem cast3 (w : Vec F S1x1024x256 .bf16) (hc : S1x1024x256.ShapeCasts S1024x256) (a : Fin 1024) (b : Fin 256) :
    shapeCast S1024x256 w hc (ix2 a b) = w (ix3 0 a b) := by
  pointwise

/-- The loaded weights are the chunk's. -/
theorem wt_ld (x8 : Vec F S17x1024x256 .bf16) (n : Fin 17) (o : Fin 3 → Nat) (h : o = ![n.val, 0, 0]) (i : ∀ a, o a + S1x1024x256.size a ≤ S17x1024x256.size a)
    (hc : S1x1024x256.ShapeCasts S1024x256) :
    shapeCast S1024x256 (View.ld (Val := Elt F) x8 (Rect.unit (s := S17x1024x256) o S1x1024x256.size i)) hc = fun j => x8 (ix3 n (j 0) (j 1)) := by
  subst h
  funext j
  obtain ⟨a, b, rfl⟩ : ∃ (a : Fin 1024) (b : Fin 256), j = ix2 a b := ⟨_, _, eq_ix2 j⟩
  refine (cast3 _ hc a b).trans (congrArg x8 (Rect.emb_eq_of_coords _ _ _ fun q => ?_))
  match q with
  | 0 => show n.val = n.val + 1 * 0; omega
  | 1 => show a.val = 0 + 1 * a.val; omega
  | 2 => show b.val = 0 + 1 * b.val; omega

/-- The product of what is loaded is the chunk. -/
theorem prj_ld (arg23 : Memref sig .tc .vmem S512x1024 .bf16) (harg23 : arg23.IsWhole) (arg8 : Memref sig .tc .vmem S17x1024x256 .bf16) (harg8 : arg8.IsWhole)
    (x23 : Vec F S512x1024 .bf16) (x8 : Vec F S17x1024x256 .bf16) (n : Fin 17) (o : Fin 3 → Nat) (h : o = ![n.val, 0, 0])
    (i : ∀ a, o a + S1x1024x256.size a ≤ S17x1024x256.size a) :
    matmul dot_S512x1024_S1024x256_S512x256_1_0_0_1_n_n none
        (arg23.view.readAt (Elt F) (Rect.unit (s := S512x1024) ![0, 0] S512x1024.size inb_S512x1024_S512x1024_0_0).toLoadRect (harg23.unread x23))
        (shapeCast S1024x256 (arg8.view.readAt (Elt F) (Rect.unit (s := S17x1024x256) o S1x1024x256.size i).toLoadRect (harg8.unread x8)) shapeCasts_S1x1024x256_S1024x256)
        (constant S512x256 .f32 0x00000000#32) = prj x23 x8 n := by
  rw [View.readAt_eq_ld, View.readAt_eq_ld, harg23.read_unread, harg8.read_unread, wt_ld x8 n o h, View.ld_unit_lit' _ x23 (by decide)]
  rfl

/-- The left half of a chunk, as a block stores it. -/
theorem half0 (p : FVec F S512x256 .f32) (r : Fin 512) (l : Fin 128) :
    shapeCast S1x512x128 (extractStridedSlice S512x128 ![0, 0] p slices_S512x256_o0_0_S512x128) shapeCasts_S512x128_S1x512x128 (ix3 0 r l) = p (ix2 r ⟨l.val, by omega⟩) := by
  pointwise

/-- The right half of a chunk, as a block stores it. -/
theorem half1 (p : FVec F S512x256 .f32) (r : Fin 512) (l : Fin 128) :
    shapeCast S1x512x128 (extractStridedSlice S512x128 ![0, 128] p slices_S512x256_o0_128_S512x128) shapeCasts_S512x128_S1x512x128 (ix3 0 r l) = p (ix2 r ⟨128 + l.val, by omega⟩) := by
  pointwise

end Cert.Proof.Inp

end
-- ==== Proof.InVals.lean ====
/-
  What a body computes, block by block, and what it loads.
-/
module

public import proofs.«01_k».proof.Proof.InChunk

@[expose] public section

noncomputable section

namespace Cert.Proof.Inp

open Cert.Kernel5Ideal Cert.Kernel5Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The blocks the body computes -/

/-- The rows of the modulation that shift and that scale. -/
def sh (m : Vec F S1x9x1024 .f32) : FVec F S1x1024 .f32 := fun j => m (ix3 0 3 (j 1))
def sc (m : Vec F S1x9x1024 .f32) : FVec F S1x1024 .f32 := fun j => m (ix3 0 4 (j 1))

/-- A block's rows, normalised and modulated. -/
def um (x : Vec F S512x1024 .f32) (h s : FVec F S1x1024 .f32) (g : FVec F S1x1024 .f32) : FVec F S512x1024 .bf16 :=
  truncf .bf16 (addf (mulf (mulf (mulf x (broadcastTo S512x1024 (rsqrt (addf (divf (shapeCast S512x1 (multiReduction .add [1] S512 (mulf x x) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
      (broadcastTo S512x1024 g broadcasts_S1x1024_S512x1024))
      (broadcastTo S512x1024 (addf (broadcast S1x1024 (Scalar.ofBits .f32 0x3F800000#32)) s) broadcasts_S1x1024_S512x1024))
      (broadcastTo S512x1024 h broadcasts_S1x1024_S512x1024)) bitsLt_bf16_f32

/-- The mean square of the rows beside a block. -/
def ms (x : Vec F S64x1024 .f32) : FVec F S64x1 .f32 :=
  divf (shapeCast S64x1 (multiReduction .add [1] S64 (mulf x x) 0x00000000#32 reduces_S64x1024_S64 (.inl rfl) rfl) shapeCasts_S64_S64x1)
      (broadcast S64x1 (Scalar.ofBits .f32 0x44800000#32))

/-- The rows beside a block, normalised and modulated. -/
def uh (x : Vec F S64x1024 .f32) (h s : FVec F S1x1024 .f32) (g : FVec F S1x1024 .f32) : FVec F S64x1024 .bf16 :=
  truncf .bf16 (addf (mulf (mulf (mulf x (broadcastTo S64x1024 (rsqrt (addf (ms x) (broadcast S64x1 (Scalar.ofBits .f32 0x358637BD#32)))) broadcasts_S64x1_S64x1024))
      (broadcastTo S64x1024 g broadcasts_S1x1024_S64x1024))
      (broadcastTo S64x1024 (addf (broadcast S1x1024 (Scalar.ofBits .f32 0x3F800000#32)) s) broadcasts_S1x1024_S64x1024))
      (broadcastTo S64x1024 h broadcasts_S1x1024_S64x1024)) bitsLt_bf16_f32

/-- Whether there are rows before a block, and after it. -/
def c0 (i : grid0.Coords) : BitVec 1 := Scalar.cmpi .sgt (BitVec.ofNat 32 (i 1).val) 0#32
def c1 (i : grid0.Coords) : BitVec 1 := Scalar.cmpi .slt (BitVec.ofNat 32 (i 1).val) 7#32

/-- A block of 128 columns of the projection. -/
def pblk (x23 : Vec F S512x1024 .bf16) (x8 : Vec F S17x1024x256 .bf16) (b : Fin 34) : FVec F S512x128 .f32 := fun j =>
  prj x23 x8 ⟨b.val / 2, by omega⟩ (ix2 (j 0) ⟨128 * (b.val % 2) + (j 1).val, by have h : (j 1).val < 128 := (j 1).isLt; omega⟩)

/-- The products of the rows beside a block with a chunk's weights. -/
def hprj (x : FVec F S128x1024 .bf16) (x8 : Vec F S17x1024x256 .bf16) (n : Fin 17) : FVec F S128x256 .f32 :=
  matmul dot_S128x1024_S1024x256_S128x256_1_0_0_1_n_n none x (fun j => x8 (ix3 n (j 0) (j 1))) (constant S128x256 .f32 0x00000000#32)

/-- What of them the gated convolution takes, columns `b`. -/
def hp (u0 u1 : FVec F S64x1024 .bf16) (x8 : Vec F S17x1024x256 .bf16) (b : Fin 4) : FVec F S128x256 .f32 :=
  mulf (hprj (concatenate S128x1024 0 [⟨S64x1024, u0⟩, ⟨S64x1024, u1⟩] concatenates_S64x1024_S64x1024_S128x1024_d0) x8 ⟨13 + b.val / 2, by omega⟩)
    (hprj (concatenate S128x1024 0 [⟨S64x1024, u0⟩, ⟨S64x1024, u1⟩] concatenates_S64x1024_S64x1024_S128x1024_d0) x8 ⟨15 + b.val / 2, by omega⟩)
def hlo (p : FVec F S128x256 .f32) (h : Fin 2) : FVec F S64x128 .f32 := fun j =>
  p (ix2 ⟨(j 0).val, by have h : (j 0).val < 64 := (j 0).isLt; omega⟩ ⟨128 * h.val + (j 1).val, by have h : (j 1).val < 128 := (j 1).isLt; omega⟩)
def hhi (p : FVec F S128x256 .f32) (h : Fin 2) : FVec F S64x128 .f32 := fun j =>
  p (ix2 ⟨64 + (j 0).val, by have h : (j 0).val < 64 := (j 0).isLt; omega⟩ ⟨128 * h.val + (j 1).val, by have h : (j 1).val < 128 := (j 1).isLt; omega⟩)

/-- The step sizes' block from a block of the projection and its biases. -/
def dtB (p : FVec F S512x128 .f32) (b : FVec F S1x128 .f32) : FVec F S512x128 .f32 :=
  addf (maximumf (addf p (broadcastTo S512x128 b broadcasts_S1x128_S512x128)) (broadcast S512x128 (Scalar.ofBits .f32 0x00000000#32)))
    (log1p (exp (subf (broadcast S512x128 (Scalar.ofBits .f32 0x00000000#32)) (absf (addf p (broadcastTo S512x128 b broadcasts_S1x128_S512x128))))))

/-- A gate's block. -/
def zsB (p : FVec F S512x128 .f32) : FVec F S512x128 .bf16 := truncf .bf16 (mulf p (logistic p)) bitsLt_bf16_f32

/-- The gated convolution's block. -/
def ysB (a0 a1 : BitVec 1) (pb pc ph : FVec F S512x128 .f32) (lo hi : FVec F S64x128 .f32) (b w0 w1 w2 : FVec F S1x128 .f32) : FVec F S512x128 .bf16 :=
  let pe : FVec F S640x128 .f32 := concatenate S640x128 0 [⟨S64x128, Scalar.select a0 lo (broadcast S64x128 (Scalar.ofBits .f32 0x00000000#32))⟩, ⟨S512x128, mulf pc ph⟩,
    ⟨S64x128, Scalar.select a1 hi (broadcast S64x128 (Scalar.ofBits .f32 0x00000000#32))⟩] concatenates_S64x128_S512x128_S64x128_S640x128_d0
  truncf .bf16 (mulf pb (addf (addf (addf (broadcastTo S512x128 b broadcasts_S1x128_S512x128)
      (mulf (broadcastTo S512x128 w0 broadcasts_S1x128_S512x128) (extractStridedSlice S512x128 ![0, 0] pe slices_S640x128_o0_0_S512x128)))
      (mulf (broadcastTo S512x128 w1 broadcasts_S1x128_S512x128) (extractStridedSlice S512x128 ![64, 0] pe slices_S640x128_o64_0_S512x128)))
      (mulf (broadcastTo S512x128 w2 broadcasts_S1x128_S512x128) (extractStridedSlice S512x128 ![128, 0] pe slices_S640x128_o128_0_S512x128)))) bitsLt_bf16_f32

/-- A row of 128 of the biases and of the taps. -/
def b11 (x : Vec F S1x256 .f32) (d : Fin 2) : FVec F S1x128 .f32 := fun j => x (ix2 0 ⟨128 * d.val + (j 1).val, by have h : (j 1).val < 128 := (j 1).isLt; omega⟩)
def b17 (x : Vec F S1x512 .f32) (b : Fin 4) : FVec F S1x128 .f32 := fun j => x (ix2 0 ⟨128 * b.val + (j 1).val, by have h : (j 1).val < 128 := (j 1).isLt; omega⟩)
def w16 (x : Vec F S3x512 .f32) (k : Fin 3) (b : Fin 4) : FVec F S1x128 .f32 := fun j => x (ix2 k ⟨128 * b.val + (j 1).val, by have h : (j 1).val < 128 := (j 1).isLt; omega⟩)

/-- The step sizes a body writes. -/
def dtv (x23 : Vec F S512x1024 .bf16) (x8 : Vec F S17x1024x256 .bf16) (x11 : Vec F S1x256 .f32) : Vec F S2x512x128 .f32 := fun j =>
  dtB (pblk x23 x8 ⟨12 + (j 0).val, by have h : (j 0).val < 2 := (j 0).isLt; omega⟩) (b11 x11 (j 0)) (ix2 (j 1) (j 2))

/-- The gates a body writes. -/
def zsv (x23 : Vec F S512x1024 .bf16) (x8 : Vec F S17x1024x256 .bf16) : Vec F S512x1024 .bf16 := fun j =>
  zsB (pblk x23 x8 ⟨14 + (j 1).val / 128, by have h : (j 1).val < 1024 := (j 1).isLt; omega⟩) (ix2 (j 0) ⟨(j 1).val % 128, by omega⟩)

/-- The gated convolution a body writes. -/
def ysv (i : grid0.Coords) (x23 : Vec F S512x1024 .bf16) (u0 u1 : FVec F S64x1024 .bf16) (x8 : Vec F S17x1024x256 .bf16) (x16 : Vec F S3x512 .f32) (x17 : Vec F S1x512 .f32) :
    Vec F S512x512 .bf16 := fun j =>
  have hj : (j 1).val / 128 < 4 := by have h : (j 1).val < 512 := (j 1).isLt; omega
  ysB (c0 i) (c1 i) (pblk x23 x8 ⟨22 + (j 1).val / 128, by omega⟩) (pblk x23 x8 ⟨26 + (j 1).val / 128, by omega⟩) (pblk x23 x8 ⟨30 + (j 1).val / 128, by omega⟩)
    (hlo (hp u0 u1 x8 ⟨(j 1).val / 128, hj⟩) ⟨(j 1).val / 128 % 2, by omega⟩) (hhi (hp u0 u1 x8 ⟨(j 1).val / 128, hj⟩) ⟨(j 1).val / 128 % 2, by omega⟩)
    (b17 x17 ⟨(j 1).val / 128, hj⟩) (w16 x16 0 ⟨(j 1).val / 128, hj⟩) (w16 x16 1 ⟨(j 1).val / 128, hj⟩) (w16 x16 2 ⟨(j 1).val / 128, hj⟩)
    (ix2 (j 0) ⟨(j 1).val % 128, by omega⟩)

/-! ## What is loaded -/

theorem cast2 (w : Vec F S1x512x128 .f32) (hc : S1x512x128.ShapeCasts S512x128) (a : Fin 512) (b : Fin 128) :
    shapeCast S512x128 w hc (ix2 a b) = w (ix3 0 a b) := by
  pointwise

/-- A loaded block of the projection. -/
theorem pblk_ld {x23 : Vec F S512x1024 .bf16} {x8 : Vec F S17x1024x256 .bf16} {x24 : Vec F S34x544x128 .f32} (hd : ∀ n : Fin 17, Chunk x23 x8 x24 n)
    (arg24 : Memref sig .tc .vmem S34x544x128 .f32) (harg24 : arg24.IsWhole) (b : Fin 34) (o : Fin 3 → Nat) (h : o = ![b.val, 16, 0])
    (i : ∀ a, o a + S1x512x128.size a ≤ S34x544x128.size a) :
    shapeCast S512x128 (arg24.view.readAt (Elt F) (Rect.unit (s := S34x544x128) o S1x512x128.size i).toLoadRect (harg24.unread x24)) shapeCasts_S1x512x128_S512x128 = pblk x23 x8 b := by
  subst h
  rw [View.readAt_eq_ld, harg24.read_unread]
  funext j
  obtain ⟨r, l, rfl⟩ : ∃ (r : Fin 512) (l : Fin 128), j = ix2 r l := ⟨_, _, eq_ix2 j⟩
  refine (cast2 _ _ r l).trans ((congrArg x24 (Rect.emb_eq_of_coords _ _ (ix3 b ⟨16 + r.val, by omega⟩ l) fun q => ?_)).trans ?_)
  · match q with
    | 0 => show b.val = b.val + 1 * 0; omega
    | 1 => show 16 + r.val = 16 + 1 * r.val; omega
    | 2 => show l.val = 0 + 1 * l.val; omega
  · refine (congrArg (fun q => x24 (ix3 q _ l)) (Fin.ext ?_)).trans (hd ⟨b.val / 2, by omega⟩ ⟨b.val % 2, by omega⟩ r l)
    show b.val = 2 * (b.val / 2) + b.val % 2
    omega

theorem hprj_ld (x : FVec F S128x1024 .bf16) (arg8 : Memref sig .tc .vmem S17x1024x256 .bf16) (harg8 : arg8.IsWhole)
    (x8 : Vec F S17x1024x256 .bf16) (n : Fin 17) (o : Fin 3 → Nat) (h : o = ![n.val, 0, 0])
    (i : ∀ a, o a + S1x1024x256.size a ≤ S17x1024x256.size a) :
    matmul dot_S128x1024_S1024x256_S128x256_1_0_0_1_n_n none x
        (shapeCast S1024x256 (arg8.view.readAt (Elt F) (Rect.unit (s := S17x1024x256) o S1x1024x256.size i).toLoadRect (harg8.unread x8)) shapeCasts_S1x1024x256_S1024x256)
        (constant S128x256 .f32 0x00000000#32) = hprj x x8 n := by
  rw [View.readAt_eq_ld, harg8.read_unread, wt_ld x8 n o h]
  rfl

theorem cast1 (w : Vec F S1x128 .f32) (hc : S1x128.ShapeCasts S1x128) : shapeCast S1x128 w hc = w := by
  funext j
  obtain ⟨r, l, rfl⟩ : ∃ (r : Fin 1) (l : Fin 128), j = ix2 r l := ⟨_, _, eq_ix2 j⟩
  pointwise

theorem b11_ld (arg : Memref sig .tc .vmem S1x256 .f32) (harg : arg.IsWhole) (x : Vec F S1x256 .f32) (d : Fin 2) (o : Fin 2 → Nat) (h : o = ![0, 128 * d.val])
    (i : ∀ a, o a + S1x128.size a ≤ S1x256.size a) :
    shapeCast S1x128 (arg.view.readAt (Elt F) (Rect.unit (s := S1x256) o S1x128.size i).toLoadRect (harg.unread x)) shapeCasts_S1x128_S1x128 = b11 x d := by
  subst h
  rw [cast1, View.readAt_eq_ld, harg.read_unread]
  funext j
  obtain ⟨r, l, rfl⟩ : ∃ (r : Fin 1) (l : Fin 128), j = ix2 r l := ⟨_, _, eq_ix2 j⟩
  refine congrArg x (Rect.emb_eq_of_coords _ _ _ fun q => ?_)
  match q with
  | 0 => show 0 = 0 + 1 * r.val; omega
  | 1 => show 128 * d.val + l.val = 128 * d.val + 1 * l.val; omega

theorem b17_ld (arg : Memref sig .tc .vmem S1x512 .f32) (harg : arg.IsWhole) (x : Vec F S1x512 .f32) (d : Fin 4) (o : Fin 2 → Nat) (h : o = ![0, 128 * d.val])
    (i : ∀ a, o a + S1x128.size a ≤ S1x512.size a) :
    shapeCast S1x128 (arg.view.readAt (Elt F) (Rect.unit (s := S1x512) o S1x128.size i).toLoadRect (harg.unread x)) shapeCasts_S1x128_S1x128 = b17 x d := by
  subst h
  rw [cast1, View.readAt_eq_ld, harg.read_unread]
  funext j
  obtain ⟨r, l, rfl⟩ : ∃ (r : Fin 1) (l : Fin 128), j = ix2 r l := ⟨_, _, eq_ix2 j⟩
  refine congrArg x (Rect.emb_eq_of_coords _ _ _ fun q => ?_)
  match q with
  | 0 => show 0 = 0 + 1 * r.val; omega
  | 1 => show 128 * d.val + l.val = 128 * d.val + 1 * l.val; omega

theorem w16_ld (arg : Memref sig .tc .vmem S3x512 .f32) (harg : arg.IsWhole) (x : Vec F S3x512 .f32) (k : Fin 3) (d : Fin 4) (o : Fin 2 → Nat) (h : o = ![k.val, 128 * d.val])
    (i : ∀ a, o a + S1x128.size a ≤ S3x512.size a) :
    arg.view.readAt (Elt F) (Rect.unit (s := S3x512) o S1x128.size i).toLoadRect (harg.unread x) = w16 x k d := by
  subst h
  rw [View.readAt_eq_ld, harg.read_unread]
  funext j
  obtain ⟨r, l, rfl⟩ : ∃ (r : Fin 1) (l : Fin 128), j = ix2 r l := ⟨_, _, eq_ix2 j⟩
  refine congrArg x (Rect.emb_eq_of_coords _ _ _ fun q => ?_)
  match q with
  | 0 => show k.val = k.val + 1 * r.val; omega
  | 1 => show 128 * d.val + l.val = 128 * d.val + 1 * l.val; omega

theorem lo0 (p : FVec F S128x256 .f32) : extractStridedSlice S64x128 ![0, 0] (extractStridedSlice S128x128 ![0, 0] p slices_S128x256_o0_0_S128x128) slices_S128x128_o0_0_S64x128 = hlo p 0 := by
  funext j
  obtain ⟨r, l, rfl⟩ : ∃ (r : Fin 64) (l : Fin 128), j = ix2 r l := ⟨_, _, eq_ix2 j⟩
  unfold hlo; pointwise
theorem lo1 (p : FVec F S128x256 .f32) : extractStridedSlice S64x128 ![0, 0] (extractStridedSlice S128x128 ![0, 128] p slices_S128x256_o0_128_S128x128) slices_S128x128_o0_0_S64x128 = hlo p 1 := by
  funext j
  obtain ⟨r, l, rfl⟩ : ∃ (r : Fin 64) (l : Fin 128), j = ix2 r l := ⟨_, _, eq_ix2 j⟩
  unfold hlo; pointwise
theorem hi0 (p : FVec F S128x256 .f32) : extractStridedSlice S64x128 ![64, 0] (extractStridedSlice S128x128 ![0, 0] p slices_S128x256_o0_0_S128x128) slices_S128x128_o64_0_S64x128 = hhi p 0 := by
  funext j
  obtain ⟨r, l, rfl⟩ : ∃ (r : Fin 64) (l : Fin 128), j = ix2 r l := ⟨_, _, eq_ix2 j⟩
  unfold hhi; pointwise
theorem hi1 (p : FVec F S128x256 .f32) : extractStridedSlice S64x128 ![64, 0] (extractStridedSlice S128x128 ![0, 128] p slices_S128x256_o0_128_S128x128) slices_S128x128_o64_0_S64x128 = hhi p 1 := by
  funext j
  obtain ⟨r, l, rfl⟩ : ∃ (r : Fin 64) (l : Fin 128), j = ix2 r l := ⟨_, _, eq_ix2 j⟩
  unfold hhi; pointwise

theorem sh_ld (m : Vec F S1x9x1024 .f32) : extractStridedSlice S1x1024 ![3, 0] (shapeCast S9x1024 m shapeCasts_S1x9x1024_S9x1024) slices_S9x1024_o3_0_S1x1024 = sh m := by
  funext j
  obtain ⟨r, l, rfl⟩ : ∃ (r : Fin 1) (l : Fin 1024), j = ix2 r l := ⟨_, _, eq_ix2 j⟩
  unfold sh; pointwise
theorem sc_ld (m : Vec F S1x9x1024 .f32) : extractStridedSlice S1x1024 ![4, 0] (shapeCast S9x1024 m shapeCasts_S1x9x1024_S9x1024) slices_S9x1024_o4_0_S1x1024 = sc m := by
  funext j
  obtain ⟨r, l, rfl⟩ : ∃ (r : Fin 1) (l : Fin 1024), j = ix2 r l := ⟨_, _, eq_ix2 j⟩
  unfold sc; pointwise
theorem cast1024 (w : Vec F S1x1024 .f32) (hc : S1x1024.ShapeCasts S1x1024) : shapeCast S1x1024 w hc = w := by
  funext j
  obtain ⟨r, l, rfl⟩ : ∃ (r : Fin 1) (l : Fin 1024), j = ix2 r l := ⟨_, _, eq_ix2 j⟩
  pointwise
theorem castum (w : Vec F S512x1024 .bf16) (hc : S512x1024.ShapeCasts S512x1024) : shapeCast S512x1024 w hc = w := by
  funext j
  obtain ⟨r, l, rfl⟩ : ∃ (r : Fin 512) (l : Fin 1024), j = ix2 r l := ⟨_, _, eq_ix2 j⟩
  pointwise

end Cert.Proof.Inp

end
-- ==== Proof.InOffs.lean ====
/-
  The rows the strided stores of the convolutions begin at, in closed form, trip by trip.
-/
module

public import proofs.«01_k».proof.Proof.Gen.Kernel5Ideal.Frame
public import Idealize.ShloMosaic.Lib.Tactic

@[expose] public section

noncomputable section

namespace Cert.Proof.Inp

open Cert.Kernel5Ideal Cert.Kernel5Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

/-! ## The rows the strided stores begin at, in closed form -/

instance (k : Fin k0_t1_loop.trips) : ClosedOff (k0_off34 k 0#32 0#32 0#32) := ⟨![(2 * k.val + 0) / 4, 128 * ((2 * k.val + 0) % 4) + 0, 0], by revert k; decide +kernel⟩
instance (k : Fin k0_t1_loop.trips) : ClosedOff (k0_off34 k 0#32 0#32 1#32) := ⟨![(2 * k.val + 0) / 4, 128 * ((2 * k.val + 0) % 4) + 1, 0], by revert k; decide +kernel⟩
instance (k : Fin k0_t1_loop.trips) : ClosedOff (k0_off34 k 0#32 0#32 2#32) := ⟨![(2 * k.val + 0) / 4, 128 * ((2 * k.val + 0) % 4) + 2, 0], by revert k; decide +kernel⟩
instance (k : Fin k0_t1_loop.trips) : ClosedOff (k0_off34 k 0#32 0#32 3#32) := ⟨![(2 * k.val + 0) / 4, 128 * ((2 * k.val + 0) % 4) + 3, 0], by revert k; decide +kernel⟩
instance (k : Fin k0_t1_loop.trips) : ClosedOff (k0_off34 k 0#32 32#32 0#32) := ⟨![(2 * k.val + 0) / 4, 128 * ((2 * k.val + 0) % 4) + 32, 0], by revert k; decide +kernel⟩
instance (k : Fin k0_t1_loop.trips) : ClosedOff (k0_off34 k 0#32 32#32 1#32) := ⟨![(2 * k.val + 0) / 4, 128 * ((2 * k.val + 0) % 4) + 33, 0], by revert k; decide +kernel⟩
instance (k : Fin k0_t1_loop.trips) : ClosedOff (k0_off34 k 0#32 32#32 2#32) := ⟨![(2 * k.val + 0) / 4, 128 * ((2 * k.val + 0) % 4) + 34, 0], by revert k; decide +kernel⟩
instance (k : Fin k0_t1_loop.trips) : ClosedOff (k0_off34 k 0#32 32#32 3#32) := ⟨![(2 * k.val + 0) / 4, 128 * ((2 * k.val + 0) % 4) + 35, 0], by revert k; decide +kernel⟩
instance (k : Fin k0_t1_loop.trips) : ClosedOff (k0_off34 k 0#32 64#32 0#32) := ⟨![(2 * k.val + 0) / 4, 128 * ((2 * k.val + 0) % 4) + 64, 0], by revert k; decide +kernel⟩
instance (k : Fin k0_t1_loop.trips) : ClosedOff (k0_off34 k 0#32 64#32 1#32) := ⟨![(2 * k.val + 0) / 4, 128 * ((2 * k.val + 0) % 4) + 65, 0], by revert k; decide +kernel⟩
instance (k : Fin k0_t1_loop.trips) : ClosedOff (k0_off34 k 0#32 64#32 2#32) := ⟨![(2 * k.val + 0) / 4, 128 * ((2 * k.val + 0) % 4) + 66, 0], by revert k; decide +kernel⟩
instance (k : Fin k0_t1_loop.trips) : ClosedOff (k0_off34 k 0#32 64#32 3#32) := ⟨![(2 * k.val + 0) / 4, 128 * ((2 * k.val + 0) % 4) + 67, 0], by revert k; decide +kernel⟩
instance (k : Fin k0_t1_loop.trips) : ClosedOff (k0_off34 k 0#32 96#32 0#32) := ⟨![(2 * k.val + 0) / 4, 128 * ((2 * k.val + 0) % 4) + 96, 0], by revert k; decide +kernel⟩
instance (k : Fin k0_t1_loop.trips) : ClosedOff (k0_off34 k 0#32 96#32 1#32) := ⟨![(2 * k.val + 0) / 4, 128 * ((2 * k.val + 0) % 4) + 97, 0], by revert k; decide +kernel⟩
instance (k : Fin k0_t1_loop.trips) : ClosedOff (k0_off34 k 0#32 96#32 2#32) := ⟨![(2 * k.val + 0) / 4, 128 * ((2 * k.val + 0) % 4) + 98, 0], by revert k; decide +kernel⟩
instance (k : Fin k0_t1_loop.trips) : ClosedOff (k0_off34 k 0#32 96#32 3#32) := ⟨![(2 * k.val + 0) / 4, 128 * ((2 * k.val + 0) % 4) + 99, 0], by revert k; decide +kernel⟩
instance (k : Fin k0_t1_loop.trips) : ClosedOff (k0_off34 k 1#32 0#32 0#32) := ⟨![(2 * k.val + 1) / 4, 128 * ((2 * k.val + 1) % 4) + 0, 0], by revert k; decide +kernel⟩
instance (k : Fin k0_t1_loop.trips) : ClosedOff (k0_off34 k 1#32 0#32 1#32) := ⟨![(2 * k.val + 1) / 4, 128 * ((2 * k.val + 1) % 4) + 1, 0], by revert k; decide +kernel⟩
instance (k : Fin k0_t1_loop.trips) : ClosedOff (k0_off34 k 1#32 0#32 2#32) := ⟨![(2 * k.val + 1) / 4, 128 * ((2 * k.val + 1) % 4) + 2, 0], by revert k; decide +kernel⟩
instance (k : Fin k0_t1_loop.trips) : ClosedOff (k0_off34 k 1#32 0#32 3#32) := ⟨![(2 * k.val + 1) / 4, 128 * ((2 * k.val + 1) % 4) + 3, 0], by revert k; decide +kernel⟩
instance (k : Fin k0_t1_loop.trips) : ClosedOff (k0_off34 k 1#32 32#32 0#32) := ⟨![(2 * k.val + 1) / 4, 128 * ((2 * k.val + 1) % 4) + 32, 0], by revert k; decide +kernel⟩
instance (k : Fin k0_t1_loop.trips) : ClosedOff (k0_off34 k 1#32 32#32 1#32) := ⟨![(2 * k.val + 1) / 4, 128 * ((2 * k.val + 1) % 4) + 33, 0], by revert k; decide +kernel⟩
instance (k : Fin k0_t1_loop.trips) : ClosedOff (k0_off34 k 1#32 32#32 2#32) := ⟨![(2 * k.val + 1) / 4, 128 * ((2 * k.val + 1) % 4) + 34, 0], by revert k; decide +kernel⟩
instance (k : Fin k0_t1_loop.trips) : ClosedOff (k0_off34 k 1#32 32#32 3#32) := ⟨![(2 * k.val + 1) / 4, 128 * ((2 * k.val + 1) % 4) + 35, 0], by revert k; decide +kernel⟩
instance (k : Fin k0_t1_loop.trips) : ClosedOff (k0_off34 k 1#32 64#32 0#32) := ⟨![(2 * k.val + 1) / 4, 128 * ((2 * k.val + 1) % 4) + 64, 0], by revert k; decide +kernel⟩
instance (k : Fin k0_t1_loop.trips) : ClosedOff (k0_off34 k 1#32 64#32 1#32) := ⟨![(2 * k.val + 1) / 4, 128 * ((2 * k.val + 1) % 4) + 65, 0], by revert k; decide +kernel⟩
instance (k : Fin k0_t1_loop.trips) : ClosedOff (k0_off34 k 1#32 64#32 2#32) := ⟨![(2 * k.val + 1) / 4, 128 * ((2 * k.val + 1) % 4) + 66, 0], by revert k; decide +kernel⟩
instance (k : Fin k0_t1_loop.trips) : ClosedOff (k0_off34 k 1#32 64#32 3#32) := ⟨![(2 * k.val + 1) / 4, 128 * ((2 * k.val + 1) % 4) + 67, 0], by revert k; decide +kernel⟩
instance (k : Fin k0_t1_loop.trips) : ClosedOff (k0_off34 k 1#32 96#32 0#32) := ⟨![(2 * k.val + 1) / 4, 128 * ((2 * k.val + 1) % 4) + 96, 0], by revert k; decide +kernel⟩
instance (k : Fin k0_t1_loop.trips) : ClosedOff (k0_off34 k 1#32 96#32 1#32) := ⟨![(2 * k.val + 1) / 4, 128 * ((2 * k.val + 1) % 4) + 97, 0], by revert k; decide +kernel⟩
instance (k : Fin k0_t1_loop.trips) : ClosedOff (k0_off34 k 1#32 96#32 2#32) := ⟨![(2 * k.val + 1) / 4, 128 * ((2 * k.val + 1) % 4) + 98, 0], by revert k; decide +kernel⟩
instance (k : Fin k0_t1_loop.trips) : ClosedOff (k0_off34 k 1#32 96#32 3#32) := ⟨![(2 * k.val + 1) / 4, 128 * ((2 * k.val + 1) % 4) + 99, 0], by revert k; decide +kernel⟩
instance (k : Fin k0_t1_loop.trips) : ClosedOff (k0_off42 k 0#32 0#32 0#32) := ⟨![(6 * k.val + 0) / 4, 128 * ((6 * k.val + 0) % 4) + 0, 0], by revert k; decide +kernel⟩
instance (k : Fin k0_t1_loop.trips) : ClosedOff (k0_off42 k 0#32 0#32 1#32) := ⟨![(6 * k.val + 0) / 4, 128 * ((6 * k.val + 0) % 4) + 1, 0], by revert k; decide +kernel⟩
instance (k : Fin k0_t1_loop.trips) : ClosedOff (k0_off42 k 0#32 0#32 2#32) := ⟨![(6 * k.val + 0) / 4, 128 * ((6 * k.val + 0) % 4) + 2, 0], by revert k; decide +kernel⟩
instance (k : Fin k0_t1_loop.trips) : ClosedOff (k0_off42 k 0#32 0#32 3#32) := ⟨![(6 * k.val + 0) / 4, 128 * ((6 * k.val + 0) % 4) + 3, 0], by revert k; decide +kernel⟩
instance (k : Fin k0_t1_loop.trips) : ClosedOff (k0_off42 k 0#32 1#32 0#32) := ⟨![(6 * k.val + 0) / 4, 128 * ((6 * k.val + 0) % 4) + 32, 0], by revert k; decide +kernel⟩
instance (k : Fin k0_t1_loop.trips) : ClosedOff (k0_off42 k 0#32 1#32 1#32) := ⟨![(6 * k.val + 0) / 4, 128 * ((6 * k.val + 0) % 4) + 33, 0], by revert k; decide +kernel⟩
instance (k : Fin k0_t1_loop.trips) : ClosedOff (k0_off42 k 0#32 1#32 2#32) := ⟨![(6 * k.val + 0) / 4, 128 * ((6 * k.val + 0) % 4) + 34, 0], by revert k; decide +kernel⟩
instance (k : Fin k0_t1_loop.trips) : ClosedOff (k0_off42 k 0#32 1#32 3#32) := ⟨![(6 * k.val + 0) / 4, 128 * ((6 * k.val + 0) % 4) + 35, 0], by revert k; decide +kernel⟩
instance (k : Fin k0_t1_loop.trips) : ClosedOff (k0_off42 k 0#32 2#32 0#32) := ⟨![(6 * k.val + 0) / 4, 128 * ((6 * k.val + 0) % 4) + 64, 0], by revert k; decide +kernel⟩
instance (k : Fin k0_t1_loop.trips) : ClosedOff (k0_off42 k 0#32 2#32 1#32) := ⟨![(6 * k.val + 0) / 4, 128 * ((6 * k.val + 0) % 4) + 65, 0], by revert k; decide +kernel⟩
instance (k : Fin k0_t1_loop.trips) : ClosedOff (k0_off42 k 0#32 2#32 2#32) := ⟨![(6 * k.val + 0) / 4, 128 * ((6 * k.val + 0) % 4) + 66, 0], by revert k; decide +kernel⟩
instance (k : Fin k0_t1_loop.trips) : ClosedOff (k0_off42 k 0#32 2#32 3#32) := ⟨![(6 * k.val + 0) / 4, 128 * ((6 * k.val + 0) % 4) + 67, 0], by revert k; decide +kernel⟩
instance (k : Fin k0_t1_loop.trips) : ClosedOff (k0_off42 k 0#32 3#32 0#32) := ⟨![(6 * k.val + 0) / 4, 128 * ((6 * k.val + 0) % 4) + 96, 0], by revert k; decide +kernel⟩
instance (k : Fin k0_t1_loop.trips) : ClosedOff (k0_off42 k 0#32 3#32 1#32) := ⟨![(6 * k.val + 0) / 4, 128 * ((6 * k.val + 0) % 4) + 97, 0], by revert k; decide +kernel⟩
instance (k : Fin k0_t1_loop.trips) : ClosedOff (k0_off42 k 0#32 3#32 2#32) := ⟨![(6 * k.val + 0) / 4, 128 * ((6 * k.val + 0) % 4) + 98, 0], by revert k; decide +kernel⟩
instance (k : Fin k0_t1_loop.trips) : ClosedOff (k0_off42 k 0#32 3#32 3#32) := ⟨![(6 * k.val + 0) / 4, 128 * ((6 * k.val + 0) % 4) + 99, 0], by revert k; decide +kernel⟩
instance (k : Fin k0_t1_loop.trips) : ClosedOff (k0_off42 k 1#32 0#32 0#32) := ⟨![(6 * k.val + 1) / 4, 128 * ((6 * k.val + 1) % 4) + 0, 0], by revert k; decide +kernel⟩
instance (k : Fin k0_t1_loop.trips) : ClosedOff (k0_off42 k 1#32 0#32 1#32) := ⟨![(6 * k.val + 1) / 4, 128 * ((6 * k.val + 1) % 4) + 1, 0], by revert k; decide +kernel⟩
instance (k : Fin k0_t1_loop.trips) : ClosedOff (k0_off42 k 1#32 0#32 2#32) := ⟨![(6 * k.val + 1) / 4, 128 * ((6 * k.val + 1) % 4) + 2, 0], by revert k; decide +kernel⟩
instance (k : Fin k0_t1_loop.trips) : ClosedOff (k0_off42 k 1#32 0#32 3#32) := ⟨![(6 * k.val + 1) / 4, 128 * ((6 * k.val + 1) % 4) + 3, 0], by revert k; decide +kernel⟩
instance (k : Fin k0_t1_loop.trips) : ClosedOff (k0_off42 k 1#32 1#32 0#32) := ⟨![(6 * k.val + 1) / 4, 128 * ((6 * k.val + 1) % 4) + 32, 0], by revert k; decide +kernel⟩
instance (k : Fin k0_t1_loop.trips) : ClosedOff (k0_off42 k 1#32 1#32 1#32) := ⟨![(6 * k.val + 1) / 4, 128 * ((6 * k.val + 1) % 4) + 33, 0], by revert k; decide +kernel⟩
instance (k : Fin k0_t1_loop.trips) : ClosedOff (k0_off42 k 1#32 1#32 2#32) := ⟨![(6 * k.val + 1) / 4, 128 * ((6 * k.val + 1) % 4) + 34, 0], by revert k; decide +kernel⟩
instance (k : Fin k0_t1_loop.trips) : ClosedOff (k0_off42 k 1#32 1#32 3#32) := ⟨![(6 * k.val + 1) / 4, 128 * ((6 * k.val + 1) % 4) + 35, 0], by revert k; decide +kernel⟩
instance (k : Fin k0_t1_loop.trips) : ClosedOff (k0_off42 k 1#32 2#32 0#32) := ⟨![(6 * k.val + 1) / 4, 128 * ((6 * k.val + 1) % 4) + 64, 0], by revert k; decide +kernel⟩
instance (k : Fin k0_t1_loop.trips) : ClosedOff (k0_off42 k 1#32 2#32 1#32) := ⟨![(6 * k.val + 1) / 4, 128 * ((6 * k.val + 1) % 4) + 65, 0], by revert k; decide +kernel⟩
instance (k : Fin k0_t1_loop.trips) : ClosedOff (k0_off42 k 1#32 2#32 2#32) := ⟨![(6 * k.val + 1) / 4, 128 * ((6 * k.val + 1) % 4) + 66, 0], by revert k; decide +kernel⟩
instance (k : Fin k0_t1_loop.trips) : ClosedOff (k0_off42 k 1#32 2#32 3#32) := ⟨![(6 * k.val + 1) / 4, 128 * ((6 * k.val + 1) % 4) + 67, 0], by revert k; decide +kernel⟩
instance (k : Fin k0_t1_loop.trips) : ClosedOff (k0_off42 k 1#32 3#32 0#32) := ⟨![(6 * k.val + 1) / 4, 128 * ((6 * k.val + 1) % 4) + 96, 0], by revert k; decide +kernel⟩
instance (k : Fin k0_t1_loop.trips) : ClosedOff (k0_off42 k 1#32 3#32 1#32) := ⟨![(6 * k.val + 1) / 4, 128 * ((6 * k.val + 1) % 4) + 97, 0], by revert k; decide +kernel⟩
instance (k : Fin k0_t1_loop.trips) : ClosedOff (k0_off42 k 1#32 3#32 2#32) := ⟨![(6 * k.val + 1) / 4, 128 * ((6 * k.val + 1) % 4) + 98, 0], by revert k; decide +kernel⟩
instance (k : Fin k0_t1_loop.trips) : ClosedOff (k0_off42 k 1#32 3#32 3#32) := ⟨![(6 * k.val + 1) / 4, 128 * ((6 * k.val + 1) % 4) + 99, 0], by revert k; decide +kernel⟩
instance (k : Fin k0_t1_loop.trips) : ClosedOff (k0_off42 k 2#32 0#32 0#32) := ⟨![(6 * k.val + 2) / 4, 128 * ((6 * k.val + 2) % 4) + 0, 0], by revert k; decide +kernel⟩
instance (k : Fin k0_t1_loop.trips) : ClosedOff (k0_off42 k 2#32 0#32 1#32) := ⟨![(6 * k.val + 2) / 4, 128 * ((6 * k.val + 2) % 4) + 1, 0], by revert k; decide +kernel⟩
instance (k : Fin k0_t1_loop.trips) : ClosedOff (k0_off42 k 2#32 0#32 2#32) := ⟨![(6 * k.val + 2) / 4, 128 * ((6 * k.val + 2) % 4) + 2, 0], by revert k; decide +kernel⟩
instance (k : Fin k0_t1_loop.trips) : ClosedOff (k0_off42 k 2#32 0#32 3#32) := ⟨![(6 * k.val + 2) / 4, 128 * ((6 * k.val + 2) % 4) + 3, 0], by revert k; decide +kernel⟩
instance (k : Fin k0_t1_loop.trips) : ClosedOff (k0_off42 k 2#32 1#32 0#32) := ⟨![(6 * k.val + 2) / 4, 128 * ((6 * k.val + 2) % 4) + 32, 0], by revert k; decide +kernel⟩
instance (k : Fin k0_t1_loop.trips) : ClosedOff (k0_off42 k 2#32 1#32 1#32) := ⟨![(6 * k.val + 2) / 4, 128 * ((6 * k.val + 2) % 4) + 33, 0], by revert k; decide +kernel⟩
instance (k : Fin k0_t1_loop.trips) : ClosedOff (k0_off42 k 2#32 1#32 2#32) := ⟨![(6 * k.val + 2) / 4, 128 * ((6 * k.val + 2) % 4) + 34, 0], by revert k; decide +kernel⟩
instance (k : Fin k0_t1_loop.trips) : ClosedOff (k0_off42 k 2#32 1#32 3#32) := ⟨![(6 * k.val + 2) / 4, 128 * ((6 * k.val + 2) % 4) + 35, 0], by revert k; decide +kernel⟩
instance (k : Fin k0_t1_loop.trips) : ClosedOff (k0_off42 k 2#32 2#32 0#32) := ⟨![(6 * k.val + 2) / 4, 128 * ((6 * k.val + 2) % 4) + 64, 0], by revert k; decide +kernel⟩
instance (k : Fin k0_t1_loop.trips) : ClosedOff (k0_off42 k 2#32 2#32 1#32) := ⟨![(6 * k.val + 2) / 4, 128 * ((6 * k.val + 2) % 4) + 65, 0], by revert k; decide +kernel⟩
instance (k : Fin k0_t1_loop.trips) : ClosedOff (k0_off42 k 2#32 2#32 2#32) := ⟨![(6 * k.val + 2) / 4, 128 * ((6 * k.val + 2) % 4) + 66, 0], by revert k; decide +kernel⟩
instance (k : Fin k0_t1_loop.trips) : ClosedOff (k0_off42 k 2#32 2#32 3#32) := ⟨![(6 * k.val + 2) / 4, 128 * ((6 * k.val + 2) % 4) + 67, 0], by revert k; decide +kernel⟩
instance (k : Fin k0_t1_loop.trips) : ClosedOff (k0_off42 k 2#32 3#32 0#32) := ⟨![(6 * k.val + 2) / 4, 128 * ((6 * k.val + 2) % 4) + 96, 0], by revert k; decide +kernel⟩
instance (k : Fin k0_t1_loop.trips) : ClosedOff (k0_off42 k 2#32 3#32 1#32) := ⟨![(6 * k.val + 2) / 4, 128 * ((6 * k.val + 2) % 4) + 97, 0], by revert k; decide +kernel⟩
instance (k : Fin k0_t1_loop.trips) : ClosedOff (k0_off42 k 2#32 3#32 2#32) := ⟨![(6 * k.val + 2) / 4, 128 * ((6 * k.val + 2) % 4) + 98, 0], by revert k; decide +kernel⟩
instance (k : Fin k0_t1_loop.trips) : ClosedOff (k0_off42 k 2#32 3#32 3#32) := ⟨![(6 * k.val + 2) / 4, 128 * ((6 * k.val + 2) % 4) + 99, 0], by revert k; decide +kernel⟩
instance (k : Fin k0_t1_loop.trips) : ClosedOff (k0_off42 k 3#32 0#32 0#32) := ⟨![(6 * k.val + 3) / 4, 128 * ((6 * k.val + 3) % 4) + 0, 0], by revert k; decide +kernel⟩
instance (k : Fin k0_t1_loop.trips) : ClosedOff (k0_off42 k 3#32 0#32 1#32) := ⟨![(6 * k.val + 3) / 4, 128 * ((6 * k.val + 3) % 4) + 1, 0], by revert k; decide +kernel⟩
instance (k : Fin k0_t1_loop.trips) : ClosedOff (k0_off42 k 3#32 0#32 2#32) := ⟨![(6 * k.val + 3) / 4, 128 * ((6 * k.val + 3) % 4) + 2, 0], by revert k; decide +kernel⟩
instance (k : Fin k0_t1_loop.trips) : ClosedOff (k0_off42 k 3#32 0#32 3#32) := ⟨![(6 * k.val + 3) / 4, 128 * ((6 * k.val + 3) % 4) + 3, 0], by revert k; decide +kernel⟩
instance (k : Fin k0_t1_loop.trips) : ClosedOff (k0_off42 k 3#32 1#32 0#32) := ⟨![(6 * k.val + 3) / 4, 128 * ((6 * k.val + 3) % 4) + 32, 0], by revert k; decide +kernel⟩
instance (k : Fin k0_t1_loop.trips) : ClosedOff (k0_off42 k 3#32 1#32 1#32) := ⟨![(6 * k.val + 3) / 4, 128 * ((6 * k.val + 3) % 4) + 33, 0], by revert k; decide +kernel⟩
instance (k : Fin k0_t1_loop.trips) : ClosedOff (k0_off42 k 3#32 1#32 2#32) := ⟨![(6 * k.val + 3) / 4, 128 * ((6 * k.val + 3) % 4) + 34, 0], by revert k; decide +kernel⟩
instance (k : Fin k0_t1_loop.trips) : ClosedOff (k0_off42 k 3#32 1#32 3#32) := ⟨![(6 * k.val + 3) / 4, 128 * ((6 * k.val + 3) % 4) + 35, 0], by revert k; decide +kernel⟩
instance (k : Fin k0_t1_loop.trips) : ClosedOff (k0_off42 k 3#32 2#32 0#32) := ⟨![(6 * k.val + 3) / 4, 128 * ((6 * k.val + 3) % 4) + 64, 0], by revert k; decide +kernel⟩
instance (k : Fin k0_t1_loop.trips) : ClosedOff (k0_off42 k 3#32 2#32 1#32) := ⟨![(6 * k.val + 3) / 4, 128 * ((6 * k.val + 3) % 4) + 65, 0], by revert k; decide +kernel⟩
instance (k : Fin k0_t1_loop.trips) : ClosedOff (k0_off42 k 3#32 2#32 2#32) := ⟨![(6 * k.val + 3) / 4, 128 * ((6 * k.val + 3) % 4) + 66, 0], by revert k; decide +kernel⟩
instance (k : Fin k0_t1_loop.trips) : ClosedOff (k0_off42 k 3#32 2#32 3#32) := ⟨![(6 * k.val + 3) / 4, 128 * ((6 * k.val + 3) % 4) + 67, 0], by revert k; decide +kernel⟩
instance (k : Fin k0_t1_loop.trips) : ClosedOff (k0_off42 k 3#32 3#32 0#32) := ⟨![(6 * k.val + 3) / 4, 128 * ((6 * k.val + 3) % 4) + 96, 0], by revert k; decide +kernel⟩
instance (k : Fin k0_t1_loop.trips) : ClosedOff (k0_off42 k 3#32 3#32 1#32) := ⟨![(6 * k.val + 3) / 4, 128 * ((6 * k.val + 3) % 4) + 97, 0], by revert k; decide +kernel⟩
instance (k : Fin k0_t1_loop.trips) : ClosedOff (k0_off42 k 3#32 3#32 2#32) := ⟨![(6 * k.val + 3) / 4, 128 * ((6 * k.val + 3) % 4) + 98, 0], by revert k; decide +kernel⟩
instance (k : Fin k0_t1_loop.trips) : ClosedOff (k0_off42 k 3#32 3#32 3#32) := ⟨![(6 * k.val + 3) / 4, 128 * ((6 * k.val + 3) % 4) + 99, 0], by revert k; decide +kernel⟩
instance (k : Fin k0_t1_loop.trips) : ClosedOff (k0_off42 k 4#32 0#32 0#32) := ⟨![(6 * k.val + 4) / 4, 128 * ((6 * k.val + 4) % 4) + 0, 0], by revert k; decide +kernel⟩
instance (k : Fin k0_t1_loop.trips) : ClosedOff (k0_off42 k 4#32 0#32 1#32) := ⟨![(6 * k.val + 4) / 4, 128 * ((6 * k.val + 4) % 4) + 1, 0], by revert k; decide +kernel⟩
instance (k : Fin k0_t1_loop.trips) : ClosedOff (k0_off42 k 4#32 0#32 2#32) := ⟨![(6 * k.val + 4) / 4, 128 * ((6 * k.val + 4) % 4) + 2, 0], by revert k; decide +kernel⟩
instance (k : Fin k0_t1_loop.trips) : ClosedOff (k0_off42 k 4#32 0#32 3#32) := ⟨![(6 * k.val + 4) / 4, 128 * ((6 * k.val + 4) % 4) + 3, 0], by revert k; decide +kernel⟩
instance (k : Fin k0_t1_loop.trips) : ClosedOff (k0_off42 k 4#32 1#32 0#32) := ⟨![(6 * k.val + 4) / 4, 128 * ((6 * k.val + 4) % 4) + 32, 0], by revert k; decide +kernel⟩
instance (k : Fin k0_t1_loop.trips) : ClosedOff (k0_off42 k 4#32 1#32 1#32) := ⟨![(6 * k.val + 4) / 4, 128 * ((6 * k.val + 4) % 4) + 33, 0], by revert k; decide +kernel⟩
instance (k : Fin k0_t1_loop.trips) : ClosedOff (k0_off42 k 4#32 1#32 2#32) := ⟨![(6 * k.val + 4) / 4, 128 * ((6 * k.val + 4) % 4) + 34, 0], by revert k; decide +kernel⟩
instance (k : Fin k0_t1_loop.trips) : ClosedOff (k0_off42 k 4#32 1#32 3#32) := ⟨![(6 * k.val + 4) / 4, 128 * ((6 * k.val + 4) % 4) + 35, 0], by revert k; decide +kernel⟩
instance (k : Fin k0_t1_loop.trips) : ClosedOff (k0_off42 k 4#32 2#32 0#32) := ⟨![(6 * k.val + 4) / 4, 128 * ((6 * k.val + 4) % 4) + 64, 0], by revert k; decide +kernel⟩
instance (k : Fin k0_t1_loop.trips) : ClosedOff (k0_off42 k 4#32 2#32 1#32) := ⟨![(6 * k.val + 4) / 4, 128 * ((6 * k.val + 4) % 4) + 65, 0], by revert k; decide +kernel⟩
instance (k : Fin k0_t1_loop.trips) : ClosedOff (k0_off42 k 4#32 2#32 2#32) := ⟨![(6 * k.val + 4) / 4, 128 * ((6 * k.val + 4) % 4) + 66, 0], by revert k; decide +kernel⟩
instance (k : Fin k0_t1_loop.trips) : ClosedOff (k0_off42 k 4#32 2#32 3#32) := ⟨![(6 * k.val + 4) / 4, 128 * ((6 * k.val + 4) % 4) + 67, 0], by revert k; decide +kernel⟩
instance (k : Fin k0_t1_loop.trips) : ClosedOff (k0_off42 k 4#32 3#32 0#32) := ⟨![(6 * k.val + 4) / 4, 128 * ((6 * k.val + 4) % 4) + 96, 0], by revert k; decide +kernel⟩
instance (k : Fin k0_t1_loop.trips) : ClosedOff (k0_off42 k 4#32 3#32 1#32) := ⟨![(6 * k.val + 4) / 4, 128 * ((6 * k.val + 4) % 4) + 97, 0], by revert k; decide +kernel⟩
instance (k : Fin k0_t1_loop.trips) : ClosedOff (k0_off42 k 4#32 3#32 2#32) := ⟨![(6 * k.val + 4) / 4, 128 * ((6 * k.val + 4) % 4) + 98, 0], by revert k; decide +kernel⟩
instance (k : Fin k0_t1_loop.trips) : ClosedOff (k0_off42 k 4#32 3#32 3#32) := ⟨![(6 * k.val + 4) / 4, 128 * ((6 * k.val + 4) % 4) + 99, 0], by revert k; decide +kernel⟩
instance (k : Fin k0_t1_loop.trips) : ClosedOff (k0_off42 k 5#32 0#32 0#32) := ⟨![(6 * k.val + 5) / 4, 128 * ((6 * k.val + 5) % 4) + 0, 0], by revert k; decide +kernel⟩
instance (k : Fin k0_t1_loop.trips) : ClosedOff (k0_off42 k 5#32 0#32 1#32) := ⟨![(6 * k.val + 5) / 4, 128 * ((6 * k.val + 5) % 4) + 1, 0], by revert k; decide +kernel⟩
instance (k : Fin k0_t1_loop.trips) : ClosedOff (k0_off42 k 5#32 0#32 2#32) := ⟨![(6 * k.val + 5) / 4, 128 * ((6 * k.val + 5) % 4) + 2, 0], by revert k; decide +kernel⟩
instance (k : Fin k0_t1_loop.trips) : ClosedOff (k0_off42 k 5#32 0#32 3#32) := ⟨![(6 * k.val + 5) / 4, 128 * ((6 * k.val + 5) % 4) + 3, 0], by revert k; decide +kernel⟩
instance (k : Fin k0_t1_loop.trips) : ClosedOff (k0_off42 k 5#32 1#32 0#32) := ⟨![(6 * k.val + 5) / 4, 128 * ((6 * k.val + 5) % 4) + 32, 0], by revert k; decide +kernel⟩
instance (k : Fin k0_t1_loop.trips) : ClosedOff (k0_off42 k 5#32 1#32 1#32) := ⟨![(6 * k.val + 5) / 4, 128 * ((6 * k.val + 5) % 4) + 33, 0], by revert k; decide +kernel⟩
instance (k : Fin k0_t1_loop.trips) : ClosedOff (k0_off42 k 5#32 1#32 2#32) := ⟨![(6 * k.val + 5) / 4, 128 * ((6 * k.val + 5) % 4) + 34, 0], by revert k; decide +kernel⟩
instance (k : Fin k0_t1_loop.trips) : ClosedOff (k0_off42 k 5#32 1#32 3#32) := ⟨![(6 * k.val + 5) / 4, 128 * ((6 * k.val + 5) % 4) + 35, 0], by revert k; decide +kernel⟩
instance (k : Fin k0_t1_loop.trips) : ClosedOff (k0_off42 k 5#32 2#32 0#32) := ⟨![(6 * k.val + 5) / 4, 128 * ((6 * k.val + 5) % 4) + 64, 0], by revert k; decide +kernel⟩
instance (k : Fin k0_t1_loop.trips) : ClosedOff (k0_off42 k 5#32 2#32 1#32) := ⟨![(6 * k.val + 5) / 4, 128 * ((6 * k.val + 5) % 4) + 65, 0], by revert k; decide +kernel⟩
instance (k : Fin k0_t1_loop.trips) : ClosedOff (k0_off42 k 5#32 2#32 2#32) := ⟨![(6 * k.val + 5) / 4, 128 * ((6 * k.val + 5) % 4) + 66, 0], by revert k; decide +kernel⟩
instance (k : Fin k0_t1_loop.trips) : ClosedOff (k0_off42 k 5#32 2#32 3#32) := ⟨![(6 * k.val + 5) / 4, 128 * ((6 * k.val + 5) % 4) + 67, 0], by revert k; decide +kernel⟩
instance (k : Fin k0_t1_loop.trips) : ClosedOff (k0_off42 k 5#32 3#32 0#32) := ⟨![(6 * k.val + 5) / 4, 128 * ((6 * k.val + 5) % 4) + 96, 0], by revert k; decide +kernel⟩
instance (k : Fin k0_t1_loop.trips) : ClosedOff (k0_off42 k 5#32 3#32 1#32) := ⟨![(6 * k.val + 5) / 4, 128 * ((6 * k.val + 5) % 4) + 97, 0], by revert k; decide +kernel⟩
instance (k : Fin k0_t1_loop.trips) : ClosedOff (k0_off42 k 5#32 3#32 2#32) := ⟨![(6 * k.val + 5) / 4, 128 * ((6 * k.val + 5) % 4) + 98, 0], by revert k; decide +kernel⟩
instance (k : Fin k0_t1_loop.trips) : ClosedOff (k0_off42 k 5#32 3#32 3#32) := ⟨![(6 * k.val + 5) / 4, 128 * ((6 * k.val + 5) % 4) + 99, 0], by revert k; decide +kernel⟩
-- ==== Proof.InHead.lean ====
/-
  The first stretches of a body, which normalise and modulate its rows.
-/
module

public import proofs.«01_k».proof.Proof.InVals
public import proofs.«01_k».proof.Proof.InOffs
public import Idealize.ShloMosaic.Lib.Tactic

@[expose] public section

noncomputable section

namespace Cert.Proof.Inp

open Cert.Kernel5Ideal Cert.Kernel5Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem um_congr {x x' : Vec F S512x1024 .f32} {h h' s s' g g' : FVec F S1x1024 .f32} (hx : x = x') (hh : h = h') (hs : s = s') (hg : g = g') : um x h s g = um x' h' s' g' := by
  subst hx hh hs hg; rfl

theorem sh_rd (arg : Memref sig .tc .vmem S1x9x1024 .f32) (harg : arg.IsWhole) (x : Vec F S1x9x1024 .f32) :
    extractStridedSlice S1x1024 ![3, 0] (shapeCast S9x1024 (arg.view.readAt (Elt F) (Rect.unit (s := S1x9x1024) ![0, 0, 0] S1x9x1024.size inb_S1x9x1024_S1x9x1024_0_0_0).toLoadRect (harg.unread x)) shapeCasts_S1x9x1024_S9x1024) slices_S9x1024_o3_0_S1x1024 = sh x := by
  rw [View.readAt_eq_ld, harg.read_unread, View.ld_unit_lit' _ x (by decide), sh_ld]
theorem sc_rd (arg : Memref sig .tc .vmem S1x9x1024 .f32) (harg : arg.IsWhole) (x : Vec F S1x9x1024 .f32) :
    extractStridedSlice S1x1024 ![4, 0] (shapeCast S9x1024 (arg.view.readAt (Elt F) (Rect.unit (s := S1x9x1024) ![0, 0, 0] S1x9x1024.size inb_S1x9x1024_S1x9x1024_0_0_0).toLoadRect (harg.unread x)) shapeCasts_S1x9x1024_S9x1024) slices_S9x1024_o4_0_S1x1024 = sc x := by
  rw [View.readAt_eq_ld, harg.read_unread, View.ld_unit_lit' _ x (by decide), sc_ld]
theorem g_rd (arg : Memref sig .tc .vmem S1x1024 .f32) (harg : arg.IsWhole) (x : Vec F S1x1024 .f32) :
    shapeCast S1x1024 (arg.view.readAt (Elt F) (Rect.unit (s := S1x1024) ![0, 0] S1x1024.size inb_S1x1024_S1x1024_0_0).toLoadRect (harg.unread x)) shapeCasts_S1x1024_S1x1024 = x := by
  rw [View.readAt_eq_ld, harg.read_unread, View.ld_unit_lit' _ x (by decide), cast1024]
theorem h_rd (arg : Memref sig .tc .vmem S64x1024 .f32) (harg : arg.IsWhole) (x : Vec F S64x1024 .f32) :
    arg.view.readAt (Elt F) (Rect.unit (s := S64x1024) ![0, 0] S64x1024.size inb_S64x1024_S64x1024_0_0).toLoadRect (harg.unread x) = x := by
  rw [View.readAt_eq_ld, harg.read_unread, View.ld_unit_lit' _ x (by decide)]

set_option maxHeartbeats 0 in
/-- The first stretch normalises and modulates the block, and begins on the rows before it. -/
theorem part275_run (c : Dev nD) (i : grid0.Coords) (arg2 : Memref sig .tc .vmem S512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S17x1024x256 .bf16) (harg8 : arg8.IsWhole) (arg9 : Memref sig .tc .vmem S12x5x128 .f32) (harg9 : arg9.IsWhole) (arg10 : Memref sig .tc .vmem S12x1x128 .f32) (harg10 : arg10.IsWhole) (arg11 : Memref sig .tc .vmem S1x256 .f32) (harg11 : arg11.IsWhole) (arg12 : Memref sig .tc .vmem S4x31x128 .f32) (harg12 : arg12.IsWhole) (arg13 : Memref sig .tc .vmem S4x1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S2x512x128 .f32) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x1024 .bf16) (harg23 : arg23.IsWhole) (arg24 : Memref sig .tc .vmem S34x544x128 .f32) (harg24 : arg24.IsWhole) (arg25 : Memref sig .tc .vmem S12x512x128 .f32) (harg25 : arg25.IsWhole) (arg26 : Memref sig .tc .vmem S4x768x128 .f32) (harg26 : arg26.IsWhole) (arg27 : Memref sig .tc .vmem S4x512x128 .f32) (harg27 : arg27.IsWhole)
    (x2 : Vec F S512x1024 .f32) (x3 : Vec F S64x1024 .f32) (x5 : Vec F S1x9x1024 .f32) (x6 : Vec F S1x1024 .f32) (E : Set ℕ) (K : (Σ' (v0 : BitVec 1) (v1 : BitVec 1) (v4 : FVec F S1x1024 .f32) (v5 : FVec F S1x1024 .f32) (v7 : FVec F S1x1024 .f32) (v31 : Vec F S64x1024 .f32) (v36 : FVec F S64x1 .f32), F .f32) → sProp 𝕄) :
    iprop(owns (c : Thread nD τ) arg2 fullShare x2 ∗ owns (c : Thread nD τ) arg3 fullShare x3 ∗ owns (c : Thread nD τ) arg5 fullShare x5 ∗ owns (c : Thread nD τ) arg6 fullShare x6 ∗ (∃ d, owns (c : Thread nD τ) arg23 fullShare d)
        ∗ (∀ v, iprop(owns (c : Thread nD τ) arg2 fullShare x2 ∗ owns (c : Thread nD τ) arg3 fullShare x3 ∗ owns (c : Thread nD τ) arg5 fullShare x5 ∗ owns (c : Thread nD τ) arg6 fullShare x6 ∗ owns (c : Thread nD τ) arg23 fullShare (um x2 (sh x5) (sc x5) x6) ∗ ⌜v.1 = c0 i ∧ v.2.1 = c1 i ∧ v.2.2.1 = sh x5 ∧ v.2.2.2.1 = sc x5 ∧ v.2.2.2.2.1 = x6 ∧ v.2.2.2.2.2.1 = x3 ∧ v.2.2.2.2.2.2.1 = ms x3 ∧ v.2.2.2.2.2.2.2 = Scalar.ofBits .f32 0x358637BD#32⌝) -∗ K v))
      ⊢ wp frame (wpE (defs₀ (F := F)) 𝒱₀ c none) E (k0_part275 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  unfold owns
  iintro ⟨⟨%f2, %hf2, H2⟩, ⟨%f3, %hf3, H3⟩, ⟨%f5, %hf5, H5⟩, ⟨%f6, %hf6, H6⟩, ⟨%d23, %f23, -, H23⟩, Hk⟩
  obtain rfl := harg2.eq_unread hf2; obtain rfl := harg3.eq_unread hf3; obtain rfl := harg5.eq_unread hf5; obtain rfl := harg6.eq_unread hf6
  sl_unfold [k0_part275]
  sl_exec_parts
  sl_step
  iapply Hk
  isplitl [H2]
  · iexists _; isplitr; · ipureintro; exact harg2.read_unread _
    iexact H2
  isplitl [H3]
  · iexists _; isplitr; · ipureintro; exact harg3.read_unread _
    iexact H3
  isplitl [H5]
  · iexists _; isplitr; · ipureintro; exact harg5.read_unread _
    iexact H5
  isplitl [H6]
  · iexists _; isplitr; · ipureintro; exact harg6.read_unread _
    iexact H6
  isplitl [H23]
  · iexists _; isplitr; swap; · iexact H23
    ipureintro
    funext y
    refine View.read_writes_apply_of_pieces (Val := Elt F) arg23.view _ (um x2 (sh x5) (sc x5) x6) _ ?_ y ?_
    · intro p hp x
      obtain rfl := List.mem_singleton.mp hp
      have hx : (Rect.unit (s := S512x1024) ![0, 0] S512x1024.size inb_S512x1024_S512x1024_0_0).emb x = x := by
        refine Rect.emb_eq_of_coords _ _ _ fun q => ?_
        match q with
        | 0 => show (x 0).val = 0 + 1 * (x 0).val; omega
        | 1 => show (x 1).val = 0 + 1 * (x 1).val; omega
      refine Eq.trans ?_ (congrArg (um x2 (sh x5) (sc x5) x6) hx).symm
      refine (congrFun (castum _ shapeCasts_S512x1024_S512x1024) x).trans (congrFun (um_congr ?_ ?_ ?_ ?_) x)
      · rw [View.readAt_eq_ld, harg2.read_unread, View.ld_unit_lit' _ x2 (by decide)]
      · exact sh_rd arg5 harg5 x5
      · exact sc_rd arg5 harg5 x5
      · exact g_rd arg6 harg6 x6
    · refine ⟨_, List.mem_singleton_self _, ?_⟩
      rw [← Rect.map_emb_univ]
      refine Finset.mem_map.mpr ⟨y, Finset.mem_univ _, ?_⟩
      refine Rect.emb_eq_of_coords _ _ _ fun q => ?_
      match q with
      | 0 => show (y 0).val = 0 + 1 * (y 0).val; omega
      | 1 => show (y 1).val = 0 + 1 * (y 1).val; omega
  ipureintro
  exact ⟨rfl, rfl, sh_rd arg5 harg5 x5, sc_rd arg5 harg5 x5, g_rd arg6 harg6 x6, h_rd arg3 harg3 x3, congrArg ms (h_rd arg3 harg3 x3), rfl⟩
set_option maxHeartbeats 0 in
/-- The second stretch normalises and modulates the rows beside the block. -/
theorem part276_run (c : Dev nD) (i : grid0.Coords) (arg2 : Memref sig .tc .vmem S512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S17x1024x256 .bf16) (harg8 : arg8.IsWhole) (arg9 : Memref sig .tc .vmem S12x5x128 .f32) (harg9 : arg9.IsWhole) (arg10 : Memref sig .tc .vmem S12x1x128 .f32) (harg10 : arg10.IsWhole) (arg11 : Memref sig .tc .vmem S1x256 .f32) (harg11 : arg11.IsWhole) (arg12 : Memref sig .tc .vmem S4x31x128 .f32) (harg12 : arg12.IsWhole) (arg13 : Memref sig .tc .vmem S4x1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S2x512x128 .f32) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x1024 .bf16) (harg23 : arg23.IsWhole) (arg24 : Memref sig .tc .vmem S34x544x128 .f32) (harg24 : arg24.IsWhole) (arg25 : Memref sig .tc .vmem S12x512x128 .f32) (harg25 : arg25.IsWhole) (arg26 : Memref sig .tc .vmem S4x768x128 .f32) (harg26 : arg26.IsWhole) (arg27 : Memref sig .tc .vmem S4x512x128 .f32) (harg27 : arg27.IsWhole) (v0 : BitVec 1) (v1 : BitVec 1) (v4 : FVec F S1x1024 .f32) (v5 : FVec F S1x1024 .f32) (v7 : FVec F S1x1024 .f32) (v31 : Vec F S64x1024 .f32) (v36 : FVec F S64x1 .f32) (cst_15 : F .f32)
    (x4 : Vec F S64x1024 .f32) (x8 : Vec F S17x1024x256 .bf16) (E : Set ℕ) (K : (Σ' (v50 : FVec F S64x1024 .bf16) (v70 : FVec F S64x1024 .bf16) (v73 : FVec F S32x1024 .bf16) (v79 : FVec F S16x256 .f32) (v82 : FVec F S16x256 .f32), FVec F S16x128 .f32) → sProp 𝕄) :
    iprop(owns (c : Thread nD τ) arg4 fullShare x4 ∗ owns (c : Thread nD τ) arg8 fullShare x8
        ∗ (∀ v, iprop(owns (c : Thread nD τ) arg4 fullShare x4 ∗ owns (c : Thread nD τ) arg8 fullShare x8 ∗ ⌜v36 = ms v31 → cst_15 = Scalar.ofBits .f32 0x358637BD#32 → v.1 = uh v31 v4 v5 v7 ∧ v.2.1 = uh x4 v4 v5 v7⌝) -∗ K v))
      ⊢ wp frame (wpE (defs₀ (F := F)) 𝒱₀ c none) E (k0_part276 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v0 v1 v4 v5 v7 v31 v36 cst_15) K := by
  unfold owns
  iintro ⟨⟨%f4, %hf4, H4⟩, ⟨%f8, %hf8, H8⟩, Hk⟩
  obtain rfl := harg4.eq_unread hf4; obtain rfl := harg8.eq_unread hf8
  sl_unfold [k0_part276]
  sl_exec_parts
  sl_step
  iapply Hk
  isplitl [H4]
  · iexists _; isplitr; · ipureintro; exact harg4.read_unread _
    iexact H4
  isplitl [H8]
  · iexists _; isplitr; · ipureintro; exact harg8.read_unread _
    iexact H8
  ipureintro
  intro e1 e2
  subst e1 e2
  exact ⟨rfl, congrArg (fun z => uh z v4 v5 v7) (h_rd arg4 harg4 x4)⟩

end Cert.Proof.Inp

end
-- ==== Proof.InEdge.lean ====
/-
  This stretch writes rows before and after a block's own into the buffer of the projections, stretch by stretch.
-/
module

public import proofs.«01_k».proof.Proof.InOffs
public import Idealize.ShloMosaic.Lib.Tactic

@[expose] public section

noncomputable section

namespace Cert.Proof.Inp

open Cert.Kernel5Ideal Cert.Kernel5Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 0 in
/-- This stretch writes rows before and after a block's own into the buffer of the projections. -/
theorem part277_run (c : Dev nD) (i : grid0.Coords) (arg2 : Memref sig .tc .vmem S512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S17x1024x256 .bf16) (harg8 : arg8.IsWhole) (arg9 : Memref sig .tc .vmem S12x5x128 .f32) (harg9 : arg9.IsWhole) (arg10 : Memref sig .tc .vmem S12x1x128 .f32) (harg10 : arg10.IsWhole) (arg11 : Memref sig .tc .vmem S1x256 .f32) (harg11 : arg11.IsWhole) (arg12 : Memref sig .tc .vmem S4x31x128 .f32) (harg12 : arg12.IsWhole) (arg13 : Memref sig .tc .vmem S4x1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S2x512x128 .f32) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x1024 .bf16) (harg23 : arg23.IsWhole) (arg24 : Memref sig .tc .vmem S34x544x128 .f32) (harg24 : arg24.IsWhole) (arg25 : Memref sig .tc .vmem S12x512x128 .f32) (harg25 : arg25.IsWhole) (arg26 : Memref sig .tc .vmem S4x768x128 .f32) (harg26 : arg26.IsWhole) (arg27 : Memref sig .tc .vmem S4x512x128 .f32) (harg27 : arg27.IsWhole) (v0 : BitVec 1) (v1 : BitVec 1) (v73 : FVec F S32x1024 .bf16) (v79 : FVec F S16x256 .f32) (v82 : FVec F S16x256 .f32) (v83 : FVec F S16x128 .f32)
    (x8 : Vec F S17x1024x256 .bf16) (E : Set ℕ) (K : (Σ' (v104 : FVec F S16x256 .f32) (v107 : FVec F S16x256 .f32), FVec F S16x128 .f32) → sProp 𝕄) :
    iprop(owns (c : Thread nD τ) arg8 fullShare x8 ∗ (∃ d, owns (c : Thread nD τ) arg24 fullShare d)
        ∗ (∀ v, iprop(owns (c : Thread nD τ) arg8 fullShare x8 ∗ (∃ d, owns (c : Thread nD τ) arg24 fullShare d)) -∗ K v))
      ⊢ wp frame (wpE (defs₀ (F := F)) 𝒱₀ c none) E (k0_part277 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v0 v1 v73 v79 v82 v83) K := by
  unfold owns
  iintro ⟨⟨%f8, %hf8, H8⟩, ⟨%d24, %f24, -, H24⟩, Hk⟩
  obtain rfl := harg8.eq_unread hf8
  sl_unfold [k0_part277]
  sl_exec_parts
  sl_step
  iapply Hk
  isplitl [H8]
  · iexists _; isplitr; · ipureintro; exact harg8.read_unread _
    iexact H8
  iexists _, _; isplitr; swap; · iexact H24
  ipureintro; rfl

set_option maxHeartbeats 0 in
/-- This stretch writes rows before and after a block's own into the buffer of the projections. -/
theorem part278_run (c : Dev nD) (i : grid0.Coords) (arg2 : Memref sig .tc .vmem S512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S17x1024x256 .bf16) (harg8 : arg8.IsWhole) (arg9 : Memref sig .tc .vmem S12x5x128 .f32) (harg9 : arg9.IsWhole) (arg10 : Memref sig .tc .vmem S12x1x128 .f32) (harg10 : arg10.IsWhole) (arg11 : Memref sig .tc .vmem S1x256 .f32) (harg11 : arg11.IsWhole) (arg12 : Memref sig .tc .vmem S4x31x128 .f32) (harg12 : arg12.IsWhole) (arg13 : Memref sig .tc .vmem S4x1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S2x512x128 .f32) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x1024 .bf16) (harg23 : arg23.IsWhole) (arg24 : Memref sig .tc .vmem S34x544x128 .f32) (harg24 : arg24.IsWhole) (arg25 : Memref sig .tc .vmem S12x512x128 .f32) (harg25 : arg25.IsWhole) (arg26 : Memref sig .tc .vmem S4x768x128 .f32) (harg26 : arg26.IsWhole) (arg27 : Memref sig .tc .vmem S4x512x128 .f32) (harg27 : arg27.IsWhole) (v0 : BitVec 1) (v1 : BitVec 1) (v73 : FVec F S32x1024 .bf16) (v104 : FVec F S16x256 .f32) (v107 : FVec F S16x256 .f32) (v112 : FVec F S16x128 .f32)
    (x8 : Vec F S17x1024x256 .bf16) (E : Set ℕ) (K : (FVec F S16x128 .f32) → sProp 𝕄) :
    iprop(owns (c : Thread nD τ) arg8 fullShare x8 ∗ (∃ d, owns (c : Thread nD τ) arg24 fullShare d)
        ∗ (∀ v, iprop(owns (c : Thread nD τ) arg8 fullShare x8 ∗ (∃ d, owns (c : Thread nD τ) arg24 fullShare d)) -∗ K v))
      ⊢ wp frame (wpE (defs₀ (F := F)) 𝒱₀ c none) E (k0_part278 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v0 v1 v73 v104 v107 v112) K := by
  unfold owns
  iintro ⟨⟨%f8, %hf8, H8⟩, ⟨%d24, %f24, -, H24⟩, Hk⟩
  obtain rfl := harg8.eq_unread hf8
  sl_unfold [k0_part278]
  sl_exec_parts
  sl_step
  iapply Hk
  isplitl [H8]
  · iexists _; isplitr; · ipureintro; exact harg8.read_unread _
    iexact H8
  iexists _, _; isplitr; swap; · iexact H24
  ipureintro; rfl

set_option maxHeartbeats 0 in
/-- This stretch writes rows before and after a block's own into the buffer of the projections. -/
theorem part279_run (c : Dev nD) (i : grid0.Coords) (arg2 : Memref sig .tc .vmem S512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S17x1024x256 .bf16) (harg8 : arg8.IsWhole) (arg9 : Memref sig .tc .vmem S12x5x128 .f32) (harg9 : arg9.IsWhole) (arg10 : Memref sig .tc .vmem S12x1x128 .f32) (harg10 : arg10.IsWhole) (arg11 : Memref sig .tc .vmem S1x256 .f32) (harg11 : arg11.IsWhole) (arg12 : Memref sig .tc .vmem S4x31x128 .f32) (harg12 : arg12.IsWhole) (arg13 : Memref sig .tc .vmem S4x1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S2x512x128 .f32) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x1024 .bf16) (harg23 : arg23.IsWhole) (arg24 : Memref sig .tc .vmem S34x544x128 .f32) (harg24 : arg24.IsWhole) (arg25 : Memref sig .tc .vmem S12x512x128 .f32) (harg25 : arg25.IsWhole) (arg26 : Memref sig .tc .vmem S4x768x128 .f32) (harg26 : arg26.IsWhole) (arg27 : Memref sig .tc .vmem S4x512x128 .f32) (harg27 : arg27.IsWhole) (v0 : BitVec 1) (v1 : BitVec 1) (v73 : FVec F S32x1024 .bf16) (v145 : FVec F S16x128 .f32)
    (x8 : Vec F S17x1024x256 .bf16) (E : Set ℕ) (K : (Σ' (v176 : FVec F S32x256 .f32), FVec F S16x256 .f32) → sProp 𝕄) :
    iprop(owns (c : Thread nD τ) arg8 fullShare x8 ∗ (∃ d, owns (c : Thread nD τ) arg24 fullShare d)
        ∗ (∀ v, iprop(owns (c : Thread nD τ) arg8 fullShare x8 ∗ (∃ d, owns (c : Thread nD τ) arg24 fullShare d)) -∗ K v))
      ⊢ wp frame (wpE (defs₀ (F := F)) 𝒱₀ c none) E (k0_part279 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v0 v1 v73 v145) K := by
  unfold owns
  iintro ⟨⟨%f8, %hf8, H8⟩, ⟨%d24, %f24, -, H24⟩, Hk⟩
  obtain rfl := harg8.eq_unread hf8
  sl_unfold [k0_part279]
  sl_exec_parts
  sl_step
  iapply Hk
  isplitl [H8]
  · iexists _; isplitr; · ipureintro; exact harg8.read_unread _
    iexact H8
  iexists _, _; isplitr; swap; · iexact H24
  ipureintro; rfl

set_option maxHeartbeats 0 in
/-- This stretch writes rows before and after a block's own into the buffer of the projections. -/
theorem part280_run (c : Dev nD) (i : grid0.Coords) (arg2 : Memref sig .tc .vmem S512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S17x1024x256 .bf16) (harg8 : arg8.IsWhole) (arg9 : Memref sig .tc .vmem S12x5x128 .f32) (harg9 : arg9.IsWhole) (arg10 : Memref sig .tc .vmem S12x1x128 .f32) (harg10 : arg10.IsWhole) (arg11 : Memref sig .tc .vmem S1x256 .f32) (harg11 : arg11.IsWhole) (arg12 : Memref sig .tc .vmem S4x31x128 .f32) (harg12 : arg12.IsWhole) (arg13 : Memref sig .tc .vmem S4x1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S2x512x128 .f32) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x1024 .bf16) (harg23 : arg23.IsWhole) (arg24 : Memref sig .tc .vmem S34x544x128 .f32) (harg24 : arg24.IsWhole) (arg25 : Memref sig .tc .vmem S12x512x128 .f32) (harg25 : arg25.IsWhole) (arg26 : Memref sig .tc .vmem S4x768x128 .f32) (harg26 : arg26.IsWhole) (arg27 : Memref sig .tc .vmem S4x512x128 .f32) (harg27 : arg27.IsWhole) (v0 : BitVec 1) (v1 : BitVec 1) (v73 : FVec F S32x1024 .bf16) (v176 : FVec F S32x256 .f32) (v177 : FVec F S16x256 .f32)
    (x8 : Vec F S17x1024x256 .bf16) (E : Set ℕ) (K : (Σ' (v204 : FVec F S16x256 .f32) (v207 : FVec F S16x256 .f32), FVec F S16x128 .f32) → sProp 𝕄) :
    iprop(owns (c : Thread nD τ) arg8 fullShare x8 ∗ (∃ d, owns (c : Thread nD τ) arg24 fullShare d)
        ∗ (∀ v, iprop(owns (c : Thread nD τ) arg8 fullShare x8 ∗ (∃ d, owns (c : Thread nD τ) arg24 fullShare d)) -∗ K v))
      ⊢ wp frame (wpE (defs₀ (F := F)) 𝒱₀ c none) E (k0_part280 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v0 v1 v73 v176 v177) K := by
  unfold owns
  iintro ⟨⟨%f8, %hf8, H8⟩, ⟨%d24, %f24, -, H24⟩, Hk⟩
  obtain rfl := harg8.eq_unread hf8
  sl_unfold [k0_part280]
  sl_exec_parts
  sl_step
  iapply Hk
  isplitl [H8]
  · iexists _; isplitr; · ipureintro; exact harg8.read_unread _
    iexact H8
  iexists _, _; isplitr; swap; · iexact H24
  ipureintro; rfl
-- ==== Proof.InSrc1.lean ====
/-
  This stretch writes rows of the sources of the second convolution, stretch by stretch.
-/
module

public import proofs.«01_k».proof.Proof.InOffs
public import Idealize.ShloMosaic.Lib.Tactic

@[expose] public section

noncomputable section

namespace Cert.Proof.Inp

open Cert.Kernel5Ideal Cert.Kernel5Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 0 in
/-- This stretch writes rows of the sources of the second convolution. -/
theorem part281_run (c : Dev nD) (i : grid0.Coords) (arg2 : Memref sig .tc .vmem S512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S17x1024x256 .bf16) (harg8 : arg8.IsWhole) (arg9 : Memref sig .tc .vmem S12x5x128 .f32) (harg9 : arg9.IsWhole) (arg10 : Memref sig .tc .vmem S12x1x128 .f32) (harg10 : arg10.IsWhole) (arg11 : Memref sig .tc .vmem S1x256 .f32) (harg11 : arg11.IsWhole) (arg12 : Memref sig .tc .vmem S4x31x128 .f32) (harg12 : arg12.IsWhole) (arg13 : Memref sig .tc .vmem S4x1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S2x512x128 .f32) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x1024 .bf16) (harg23 : arg23.IsWhole) (arg24 : Memref sig .tc .vmem S34x544x128 .f32) (harg24 : arg24.IsWhole) (arg25 : Memref sig .tc .vmem S12x512x128 .f32) (harg25 : arg25.IsWhole) (arg26 : Memref sig .tc .vmem S4x768x128 .f32) (harg26 : arg26.IsWhole) (arg27 : Memref sig .tc .vmem S4x512x128 .f32) (harg27 : arg27.IsWhole) (v204 : FVec F S16x256 .f32) (v207 : FVec F S16x256 .f32) (v208 : FVec F S16x128 .f32)
    (x7 : Vec F S1024x1024 .bf16) (x23 : Vec F S512x1024 .bf16) (E : Set ℕ) (K : (Σ' (v231 : FVec F S512x512 .f32) (v232 : FVec F S16x128 .f32), Vec F S1x16x128 .f32) → sProp 𝕄) :
    iprop(owns (c : Thread nD τ) arg7 fullShare x7 ∗ owns (c : Thread nD τ) arg23 fullShare x23 ∗ (∃ d, owns (c : Thread nD τ) arg24 fullShare d) ∗ (∃ d, owns (c : Thread nD τ) arg26 fullShare d)
        ∗ (∀ v, iprop(owns (c : Thread nD τ) arg7 fullShare x7 ∗ owns (c : Thread nD τ) arg23 fullShare x23 ∗ (∃ d, owns (c : Thread nD τ) arg24 fullShare d) ∗ (∃ d, owns (c : Thread nD τ) arg26 fullShare d)) -∗ K v))
      ⊢ wp frame (wpE (defs₀ (F := F)) 𝒱₀ c none) E (k0_part281 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v204 v207 v208) K := by
  unfold owns
  iintro ⟨⟨%f7, %hf7, H7⟩, ⟨%f23, %hf23, H23⟩, ⟨%d24, %f24, -, H24⟩, ⟨%d26, %f26, -, H26⟩, Hk⟩
  obtain rfl := harg7.eq_unread hf7; obtain rfl := harg23.eq_unread hf23
  sl_unfold [k0_part281]
  sl_exec_parts
  sl_step
  iapply Hk
  isplitl [H7]
  · iexists _; isplitr; · ipureintro; exact harg7.read_unread _
    iexact H7
  isplitl [H23]
  · iexists _; isplitr; · ipureintro; exact harg23.read_unread _
    iexact H23
  isplitl [H24]
  · iexists _, _; isplitr; swap; · iexact H24
    ipureintro; rfl
  iexists _, _; isplitr; swap; · iexact H26
  ipureintro; rfl

set_option maxHeartbeats 0 in
/-- This stretch writes rows of the sources of the second convolution. -/
theorem part282_run (c : Dev nD) (i : grid0.Coords) (arg2 : Memref sig .tc .vmem S512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S17x1024x256 .bf16) (harg8 : arg8.IsWhole) (arg9 : Memref sig .tc .vmem S12x5x128 .f32) (harg9 : arg9.IsWhole) (arg10 : Memref sig .tc .vmem S12x1x128 .f32) (harg10 : arg10.IsWhole) (arg11 : Memref sig .tc .vmem S1x256 .f32) (harg11 : arg11.IsWhole) (arg12 : Memref sig .tc .vmem S4x31x128 .f32) (harg12 : arg12.IsWhole) (arg13 : Memref sig .tc .vmem S4x1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S2x512x128 .f32) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x1024 .bf16) (harg23 : arg23.IsWhole) (arg24 : Memref sig .tc .vmem S34x544x128 .f32) (harg24 : arg24.IsWhole) (arg25 : Memref sig .tc .vmem S12x512x128 .f32) (harg25 : arg25.IsWhole) (arg26 : Memref sig .tc .vmem S4x768x128 .f32) (harg26 : arg26.IsWhole) (arg27 : Memref sig .tc .vmem S4x512x128 .f32) (harg27 : arg27.IsWhole) (v231 : FVec F S512x512 .f32) (v232 : FVec F S16x128 .f32) (v240 : Vec F S1x16x128 .f32)
     (E : Set ℕ) (K : (FVec F S64x128 .f32) → sProp 𝕄) :
    iprop((∃ d, owns (c : Thread nD τ) arg26 fullShare d)
        ∗ (∀ v, iprop((∃ d, owns (c : Thread nD τ) arg26 fullShare d)) -∗ K v))
      ⊢ wp frame (wpE (defs₀ (F := F)) 𝒱₀ c none) E (k0_part282 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v231 v232 v240) K := by
  unfold owns
  iintro ⟨⟨%d26, %f26, -, H26⟩, Hk⟩
  sl_unfold [k0_part282]
  sl_exec_parts
  sl_step
  iapply Hk
  iexists _, _; isplitr; swap; · iexact H26
  ipureintro; rfl

set_option maxHeartbeats 0 in
/-- This stretch writes rows of the sources of the second convolution. -/
theorem part283_run (c : Dev nD) (i : grid0.Coords) (arg2 : Memref sig .tc .vmem S512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S17x1024x256 .bf16) (harg8 : arg8.IsWhole) (arg9 : Memref sig .tc .vmem S12x5x128 .f32) (harg9 : arg9.IsWhole) (arg10 : Memref sig .tc .vmem S12x1x128 .f32) (harg10 : arg10.IsWhole) (arg11 : Memref sig .tc .vmem S1x256 .f32) (harg11 : arg11.IsWhole) (arg12 : Memref sig .tc .vmem S4x31x128 .f32) (harg12 : arg12.IsWhole) (arg13 : Memref sig .tc .vmem S4x1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S2x512x128 .f32) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x1024 .bf16) (harg23 : arg23.IsWhole) (arg24 : Memref sig .tc .vmem S34x544x128 .f32) (harg24 : arg24.IsWhole) (arg25 : Memref sig .tc .vmem S12x512x128 .f32) (harg25 : arg25.IsWhole) (arg26 : Memref sig .tc .vmem S4x768x128 .f32) (harg26 : arg26.IsWhole) (arg27 : Memref sig .tc .vmem S4x512x128 .f32) (harg27 : arg27.IsWhole) (v231 : FVec F S512x512 .f32) (v232 : FVec F S16x128 .f32) (v266 : FVec F S64x128 .f32)
     (E : Set ℕ) (K : (PUnit) → sProp 𝕄) :
    iprop((∃ d, owns (c : Thread nD τ) arg26 fullShare d)
        ∗ (∀ v, iprop((∃ d, owns (c : Thread nD τ) arg26 fullShare d)) -∗ K v))
      ⊢ wp frame (wpE (defs₀ (F := F)) 𝒱₀ c none) E (k0_part283 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v231 v232 v266) K := by
  unfold owns
  iintro ⟨⟨%d26, %f26, -, H26⟩, Hk⟩
  sl_unfold [k0_part283]
  sl_exec_parts
  sl_step
  iapply Hk
  iexists _, _; isplitr; swap; · iexact H26
  ipureintro; rfl
-- ==== Proof.InSrc2.lean ====
/-
  This stretch writes rows of the sources of the second convolution, stretch by stretch.
-/
module

public import proofs.«01_k».proof.Proof.InOffs
public import Idealize.ShloMosaic.Lib.Tactic

@[expose] public section

noncomputable section

namespace Cert.Proof.Inp

open Cert.Kernel5Ideal Cert.Kernel5Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 0 in
/-- This stretch writes rows of the sources of the second convolution. -/
theorem part284_run (c : Dev nD) (i : grid0.Coords) (arg2 : Memref sig .tc .vmem S512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S17x1024x256 .bf16) (harg8 : arg8.IsWhole) (arg9 : Memref sig .tc .vmem S12x5x128 .f32) (harg9 : arg9.IsWhole) (arg10 : Memref sig .tc .vmem S12x1x128 .f32) (harg10 : arg10.IsWhole) (arg11 : Memref sig .tc .vmem S1x256 .f32) (harg11 : arg11.IsWhole) (arg12 : Memref sig .tc .vmem S4x31x128 .f32) (harg12 : arg12.IsWhole) (arg13 : Memref sig .tc .vmem S4x1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S2x512x128 .f32) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x1024 .bf16) (harg23 : arg23.IsWhole) (arg24 : Memref sig .tc .vmem S34x544x128 .f32) (harg24 : arg24.IsWhole) (arg25 : Memref sig .tc .vmem S12x512x128 .f32) (harg25 : arg25.IsWhole) (arg26 : Memref sig .tc .vmem S4x768x128 .f32) (harg26 : arg26.IsWhole) (arg27 : Memref sig .tc .vmem S4x512x128 .f32) (harg27 : arg27.IsWhole) (v231 : FVec F S512x512 .f32) (v232 : FVec F S16x128 .f32)
     (E : Set ℕ) (K : (PUnit) → sProp 𝕄) :
    iprop((∃ d, owns (c : Thread nD τ) arg26 fullShare d)
        ∗ (∀ v, iprop((∃ d, owns (c : Thread nD τ) arg26 fullShare d)) -∗ K v))
      ⊢ wp frame (wpE (defs₀ (F := F)) 𝒱₀ c none) E (k0_part284 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v231 v232) K := by
  unfold owns
  iintro ⟨⟨%d26, %f26, -, H26⟩, Hk⟩
  sl_unfold [k0_part284]
  sl_exec_parts
  sl_step
  iapply Hk
  iexists _, _; isplitr; swap; · iexact H26
  ipureintro; rfl

set_option maxHeartbeats 0 in
/-- This stretch writes rows of the sources of the second convolution. -/
theorem part285_run (c : Dev nD) (i : grid0.Coords) (arg2 : Memref sig .tc .vmem S512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S17x1024x256 .bf16) (harg8 : arg8.IsWhole) (arg9 : Memref sig .tc .vmem S12x5x128 .f32) (harg9 : arg9.IsWhole) (arg10 : Memref sig .tc .vmem S12x1x128 .f32) (harg10 : arg10.IsWhole) (arg11 : Memref sig .tc .vmem S1x256 .f32) (harg11 : arg11.IsWhole) (arg12 : Memref sig .tc .vmem S4x31x128 .f32) (harg12 : arg12.IsWhole) (arg13 : Memref sig .tc .vmem S4x1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S2x512x128 .f32) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x1024 .bf16) (harg23 : arg23.IsWhole) (arg24 : Memref sig .tc .vmem S34x544x128 .f32) (harg24 : arg24.IsWhole) (arg25 : Memref sig .tc .vmem S12x512x128 .f32) (harg25 : arg25.IsWhole) (arg26 : Memref sig .tc .vmem S4x768x128 .f32) (harg26 : arg26.IsWhole) (arg27 : Memref sig .tc .vmem S4x512x128 .f32) (harg27 : arg27.IsWhole) (v231 : FVec F S512x512 .f32) (v232 : FVec F S16x128 .f32)
     (E : Set ℕ) (K : (PUnit) → sProp 𝕄) :
    iprop((∃ d, owns (c : Thread nD τ) arg26 fullShare d)
        ∗ (∀ v, iprop((∃ d, owns (c : Thread nD τ) arg26 fullShare d)) -∗ K v))
      ⊢ wp frame (wpE (defs₀ (F := F)) 𝒱₀ c none) E (k0_part285 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v231 v232) K := by
  unfold owns
  iintro ⟨⟨%d26, %f26, -, H26⟩, Hk⟩
  sl_unfold [k0_part285]
  sl_exec_parts
  sl_step
  iapply Hk
  iexists _, _; isplitr; swap; · iexact H26
  ipureintro; rfl

set_option maxHeartbeats 0 in
/-- This stretch writes rows of the sources of the second convolution. -/
theorem part286_run (c : Dev nD) (i : grid0.Coords) (arg2 : Memref sig .tc .vmem S512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S17x1024x256 .bf16) (harg8 : arg8.IsWhole) (arg9 : Memref sig .tc .vmem S12x5x128 .f32) (harg9 : arg9.IsWhole) (arg10 : Memref sig .tc .vmem S12x1x128 .f32) (harg10 : arg10.IsWhole) (arg11 : Memref sig .tc .vmem S1x256 .f32) (harg11 : arg11.IsWhole) (arg12 : Memref sig .tc .vmem S4x31x128 .f32) (harg12 : arg12.IsWhole) (arg13 : Memref sig .tc .vmem S4x1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S2x512x128 .f32) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x1024 .bf16) (harg23 : arg23.IsWhole) (arg24 : Memref sig .tc .vmem S34x544x128 .f32) (harg24 : arg24.IsWhole) (arg25 : Memref sig .tc .vmem S12x512x128 .f32) (harg25 : arg25.IsWhole) (arg26 : Memref sig .tc .vmem S4x768x128 .f32) (harg26 : arg26.IsWhole) (arg27 : Memref sig .tc .vmem S4x512x128 .f32) (harg27 : arg27.IsWhole) (v231 : FVec F S512x512 .f32) (v232 : FVec F S16x128 .f32)
     (E : Set ℕ) (K : (FVec F S64x128 .f32) → sProp 𝕄) :
    iprop((∃ d, owns (c : Thread nD τ) arg26 fullShare d)
        ∗ (∀ v, iprop((∃ d, owns (c : Thread nD τ) arg26 fullShare d)) -∗ K v))
      ⊢ wp frame (wpE (defs₀ (F := F)) 𝒱₀ c none) E (k0_part286 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v231 v232) K := by
  unfold owns
  iintro ⟨⟨%d26, %f26, -, H26⟩, Hk⟩
  sl_unfold [k0_part286]
  sl_exec_parts
  sl_step
  iapply Hk
  iexists _, _; isplitr; swap; · iexact H26
  ipureintro; rfl
-- ==== Proof.InSrc3.lean ====
/-
  This stretch writes rows of the sources of the second convolution, stretch by stretch.
-/
module

public import proofs.«01_k».proof.Proof.InOffs
public import Idealize.ShloMosaic.Lib.Tactic

@[expose] public section

noncomputable section

namespace Cert.Proof.Inp

open Cert.Kernel5Ideal Cert.Kernel5Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 0 in
/-- This stretch writes rows of the sources of the second convolution. -/
theorem part287_run (c : Dev nD) (i : grid0.Coords) (arg2 : Memref sig .tc .vmem S512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S17x1024x256 .bf16) (harg8 : arg8.IsWhole) (arg9 : Memref sig .tc .vmem S12x5x128 .f32) (harg9 : arg9.IsWhole) (arg10 : Memref sig .tc .vmem S12x1x128 .f32) (harg10 : arg10.IsWhole) (arg11 : Memref sig .tc .vmem S1x256 .f32) (harg11 : arg11.IsWhole) (arg12 : Memref sig .tc .vmem S4x31x128 .f32) (harg12 : arg12.IsWhole) (arg13 : Memref sig .tc .vmem S4x1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S2x512x128 .f32) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x1024 .bf16) (harg23 : arg23.IsWhole) (arg24 : Memref sig .tc .vmem S34x544x128 .f32) (harg24 : arg24.IsWhole) (arg25 : Memref sig .tc .vmem S12x512x128 .f32) (harg25 : arg25.IsWhole) (arg26 : Memref sig .tc .vmem S4x768x128 .f32) (harg26 : arg26.IsWhole) (arg27 : Memref sig .tc .vmem S4x512x128 .f32) (harg27 : arg27.IsWhole) (v231 : FVec F S512x512 .f32) (v232 : FVec F S16x128 .f32) (v376 : FVec F S64x128 .f32)
     (E : Set ℕ) (K : (PUnit) → sProp 𝕄) :
    iprop((∃ d, owns (c : Thread nD τ) arg26 fullShare d)
        ∗ (∀ v, iprop((∃ d, owns (c : Thread nD τ) arg26 fullShare d)) -∗ K v))
      ⊢ wp frame (wpE (defs₀ (F := F)) 𝒱₀ c none) E (k0_part287 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v231 v232 v376) K := by
  unfold owns
  iintro ⟨⟨%d26, %f26, -, H26⟩, Hk⟩
  sl_unfold [k0_part287]
  sl_exec_parts
  sl_step
  iapply Hk
  iexists _, _; isplitr; swap; · iexact H26
  ipureintro; rfl

set_option maxHeartbeats 0 in
/-- This stretch writes rows of the sources of the second convolution. -/
theorem part288_run (c : Dev nD) (i : grid0.Coords) (arg2 : Memref sig .tc .vmem S512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S17x1024x256 .bf16) (harg8 : arg8.IsWhole) (arg9 : Memref sig .tc .vmem S12x5x128 .f32) (harg9 : arg9.IsWhole) (arg10 : Memref sig .tc .vmem S12x1x128 .f32) (harg10 : arg10.IsWhole) (arg11 : Memref sig .tc .vmem S1x256 .f32) (harg11 : arg11.IsWhole) (arg12 : Memref sig .tc .vmem S4x31x128 .f32) (harg12 : arg12.IsWhole) (arg13 : Memref sig .tc .vmem S4x1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S2x512x128 .f32) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x1024 .bf16) (harg23 : arg23.IsWhole) (arg24 : Memref sig .tc .vmem S34x544x128 .f32) (harg24 : arg24.IsWhole) (arg25 : Memref sig .tc .vmem S12x512x128 .f32) (harg25 : arg25.IsWhole) (arg26 : Memref sig .tc .vmem S4x768x128 .f32) (harg26 : arg26.IsWhole) (arg27 : Memref sig .tc .vmem S4x512x128 .f32) (harg27 : arg27.IsWhole) (v231 : FVec F S512x512 .f32) (v232 : FVec F S16x128 .f32)
     (E : Set ℕ) (K : (FVec F S1x16x128 .f32) → sProp 𝕄) :
    iprop((∃ d, owns (c : Thread nD τ) arg26 fullShare d)
        ∗ (∀ v, iprop((∃ d, owns (c : Thread nD τ) arg26 fullShare d)) -∗ K v))
      ⊢ wp frame (wpE (defs₀ (F := F)) 𝒱₀ c none) E (k0_part288 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v231 v232) K := by
  unfold owns
  iintro ⟨⟨%d26, %f26, -, H26⟩, Hk⟩
  sl_unfold [k0_part288]
  sl_exec_parts
  sl_step
  iapply Hk
  iexists _, _; isplitr; swap; · iexact H26
  ipureintro; rfl

set_option maxHeartbeats 0 in
/-- This stretch writes rows of the sources of the second convolution. -/
theorem part289_run (c : Dev nD) (i : grid0.Coords) (arg2 : Memref sig .tc .vmem S512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S17x1024x256 .bf16) (harg8 : arg8.IsWhole) (arg9 : Memref sig .tc .vmem S12x5x128 .f32) (harg9 : arg9.IsWhole) (arg10 : Memref sig .tc .vmem S12x1x128 .f32) (harg10 : arg10.IsWhole) (arg11 : Memref sig .tc .vmem S1x256 .f32) (harg11 : arg11.IsWhole) (arg12 : Memref sig .tc .vmem S4x31x128 .f32) (harg12 : arg12.IsWhole) (arg13 : Memref sig .tc .vmem S4x1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S2x512x128 .f32) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x1024 .bf16) (harg23 : arg23.IsWhole) (arg24 : Memref sig .tc .vmem S34x544x128 .f32) (harg24 : arg24.IsWhole) (arg25 : Memref sig .tc .vmem S12x512x128 .f32) (harg25 : arg25.IsWhole) (arg26 : Memref sig .tc .vmem S4x768x128 .f32) (harg26 : arg26.IsWhole) (arg27 : Memref sig .tc .vmem S4x512x128 .f32) (harg27 : arg27.IsWhole) (v231 : FVec F S512x512 .f32) (v232 : FVec F S16x128 .f32) (v432 : FVec F S1x16x128 .f32)
     (E : Set ℕ) (K : (PUnit) → sProp 𝕄) :
    iprop((∃ d, owns (c : Thread nD τ) arg26 fullShare d)
        ∗ (∀ v, iprop((∃ d, owns (c : Thread nD τ) arg26 fullShare d)) -∗ K v))
      ⊢ wp frame (wpE (defs₀ (F := F)) 𝒱₀ c none) E (k0_part289 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v231 v232 v432) K := by
  unfold owns
  iintro ⟨⟨%d26, %f26, -, H26⟩, Hk⟩
  sl_unfold [k0_part289]
  sl_exec_parts
  sl_step
  iapply Hk
  iexists _, _; isplitr; swap; · iexact H26
  ipureintro; rfl
-- ==== Proof.InSrc4.lean ====
/-
  This stretch writes rows of the sources of the second convolution, stretch by stretch.
-/
module

public import proofs.«01_k».proof.Proof.InOffs
public import Idealize.ShloMosaic.Lib.Tactic

@[expose] public section

noncomputable section

namespace Cert.Proof.Inp

open Cert.Kernel5Ideal Cert.Kernel5Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 0 in
/-- This stretch writes rows of the sources of the second convolution. -/
theorem part290_run (c : Dev nD) (i : grid0.Coords) (arg2 : Memref sig .tc .vmem S512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S17x1024x256 .bf16) (harg8 : arg8.IsWhole) (arg9 : Memref sig .tc .vmem S12x5x128 .f32) (harg9 : arg9.IsWhole) (arg10 : Memref sig .tc .vmem S12x1x128 .f32) (harg10 : arg10.IsWhole) (arg11 : Memref sig .tc .vmem S1x256 .f32) (harg11 : arg11.IsWhole) (arg12 : Memref sig .tc .vmem S4x31x128 .f32) (harg12 : arg12.IsWhole) (arg13 : Memref sig .tc .vmem S4x1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S2x512x128 .f32) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x1024 .bf16) (harg23 : arg23.IsWhole) (arg24 : Memref sig .tc .vmem S34x544x128 .f32) (harg24 : arg24.IsWhole) (arg25 : Memref sig .tc .vmem S12x512x128 .f32) (harg25 : arg25.IsWhole) (arg26 : Memref sig .tc .vmem S4x768x128 .f32) (harg26 : arg26.IsWhole) (arg27 : Memref sig .tc .vmem S4x512x128 .f32) (harg27 : arg27.IsWhole) (v231 : FVec F S512x512 .f32) (v232 : FVec F S16x128 .f32)
     (E : Set ℕ) (K : (FVec F S64x128 .f32) → sProp 𝕄) :
    iprop((∃ d, owns (c : Thread nD τ) arg26 fullShare d)
        ∗ (∀ v, iprop((∃ d, owns (c : Thread nD τ) arg26 fullShare d)) -∗ K v))
      ⊢ wp frame (wpE (defs₀ (F := F)) 𝒱₀ c none) E (k0_part290 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v231 v232) K := by
  unfold owns
  iintro ⟨⟨%d26, %f26, -, H26⟩, Hk⟩
  sl_unfold [k0_part290]
  sl_exec_parts
  sl_step
  iapply Hk
  iexists _, _; isplitr; swap; · iexact H26
  ipureintro; rfl

set_option maxHeartbeats 0 in
/-- This stretch writes rows of the sources of the second convolution. -/
theorem part291_run (c : Dev nD) (i : grid0.Coords) (arg2 : Memref sig .tc .vmem S512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S17x1024x256 .bf16) (harg8 : arg8.IsWhole) (arg9 : Memref sig .tc .vmem S12x5x128 .f32) (harg9 : arg9.IsWhole) (arg10 : Memref sig .tc .vmem S12x1x128 .f32) (harg10 : arg10.IsWhole) (arg11 : Memref sig .tc .vmem S1x256 .f32) (harg11 : arg11.IsWhole) (arg12 : Memref sig .tc .vmem S4x31x128 .f32) (harg12 : arg12.IsWhole) (arg13 : Memref sig .tc .vmem S4x1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S2x512x128 .f32) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x1024 .bf16) (harg23 : arg23.IsWhole) (arg24 : Memref sig .tc .vmem S34x544x128 .f32) (harg24 : arg24.IsWhole) (arg25 : Memref sig .tc .vmem S12x512x128 .f32) (harg25 : arg25.IsWhole) (arg26 : Memref sig .tc .vmem S4x768x128 .f32) (harg26 : arg26.IsWhole) (arg27 : Memref sig .tc .vmem S4x512x128 .f32) (harg27 : arg27.IsWhole) (v231 : FVec F S512x512 .f32) (v232 : FVec F S16x128 .f32) (v486 : FVec F S64x128 .f32)
     (E : Set ℕ) (K : (PUnit) → sProp 𝕄) :
    iprop((∃ d, owns (c : Thread nD τ) arg26 fullShare d)
        ∗ (∀ v, iprop((∃ d, owns (c : Thread nD τ) arg26 fullShare d)) -∗ K v))
      ⊢ wp frame (wpE (defs₀ (F := F)) 𝒱₀ c none) E (k0_part291 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v231 v232 v486) K := by
  unfold owns
  iintro ⟨⟨%d26, %f26, -, H26⟩, Hk⟩
  sl_unfold [k0_part291]
  sl_exec_parts
  sl_step
  iapply Hk
  iexists _, _; isplitr; swap; · iexact H26
  ipureintro; rfl

set_option maxHeartbeats 0 in
/-- This stretch writes rows of the sources of the second convolution. -/
theorem part292_run (c : Dev nD) (i : grid0.Coords) (arg2 : Memref sig .tc .vmem S512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S17x1024x256 .bf16) (harg8 : arg8.IsWhole) (arg9 : Memref sig .tc .vmem S12x5x128 .f32) (harg9 : arg9.IsWhole) (arg10 : Memref sig .tc .vmem S12x1x128 .f32) (harg10 : arg10.IsWhole) (arg11 : Memref sig .tc .vmem S1x256 .f32) (harg11 : arg11.IsWhole) (arg12 : Memref sig .tc .vmem S4x31x128 .f32) (harg12 : arg12.IsWhole) (arg13 : Memref sig .tc .vmem S4x1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S2x512x128 .f32) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x1024 .bf16) (harg23 : arg23.IsWhole) (arg24 : Memref sig .tc .vmem S34x544x128 .f32) (harg24 : arg24.IsWhole) (arg25 : Memref sig .tc .vmem S12x512x128 .f32) (harg25 : arg25.IsWhole) (arg26 : Memref sig .tc .vmem S4x768x128 .f32) (harg26 : arg26.IsWhole) (arg27 : Memref sig .tc .vmem S4x512x128 .f32) (harg27 : arg27.IsWhole) (v231 : FVec F S512x512 .f32) (v232 : FVec F S16x128 .f32)
     (E : Set ℕ) (K : (Vec F S1x16x128 .f32) → sProp 𝕄) :
    iprop((∃ d, owns (c : Thread nD τ) arg26 fullShare d)
        ∗ (∀ v, iprop((∃ d, owns (c : Thread nD τ) arg26 fullShare d)) -∗ K v))
      ⊢ wp frame (wpE (defs₀ (F := F)) 𝒱₀ c none) E (k0_part292 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v231 v232) K := by
  unfold owns
  iintro ⟨⟨%d26, %f26, -, H26⟩, Hk⟩
  sl_unfold [k0_part292]
  sl_exec_parts
  sl_step
  iapply Hk
  iexists _, _; isplitr; swap; · iexact H26
  ipureintro; rfl
-- ==== Proof.In270.lean ====
/-
  A stretch of a trip of the convolutions' loop: what it owns before and after.
-/
module

public import proofs.«01_k».proof.Proof.InOffs

@[expose] public section

noncomputable section

namespace Cert.Proof.Inp

open Cert.Kernel5Ideal Cert.Kernel5Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 0 in
/-- This stretch of a trip reads the weights, the biases and the sources of the convolutions, and writes their results. -/
theorem part270_run (c : Dev nD) (i : grid0.Coords) (arg2 : Memref sig .tc .vmem S512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S17x1024x256 .bf16) (harg8 : arg8.IsWhole) (arg9 : Memref sig .tc .vmem S12x5x128 .f32) (harg9 : arg9.IsWhole) (arg10 : Memref sig .tc .vmem S12x1x128 .f32) (harg10 : arg10.IsWhole) (arg11 : Memref sig .tc .vmem S1x256 .f32) (harg11 : arg11.IsWhole) (arg12 : Memref sig .tc .vmem S4x31x128 .f32) (harg12 : arg12.IsWhole) (arg13 : Memref sig .tc .vmem S4x1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S2x512x128 .f32) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x1024 .bf16) (harg23 : arg23.IsWhole) (arg24 : Memref sig .tc .vmem S34x544x128 .f32) (harg24 : arg24.IsWhole) (arg25 : Memref sig .tc .vmem S12x512x128 .f32) (harg25 : arg25.IsWhole) (arg26 : Memref sig .tc .vmem S4x768x128 .f32) (harg26 : arg26.IsWhole) (arg27 : Memref sig .tc .vmem S4x512x128 .f32) (harg27 : arg27.IsWhole) (c0_i32_402 : BitVec 32) (c1_i32 : BitVec 32) (k0_t1 : Fin k0_t1_loop.trips)
    (x9 : Vec F S12x5x128 .f32) (x10 : Vec F S12x1x128 .f32) (x12 : Vec F S4x31x128 .f32) (x13 : Vec F S4x1x128 .f32) (x24 : Vec F S34x544x128 .f32) (x26 : Vec F S4x768x128 .f32) (E : Set ℕ) (K : (Σ' (arg28 : BitVec 32) (v906 : BitVec 32) (v909 : BitVec 32) (v912 : BitVec 32) (v915 : BitVec 32) (v918 : BitVec 32) (v921 : BitVec 32) (v924 : BitVec 32) (v927 : BitVec 32) (v944 : BitVec 32) (v947 : FVec F S1x128 .f32) (v3545 : FVec F S8x128 .f32) (v3552 : FVec F S8x128 .f32) (v3559 : FVec F S8x128 .f32) (v3566 : FVec F S8x128 .f32) (v3573 : FVec F S8x128 .f32) (v3580 : FVec F S8x128 .f32) (v3587 : FVec F S8x128 .f32) (v3594 : FVec F S8x128 .f32) (v3601 : FVec F S8x128 .f32) (v3608 : FVec F S8x128 .f32) (v3615 : FVec F S8x128 .f32) (v3622 : FVec F S8x128 .f32) (v3627 : FVec F S8x128 .f32) (v3634 : FVec F S8x128 .f32) (v3641 : FVec F S8x128 .f32) (v3648 : FVec F S8x128 .f32) (v3655 : FVec F S8x128 .f32), BitVec 32) → sProp 𝕄) :
    iprop(owns (c : Thread nD τ) arg9 fullShare x9 ∗ owns (c : Thread nD τ) arg10 fullShare x10 ∗ owns (c : Thread nD τ) arg12 fullShare x12 ∗ owns (c : Thread nD τ) arg13 fullShare x13 ∗ owns (c : Thread nD τ) arg24 fullShare x24 ∗ owns (c : Thread nD τ) arg26 fullShare x26 ∗ (∃ d, owns (c : Thread nD τ) arg25 fullShare d) ∗ (∃ d, owns (c : Thread nD τ) arg27 fullShare d)
        ∗ (∀ v, iprop(owns (c : Thread nD τ) arg9 fullShare x9 ∗ owns (c : Thread nD τ) arg10 fullShare x10 ∗ owns (c : Thread nD τ) arg12 fullShare x12 ∗ owns (c : Thread nD τ) arg13 fullShare x13 ∗ owns (c : Thread nD τ) arg24 fullShare x24 ∗ owns (c : Thread nD τ) arg26 fullShare x26 ∗ (∃ d, owns (c : Thread nD τ) arg25 fullShare d) ∗ (∃ d, owns (c : Thread nD τ) arg27 fullShare d)) -∗ K v))
      ⊢ wp frame (wpE (defs₀ (F := F)) 𝒱₀ c none) E (k0_part270 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 c0_i32_402 c1_i32 k0_t1) K := by
  unfold owns
  iintro ⟨⟨%f9, %hf9, H9⟩, ⟨%f10, %hf10, H10⟩, ⟨%f12, %hf12, H12⟩, ⟨%f13, %hf13, H13⟩, ⟨%f24, %hf24, H24⟩, ⟨%f26, %hf26, H26⟩, ⟨%d25, %f25, -, H25⟩, ⟨%d27, %f27, -, H27⟩, Hk⟩
  obtain rfl := harg9.eq_unread hf9; obtain rfl := harg10.eq_unread hf10; obtain rfl := harg12.eq_unread hf12; obtain rfl := harg13.eq_unread hf13; obtain rfl := harg24.eq_unread hf24; obtain rfl := harg26.eq_unread hf26
  sl_unfold [k0_part270]
  sl_exec_parts
  sl_step
  iapply Hk
  isplitl [H9]
  · iexists _; isplitr; · ipureintro; exact harg9.read_unread _
    iexact H9
  isplitl [H10]
  · iexists _; isplitr; · ipureintro; exact harg10.read_unread _
    iexact H10
  isplitl [H12]
  · iexists _; isplitr; · ipureintro; exact harg12.read_unread _
    iexact H12
  isplitl [H13]
  · iexists _; isplitr; · ipureintro; exact harg13.read_unread _
    iexact H13
  isplitl [H24]
  · iexists _; isplitr; · ipureintro; exact harg24.read_unread _
    iexact H24
  isplitl [H26]
  · iexists _; isplitr; · ipureintro; exact harg26.read_unread _
    iexact H26
  isplitl [H25]
  · iexists _, _; isplitr; swap; · iexact H25
    ipureintro; rfl
  iexists _, _; isplitr; swap; · iexact H27
  ipureintro; rfl
-- ==== Proof.In271.lean ====
/-
  A stretch of a trip of the convolutions' loop: what it owns before and after.
-/
module

public import proofs.«01_k».proof.Proof.InOffs

@[expose] public section

noncomputable section

namespace Cert.Proof.Inp

open Cert.Kernel5Ideal Cert.Kernel5Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 0 in
/-- This stretch of a trip reads the weights, the biases and the sources of the convolutions, and writes their results. -/
theorem part271_run (c : Dev nD) (i : grid0.Coords) (arg2 : Memref sig .tc .vmem S512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S17x1024x256 .bf16) (harg8 : arg8.IsWhole) (arg9 : Memref sig .tc .vmem S12x5x128 .f32) (harg9 : arg9.IsWhole) (arg10 : Memref sig .tc .vmem S12x1x128 .f32) (harg10 : arg10.IsWhole) (arg11 : Memref sig .tc .vmem S1x256 .f32) (harg11 : arg11.IsWhole) (arg12 : Memref sig .tc .vmem S4x31x128 .f32) (harg12 : arg12.IsWhole) (arg13 : Memref sig .tc .vmem S4x1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S2x512x128 .f32) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x1024 .bf16) (harg23 : arg23.IsWhole) (arg24 : Memref sig .tc .vmem S34x544x128 .f32) (harg24 : arg24.IsWhole) (arg25 : Memref sig .tc .vmem S12x512x128 .f32) (harg25 : arg25.IsWhole) (arg26 : Memref sig .tc .vmem S4x768x128 .f32) (harg26 : arg26.IsWhole) (arg27 : Memref sig .tc .vmem S4x512x128 .f32) (harg27 : arg27.IsWhole) (k0_t1 : Fin k0_t1_loop.trips) (arg28 : BitVec 32) (v906 : BitVec 32) (v909 : BitVec 32) (v912 : BitVec 32) (v915 : BitVec 32) (v918 : BitVec 32) (v921 : BitVec 32) (v924 : BitVec 32) (v927 : BitVec 32) (v944 : BitVec 32) (v947 : FVec F S1x128 .f32) (v3545 : FVec F S8x128 .f32) (v3552 : FVec F S8x128 .f32) (v3559 : FVec F S8x128 .f32) (v3566 : FVec F S8x128 .f32) (v3573 : FVec F S8x128 .f32) (v3580 : FVec F S8x128 .f32) (v3587 : FVec F S8x128 .f32) (v3594 : FVec F S8x128 .f32) (v3601 : FVec F S8x128 .f32) (v3608 : FVec F S8x128 .f32) (v3615 : FVec F S8x128 .f32) (v3622 : FVec F S8x128 .f32) (v3627 : FVec F S8x128 .f32) (v3634 : FVec F S8x128 .f32) (v3641 : FVec F S8x128 .f32) (v3648 : FVec F S8x128 .f32) (v3655 : FVec F S8x128 .f32) (v3656 : BitVec 32)
    (x9 : Vec F S12x5x128 .f32) (x10 : Vec F S12x1x128 .f32) (x12 : Vec F S4x31x128 .f32) (x13 : Vec F S4x1x128 .f32) (x24 : Vec F S34x544x128 .f32) (x26 : Vec F S4x768x128 .f32) (E : Set ℕ) (K : (Σ' (v4701 : BitVec 32) (v4704 : BitVec 32) (v4707 : BitVec 32) (v4710 : BitVec 32) (v4713 : BitVec 32) (v4716 : BitVec 32) (v4719 : BitVec 32) (v4722 : BitVec 32) (v4739 : BitVec 32) (v4742 : FVec F S1x128 .f32) (v6301 : FVec F S8x128 .f32) (v6308 : FVec F S8x128 .f32) (v6315 : FVec F S8x128 .f32) (v6322 : FVec F S8x128 .f32) (v6329 : FVec F S8x128 .f32) (v6336 : FVec F S8x128 .f32) (v6343 : FVec F S8x128 .f32) (v6350 : FVec F S8x128 .f32) (v6357 : FVec F S8x128 .f32) (v6364 : FVec F S8x128 .f32) (v6369 : FVec F S8x128 .f32) (v6376 : FVec F S8x128 .f32) (v6383 : FVec F S8x128 .f32) (v6390 : FVec F S8x128 .f32) (v6397 : FVec F S8x128 .f32) (v6404 : FVec F S8x128 .f32), FVec F S8x128 .f32) → sProp 𝕄) :
    iprop(owns (c : Thread nD τ) arg9 fullShare x9 ∗ owns (c : Thread nD τ) arg10 fullShare x10 ∗ owns (c : Thread nD τ) arg12 fullShare x12 ∗ owns (c : Thread nD τ) arg13 fullShare x13 ∗ owns (c : Thread nD τ) arg24 fullShare x24 ∗ owns (c : Thread nD τ) arg26 fullShare x26 ∗ (∃ d, owns (c : Thread nD τ) arg25 fullShare d) ∗ (∃ d, owns (c : Thread nD τ) arg27 fullShare d)
        ∗ (∀ v, iprop(owns (c : Thread nD τ) arg9 fullShare x9 ∗ owns (c : Thread nD τ) arg10 fullShare x10 ∗ owns (c : Thread nD τ) arg12 fullShare x12 ∗ owns (c : Thread nD τ) arg13 fullShare x13 ∗ owns (c : Thread nD τ) arg24 fullShare x24 ∗ owns (c : Thread nD τ) arg26 fullShare x26 ∗ (∃ d, owns (c : Thread nD τ) arg25 fullShare d) ∗ (∃ d, owns (c : Thread nD τ) arg27 fullShare d)) -∗ K v))
      ⊢ wp frame (wpE (defs₀ (F := F)) 𝒱₀ c none) E (k0_part271 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_t1 arg28 v906 v909 v912 v915 v918 v921 v924 v927 v944 v947 v3545 v3552 v3559 v3566 v3573 v3580 v3587 v3594 v3601 v3608 v3615 v3622 v3627 v3634 v3641 v3648 v3655 v3656) K := by
  unfold owns
  iintro ⟨⟨%f9, %hf9, H9⟩, ⟨%f10, %hf10, H10⟩, ⟨%f12, %hf12, H12⟩, ⟨%f13, %hf13, H13⟩, ⟨%f24, %hf24, H24⟩, ⟨%f26, %hf26, H26⟩, ⟨%d25, %f25, -, H25⟩, ⟨%d27, %f27, -, H27⟩, Hk⟩
  obtain rfl := harg9.eq_unread hf9; obtain rfl := harg10.eq_unread hf10; obtain rfl := harg12.eq_unread hf12; obtain rfl := harg13.eq_unread hf13; obtain rfl := harg24.eq_unread hf24; obtain rfl := harg26.eq_unread hf26
  sl_unfold [k0_part271]
  sl_exec_parts
  sl_step
  iapply Hk
  isplitl [H9]
  · iexists _; isplitr; · ipureintro; exact harg9.read_unread _
    iexact H9
  isplitl [H10]
  · iexists _; isplitr; · ipureintro; exact harg10.read_unread _
    iexact H10
  isplitl [H12]
  · iexists _; isplitr; · ipureintro; exact harg12.read_unread _
    iexact H12
  isplitl [H13]
  · iexists _; isplitr; · ipureintro; exact harg13.read_unread _
    iexact H13
  isplitl [H24]
  · iexists _; isplitr; · ipureintro; exact harg24.read_unread _
    iexact H24
  isplitl [H26]
  · iexists _; isplitr; · ipureintro; exact harg26.read_unread _
    iexact H26
  isplitl [H25]
  · iexists _, _; isplitr; swap; · iexact H25
    ipureintro; rfl
  iexists _, _; isplitr; swap; · iexact H27
  ipureintro; rfl
-- ==== Proof.In272.lean ====
/-
  A stretch of a trip of the convolutions' loop: what it owns before and after.
-/
module

public import proofs.«01_k».proof.Proof.InOffs

@[expose] public section

noncomputable section

namespace Cert.Proof.Inp

open Cert.Kernel5Ideal Cert.Kernel5Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 0 in
/-- This stretch of a trip reads the weights, the biases and the sources of the convolutions, and writes their results. -/
theorem part272_run (c : Dev nD) (i : grid0.Coords) (arg2 : Memref sig .tc .vmem S512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S17x1024x256 .bf16) (harg8 : arg8.IsWhole) (arg9 : Memref sig .tc .vmem S12x5x128 .f32) (harg9 : arg9.IsWhole) (arg10 : Memref sig .tc .vmem S12x1x128 .f32) (harg10 : arg10.IsWhole) (arg11 : Memref sig .tc .vmem S1x256 .f32) (harg11 : arg11.IsWhole) (arg12 : Memref sig .tc .vmem S4x31x128 .f32) (harg12 : arg12.IsWhole) (arg13 : Memref sig .tc .vmem S4x1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S2x512x128 .f32) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x1024 .bf16) (harg23 : arg23.IsWhole) (arg24 : Memref sig .tc .vmem S34x544x128 .f32) (harg24 : arg24.IsWhole) (arg25 : Memref sig .tc .vmem S12x512x128 .f32) (harg25 : arg25.IsWhole) (arg26 : Memref sig .tc .vmem S4x768x128 .f32) (harg26 : arg26.IsWhole) (arg27 : Memref sig .tc .vmem S4x512x128 .f32) (harg27 : arg27.IsWhole) (k0_t1 : Fin k0_t1_loop.trips) (arg28 : BitVec 32) (v4701 : BitVec 32) (v4704 : BitVec 32) (v4707 : BitVec 32) (v4710 : BitVec 32) (v4713 : BitVec 32) (v4716 : BitVec 32) (v4719 : BitVec 32) (v4722 : BitVec 32) (v4739 : BitVec 32) (v4742 : FVec F S1x128 .f32) (v6301 : FVec F S8x128 .f32) (v6308 : FVec F S8x128 .f32) (v6315 : FVec F S8x128 .f32) (v6322 : FVec F S8x128 .f32) (v6329 : FVec F S8x128 .f32) (v6336 : FVec F S8x128 .f32) (v6343 : FVec F S8x128 .f32) (v6350 : FVec F S8x128 .f32) (v6357 : FVec F S8x128 .f32) (v6364 : FVec F S8x128 .f32) (v6369 : FVec F S8x128 .f32) (v6376 : FVec F S8x128 .f32) (v6383 : FVec F S8x128 .f32) (v6390 : FVec F S8x128 .f32) (v6397 : FVec F S8x128 .f32) (v6404 : FVec F S8x128 .f32) (v6411 : FVec F S8x128 .f32)
    (x9 : Vec F S12x5x128 .f32) (x10 : Vec F S12x1x128 .f32) (x12 : Vec F S4x31x128 .f32) (x13 : Vec F S4x1x128 .f32) (x24 : Vec F S34x544x128 .f32) (x26 : Vec F S4x768x128 .f32) (E : Set ℕ) (K : (Σ' (v8504 : BitVec 32) (v8509 : BitVec 32) (v8514 : BitVec 32) (v8531 : BitVec 32) (v8534 : FVec F S1x128 .f32) (v9054 : FVec F S8x128 .f32) (v9061 : FVec F S8x128 .f32) (v9068 : FVec F S8x128 .f32) (v9075 : FVec F S8x128 .f32) (v9082 : FVec F S8x128 .f32) (v9089 : FVec F S8x128 .f32) (v9096 : FVec F S8x128 .f32) (v9103 : FVec F S8x128 .f32), FVec F S8x128 .f32) → sProp 𝕄) :
    iprop(owns (c : Thread nD τ) arg9 fullShare x9 ∗ owns (c : Thread nD τ) arg10 fullShare x10 ∗ owns (c : Thread nD τ) arg12 fullShare x12 ∗ owns (c : Thread nD τ) arg13 fullShare x13 ∗ owns (c : Thread nD τ) arg24 fullShare x24 ∗ owns (c : Thread nD τ) arg26 fullShare x26 ∗ (∃ d, owns (c : Thread nD τ) arg25 fullShare d) ∗ (∃ d, owns (c : Thread nD τ) arg27 fullShare d)
        ∗ (∀ v, iprop(owns (c : Thread nD τ) arg9 fullShare x9 ∗ owns (c : Thread nD τ) arg10 fullShare x10 ∗ owns (c : Thread nD τ) arg12 fullShare x12 ∗ owns (c : Thread nD τ) arg13 fullShare x13 ∗ owns (c : Thread nD τ) arg24 fullShare x24 ∗ owns (c : Thread nD τ) arg26 fullShare x26 ∗ (∃ d, owns (c : Thread nD τ) arg25 fullShare d) ∗ (∃ d, owns (c : Thread nD τ) arg27 fullShare d)) -∗ K v))
      ⊢ wp frame (wpE (defs₀ (F := F)) 𝒱₀ c none) E (k0_part272 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_t1 arg28 v4701 v4704 v4707 v4710 v4713 v4716 v4719 v4722 v4739 v4742 v6301 v6308 v6315 v6322 v6329 v6336 v6343 v6350 v6357 v6364 v6369 v6376 v6383 v6390 v6397 v6404 v6411) K := by
  unfold owns
  iintro ⟨⟨%f9, %hf9, H9⟩, ⟨%f10, %hf10, H10⟩, ⟨%f12, %hf12, H12⟩, ⟨%f13, %hf13, H13⟩, ⟨%f24, %hf24, H24⟩, ⟨%f26, %hf26, H26⟩, ⟨%d25, %f25, -, H25⟩, ⟨%d27, %f27, -, H27⟩, Hk⟩
  obtain rfl := harg9.eq_unread hf9; obtain rfl := harg10.eq_unread hf10; obtain rfl := harg12.eq_unread hf12; obtain rfl := harg13.eq_unread hf13; obtain rfl := harg24.eq_unread hf24; obtain rfl := harg26.eq_unread hf26
  sl_unfold [k0_part272]
  sl_exec_parts
  sl_step
  iapply Hk
  isplitl [H9]
  · iexists _; isplitr; · ipureintro; exact harg9.read_unread _
    iexact H9
  isplitl [H10]
  · iexists _; isplitr; · ipureintro; exact harg10.read_unread _
    iexact H10
  isplitl [H12]
  · iexists _; isplitr; · ipureintro; exact harg12.read_unread _
    iexact H12
  isplitl [H13]
  · iexists _; isplitr; · ipureintro; exact harg13.read_unread _
    iexact H13
  isplitl [H24]
  · iexists _; isplitr; · ipureintro; exact harg24.read_unread _
    iexact H24
  isplitl [H26]
  · iexists _; isplitr; · ipureintro; exact harg26.read_unread _
    iexact H26
  isplitl [H25]
  · iexists _, _; isplitr; swap; · iexact H25
    ipureintro; rfl
  iexists _, _; isplitr; swap; · iexact H27
  ipureintro; rfl
-- ==== Proof.In273.lean ====
/-
  A stretch of a trip of the convolutions' loop: what it owns before and after.
-/
module

public import proofs.«01_k».proof.Proof.InOffs

@[expose] public section

noncomputable section

namespace Cert.Proof.Inp

open Cert.Kernel5Ideal Cert.Kernel5Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 0 in
/-- This stretch of a trip reads the weights, the biases and the sources of the convolutions, and writes their results. -/
theorem part273_run (c : Dev nD) (i : grid0.Coords) (arg2 : Memref sig .tc .vmem S512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S17x1024x256 .bf16) (harg8 : arg8.IsWhole) (arg9 : Memref sig .tc .vmem S12x5x128 .f32) (harg9 : arg9.IsWhole) (arg10 : Memref sig .tc .vmem S12x1x128 .f32) (harg10 : arg10.IsWhole) (arg11 : Memref sig .tc .vmem S1x256 .f32) (harg11 : arg11.IsWhole) (arg12 : Memref sig .tc .vmem S4x31x128 .f32) (harg12 : arg12.IsWhole) (arg13 : Memref sig .tc .vmem S4x1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S2x512x128 .f32) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x1024 .bf16) (harg23 : arg23.IsWhole) (arg24 : Memref sig .tc .vmem S34x544x128 .f32) (harg24 : arg24.IsWhole) (arg25 : Memref sig .tc .vmem S12x512x128 .f32) (harg25 : arg25.IsWhole) (arg26 : Memref sig .tc .vmem S4x768x128 .f32) (harg26 : arg26.IsWhole) (arg27 : Memref sig .tc .vmem S4x512x128 .f32) (harg27 : arg27.IsWhole) (k0_t1 : Fin k0_t1_loop.trips) (arg28 : BitVec 32) (v8504 : BitVec 32) (v8509 : BitVec 32) (v8514 : BitVec 32) (v8531 : BitVec 32) (v8534 : FVec F S1x128 .f32) (v9054 : FVec F S8x128 .f32) (v9061 : FVec F S8x128 .f32) (v9068 : FVec F S8x128 .f32) (v9075 : FVec F S8x128 .f32) (v9082 : FVec F S8x128 .f32) (v9089 : FVec F S8x128 .f32) (v9096 : FVec F S8x128 .f32) (v9103 : FVec F S8x128 .f32) (v9175 : FVec F S8x128 .f32)
    (x9 : Vec F S12x5x128 .f32) (x10 : Vec F S12x1x128 .f32) (x12 : Vec F S4x31x128 .f32) (x13 : Vec F S4x1x128 .f32) (x24 : Vec F S34x544x128 .f32) (x26 : Vec F S4x768x128 .f32) (E : Set ℕ) (K : (Σ' (v11625 : BitVec 32) (v11627 : BitVec 32) (v11630 : BitVec 32) (v11632 : BitVec 32) (v11635 : BitVec 32) (v11637 : BitVec 32) (v11640 : BitVec 32) (v11642 : BitVec 32) (v11659 : BitVec 32) (v11662 : FVec F S1x128 .f32) (v11763 : FVec F S8x128 .f32) (v11768 : FVec F S8x128 .f32) (v11775 : FVec F S8x128 .f32) (v11782 : FVec F S8x128 .f32) (v11789 : FVec F S8x128 .f32) (v11796 : FVec F S8x128 .f32) (v11803 : FVec F S8x128 .f32) (v11810 : FVec F S8x128 .f32) (v11817 : FVec F S8x128 .f32) (v11824 : FVec F S8x128 .f32) (v11831 : FVec F S8x128 .f32) (v11838 : FVec F S8x128 .f32) (v11845 : FVec F S8x128 .f32) (v11852 : FVec F S8x128 .f32) (v11859 : FVec F S8x128 .f32) (v11866 : FVec F S8x128 .f32) (v11873 : FVec F S8x128 .f32), BitVec 32) → sProp 𝕄) :
    iprop(owns (c : Thread nD τ) arg9 fullShare x9 ∗ owns (c : Thread nD τ) arg10 fullShare x10 ∗ owns (c : Thread nD τ) arg12 fullShare x12 ∗ owns (c : Thread nD τ) arg13 fullShare x13 ∗ owns (c : Thread nD τ) arg24 fullShare x24 ∗ owns (c : Thread nD τ) arg26 fullShare x26 ∗ (∃ d, owns (c : Thread nD τ) arg25 fullShare d) ∗ (∃ d, owns (c : Thread nD τ) arg27 fullShare d)
        ∗ (∀ v, iprop(owns (c : Thread nD τ) arg9 fullShare x9 ∗ owns (c : Thread nD τ) arg10 fullShare x10 ∗ owns (c : Thread nD τ) arg12 fullShare x12 ∗ owns (c : Thread nD τ) arg13 fullShare x13 ∗ owns (c : Thread nD τ) arg24 fullShare x24 ∗ owns (c : Thread nD τ) arg26 fullShare x26 ∗ (∃ d, owns (c : Thread nD τ) arg25 fullShare d) ∗ (∃ d, owns (c : Thread nD τ) arg27 fullShare d)) -∗ K v))
      ⊢ wp frame (wpE (defs₀ (F := F)) 𝒱₀ c none) E (k0_part273 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_t1 arg28 v8504 v8509 v8514 v8531 v8534 v9054 v9061 v9068 v9075 v9082 v9089 v9096 v9103 v9175) K := by
  unfold owns
  iintro ⟨⟨%f9, %hf9, H9⟩, ⟨%f10, %hf10, H10⟩, ⟨%f12, %hf12, H12⟩, ⟨%f13, %hf13, H13⟩, ⟨%f24, %hf24, H24⟩, ⟨%f26, %hf26, H26⟩, ⟨%d25, %f25, -, H25⟩, ⟨%d27, %f27, -, H27⟩, Hk⟩
  obtain rfl := harg9.eq_unread hf9; obtain rfl := harg10.eq_unread hf10; obtain rfl := harg12.eq_unread hf12; obtain rfl := harg13.eq_unread hf13; obtain rfl := harg24.eq_unread hf24; obtain rfl := harg26.eq_unread hf26
  sl_unfold [k0_part273]
  sl_exec_parts
  sl_step
  iapply Hk
  isplitl [H9]
  · iexists _; isplitr; · ipureintro; exact harg9.read_unread _
    iexact H9
  isplitl [H10]
  · iexists _; isplitr; · ipureintro; exact harg10.read_unread _
    iexact H10
  isplitl [H12]
  · iexists _; isplitr; · ipureintro; exact harg12.read_unread _
    iexact H12
  isplitl [H13]
  · iexists _; isplitr; · ipureintro; exact harg13.read_unread _
    iexact H13
  isplitl [H24]
  · iexists _; isplitr; · ipureintro; exact harg24.read_unread _
    iexact H24
  isplitl [H26]
  · iexists _; isplitr; · ipureintro; exact harg26.read_unread _
    iexact H26
  isplitl [H25]
  · iexists _, _; isplitr; swap; · iexact H25
    ipureintro; rfl
  iexists _, _; isplitr; swap; · iexact H27
  ipureintro; rfl
-- ==== Proof.In274.lean ====
/-
  A stretch of a trip of the convolutions' loop: what it owns before and after.
-/
module

public import proofs.«01_k».proof.Proof.InOffs
public import proofs.«01_k».proof.Proof.InChunk

@[expose] public section

noncomputable section

namespace Cert.Proof.Inp

open Cert.Kernel5Ideal Cert.Kernel5Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 0 in
/-- The trip's last stretch of the convolutions, and the first of its two chunks of the projection. -/
theorem part274_run (c : Dev nD) (i : grid0.Coords) (arg2 : Memref sig .tc .vmem S512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S17x1024x256 .bf16) (harg8 : arg8.IsWhole) (arg9 : Memref sig .tc .vmem S12x5x128 .f32) (harg9 : arg9.IsWhole) (arg10 : Memref sig .tc .vmem S12x1x128 .f32) (harg10 : arg10.IsWhole) (arg11 : Memref sig .tc .vmem S1x256 .f32) (harg11 : arg11.IsWhole) (arg12 : Memref sig .tc .vmem S4x31x128 .f32) (harg12 : arg12.IsWhole) (arg13 : Memref sig .tc .vmem S4x1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S2x512x128 .f32) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x1024 .bf16) (harg23 : arg23.IsWhole) (arg24 : Memref sig .tc .vmem S34x544x128 .f32) (harg24 : arg24.IsWhole) (arg25 : Memref sig .tc .vmem S12x512x128 .f32) (harg25 : arg25.IsWhole) (arg26 : Memref sig .tc .vmem S4x768x128 .f32) (harg26 : arg26.IsWhole) (arg27 : Memref sig .tc .vmem S4x512x128 .f32) (harg27 : arg27.IsWhole) (k0_t1 : Fin k0_t1_loop.trips) (arg28 : BitVec 32) (v11625 : BitVec 32) (v11627 : BitVec 32) (v11630 : BitVec 32) (v11632 : BitVec 32) (v11635 : BitVec 32) (v11637 : BitVec 32) (v11640 : BitVec 32) (v11642 : BitVec 32) (v11659 : BitVec 32) (v11662 : FVec F S1x128 .f32) (v11763 : FVec F S8x128 .f32) (v11768 : FVec F S8x128 .f32) (v11775 : FVec F S8x128 .f32) (v11782 : FVec F S8x128 .f32) (v11789 : FVec F S8x128 .f32) (v11796 : FVec F S8x128 .f32) (v11803 : FVec F S8x128 .f32) (v11810 : FVec F S8x128 .f32) (v11817 : FVec F S8x128 .f32) (v11824 : FVec F S8x128 .f32) (v11831 : FVec F S8x128 .f32) (v11838 : FVec F S8x128 .f32) (v11845 : FVec F S8x128 .f32) (v11852 : FVec F S8x128 .f32) (v11859 : FVec F S8x128 .f32) (v11866 : FVec F S8x128 .f32) (v11873 : FVec F S8x128 .f32) (v11874 : BitVec 32)
    (x8 : Vec F S17x1024x256 .bf16) (x9 : Vec F S12x5x128 .f32) (x10 : Vec F S12x1x128 .f32) (x12 : Vec F S4x31x128 .f32) (x13 : Vec F S4x1x128 .f32) (x23 : Vec F S512x1024 .bf16) (x26 : Vec F S4x768x128 .f32) (x24 : Vec F S34x544x128 .f32) (E : Set ℕ) (K : (Σ' (v13198 : BitVec 32) (v13203 : FVec F S512x256 .f32), FVec F S512x128 .f32) → sProp 𝕄) :
    iprop(owns (c : Thread nD τ) arg8 fullShare x8 ∗ owns (c : Thread nD τ) arg9 fullShare x9 ∗ owns (c : Thread nD τ) arg10 fullShare x10 ∗ owns (c : Thread nD τ) arg12 fullShare x12 ∗ owns (c : Thread nD τ) arg13 fullShare x13 ∗ owns (c : Thread nD τ) arg23 fullShare x23 ∗ owns (c : Thread nD τ) arg26 fullShare x26 ∗ owns (c : Thread nD τ) arg24 fullShare x24 ∗ (∃ d, owns (c : Thread nD τ) arg25 fullShare d) ∗ (∃ d, owns (c : Thread nD τ) arg27 fullShare d)
        ∗ (∀ v, iprop(owns (c : Thread nD τ) arg8 fullShare x8 ∗ owns (c : Thread nD τ) arg9 fullShare x9 ∗ owns (c : Thread nD τ) arg10 fullShare x10 ∗ owns (c : Thread nD τ) arg12 fullShare x12 ∗ owns (c : Thread nD τ) arg13 fullShare x13 ∗ owns (c : Thread nD τ) arg23 fullShare x23 ∗ owns (c : Thread nD τ) arg26 fullShare x26 ∗ (∃ d, owns (c : Thread nD τ) arg25 fullShare d) ∗ (∃ d, owns (c : Thread nD τ) arg27 fullShare d) ∗ (∃ d, ⌜Chunk x23 x8 d (nOdd k0_t1) ∧ Off d x24 (nOdd k0_t1)⌝ ∗ owns (c : Thread nD τ) arg24 fullShare d) ∗ ⌜v.2.1 = prj x23 x8 (nEven k0_t1) ∧ v.2.2 = extractStridedSlice S512x128 ![0, 0] (prj x23 x8 (nEven k0_t1)) slices_S512x256_o0_0_S512x128⌝) -∗ K v))
      ⊢ wp frame (wpE (defs₀ (F := F)) 𝒱₀ c none) E (k0_part274 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_t1 arg28 v11625 v11627 v11630 v11632 v11635 v11637 v11640 v11642 v11659 v11662 v11763 v11768 v11775 v11782 v11789 v11796 v11803 v11810 v11817 v11824 v11831 v11838 v11845 v11852 v11859 v11866 v11873 v11874) K := by
  unfold owns
  iintro ⟨⟨%f8, %hf8, H8⟩, ⟨%f9, %hf9, H9⟩, ⟨%f10, %hf10, H10⟩, ⟨%f12, %hf12, H12⟩, ⟨%f13, %hf13, H13⟩, ⟨%f23, %hf23, H23⟩, ⟨%f26, %hf26, H26⟩, ⟨%f24, %hf24, H24⟩, ⟨%d25, %f25, -, H25⟩, ⟨%d27, %f27, -, H27⟩, Hk⟩
  obtain rfl := harg8.eq_unread hf8; obtain rfl := harg9.eq_unread hf9; obtain rfl := harg10.eq_unread hf10; obtain rfl := harg12.eq_unread hf12; obtain rfl := harg13.eq_unread hf13; obtain rfl := harg23.eq_unread hf23; obtain rfl := harg26.eq_unread hf26; obtain rfl := harg24.eq_unread hf24
  sl_unfold [k0_part274]
  sl_exec_parts
  sl_step
  iapply Hk
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H12]
  · iexists _; isplitr; · ipureintro; exact harg12.read_unread _
    iexact H12
  isplitl [H13]
  · iexists _; isplitr; · ipureintro; exact harg13.read_unread _
    iexact H13
  isplitl [H23]
  · iexists _; isplitr; · ipureintro; exact harg23.read_unread _
    iexact H23
  isplitl [H26]
  · iexists _; isplitr; · ipureintro; exact harg26.read_unread _
    iexact H26
  isplitl [H25]
  · iexists _, _; isplitr; swap; · iexact H25
    ipureintro; rfl
  isplitl [H27]
  · iexists _, _; isplitr; swap; · iexact H27
    ipureintro; rfl
  isplitl [H24]
  · iexists _
    isplitr; swap
    · iexists _; isplitr; swap; · iexact H24
      ipureintro; rfl
    ipureintro
    have h := two arg24 x23 x8 (harg24.unread x24) (nOdd k0_t1) _ _ (at_odd0 k0_t1) (at_odd1 k0_t1) (k0_off44_inb k0_t1 0 0) (k0_off44_inb k0_t1 0 1)
      (part274_run.sl.v13188 c arg8 harg8 arg23 harg23 k0_t1 x8 x23) (part274_run.sl.v13195 c arg8 harg8 arg23 harg23 k0_t1 x8 x23)
      (fun r l => (half0 _ r l).trans (congrFun (prj_ld arg23 harg23 arg8 harg8 x23 x8 (nOdd k0_t1) _ (wt_odd k0_t1) (k0_off43_inb k0_t1 0)) _))
      (fun r l => (half1 _ r l).trans (congrFun (prj_ld arg23 harg23 arg8 harg8 x23 x8 (nOdd k0_t1) _ (wt_odd k0_t1) (k0_off43_inb k0_t1 0)) _))
    rw [harg24.read_unread] at h
    exact h
  ipureintro
  constructor
  · exact prj_ld arg23 harg23 arg8 harg8 x23 x8 (nEven k0_t1) _ (wt_even k0_t1) (k0_off43_inb k0_t1 1)
  · exact congrArg (fun p => extractStridedSlice S512x128 ![0, 0] p slices_S512x256_o0_0_S512x128)
      (prj_ld arg23 harg23 arg8 harg8 x23 x8 (nEven k0_t1) _ (wt_even k0_t1) (k0_off43_inb k0_t1 1))
-- ==== Proof.InLoop.lean ====
/-
  The convolutions' loop, trip by trip.
-/
module

public import proofs.«01_k».proof.Proof.In270
public import proofs.«01_k».proof.Proof.In271
public import proofs.«01_k».proof.Proof.In272
public import proofs.«01_k».proof.Proof.In273
public import proofs.«01_k».proof.Proof.In274

@[expose] public section

noncomputable section

namespace Cert.Proof.Inp

open Cert.Kernel5Ideal Cert.Kernel5Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the loop keeps: its inputs as they are, the convolutions' results and sources at anything, and in the buffer of the
    projections the chunks below `j`. -/
def inv (c : Dev nD) (arg8 : Memref sig .tc .vmem S17x1024x256 .bf16) (arg9 : Memref sig .tc .vmem S12x5x128 .f32) (arg10 : Memref sig .tc .vmem S12x1x128 .f32) (arg12 : Memref sig .tc .vmem S4x31x128 .f32) (arg13 : Memref sig .tc .vmem S4x1x128 .f32) (arg23 : Memref sig .tc .vmem S512x1024 .bf16) (arg24 : Memref sig .tc .vmem S34x544x128 .f32) (arg25 : Memref sig .tc .vmem S12x512x128 .f32) (arg26 : Memref sig .tc .vmem S4x768x128 .f32) (arg27 : Memref sig .tc .vmem S4x512x128 .f32) (x8 : Vec F S17x1024x256 .bf16) (x9 : Vec F S12x5x128 .f32) (x10 : Vec F S12x1x128 .f32) (x12 : Vec F S4x31x128 .f32) (x13 : Vec F S4x1x128 .f32) (x23 : Vec F S512x1024 .bf16) (j : Nat) : sProp 𝕄 :=
  iprop(owns (c : Thread nD τ) arg8 fullShare x8 ∗ owns (c : Thread nD τ) arg9 fullShare x9 ∗ owns (c : Thread nD τ) arg10 fullShare x10 ∗ owns (c : Thread nD τ) arg12 fullShare x12 ∗ owns (c : Thread nD τ) arg13 fullShare x13 ∗ owns (c : Thread nD τ) arg23 fullShare x23 ∗ (∃ d, owns (c : Thread nD τ) arg26 fullShare d) ∗ (∃ d, owns (c : Thread nD τ) arg25 fullShare d) ∗ (∃ d, owns (c : Thread nD τ) arg27 fullShare d) ∗ (∃ d, ⌜∀ n : Fin 17, n.val < j → Chunk x23 x8 d n⌝ ∗ owns (c : Thread nD τ) arg24 fullShare d))

set_option maxHeartbeats 0 in
/-- The last sources of the convolution, the first chunk of the projection, and the loop. -/
theorem part293_run (c : Dev nD) (i : grid0.Coords) (arg2 : Memref sig .tc .vmem S512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S17x1024x256 .bf16) (harg8 : arg8.IsWhole) (arg9 : Memref sig .tc .vmem S12x5x128 .f32) (harg9 : arg9.IsWhole) (arg10 : Memref sig .tc .vmem S12x1x128 .f32) (harg10 : arg10.IsWhole) (arg11 : Memref sig .tc .vmem S1x256 .f32) (harg11 : arg11.IsWhole) (arg12 : Memref sig .tc .vmem S4x31x128 .f32) (harg12 : arg12.IsWhole) (arg13 : Memref sig .tc .vmem S4x1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S2x512x128 .f32) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x1024 .bf16) (harg23 : arg23.IsWhole) (arg24 : Memref sig .tc .vmem S34x544x128 .f32) (harg24 : arg24.IsWhole) (arg25 : Memref sig .tc .vmem S12x512x128 .f32) (harg25 : arg25.IsWhole) (arg26 : Memref sig .tc .vmem S4x768x128 .f32) (harg26 : arg26.IsWhole) (arg27 : Memref sig .tc .vmem S4x512x128 .f32) (harg27 : arg27.IsWhole) (v231 : FVec F S512x512 .f32) (v232 : FVec F S16x128 .f32) (v540 : Vec F S1x16x128 .f32) (x8 : Vec F S17x1024x256 .bf16) (x9 : Vec F S12x5x128 .f32) (x10 : Vec F S12x1x128 .f32) (x12 : Vec F S4x31x128 .f32) (x13 : Vec F S4x1x128 .f32) (x23 : Vec F S512x1024 .bf16) (E : Set ℕ) (K : PUnit → sProp 𝕄) :
    iprop(owns (c : Thread nD τ) arg8 fullShare x8 ∗ owns (c : Thread nD τ) arg9 fullShare x9 ∗ owns (c : Thread nD τ) arg10 fullShare x10 ∗ owns (c : Thread nD τ) arg12 fullShare x12 ∗ owns (c : Thread nD τ) arg13 fullShare x13 ∗ owns (c : Thread nD τ) arg23 fullShare x23 ∗ (∃ d, owns (c : Thread nD τ) arg26 fullShare d) ∗ (∃ d, owns (c : Thread nD τ) arg25 fullShare d) ∗ (∃ d, owns (c : Thread nD τ) arg27 fullShare d) ∗ (∃ d, owns (c : Thread nD τ) arg24 fullShare d) ∗ (inv c arg8 arg9 arg10 arg12 arg13 arg23 arg24 arg25 arg26 arg27 x8 x9 x10 x12 x13 x23 17 -∗ K ⟨⟩))
      ⊢ wp frame (wpE (defs₀ (F := F)) 𝒱₀ c none) E (k0_part293 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v231 v232 v540) K := by
  unfold owns
  iintro ⟨⟨%f8, %hf8, H8⟩, ⟨%f9, %hf9, H9⟩, ⟨%f10, %hf10, H10⟩, ⟨%f12, %hf12, H12⟩, ⟨%f13, %hf13, H13⟩, ⟨%f23, %hf23, H23⟩, ⟨%d26, %f26, -, H26⟩, H25, H27, ⟨%d24, %f24, -, H24⟩, Hk⟩
  obtain rfl := harg8.eq_unread hf8; obtain rfl := harg9.eq_unread hf9; obtain rfl := harg10.eq_unread hf10; obtain rfl := harg12.eq_unread hf12; obtain rfl := harg13.eq_unread hf13; obtain rfl := harg23.eq_unread hf23
  sl_unfold [k0_part293]
  sl_exec
  sl_for (fun k _ => inv c arg8 arg9 arg10 arg12 arg13 arg23 arg24 arg25 arg26 arg27 x8 x9 x10 x12 x13 x23 (1 + 2 * k)) $$ [H8 H9 H10 H12 H13 H23 H26 H25 H27 H24]
  · intro k0_t1 acc
    unfold inv
    iintro ⟨H8, H9, H10, H12, H13, H23, ⟨%x26, H26⟩, H25, H27, ⟨%x24, %hx, H24⟩⟩
    unfold part293_run.sl.prog.body_1
    rw [wp_bind]
    iapply (part270_run c _ _ _ _ _ _ _ _ _ _ _ _ _ _ _ _ _ _ _ _ _ _ _ _ _ _ _ _ _ _ _ _ _ _ _ _ _ _ _ _ _ _ _ _ _ _ _ _ _ _ _ _ _ _ _ _ x9 x10 x12 x13 x24 x26 _ _)
    isplitl [H9]; · iexact H9
    isplitl [H10]; · iexact H10
    isplitl [H12]; · iexact H12
    isplitl [H13]; · iexact H13
    isplitl [H24]; · iexact H24
    isplitl [H26]; · iexact H26
    isplitl [H25]; · iexact H25
    isplitl [H27]; · iexact H27
    iintro %v ⟨H9, H10, H12, H13, H24, H26, H25, H27⟩
    obtain ⟨arg28, v906, v909, v912, v915, v918, v921, v924, v927, v944, v947, v3545, v3552, v3559, v3566, v3573, v3580, v3587, v3594, v3601, v3608, v3615, v3622, v3627, v3634, v3641, v3648, v3655, v3656⟩ := v
    dsimp only
    rw [wp_bind]
    iapply (part271_run c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x9 x10 x12 x13 x24 x26 _ _)
    isplitl [H9]; · iexact H9
    isplitl [H10]; · iexact H10
    isplitl [H12]; · iexact H12
    isplitl [H13]; · iexact H13
    isplitl [H24]; · iexact H24
    isplitl [H26]; · iexact H26
    isplitl [H25]; · iexact H25
    isplitl [H27]; · iexact H27
    iintro %v ⟨H9, H10, H12, H13, H24, H26, H25, H27⟩
    obtain ⟨v4701, v4704, v4707, v4710, v4713, v4716, v4719, v4722, v4739, v4742, v6301, v6308, v6315, v6322, v6329, v6336, v6343, v6350, v6357, v6364, v6369, v6376, v6383, v6390, v6397, v6404, v6411⟩ := v
    dsimp only
    rw [wp_bind]
    iapply (part272_run c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x9 x10 x12 x13 x24 x26 _ _)
    isplitl [H9]; · iexact H9
    isplitl [H10]; · iexact H10
    isplitl [H12]; · iexact H12
    isplitl [H13]; · iexact H13
    isplitl [H24]; · iexact H24
    isplitl [H26]; · iexact H26
    isplitl [H25]; · iexact H25
    isplitl [H27]; · iexact H27
    iintro %v ⟨H9, H10, H12, H13, H24, H26, H25, H27⟩
    obtain ⟨v8504, v8509, v8514, v8531, v8534, v9054, v9061, v9068, v9075, v9082, v9089, v9096, v9103, v9175⟩ := v
    dsimp only
    rw [wp_bind]
    iapply (part273_run c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x9 x10 x12 x13 x24 x26 _ _)
    isplitl [H9]; · iexact H9
    isplitl [H10]; · iexact H10
    isplitl [H12]; · iexact H12
    isplitl [H13]; · iexact H13
    isplitl [H24]; · iexact H24
    isplitl [H26]; · iexact H26
    isplitl [H25]; · iexact H25
    isplitl [H27]; · iexact H27
    iintro %v ⟨H9, H10, H12, H13, H24, H26, H25, H27⟩
    obtain ⟨v11625, v11627, v11630, v11632, v11635, v11637, v11640, v11642, v11659, v11662, v11763, v11768, v11775, v11782, v11789, v11796, v11803, v11810, v11817, v11824, v11831, v11838, v11845, v11852, v11859, v11866, v11873, v11874⟩ := v
    dsimp only
    rw [wp_bind]
    iapply (part274_run c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x8 x9 x10 x12 x13 x23 x26 x24 _ _)
    isplitl [H8]; · iexact H8
    isplitl [H9]; · iexact H9
    isplitl [H10]; · iexact H10
    isplitl [H12]; · iexact H12
    isplitl [H13]; · iexact H13
    isplitl [H23]; · iexact H23
    isplitl [H26]; · iexact H26
    isplitl [H24]; · iexact H24
    isplitl [H25]; · iexact H25
    isplitl [H27]; · iexact H27
    iintro %v ⟨H8, H9, H10, H12, H13, H23, H26, H25, H27, ⟨%d, %hd, H24⟩, %hv⟩
    obtain ⟨v13198, v13203, v13204⟩ := v
    obtain ⟨e1, e2⟩ := hv
    dsimp only at e1 e2 ⊢
    subst e1 e2
    unfold owns
    icases H8 with ⟨%f8, %hf8, H8⟩
    icases H9 with ⟨%f9, %hf9, H9⟩
    icases H10 with ⟨%f10, %hf10, H10⟩
    icases H12 with ⟨%f12, %hf12, H12⟩
    icases H13 with ⟨%f13, %hf13, H13⟩
    icases H23 with ⟨%f23, %hf23, H23⟩
    icases H24 with ⟨%f24, %hf24, H24⟩
    obtain rfl := harg24.eq_unread hf24
    sl_exec
    sl_step
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H12]
    · iexists f12; isplitr; · ipureintro; exact hf12
      iexact H12
    isplitl [H13]
    · iexists f13; isplitr; · ipureintro; exact hf13
      iexact H13
    isplitl [H23]
    · iexists f23; isplitr; · ipureintro; exact hf23
      iexact H23
    isplitl [H26]; · iexists _; iexact H26
    isplitl [H25]; · iexact H25
    isplitl [H27]; · iexact H27
    iexists _
    isplitr; swap
    · iexists _; isplitr; swap; · iexact H24
      ipureintro; rfl
    ipureintro
    have h := two arg24 x23 x8 (harg24.unread d) (nEven k0_t1) _ _ (at_even0 k0_t1) (at_even1 k0_t1) (k0_off44_inb k0_t1 1 0) (k0_off44_inb k0_t1 1 1)
      (shapeCast S1x512x128 (extractStridedSlice S512x128 ![0, 0] (prj x23 x8 (nEven k0_t1)) slices_S512x256_o0_0_S512x128) shapeCasts_S512x128_S1x512x128)
      (shapeCast S1x512x128 (extractStridedSlice S512x128 ![0, 128] (prj x23 x8 (nEven k0_t1)) slices_S512x256_o0_128_S512x128) shapeCasts_S512x128_S1x512x128)
      (fun r l => half0 _ r l) (fun r l => half1 _ r l)
    rw [harg24.read_unread] at h
    intro n hn
    by_cases he : n.val = (nEven k0_t1).val
    · obtain rfl := Fin.ext he
      exact h.1
    · by_cases ho : n.val = (nOdd k0_t1).val
      · obtain rfl := Fin.ext ho
        exact hd.1.keep h.2 he
      · refine ((hx n ?_).keep hd.2 ho).keep h.2 he
        have e1 : (nEven k0_t1).val = 2 * k0_t1.val + 2 := rfl
        have e2 : (nOdd k0_t1).val = 2 * k0_t1.val + 1 := rfl
        omega
  · unfold inv owns
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H12]
    · iexists _; isplitr; · ipureintro; exact harg12.read_unread _
      iexact H12
    isplitl [H13]
    · iexists _; isplitr; · ipureintro; exact harg13.read_unread _
      iexact H13
    isplitl [H23]
    · iexists _; isplitr; · ipureintro; exact harg23.read_unread _
      iexact H23
    isplitl [H26]
    · iexists _, _; isplitr; swap; · iexact H26
      ipureintro; rfl
    isplitl [H25]; · iexact H25
    isplitl [H27]; · iexact H27
    iexists _
    isplitr; swap
    · iexists _; isplitr; swap; · iexact H24
      ipureintro; rfl
    ipureintro
    intro n hn
    obtain rfl : n = 0 := Fin.ext (show n.val = 0 by omega)
    exact (two arg24 x23 x8 f24 0 ![0, 16, 0] ![1, 16, 0] rfl rfl inb_S34x544x128_S1x512x128_0_16_0 inb_S34x544x128_S1x512x128_1_16_0
      (part293_run.sl.v560 c arg8 harg8 arg23 harg23 x8 x23) (part293_run.sl.v564 c arg8 harg8 arg23 harg23 x8 x23)
      (fun r l => (half0 _ r l).trans (congrFun (prj_ld arg23 harg23 arg8 harg8 x23 x8 0 ![0, 0, 0] rfl inb_S17x1024x256_S1x1024x256_0_0_0) _))
      (fun r l => (half1 _ r l).trans (congrFun (prj_ld arg23 harg23 arg8 harg8 x23 x8 0 ![0, 0, 0] rfl inb_S17x1024x256_S1x1024x256_0_0_0) _))).1
  iintro %acc HI
  sl_exec
  sl_step
  iapply Hk
  iexact HI
-- ==== Proof.InOut.lean ====
/-
  This stretch writes columns of the first result from the convolutions' results, stretch by stretch.
-/
module

public import proofs.«01_k».proof.Proof.InOffs
public import Idealize.ShloMosaic.Lib.Tactic

@[expose] public section

noncomputable section

namespace Cert.Proof.Inp

open Cert.Kernel5Ideal Cert.Kernel5Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 0 in
/-- This stretch writes columns of the first result from the convolutions' results. -/
theorem part294_run (c : Dev nD) (i : grid0.Coords) (arg2 : Memref sig .tc .vmem S512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S17x1024x256 .bf16) (harg8 : arg8.IsWhole) (arg9 : Memref sig .tc .vmem S12x5x128 .f32) (harg9 : arg9.IsWhole) (arg10 : Memref sig .tc .vmem S12x1x128 .f32) (harg10 : arg10.IsWhole) (arg11 : Memref sig .tc .vmem S1x256 .f32) (harg11 : arg11.IsWhole) (arg12 : Memref sig .tc .vmem S4x31x128 .f32) (harg12 : arg12.IsWhole) (arg13 : Memref sig .tc .vmem S4x1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S2x512x128 .f32) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x1024 .bf16) (harg23 : arg23.IsWhole) (arg24 : Memref sig .tc .vmem S34x544x128 .f32) (harg24 : arg24.IsWhole) (arg25 : Memref sig .tc .vmem S12x512x128 .f32) (harg25 : arg25.IsWhole) (arg26 : Memref sig .tc .vmem S4x768x128 .f32) (harg26 : arg26.IsWhole) (arg27 : Memref sig .tc .vmem S4x512x128 .f32) (harg27 : arg27.IsWhole)
     (E : Set ℕ) (K : (PUnit) → sProp 𝕄) :
    iprop((∃ d, owns (c : Thread nD τ) arg18 fullShare d) ∗ (∃ d, owns (c : Thread nD τ) arg25 fullShare d)
        ∗ (∀ v, iprop((∃ d, owns (c : Thread nD τ) arg18 fullShare d) ∗ (∃ d, owns (c : Thread nD τ) arg25 fullShare d)) -∗ K v))
      ⊢ wp frame (wpE (defs₀ (F := F)) 𝒱₀ c none) E (k0_part294 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  unfold owns
  iintro ⟨⟨%d18, %f18, -, H18⟩, ⟨%d25, %f25, -, H25⟩, Hk⟩
  sl_unfold [k0_part294]
  sl_exec_parts
  sl_step
  iapply Hk
  isplitl [H18]
  · iexists _, _; isplitr; swap; · iexact H18
    ipureintro; rfl
  iexists _, _; isplitr; swap; · iexact H25
  ipureintro; rfl

set_option maxHeartbeats 0 in
/-- This stretch writes columns of the first result from the convolutions' results. -/
theorem part295_run (c : Dev nD) (i : grid0.Coords) (arg2 : Memref sig .tc .vmem S512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S17x1024x256 .bf16) (harg8 : arg8.IsWhole) (arg9 : Memref sig .tc .vmem S12x5x128 .f32) (harg9 : arg9.IsWhole) (arg10 : Memref sig .tc .vmem S12x1x128 .f32) (harg10 : arg10.IsWhole) (arg11 : Memref sig .tc .vmem S1x256 .f32) (harg11 : arg11.IsWhole) (arg12 : Memref sig .tc .vmem S4x31x128 .f32) (harg12 : arg12.IsWhole) (arg13 : Memref sig .tc .vmem S4x1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S2x512x128 .f32) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x1024 .bf16) (harg23 : arg23.IsWhole) (arg24 : Memref sig .tc .vmem S34x544x128 .f32) (harg24 : arg24.IsWhole) (arg25 : Memref sig .tc .vmem S12x512x128 .f32) (harg25 : arg25.IsWhole) (arg26 : Memref sig .tc .vmem S4x768x128 .f32) (harg26 : arg26.IsWhole) (arg27 : Memref sig .tc .vmem S4x512x128 .f32) (harg27 : arg27.IsWhole)
     (E : Set ℕ) (K : (PUnit) → sProp 𝕄) :
    iprop((∃ d, owns (c : Thread nD τ) arg18 fullShare d) ∗ (∃ d, owns (c : Thread nD τ) arg25 fullShare d)
        ∗ (∀ v, iprop((∃ d, owns (c : Thread nD τ) arg18 fullShare d) ∗ (∃ d, owns (c : Thread nD τ) arg25 fullShare d)) -∗ K v))
      ⊢ wp frame (wpE (defs₀ (F := F)) 𝒱₀ c none) E (k0_part295 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  unfold owns
  iintro ⟨⟨%d18, %f18, -, H18⟩, ⟨%d25, %f25, -, H25⟩, Hk⟩
  sl_unfold [k0_part295]
  sl_exec_parts
  sl_step
  iapply Hk
  isplitl [H18]
  · iexists _, _; isplitr; swap; · iexact H18
    ipureintro; rfl
  iexists _, _; isplitr; swap; · iexact H25
  ipureintro; rfl
-- ==== Proof.InWrites.lean ====
/-
  The pieces a body writes its results in make the tables of what it computes.
-/
module

public import proofs.«01_k».proof.Proof.InVals

@[expose] public section

noncomputable section

namespace Cert.Proof.Inp

open Cert.Kernel5Ideal Cert.Kernel5Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem zc_emb (o : Fin 2 → Nat) (k : Fin 8) (ho : o = ![0, 128 * k.val]) (i : ∀ a, o a + S512x128.size a ≤ S512x1024.size a) (r : Fin 512) (l : Fin 128) :
    (Rect.unit (s := S512x1024) o S512x128.size i).emb (ix2 r l) = ix2 r ⟨128 * k.val + l.val, by omega⟩ := by
  subst ho
  refine Rect.emb_eq_of_coords _ _ _ fun q => ?_
  match q with
  | 0 => show r.val = 0 + 1 * r.val; omega
  | 1 => show 128 * k.val + l.val = 128 * k.val + 1 * l.val; omega

/-- A piece of columns is the table's. -/
theorem zc_hit (G : Fin 8 → FVec F S512x128 .bf16) (H : Vec F S512x1024 .bf16) (hH : ∀ (r : Fin 512) (k : Fin 8) (l : Fin 128), H (ix2 r ⟨128 * k.val + l.val, by omega⟩) = G k (ix2 r l))
    (o : Fin 2 → Nat) (k : Fin 8) (ho : o = ![0, 128 * k.val]) (i : ∀ a, o a + S512x128.size a ≤ S512x1024.size a) (w : FVec F S512x128 .bf16) (hw : w = G k) (x : S512x128.Idx) :
    w x = H ((Rect.unit (s := S512x1024) o S512x128.size i).emb x) := by
  subst hw
  obtain ⟨r, l, rfl⟩ : ∃ (r : Fin 512) (l : Fin 128), x = ix2 r l := ⟨_, _, eq_ix2 x⟩
  exact ((congrArg H (zc_emb o k ho i r l)).trans (hH r k l)).symm

theorem zc_mem (o : Fin 2 → Nat) (k : Fin 8) (ho : o = ![0, 128 * k.val]) (i : ∀ a, o a + S512x128.size a ≤ S512x1024.size a) (r : Fin 512) (l : Fin 128)
    (h : (128 * k.val + l.val) < 1024) : (ix2 r ⟨128 * k.val + l.val, h⟩ : S512x1024.Idx) ∈ (Rect.unit (s := S512x1024) o S512x128.size i).set := by
  rw [← Rect.map_emb_univ]
  exact Finset.mem_map.mpr ⟨ix2 r l, Finset.mem_univ _, zc_emb o k ho i r l⟩

/-- The columns, piece by piece, make the table. -/
theorem zc_all (arg : Memref sig .tc .vmem S512x1024 .bf16) (f : arg.view.ty.Contents (Elt F)) (G : Fin 8 → FVec F S512x128 .bf16) (H : Vec F S512x1024 .bf16)
    (hH : ∀ (r : Fin 512) (k : Fin 8) (l : Fin 128), H (ix2 r ⟨128 * k.val + l.val, by omega⟩) = G k (ix2 r l))
    (w0 w1 w2 w3 w4 w5 w6 w7 : FVec F S512x128 .bf16) (h0 : w0 = G 0) (h1 : w1 = G 1) (h2 : w2 = G 2) (h3 : w3 = G 3) (h4 : w4 = G 4) (h5 : w5 = G 5) (h6 : w6 = G 6) (h7 : w7 = G 7) :
    arg.view.read (Elt F) (arg.view.writes (Elt F) f [⟨Rect.unit (s := S512x1024) ![0, 896] S512x128.size inb_S512x1024_S512x128_0_896, w7⟩, ⟨Rect.unit (s := S512x1024) ![0, 768] S512x128.size inb_S512x1024_S512x128_0_768, w6⟩, ⟨Rect.unit (s := S512x1024) ![0, 640] S512x128.size inb_S512x1024_S512x128_0_640, w5⟩, ⟨Rect.unit (s := S512x1024) ![0, 512] S512x128.size inb_S512x1024_S512x128_0_512, w4⟩, ⟨Rect.unit (s := S512x1024) ![0, 384] S512x128.size inb_S512x1024_S512x128_0_384, w3⟩, ⟨Rect.unit (s := S512x1024) ![0, 256] S512x128.size inb_S512x1024_S512x128_0_256, w2⟩, ⟨Rect.unit (s := S512x1024) ![0, 128] S512x128.size inb_S512x1024_S512x128_0_128, w1⟩, ⟨Rect.unit (s := S512x1024) ![0, 0] S512x128.size inb_S512x1024_S512x128_0_0, w0⟩]) = H := by
  funext y
  refine View.read_writes_apply_of_pieces (Val := Elt F) arg.view f H _ ?_ y ?_
  · intro p hp
    simp only [List.mem_cons, List.not_mem_nil, or_false] at hp
    rcases hp with rfl | rfl | rfl | rfl | rfl | rfl | rfl | rfl
    · exact zc_hit G H hH _ 7 rfl inb_S512x1024_S512x128_0_896 _ h7
    · exact zc_hit G H hH _ 6 rfl inb_S512x1024_S512x128_0_768 _ h6
    · exact zc_hit G H hH _ 5 rfl inb_S512x1024_S512x128_0_640 _ h5
    · exact zc_hit G H hH _ 4 rfl inb_S512x1024_S512x128_0_512 _ h4
    · exact zc_hit G H hH _ 3 rfl inb_S512x1024_S512x128_0_384 _ h3
    · exact zc_hit G H hH _ 2 rfl inb_S512x1024_S512x128_0_256 _ h2
    · exact zc_hit G H hH _ 1 rfl inb_S512x1024_S512x128_0_128 _ h1
    · exact zc_hit G H hH _ 0 rfl inb_S512x1024_S512x128_0_0 _ h0
  · obtain ⟨r, q, rfl⟩ : ∃ (r : Fin 512) (q : Fin 1024), y = ix2 r q := ⟨_, _, eq_ix2 y⟩
    obtain ⟨k, l, rfl⟩ : ∃ (k : Fin 8) (l : Fin 128), q = ⟨128 * k.val + l.val, by omega⟩ :=
      ⟨⟨q.val / 128, by omega⟩, ⟨q.val % 128, by omega⟩, Fin.ext (by show q.val = 128 * (q.val / 128) + q.val % 128; omega)⟩
    match k with
    | 0 => exact ⟨⟨Rect.unit (s := S512x1024) ![0, 0] S512x128.size inb_S512x1024_S512x128_0_0, w0⟩, by simp, zc_mem _ 0 rfl inb_S512x1024_S512x128_0_0 r l _⟩
    | 1 => exact ⟨⟨Rect.unit (s := S512x1024) ![0, 128] S512x128.size inb_S512x1024_S512x128_0_128, w1⟩, by simp, zc_mem _ 1 rfl inb_S512x1024_S512x128_0_128 r l _⟩
    | 2 => exact ⟨⟨Rect.unit (s := S512x1024) ![0, 256] S512x128.size inb_S512x1024_S512x128_0_256, w2⟩, by simp, zc_mem _ 2 rfl inb_S512x1024_S512x128_0_256 r l _⟩
    | 3 => exact ⟨⟨Rect.unit (s := S512x1024) ![0, 384] S512x128.size inb_S512x1024_S512x128_0_384, w3⟩, by simp, zc_mem _ 3 rfl inb_S512x1024_S512x128_0_384 r l _⟩
    | 4 => exact ⟨⟨Rect.unit (s := S512x1024) ![0, 512] S512x128.size inb_S512x1024_S512x128_0_512, w4⟩, by simp, zc_mem _ 4 rfl inb_S512x1024_S512x128_0_512 r l _⟩
    | 5 => exact ⟨⟨Rect.unit (s := S512x1024) ![0, 640] S512x128.size inb_S512x1024_S512x128_0_640, w5⟩, by simp, zc_mem _ 5 rfl inb_S512x1024_S512x128_0_640 r l _⟩
    | 6 => exact ⟨⟨Rect.unit (s := S512x1024) ![0, 768] S512x128.size inb_S512x1024_S512x128_0_768, w6⟩, by simp, zc_mem _ 6 rfl inb_S512x1024_S512x128_0_768 r l _⟩
    | 7 => exact ⟨⟨Rect.unit (s := S512x1024) ![0, 896] S512x128.size inb_S512x1024_S512x128_0_896, w7⟩, by simp, zc_mem _ 7 rfl inb_S512x1024_S512x128_0_896 r l _⟩

theorem yc_emb (o : Fin 2 → Nat) (k : Fin 4) (ho : o = ![0, 128 * k.val]) (i : ∀ a, o a + S512x128.size a ≤ S512x512.size a) (r : Fin 512) (l : Fin 128) :
    (Rect.unit (s := S512x512) o S512x128.size i).emb (ix2 r l) = ix2 r ⟨128 * k.val + l.val, by omega⟩ := by
  subst ho
  refine Rect.emb_eq_of_coords _ _ _ fun q => ?_
  match q with
  | 0 => show r.val = 0 + 1 * r.val; omega
  | 1 => show 128 * k.val + l.val = 128 * k.val + 1 * l.val; omega

/-- A piece of columns is the table's. -/
theorem yc_hit (G : Fin 4 → FVec F S512x128 .bf16) (H : Vec F S512x512 .bf16) (hH : ∀ (r : Fin 512) (k : Fin 4) (l : Fin 128), H (ix2 r ⟨128 * k.val + l.val, by omega⟩) = G k (ix2 r l))
    (o : Fin 2 → Nat) (k : Fin 4) (ho : o = ![0, 128 * k.val]) (i : ∀ a, o a + S512x128.size a ≤ S512x512.size a) (w : FVec F S512x128 .bf16) (hw : w = G k) (x : S512x128.Idx) :
    w x = H ((Rect.unit (s := S512x512) o S512x128.size i).emb x) := by
  subst hw
  obtain ⟨r, l, rfl⟩ : ∃ (r : Fin 512) (l : Fin 128), x = ix2 r l := ⟨_, _, eq_ix2 x⟩
  exact ((congrArg H (yc_emb o k ho i r l)).trans (hH r k l)).symm

theorem yc_mem (o : Fin 2 → Nat) (k : Fin 4) (ho : o = ![0, 128 * k.val]) (i : ∀ a, o a + S512x128.size a ≤ S512x512.size a) (r : Fin 512) (l : Fin 128)
    (h : (128 * k.val + l.val) < 512) : (ix2 r ⟨128 * k.val + l.val, h⟩ : S512x512.Idx) ∈ (Rect.unit (s := S512x512) o S512x128.size i).set := by
  rw [← Rect.map_emb_univ]
  exact Finset.mem_map.mpr ⟨ix2 r l, Finset.mem_univ _, yc_emb o k ho i r l⟩

/-- The columns, piece by piece, make the table. -/
theorem yc_all (arg : Memref sig .tc .vmem S512x512 .bf16) (f : arg.view.ty.Contents (Elt F)) (G : Fin 4 → FVec F S512x128 .bf16) (H : Vec F S512x512 .bf16)
    (hH : ∀ (r : Fin 512) (k : Fin 4) (l : Fin 128), H (ix2 r ⟨128 * k.val + l.val, by omega⟩) = G k (ix2 r l))
    (w0 w1 w2 w3 : FVec F S512x128 .bf16) (h0 : w0 = G 0) (h1 : w1 = G 1) (h2 : w2 = G 2) (h3 : w3 = G 3) :
    arg.view.read (Elt F) (arg.view.writes (Elt F) f [⟨Rect.unit (s := S512x512) ![0, 384] S512x128.size inb_S512x512_S512x128_0_384, w3⟩, ⟨Rect.unit (s := S512x512) ![0, 256] S512x128.size inb_S512x512_S512x128_0_256, w2⟩, ⟨Rect.unit (s := S512x512) ![0, 128] S512x128.size inb_S512x512_S512x128_0_128, w1⟩, ⟨Rect.unit (s := S512x512) ![0, 0] S512x128.size inb_S512x512_S512x128_0_0, w0⟩]) = H := by
  funext y
  refine View.read_writes_apply_of_pieces (Val := Elt F) arg.view f H _ ?_ y ?_
  · intro p hp
    simp only [List.mem_cons, List.not_mem_nil, or_false] at hp
    rcases hp with rfl | rfl | rfl | rfl
    · exact yc_hit G H hH _ 3 rfl inb_S512x512_S512x128_0_384 _ h3
    · exact yc_hit G H hH _ 2 rfl inb_S512x512_S512x128_0_256 _ h2
    · exact yc_hit G H hH _ 1 rfl inb_S512x512_S512x128_0_128 _ h1
    · exact yc_hit G H hH _ 0 rfl inb_S512x512_S512x128_0_0 _ h0
  · obtain ⟨r, q, rfl⟩ : ∃ (r : Fin 512) (q : Fin 512), y = ix2 r q := ⟨_, _, eq_ix2 y⟩
    obtain ⟨k, l, rfl⟩ : ∃ (k : Fin 4) (l : Fin 128), q = ⟨128 * k.val + l.val, by omega⟩ :=
      ⟨⟨q.val / 128, by omega⟩, ⟨q.val % 128, by omega⟩, Fin.ext (by show q.val = 128 * (q.val / 128) + q.val % 128; omega)⟩
    match k with
    | 0 => exact ⟨⟨Rect.unit (s := S512x512) ![0, 0] S512x128.size inb_S512x512_S512x128_0_0, w0⟩, by simp, yc_mem _ 0 rfl inb_S512x512_S512x128_0_0 r l _⟩
    | 1 => exact ⟨⟨Rect.unit (s := S512x512) ![0, 128] S512x128.size inb_S512x512_S512x128_0_128, w1⟩, by simp, yc_mem _ 1 rfl inb_S512x512_S512x128_0_128 r l _⟩
    | 2 => exact ⟨⟨Rect.unit (s := S512x512) ![0, 256] S512x128.size inb_S512x512_S512x128_0_256, w2⟩, by simp, yc_mem _ 2 rfl inb_S512x512_S512x128_0_256 r l _⟩
    | 3 => exact ⟨⟨Rect.unit (s := S512x512) ![0, 384] S512x128.size inb_S512x512_S512x128_0_384, w3⟩, by simp, yc_mem _ 3 rfl inb_S512x512_S512x128_0_384 r l _⟩

theorem dc_emb (o : Fin 3 → Nat) (d : Fin 2) (ho : o = ![d.val, 0, 0]) (i : ∀ a, o a + S1x512x128.size a ≤ S2x512x128.size a) (z : Fin 1) (r : Fin 512) (l : Fin 128) :
    (Rect.unit (s := S2x512x128) o S1x512x128.size i).emb (ix3 z r l) = ix3 d r l := by
  subst ho
  refine Rect.emb_eq_of_coords _ _ _ fun q => ?_
  match q with
  | 0 => show d.val = d.val + 1 * z.val; omega
  | 1 => show r.val = 0 + 1 * r.val; omega
  | 2 => show l.val = 0 + 1 * l.val; omega

theorem castd (w : FVec F S512x128 .f32) (z : Fin 1) (r : Fin 512) (l : Fin 128) : shapeCast S1x512x128 w shapeCasts_S512x128_S1x512x128 (ix3 z r l) = w (ix2 r l) := by
  obtain rfl : z = 0 := Subsingleton.elim _ _
  pointwise

theorem dc_hit (G : Fin 2 → FVec F S512x128 .f32) (H : Vec F S2x512x128 .f32) (hH : ∀ (d : Fin 2) (r : Fin 512) (l : Fin 128), H (ix3 d r l) = G d (ix2 r l))
    (o : Fin 3 → Nat) (d : Fin 2) (ho : o = ![d.val, 0, 0]) (i : ∀ a, o a + S1x512x128.size a ≤ S2x512x128.size a) (w : FVec F S512x128 .f32) (hw : w = G d) (x : S1x512x128.Idx) :
    shapeCast S1x512x128 w shapeCasts_S512x128_S1x512x128 x = H ((Rect.unit (s := S2x512x128) o S1x512x128.size i).emb x) := by
  subst hw
  obtain ⟨z, r, l, rfl⟩ : ∃ (z : Fin 1) (r : Fin 512) (l : Fin 128), x = ix3 z r l := ⟨_, _, _, eq_ix3 x⟩
  exact (castd _ z r l).trans ((congrArg H (dc_emb o d ho i z r l)).trans (hH d r l)).symm

theorem dc_mem (o : Fin 3 → Nat) (d : Fin 2) (ho : o = ![d.val, 0, 0]) (i : ∀ a, o a + S1x512x128.size a ≤ S2x512x128.size a) (r : Fin 512) (l : Fin 128) :
    (ix3 d r l : S2x512x128.Idx) ∈ (Rect.unit (s := S2x512x128) o S1x512x128.size i).set := by
  rw [← Rect.map_emb_univ]
  exact Finset.mem_map.mpr ⟨ix3 0 r l, Finset.mem_univ _, dc_emb o d ho i 0 r l⟩

/-- The two blocks make the table. -/
theorem dc_all (arg : Memref sig .tc .vmem S2x512x128 .f32) (f : arg.view.ty.Contents (Elt F)) (G : Fin 2 → FVec F S512x128 .f32) (H : Vec F S2x512x128 .f32)
    (hH : ∀ (d : Fin 2) (r : Fin 512) (l : Fin 128), H (ix3 d r l) = G d (ix2 r l)) (w0 w1 : FVec F S512x128 .f32) (h0 : w0 = G 0) (h1 : w1 = G 1) :
    arg.view.read (Elt F) (arg.view.writes (Elt F) f [⟨Rect.unit (s := S2x512x128) ![1, 0, 0] S1x512x128.size inb_S2x512x128_S1x512x128_1_0_0, shapeCast S1x512x128 w1 shapeCasts_S512x128_S1x512x128⟩,
      ⟨Rect.unit (s := S2x512x128) ![0, 0, 0] S1x512x128.size inb_S2x512x128_S1x512x128_0_0_0, shapeCast S1x512x128 w0 shapeCasts_S512x128_S1x512x128⟩]) = H := by
  funext y
  refine View.read_writes_apply_of_pieces (Val := Elt F) arg.view f H _ ?_ y ?_
  · intro p hp
    simp only [List.mem_cons, List.not_mem_nil, or_false] at hp
    rcases hp with rfl | rfl
    · exact dc_hit G H hH _ 1 rfl inb_S2x512x128_S1x512x128_1_0_0 _ h1
    · exact dc_hit G H hH _ 0 rfl inb_S2x512x128_S1x512x128_0_0_0 _ h0
  · obtain ⟨d, r, l, rfl⟩ : ∃ (d : Fin 2) (r : Fin 512) (l : Fin 128), y = ix3 d r l := ⟨_, _, _, eq_ix3 y⟩
    match d with
    | 0 => exact ⟨_, List.mem_cons_of_mem _ List.mem_cons_self, dc_mem _ 0 rfl inb_S2x512x128_S1x512x128_0_0_0 r l⟩
    | 1 => exact ⟨_, List.mem_cons_self, dc_mem _ 1 rfl inb_S2x512x128_S1x512x128_1_0_0 r l⟩

theorem dtB_congr {p p' : FVec F S512x128 .f32} {b b' : FVec F S1x128 .f32} (hp : p = p') (hb : b = b') : dtB p b = dtB p' b' := by
  subst hp hb; rfl

theorem ysB_congr (a0 a1 : BitVec 1) {pb pb' pc pc' ph ph' : FVec F S512x128 .f32} {lo lo' hi hi' : FVec F S64x128 .f32} {b b' w0 w0' w1 w1' w2 w2' : FVec F S1x128 .f32}
    (e1 : pb = pb') (e2 : pc = pc') (e3 : ph = ph') (e4 : lo = lo') (e5 : hi = hi') (e6 : b = b') (e7 : w0 = w0') (e8 : w1 = w1') (e9 : w2 = w2') :
    ysB a0 a1 pb pc ph lo hi b w0 w1 w2 = ysB a0 a1 pb' pc' ph' lo' hi' b' w0' w1' w2' := by
  subst e1 e2 e3 e4 e5 e6 e7 e8 e9; rfl

theorem lo0_ld {p q : FVec F S128x256 .f32} (h : p = q) : extractStridedSlice S64x128 ![0, 0] (extractStridedSlice S128x128 ![0, 0] p slices_S128x256_o0_0_S128x128) slices_S128x128_o0_0_S64x128 = hlo q 0 := by
  subst h; exact lo0 p
theorem lo1_ld {p q : FVec F S128x256 .f32} (h : p = q) : extractStridedSlice S64x128 ![0, 0] (extractStridedSlice S128x128 ![0, 128] p slices_S128x256_o0_128_S128x128) slices_S128x128_o0_0_S64x128 = hlo q 1 := by
  subst h; exact lo1 p
theorem hi0_ld {p q : FVec F S128x256 .f32} (h : p = q) : extractStridedSlice S64x128 ![64, 0] (extractStridedSlice S128x128 ![0, 0] p slices_S128x256_o0_0_S128x128) slices_S128x128_o64_0_S64x128 = hhi q 0 := by
  subst h; exact hi0 p
theorem hi1_ld {p q : FVec F S128x256 .f32} (h : p = q) : extractStridedSlice S64x128 ![64, 0] (extractStridedSlice S128x128 ![0, 128] p slices_S128x256_o0_128_S128x128) slices_S128x128_o64_0_S64x128 = hhi q 1 := by
  subst h; exact hi1 p

/-- The products of the rows beside a block, as loaded. -/
theorem hp_ld (u0 u1 : FVec F S64x1024 .bf16) (arg8 : Memref sig .tc .vmem S17x1024x256 .bf16) (harg8 : arg8.IsWhole)
    (x8 : Vec F S17x1024x256 .bf16) (b : Fin 4) (o o' : Fin 3 → Nat) (h : o = ![13 + b.val / 2, 0, 0]) (h' : o' = ![15 + b.val / 2, 0, 0])
    (i : ∀ a, o a + S1x1024x256.size a ≤ S17x1024x256.size a) (i' : ∀ a, o' a + S1x1024x256.size a ≤ S17x1024x256.size a) :
    mulf (matmul dot_S128x1024_S1024x256_S128x256_1_0_0_1_n_n none (concatenate S128x1024 0 [⟨S64x1024, u0⟩, ⟨S64x1024, u1⟩] concatenates_S64x1024_S64x1024_S128x1024_d0)
        (shapeCast S1024x256 (arg8.view.readAt (Elt F) (Rect.unit (s := S17x1024x256) o S1x1024x256.size i).toLoadRect (harg8.unread x8)) shapeCasts_S1x1024x256_S1024x256)
        (constant S128x256 .f32 0x00000000#32))
      (matmul dot_S128x1024_S1024x256_S128x256_1_0_0_1_n_n none (concatenate S128x1024 0 [⟨S64x1024, u0⟩, ⟨S64x1024, u1⟩] concatenates_S64x1024_S64x1024_S128x1024_d0)
        (shapeCast S1024x256 (arg8.view.readAt (Elt F) (Rect.unit (s := S17x1024x256) o' S1x1024x256.size i').toLoadRect (harg8.unread x8)) shapeCasts_S1x1024x256_S1024x256)
        (constant S128x256 .f32 0x00000000#32)) = hp u0 u1 x8 b := by
  rw [hprj_ld _ arg8 harg8 x8 ⟨13 + b.val / 2, by omega⟩ o h i, hprj_ld _ arg8 harg8 x8 ⟨15 + b.val / 2, by omega⟩ o' h' i']
  rfl

/-- The step sizes' table at an entry of a block. -/
theorem dtv_at (x23 : Vec F S512x1024 .bf16) (x8 : Vec F S17x1024x256 .bf16) (x11 : Vec F S1x256 .f32) (d : Fin 2) (r : Fin 512) (l : Fin 128) :
    dtv x23 x8 x11 (ix3 d r l) = dtB (pblk x23 x8 ⟨12 + d.val, by omega⟩) (b11 x11 d) (ix2 r l) := rfl

theorem zsv_at (x23 : Vec F S512x1024 .bf16) (x8 : Vec F S17x1024x256 .bf16) (r : Fin 512) (k : Fin 8) (l : Fin 128) :
    zsv x23 x8 (ix2 r ⟨128 * k.val + l.val, by omega⟩) = zsB (pblk x23 x8 ⟨14 + k.val, by omega⟩) (ix2 r l) := by
  have e1 : (128 * k.val + l.val) / 128 = k.val := by omega
  have e2 : (128 * k.val + l.val) % 128 = l.val := by omega
  unfold zsv
  show zsB (pblk x23 x8 ⟨14 + (128 * k.val + l.val) / 128, _⟩) (ix2 r ⟨(128 * k.val + l.val) % 128, _⟩) = _
  congr 2 <;> simp only [e1, e2]

theorem ysv_at (i : grid0.Coords) (x23 : Vec F S512x1024 .bf16) (u0 u1 : FVec F S64x1024 .bf16) (x8 : Vec F S17x1024x256 .bf16) (x16 : Vec F S3x512 .f32) (x17 : Vec F S1x512 .f32)
    (r : Fin 512) (k : Fin 4) (l : Fin 128) : ysv i x23 u0 u1 x8 x16 x17 (ix2 r ⟨128 * k.val + l.val, by omega⟩)
      = ysB (c0 i) (c1 i) (pblk x23 x8 ⟨22 + k.val, by omega⟩) (pblk x23 x8 ⟨26 + k.val, by omega⟩) (pblk x23 x8 ⟨30 + k.val, by omega⟩)
        (hlo (hp u0 u1 x8 k) ⟨k.val % 2, by omega⟩) (hhi (hp u0 u1 x8 k) ⟨k.val % 2, by omega⟩) (b17 x17 k) (w16 x16 0 k) (w16 x16 1 k) (w16 x16 2 k) (ix2 r l) := by
  have e1 : (128 * k.val + l.val) / 128 = k.val := by omega
  have e2 : (128 * k.val + l.val) % 128 = l.val := by omega
  have e3 : ∀ h, (⟨(128 * k.val + l.val) / 128, h⟩ : Fin 4) = k := fun h => Fin.ext e1
  have e4 : ∀ h, (⟨(128 * k.val + l.val) % 128, h⟩ : Fin 128) = l := fun h => Fin.ext e2
  unfold ysv
  show ysB (c0 i) (c1 i) (pblk x23 x8 ⟨22 + (128 * k.val + l.val) / 128, _⟩) (pblk x23 x8 ⟨26 + (128 * k.val + l.val) / 128, _⟩) (pblk x23 x8 ⟨30 + (128 * k.val + l.val) / 128, _⟩)
    (hlo (hp u0 u1 x8 ⟨(128 * k.val + l.val) / 128, _⟩) ⟨(128 * k.val + l.val) / 128 % 2, _⟩) (hhi (hp u0 u1 x8 ⟨(128 * k.val + l.val) / 128, _⟩) ⟨(128 * k.val + l.val) / 128 % 2, _⟩)
    (b17 x17 ⟨(128 * k.val + l.val) / 128, _⟩) (w16 x16 0 ⟨(128 * k.val + l.val) / 128, _⟩) (w16 x16 1 ⟨(128 * k.val + l.val) / 128, _⟩) (w16 x16 2 ⟨(128 * k.val + l.val) / 128, _⟩)
    (ix2 r ⟨(128 * k.val + l.val) % 128, _⟩) = _
  simp only [e1]
  exact congrArg _ (congrArg (ix2 r) (e4 _))

end Cert.Proof.Inp

end
-- ==== Proof.InBody.lean ====
/-
  A body's run, from its inputs to three of its results.
-/
module

public import proofs.«01_k».proof.Proof.InHead
public import proofs.«01_k».proof.Proof.InEdge
public import proofs.«01_k».proof.Proof.InSrc1
public import proofs.«01_k».proof.Proof.InSrc2
public import proofs.«01_k».proof.Proof.InSrc3
public import proofs.«01_k».proof.Proof.InSrc4
public import proofs.«01_k».proof.Proof.InLoop
public import proofs.«01_k».proof.Proof.InOut
public import proofs.«01_k».proof.Proof.InWrites
public import Idealize.ShloMosaic.Lib.Tactic

@[expose] public section

noncomputable section

namespace Cert.Proof.Inp

open Cert.Kernel5Ideal Cert.Kernel5Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 0 in
/-- A body's run: from its inputs, whatever its results and its own buffers hold, to the step sizes, the gates and the gated convolution. -/
theorem body_run (c : Dev nD) (i : grid0.Coords) (arg2 : Memref sig .tc .vmem S512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x9x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S17x1024x256 .bf16) (harg8 : arg8.IsWhole) (arg9 : Memref sig .tc .vmem S12x5x128 .f32) (harg9 : arg9.IsWhole) (arg10 : Memref sig .tc .vmem S12x1x128 .f32) (harg10 : arg10.IsWhole) (arg11 : Memref sig .tc .vmem S1x256 .f32) (harg11 : arg11.IsWhole) (arg12 : Memref sig .tc .vmem S4x31x128 .f32) (harg12 : arg12.IsWhole) (arg13 : Memref sig .tc .vmem S4x1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S2x512x128 .f32) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x1024 .bf16) (harg23 : arg23.IsWhole) (arg24 : Memref sig .tc .vmem S34x544x128 .f32) (harg24 : arg24.IsWhole) (arg25 : Memref sig .tc .vmem S12x512x128 .f32) (harg25 : arg25.IsWhole) (arg26 : Memref sig .tc .vmem S4x768x128 .f32) (harg26 : arg26.IsWhole) (arg27 : Memref sig .tc .vmem S4x512x128 .f32) (harg27 : arg27.IsWhole)
    (x2 : Vec F S512x1024 .f32) (x3 : Vec F S64x1024 .f32) (x4 : Vec F S64x1024 .f32) (x5 : Vec F S1x9x1024 .f32) (x6 : Vec F S1x1024 .f32) (x7 : Vec F S1024x1024 .bf16) (x8 : Vec F S17x1024x256 .bf16) (x9 : Vec F S12x5x128 .f32) (x10 : Vec F S12x1x128 .f32) (x11 : Vec F S1x256 .f32) (x12 : Vec F S4x31x128 .f32) (x13 : Vec F S4x1x128 .f32) (x14 : Vec F S1x512 .f32) (x15 : Vec F S1x512 .f32) (x16 : Vec F S3x512 .f32) (x17 : Vec F S1x512 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ owns (c : Thread nD τ) arg19 fullShare (dtv (um x2 (sh x5) (sc x5) x6) x8 x11) ∗ owns (c : Thread nD τ) arg20 fullShare (zsv (um x2 (sh x5) (sc x5) x6) x8) ∗ (∃ d, owns (c : Thread nD τ) arg21 fullShare d) ∗ owns (c : Thread nD τ) arg22 fullShare (ysv i (um x2 (sh x5) (sc x5) x6) (uh x3 (sh x5) (sc x5) x6) (uh x4 (sh x5) (sc x5) x6) x8 x16 x17) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
      ⊢ wp frame (wpE (defs₀ (F := F)) 𝒱₀ c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  iintro ⟨H2, H3, H4, H5, H6, H7, H8, H9, H10, H11, H12, H13, H14, H15, H16, H17, H18, H19, H20, H21, H22, H23, H24, H25, H26, H27, Hk⟩
  unfold cc0_inproj
  rw [wp_bind]
  unfold k0_part303
  rw [wp_bind]
  iapply (part275_run c _ _ _ _ _ _ _ _ _ _ _ _ _ _ _ _ _ _ _ _ _ _ _ _ _ _ _ _ _ _ _ _ _ _ _ _ _ _ _ _ _ _ _ _ _ _ _ _ _ _ _ _ _ x2 x3 x5 x6 _ _)
  isplitl [H2]; · iexact H2
  isplitl [H3]; · iexact H3
  isplitl [H5]; · iexact H5
  isplitl [H6]; · iexact H6
  isplitl [H23]; · iexact H23
  iintro %v ⟨H2, H3, H5, H6, H23, %hv⟩
  obtain ⟨v0, v1, v4, v5, v7, v31, v36, cst_15⟩ := v
  obtain ⟨e0, e1, e2, e3, e4, e5, e6, e7⟩ := hv
  dsimp only at e0 e1 e2 e3 e4 e5 e6 e7 ⊢
  replace e4 := e4.symm
  replace e5 := e5.symm
  subst e0 e1 e2 e3 e4 e5 e6 e7
  rw [wp_bind]
  iapply (part276_run c _ _ _ _ _ _ _ _ _ _ _ _ _ _ _ _ _ _ _ _ _ _ _ _ _ _ _ _ _ _ _ _ _ _ _ _ _ _ _ _ _ _ _ _ _ _ _ _ _ _ _ _ _ _ _ _ _ _ _ _ _ x4 x8 _ _)
  isplitl [H4]; · iexact H4
  isplitl [H8]; · iexact H8
  iintro %v ⟨H4, H8, %hv⟩
  obtain ⟨v50, v70, v73, v79, v82, v83⟩ := v
  obtain ⟨e0, e1⟩ := hv rfl rfl
  dsimp only at e0 e1 ⊢
  subst e0 e1
  rw [wp_bind]
  iapply (part277_run c _ _ _ _ _ _ _ _ _ _ _ _ _ _ _ _ _ _ _ _ _ _ _ _ _ _ _ _ _ _ _ _ _ _ _ _ _ _ _ _ _ _ _ _ _ _ _ _ _ _ _ _ _ _ _ _ _ _ _ x8 _ _)
  isplitl [H8]; · iexact H8
  isplitl [H24]; · iexact H24
  iintro %v ⟨H8, H24⟩
  obtain ⟨v104, v107, v112⟩ := v
  try dsimp only
  rw [wp_bind]
  iapply (part278_run c _ _ _ _ _ _ _ _ _ _ _ _ _ _ _ _ _ _ _ _ _ _ _ _ _ _ _ _ _ _ _ _ _ _ _ _ _ _ _ _ _ _ _ _ _ _ _ _ _ _ _ _ _ _ _ _ _ _ _ x8 _ _)
  isplitl [H8]; · iexact H8
  isplitl [H24]; · iexact H24
  iintro %v145 ⟨H8, H24⟩
  rw [wp_bind]
  iapply (part279_run c _ _ _ _ _ _ _ _ _ _ _ _ _ _ _ _ _ _ _ _ _ _ _ _ _ _ _ _ _ _ _ _ _ _ _ _ _ _ _ _ _ _ _ _ _ _ _ _ _ _ _ _ _ _ _ _ _ x8 _ _)
  isplitl [H8]; · iexact H8
  isplitl [H24]; · iexact H24
  iintro %v ⟨H8, H24⟩
  obtain ⟨v176, v177⟩ := v
  try dsimp only
  rw [wp_bind]
  iapply (part280_run c _ _ _ _ _ _ _ _ _ _ _ _ _ _ _ _ _ _ _ _ _ _ _ _ _ _ _ _ _ _ _ _ _ _ _ _ _ _ _ _ _ _ _ _ _ _ _ _ _ _ _ _ _ _ _ _ _ _ x8 _ _)
  isplitl [H8]; · iexact H8
  isplitl [H24]; · iexact H24
  iintro %v ⟨H8, H24⟩
  obtain ⟨v204, v207, v208⟩ := v
  try dsimp only
  rw [wp_bind]
  iapply (part281_run c _ _ _ _ _ _ _ _ _ _ _ _ _ _ _ _ _ _ _ _ _ _ _ _ _ _ _ _ _ _ _ _ _ _ _ _ _ _ _ _ _ _ _ _ _ _ _ _ _ _ _ _ _ _ _ _ x7 (um x2 (sh x5) (sc x5) x6) _ _)
  isplitl [H7]; · iexact H7
  isplitl [H23]; · iexact H23
  isplitl [H24]; · iexact H24
  isplitl [H26]; · iexact H26
  iintro %v ⟨H7, H23, H24, H26⟩
  obtain ⟨v231, v232, v240⟩ := v
  try dsimp only
  rw [wp_bind]
  iapply (part282_run c _ _ _ _ _ _ _ _ _ _ _ _ _ _ _ _ _ _ _ _ _ _ _ _ _ _ _ _ _ _ _ _ _ _ _ _ _ _ _ _ _ _ _ _ _ _ _ _ _ _ _ _ _ _ _ _  _ _)
  isplitl [H26]; · iexact H26
  iintro %v266 H26
  rw [wp_bind]
  iapply (part283_run c _ _ _ _ _ _ _ _ _ _ _ _ _ _ _ _ _ _ _ _ _ _ _ _ _ _ _ _ _ _ _ _ _ _ _ _ _ _ _ _ _ _ _ _ _ _ _ _ _ _ _ _ _ _ _ _  _ _)
  isplitl [H26]; · iexact H26
  iintro %v H26
  rw [wp_bind]
  iapply (part284_run c _ _ _ _ _ _ _ _ _ _ _ _ _ _ _ _ _ _ _ _ _ _ _ _ _ _ _ _ _ _ _ _ _ _ _ _ _ _ _ _ _ _ _ _ _ _ _ _ _ _ _ _ _ _ _  _ _)
  isplitl [H26]; · iexact H26
  iintro %v H26
  rw [wp_bind]
  iapply (part285_run c _ _ _ _ _ _ _ _ _ _ _ _ _ _ _ _ _ _ _ _ _ _ _ _ _ _ _ _ _ _ _ _ _ _ _ _ _ _ _ _ _ _ _ _ _ _ _ _ _ _ _ _ _ _ _  _ _)
  isplitl [H26]; · iexact H26
  iintro %v H26
  rw [wp_bind]
  iapply (part286_run c _ _ _ _ _ _ _ _ _ _ _ _ _ _ _ _ _ _ _ _ _ _ _ _ _ _ _ _ _ _ _ _ _ _ _ _ _ _ _ _ _ _ _ _ _ _ _ _ _ _ _ _ _ _ _  _ _)
  isplitl [H26]; · iexact H26
  iintro %v376 H26
  rw [wp_bind]
  iapply (part287_run c _ _ _ _ _ _ _ _ _ _ _ _ _ _ _ _ _ _ _ _ _ _ _ _ _ _ _ _ _ _ _ _ _ _ _ _ _ _ _ _ _ _ _ _ _ _ _ _ _ _ _ _ _ _ _ _  _ _)
  isplitl [H26]; · iexact H26
  iintro %v H26
  rw [wp_bind]
  iapply (part288_run c _ _ _ _ _ _ _ _ _ _ _ _ _ _ _ _ _ _ _ _ _ _ _ _ _ _ _ _ _ _ _ _ _ _ _ _ _ _ _ _ _ _ _ _ _ _ _ _ _ _ _ _ _ _ _  _ _)
  isplitl [H26]; · iexact H26
  iintro %v432 H26
  rw [wp_bind]
  iapply (part289_run c _ _ _ _ _ _ _ _ _ _ _ _ _ _ _ _ _ _ _ _ _ _ _ _ _ _ _ _ _ _ _ _ _ _ _ _ _ _ _ _ _ _ _ _ _ _ _ _ _ _ _ _ _ _ _ _  _ _)
  isplitl [H26]; · iexact H26
  iintro %v H26
  rw [wp_bind]
  iapply (part290_run c _ _ _ _ _ _ _ _ _ _ _ _ _ _ _ _ _ _ _ _ _ _ _ _ _ _ _ _ _ _ _ _ _ _ _ _ _ _ _ _ _ _ _ _ _ _ _ _ _ _ _ _ _ _ _  _ _)
  isplitl [H26]; · iexact H26
  iintro %v486 H26
  rw [wp_bind]
  iapply (part291_run c _ _ _ _ _ _ _ _ _ _ _ _ _ _ _ _ _ _ _ _ _ _ _ _ _ _ _ _ _ _ _ _ _ _ _ _ _ _ _ _ _ _ _ _ _ _ _ _ _ _ _ _ _ _ _ _  _ _)
  isplitl [H26]; · iexact H26
  iintro %v H26
  rw [wp_bind]
  iapply (part292_run c _ _ _ _ _ _ _ _ _ _ _ _ _ _ _ _ _ _ _ _ _ _ _ _ _ _ _ _ _ _ _ _ _ _ _ _ _ _ _ _ _ _ _ _ _ _ _ _ _ _ _ _ _ _ _  _ _)
  isplitl [H26]; · iexact H26
  iintro %v540 H26
  rw [wp_bind]
  iapply (part293_run c _ _ _ _ _ _ _ _ _ _ _ _ _ _ _ _ _ _ _ _ _ _ _ _ _ _ _ _ _ _ _ _ _ _ _ _ _ _ _ _ _ _ _ _ _ _ _ _ _ _ _ _ _ _ _ _ x8 x9 x10 x12 x13 (um x2 (sh x5) (sc x5) x6) _ _)
  isplitl [H8]; · iexact H8
  isplitl [H9]; · iexact H9
  isplitl [H10]; · iexact H10
  isplitl [H12]; · iexact H12
  isplitl [H13]; · iexact H13
  isplitl [H23]; · iexact H23
  isplitl [H26]; · iexact H26
  isplitl [H25]; · iexact H25
  isplitl [H27]; · iexact H27
  isplitl [H24]; · iexact H24
  unfold inv
  iintro ⟨H8, H9, H10, H12, H13, H23, H26, H25, H27, ⟨%d24, %hd, H24⟩⟩
  replace hd : ∀ n : Fin 17, Chunk (um x2 (sh x5) (sc x5) x6) x8 d24 n := fun n => hd n n.isLt
  rw [wp_bind]
  iapply (part294_run c _ _ _ _ _ _ _ _ _ _ _ _ _ _ _ _ _ _ _ _ _ _ _ _ _ _ _ _ _ _ _ _ _ _ _ _ _ _ _ _ _ _ _ _ _ _ _ _ _ _ _ _ _  _ _)
  isplitl [H18]; · iexact H18
  isplitl [H25]; · iexact H25
  iintro %v ⟨H18, H25⟩
  rw [wp_bind]
  iapply (part295_run c _ _ _ _ _ _ _ _ _ _ _ _ _ _ _ _ _ _ _ _ _ _ _ _ _ _ _ _ _ _ _ _ _ _ _ _ _ _ _ _ _ _ _ _ _ _ _ _ _ _ _ _ _  _ _)
  isplitl [H18]; · iexact H18
  isplitl [H25]; · iexact H25
  iintro %v ⟨H18, H25⟩
  unfold owns
  icases H2 with ⟨%f2, %hf2, H2⟩
  icases H3 with ⟨%f3, %hf3, H3⟩
  icases H4 with ⟨%f4, %hf4, H4⟩
  icases H5 with ⟨%f5, %hf5, H5⟩
  icases H6 with ⟨%f6, %hf6, H6⟩
  icases H7 with ⟨%f7, %hf7, H7⟩
  icases H8 with ⟨%f8, %hf8, H8⟩
  icases H9 with ⟨%f9, %hf9, H9⟩
  icases H10 with ⟨%f10, %hf10, H10⟩
  icases H11 with ⟨%f11, %hf11, H11⟩
  icases H12 with ⟨%f12, %hf12, H12⟩
  icases H13 with ⟨%f13, %hf13, H13⟩
  icases H14 with ⟨%f14, %hf14, H14⟩
  icases H15 with ⟨%f15, %hf15, H15⟩
  icases H16 with ⟨%f16, %hf16, H16⟩
  icases H17 with ⟨%f17, %hf17, H17⟩
  icases H23 with ⟨%f23, %hf23, H23⟩
  icases H24 with ⟨%f24, %hf24, H24⟩
  icases H18 with ⟨%d18, %f18, -, H18⟩
  icases H19 with ⟨%d19, %f19, -, H19⟩
  icases H20 with ⟨%d20, %f20, -, H20⟩
  icases H21 with ⟨%d21, %f21, -, H21⟩
  icases H22 with ⟨%d22, %f22, -, H22⟩
  icases H25 with ⟨%d25, %f25, -, H25⟩
  icases H26 with ⟨%d26, %f26, -, H26⟩
  icases H27 with ⟨%d27, %f27, -, H27⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg23.eq_unread hf23; obtain rfl := harg24.eq_unread hf24
  sl_exec_parts
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _, _; isplitr; swap; · iexact H18
    ipureintro; rfl
  isplitl [H19]
  · iexists _; isplitr; swap; · iexact H19
    ipureintro
    exact dc_all arg19 f19 (fun d => dtB (pblk (um x2 (sh x5) (sc x5) x6) x8 ⟨12 + d.val, by omega⟩) (b11 x11 d)) _ (fun d r l => dtv_at _ _ _ d r l) _ _
      (dtB_congr (pblk_ld hd arg24 harg24 12 ![12, 16, 0] rfl inb_S34x544x128_S1x512x128_12_16_0) (b11_ld arg11 harg11 x11 0 ![0, 0] rfl inb_S1x256_S1x128_0_0))
      (dtB_congr (pblk_ld hd arg24 harg24 13 ![13, 16, 0] rfl inb_S34x544x128_S1x512x128_13_16_0) (b11_ld arg11 harg11 x11 1 ![0, 128] rfl inb_S1x256_S1x128_0_128))
  isplitl [H20]
  · iexists _; isplitr; swap; · iexact H20
    ipureintro
    exact zc_all arg20 f20 (fun k => zsB (pblk (um x2 (sh x5) (sc x5) x6) x8 ⟨14 + k.val, by omega⟩)) _ (fun r k l => zsv_at _ _ r k l) _ _ _ _ _ _ _ _
      (congrArg zsB (pblk_ld hd arg24 harg24 14 ![14, 16, 0] rfl inb_S34x544x128_S1x512x128_14_16_0))
      (congrArg zsB (pblk_ld hd arg24 harg24 15 ![15, 16, 0] rfl inb_S34x544x128_S1x512x128_15_16_0))
      (congrArg zsB (pblk_ld hd arg24 harg24 16 ![16, 16, 0] rfl inb_S34x544x128_S1x512x128_16_16_0))
      (congrArg zsB (pblk_ld hd arg24 harg24 17 ![17, 16, 0] rfl inb_S34x544x128_S1x512x128_17_16_0))
      (congrArg zsB (pblk_ld hd arg24 harg24 18 ![18, 16, 0] rfl inb_S34x544x128_S1x512x128_18_16_0))
      (congrArg zsB (pblk_ld hd arg24 harg24 19 ![19, 16, 0] rfl inb_S34x544x128_S1x512x128_19_16_0))
      (congrArg zsB (pblk_ld hd arg24 harg24 20 ![20, 16, 0] rfl inb_S34x544x128_S1x512x128_20_16_0))
      (congrArg zsB (pblk_ld hd arg24 harg24 21 ![21, 16, 0] rfl inb_S34x544x128_S1x512x128_21_16_0))
  isplitl [H21]
  · iexists _, _; isplitr; swap; · iexact H21
    ipureintro; rfl
  isplitl [H22]
  · iexists _; isplitr; swap; · iexact H22
    ipureintro
    exact yc_all arg22 f22 (fun k => ysB (c0 i) (c1 i) (pblk (um x2 (sh x5) (sc x5) x6) x8 ⟨22 + k.val, by omega⟩) (pblk (um x2 (sh x5) (sc x5) x6) x8 ⟨26 + k.val, by omega⟩) (pblk (um x2 (sh x5) (sc x5) x6) x8 ⟨30 + k.val, by omega⟩)
        (hlo (hp (uh x3 (sh x5) (sc x5) x6) (uh x4 (sh x5) (sc x5) x6) x8 k) ⟨k.val % 2, by omega⟩) (hhi (hp (uh x3 (sh x5) (sc x5) x6) (uh x4 (sh x5) (sc x5) x6) x8 k) ⟨k.val % 2, by omega⟩) (b17 x17 k) (w16 x16 0 k) (w16 x16 1 k) (w16 x16 2 k)) _
      (fun r k l => ysv_at i _ _ _ _ _ _ r k l) _ _ _ _
      (ysB_congr (c0 i) (c1 i) (pblk_ld hd arg24 harg24 22 ![22, 16, 0] rfl inb_S34x544x128_S1x512x128_22_16_0) (pblk_ld hd arg24 harg24 26 ![26, 16, 0] rfl inb_S34x544x128_S1x512x128_26_16_0) (pblk_ld hd arg24 harg24 30 ![30, 16, 0] rfl inb_S34x544x128_S1x512x128_30_16_0)
        (lo0_ld (hp_ld (uh x3 (sh x5) (sc x5) x6) (uh x4 (sh x5) (sc x5) x6) arg8 harg8 x8 0 ![13, 0, 0] ![15, 0, 0] rfl rfl inb_S17x1024x256_S1x1024x256_13_0_0 inb_S17x1024x256_S1x1024x256_15_0_0)) (hi0_ld (hp_ld (uh x3 (sh x5) (sc x5) x6) (uh x4 (sh x5) (sc x5) x6) arg8 harg8 x8 0 ![13, 0, 0] ![15, 0, 0] rfl rfl inb_S17x1024x256_S1x1024x256_13_0_0 inb_S17x1024x256_S1x1024x256_15_0_0))
        (b17_ld arg17 harg17 x17 0 ![0, 0] rfl inb_S1x512_S1x128_0_0)
        (w16_ld arg16 harg16 x16 0 0 ![0, 0] rfl inb_S3x512_S1x128_0_0) (w16_ld arg16 harg16 x16 1 0 ![1, 0] rfl inb_S3x512_S1x128_1_0) (w16_ld arg16 harg16 x16 2 0 ![2, 0] rfl inb_S3x512_S1x128_2_0))
      (ysB_congr (c0 i) (c1 i) (pblk_ld hd arg24 harg24 23 ![23, 16, 0] rfl inb_S34x544x128_S1x512x128_23_16_0) (pblk_ld hd arg24 harg24 27 ![27, 16, 0] rfl inb_S34x544x128_S1x512x128_27_16_0) (pblk_ld hd arg24 harg24 31 ![31, 16, 0] rfl inb_S34x544x128_S1x512x128_31_16_0)
        (lo1_ld (hp_ld (uh x3 (sh x5) (sc x5) x6) (uh x4 (sh x5) (sc x5) x6) arg8 harg8 x8 1 ![13, 0, 0] ![15, 0, 0] rfl rfl inb_S17x1024x256_S1x1024x256_13_0_0 inb_S17x1024x256_S1x1024x256_15_0_0)) (hi1_ld (hp_ld (uh x3 (sh x5) (sc x5) x6) (uh x4 (sh x5) (sc x5) x6) arg8 harg8 x8 1 ![13, 0, 0] ![15, 0, 0] rfl rfl inb_S17x1024x256_S1x1024x256_13_0_0 inb_S17x1024x256_S1x1024x256_15_0_0))
        (b17_ld arg17 harg17 x17 1 ![0, 128] rfl inb_S1x512_S1x128_0_128)
        (w16_ld arg16 harg16 x16 0 1 ![0, 128] rfl inb_S3x512_S1x128_0_128) (w16_ld arg16 harg16 x16 1 1 ![1, 128] rfl inb_S3x512_S1x128_1_128) (w16_ld arg16 harg16 x16 2 1 ![2, 128] rfl inb_S3x512_S1x128_2_128))
      (ysB_congr (c0 i) (c1 i) (pblk_ld hd arg24 harg24 24 ![24, 16, 0] rfl inb_S34x544x128_S1x512x128_24_16_0) (pblk_ld hd arg24 harg24 28 ![28, 16, 0] rfl inb_S34x544x128_S1x512x128_28_16_0) (pblk_ld hd arg24 harg24 32 ![32, 16, 0] rfl inb_S34x544x128_S1x512x128_32_16_0)
        (lo0_ld (hp_ld (uh x3 (sh x5) (sc x5) x6) (uh x4 (sh x5) (sc x5) x6) arg8 harg8 x8 2 ![14, 0, 0] ![16, 0, 0] rfl rfl inb_S17x1024x256_S1x1024x256_14_0_0 inb_S17x1024x256_S1x1024x256_16_0_0)) (hi0_ld (hp_ld (uh x3 (sh x5) (sc x5) x6) (uh x4 (sh x5) (sc x5) x6) arg8 harg8 x8 2 ![14, 0, 0] ![16, 0, 0] rfl rfl inb_S17x1024x256_S1x1024x256_14_0_0 inb_S17x1024x256_S1x1024x256_16_0_0))
        (b17_ld arg17 harg17 x17 2 ![0, 256] rfl inb_S1x512_S1x128_0_256)
        (w16_ld arg16 harg16 x16 0 2 ![0, 256] rfl inb_S3x512_S1x128_0_256) (w16_ld arg16 harg16 x16 1 2 ![1, 256] rfl inb_S3x512_S1x128_1_256) (w16_ld arg16 harg16 x16 2 2 ![2, 256] rfl inb_S3x512_S1x128_2_256))
      (ysB_congr (c0 i) (c1 i) (pblk_ld hd arg24 harg24 25 ![25, 16, 0] rfl inb_S34x544x128_S1x512x128_25_16_0) (pblk_ld hd arg24 harg24 29 ![29, 16, 0] rfl inb_S34x544x128_S1x512x128_29_16_0) (pblk_ld hd arg24 harg24 33 ![33, 16, 0] rfl inb_S34x544x128_S1x512x128_33_16_0)
        (lo1_ld (hp_ld (uh x3 (sh x5) (sc x5) x6) (uh x4 (sh x5) (sc x5) x6) arg8 harg8 x8 3 ![14, 0, 0] ![16, 0, 0] rfl rfl inb_S17x1024x256_S1x1024x256_14_0_0 inb_S17x1024x256_S1x1024x256_16_0_0)) (hi1_ld (hp_ld (uh x3 (sh x5) (sc x5) x6) (uh x4 (sh x5) (sc x5) x6) arg8 harg8 x8 3 ![14, 0, 0] ![16, 0, 0] rfl rfl inb_S17x1024x256_S1x1024x256_14_0_0 inb_S17x1024x256_S1x1024x256_16_0_0))
        (b17_ld arg17 harg17 x17 3 ![0, 384] rfl inb_S1x512_S1x128_0_384)
        (w16_ld arg16 harg16 x16 0 3 ![0, 384] rfl inb_S3x512_S1x128_0_384) (w16_ld arg16 harg16 x16 1 3 ![1, 384] rfl inb_S3x512_S1x128_1_384) (w16_ld arg16 harg16 x16 2 3 ![2, 384] rfl inb_S3x512_S1x128_2_384))
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  iexists _, _; isplitr; swap; · iexact H27
  ipureintro; rfl

end Cert.Proof.Inp

end
-- ==== Proof.InRun.lean ====
/-
  The run of the whole grid: what each point leaves, and that the arguments end as they were.
-/
module

public import proofs.«01_k».proof.Proof.InBody
public import proofs.«01_k».proof.Proof.Gen.Kernel5Ideal.Frame
public import Idealize.ShloMosaic.Lib.Claim

@[expose] public section

set_option maxRecDepth 16384

noncomputable section

namespace Cert.Proof.Inp

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves -/

/-- The block's rows and the rows before and after it, normalised and modulated. -/
def UM (c : Dev nD) (t : Fin cfg0.N) : FVec F S512x1024 .bf16 := um (iblk m c 0 t) (sh (iblk m c 3 t)) (sc (iblk m c 3 t)) (iblk m c 4 t)
def U0 (c : Dev nD) (t : Fin cfg0.N) : FVec F S64x1024 .bf16 := uh (iblk m c 1 t) (sh (iblk m c 3 t)) (sc (iblk m c 3 t)) (iblk m c 4 t)
def U1 (c : Dev nD) (t : Fin cfg0.N) : FVec F S64x1024 .bf16 := uh (iblk m c 2 t) (sh (iblk m c 3 t)) (sc (iblk m c 3 t)) (iblk m c 4 t)

/-- The step sizes, the gates and the gated convolution a point leaves. -/
def dtO (c : Dev nD) (t : Fin cfg0.N) : Vec F S2x512x128 .f32 := dtv (UM m c t) (iblk m c 6 t) (iblk m c 9 t)
def zsO (c : Dev nD) (t : Fin cfg0.N) : Vec F S512x1024 .bf16 := zsv (UM m c t) (iblk m c 6 t)
def ysO (c : Dev nD) (t : Fin cfg0.N) : Vec F S512x512 .bf16 := ysv (grid0.coords t) (UM m c t) (U0 m c t) (U1 m c t) (iblk m c 6 t) (iblk m c 14 t) (iblk m c 15 t)

/-- The two results of which nothing is said. -/
def forgets0 : Fin 21 → Bool := fun w => w == 16 || w == 19

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => Pipeline.Dat.unnamed (cfg := cfg0) 16 t
    | ⟨17, _⟩ => dtO m c t
    | ⟨18, _⟩ => zsO m c t
    | ⟨19, _⟩ => Pipeline.Dat.unnamed (cfg := cfg0) 19 t
    | ⟨20, _⟩ => ysO m c t
    | ⟨n + 21, h⟩ => absurd (show n + 21 < 21 from h) (by omega)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_17 (c : Dev nD) (t : Fin cfg0.N) : (dats m 0 c).after 17 t = dtO m c t := by dsimp only [dats]
theorem after0_18 (c : Dev nD) (t : Fin cfg0.N) : (dats m 0 c).after 18 t = zsO m c t := by dsimp only [dats]
theorem after0_20 (c : Dev nD) (t : Fin cfg0.N) : (dats m 0 c).after 20 t = ysO m c t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d
theorem before0_11 (c : Dev nD) (t : Fin cfg0.N) (d) : (dats m 0 c).before 11 t d = iblk m c 11 t := before0_11_of m (dats m 0 c) (A_eq m c 11) (after0_11 m c) t d
theorem before0_12 (c : Dev nD) (t : Fin cfg0.N) (d) : (dats m 0 c).before 12 t d = iblk m c 12 t := before0_12_of m (dats m 0 c) (A_eq m c 12) (after0_12 m c) t d
theorem before0_13 (c : Dev nD) (t : Fin cfg0.N) (d) : (dats m 0 c).before 13 t d = iblk m c 13 t := before0_13_of m (dats m 0 c) (A_eq m c 13) (after0_13 m c) t d
theorem before0_14 (c : Dev nD) (t : Fin cfg0.N) (d) : (dats m 0 c).before 14 t d = iblk m c 14 t := before0_14_of m (dats m 0 c) (A_eq m c 14) (after0_14 m c) t d
theorem before0_15 (c : Dev nD) (t : Fin cfg0.N) (d) : (dats m 0 c).before 15 t d = iblk m c 15 t := before0_15_of m (dats m 0 c) (A_eq m c 15) (after0_15 m c) t d

abbrev ms0_0 (t : Fin cfg0.N) : Memref sig .tc .vmem S512x1024 .f32 := win0_0.stage (cfg0.slots t 0)
abbrev ms0_1 (t : Fin cfg0.N) : Memref sig .tc .vmem S64x1024 .f32 := win0_1.stage (cfg0.slots t 1)
abbrev ms0_2 (t : Fin cfg0.N) : Memref sig .tc .vmem S64x1024 .f32 := win0_2.stage (cfg0.slots t 2)
abbrev ms0_3 (t : Fin cfg0.N) : Memref sig .tc .vmem S1x9x1024 .f32 := win0_3.stage (cfg0.slots t 3)
abbrev ms0_4 (t : Fin cfg0.N) : Memref sig .tc .vmem S1x1024 .f32 := win0_4.stage (cfg0.slots t 4)
abbrev ms0_5 (t : Fin cfg0.N) : Memref sig .tc .vmem S1024x1024 .bf16 := win0_5.stage (cfg0.slots t 5)
abbrev ms0_6 (t : Fin cfg0.N) : Memref sig .tc .vmem S17x1024x256 .bf16 := win0_6.stage (cfg0.slots t 6)
abbrev ms0_7 (t : Fin cfg0.N) : Memref sig .tc .vmem S12x5x128 .f32 := win0_7.stage (cfg0.slots t 7)
abbrev ms0_8 (t : Fin cfg0.N) : Memref sig .tc .vmem S12x1x128 .f32 := win0_8.stage (cfg0.slots t 8)
abbrev ms0_9 (t : Fin cfg0.N) : Memref sig .tc .vmem S1x256 .f32 := win0_9.stage (cfg0.slots t 9)
abbrev ms0_10 (t : Fin cfg0.N) : Memref sig .tc .vmem S4x31x128 .f32 := win0_10.stage (cfg0.slots t 10)
abbrev ms0_11 (t : Fin cfg0.N) : Memref sig .tc .vmem S4x1x128 .f32 := win0_11.stage (cfg0.slots t 11)
abbrev ms0_12 (t : Fin cfg0.N) : Memref sig .tc .vmem S1x512 .f32 := win0_12.stage (cfg0.slots t 12)
abbrev ms0_13 (t : Fin cfg0.N) : Memref sig .tc .vmem S1x512 .f32 := win0_13.stage (cfg0.slots t 13)
abbrev ms0_14 (t : Fin cfg0.N) : Memref sig .tc .vmem S3x512 .f32 := win0_14.stage (cfg0.slots t 14)
abbrev ms0_15 (t : Fin cfg0.N) : Memref sig .tc .vmem S1x512 .f32 := win0_15.stage (cfg0.slots t 15)
abbrev ms0_16 (t : Fin cfg0.N) : Memref sig .tc .vmem S512x1536 .bf16 := win0_16.stage (cfg0.slots t 16)
abbrev ms0_17 (t : Fin cfg0.N) : Memref sig .tc .vmem S2x512x128 .f32 := win0_17.stage (cfg0.slots t 17)
abbrev ms0_18 (t : Fin cfg0.N) : Memref sig .tc .vmem S512x1024 .bf16 := win0_18.stage (cfg0.slots t 18)
abbrev ms0_19 (t : Fin cfg0.N) : Memref sig .tc .vmem S512x512 .bf16 := win0_19.stage (cfg0.slots t 19)
abbrev ms0_20 (t : Fin cfg0.N) : Memref sig .tc .vmem S512x512 .bf16 := win0_20.stage (cfg0.slots t 20)

/-- The body's own buffers, each at some contents, and the generator's register. -/
theorem PhiA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ ∃ r, prngReg c r) := by
  unfold Pipeline.ΦA
  rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare d)
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare d)
    ∗ (∃ d, owns (c : Thread nD τ) (ms0_20 t) fullShare ((dats m 0 c).before 20 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ (∃ d, owns (c : Thread nD τ) (ms0_16 t) fullShare d)
    ∗ owns (c : Thread nD τ) (ms0_17 t) fullShare ((dats m 0 c).after 17 t)
    ∗ owns (c : Thread nD τ) (ms0_18 t) fullShare ((dats m 0 c).after 18 t)
    ∗ (∃ d, owns (c : Thread nD τ) (ms0_19 t) fullShare d)
    ∗ owns (c : Thread nD τ) (ms0_20 t) fullShare ((dats m 0 c).after 20 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3, after0_4, after0_5, after0_6, after0_7, after0_8, after0_9, after0_10, after0_11, after0_12, after0_13, after0_14, after0_15, after0_17, after0_18, after0_20]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (body_run c (grid0.coords t) (ms0_0 t) _ (ms0_1 t) _ (ms0_2 t) _ (ms0_3 t) _ (ms0_4 t) _ (ms0_5 t) _ (ms0_6 t) _ (ms0_7 t) _ (ms0_8 t) _ (ms0_9 t) _ (ms0_10 t) _ (ms0_11 t) _ (ms0_12 t) _ (ms0_13 t) _ (ms0_14 t) _ (ms0_15 t) _ (ms0_16 t) _ (ms0_17 t) _ (ms0_18 t) _ (ms0_19 t) _ (ms0_20 t) _ (Memref.whole cc0_scratch0) _ (Memref.whole cc0_scratch1) _ (Memref.whole cc0_scratch2) _ (Memref.whole cc0_scratch3) _ (Memref.whole cc0_scratch4) _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, H14, H15, H16, H17, H18, H19, H20, S0, S1, S2, S3, S4⟩
  isplitl [Hg S0 S1 S2 S3 S4]
  · isplitr [Hg]; swap; · iexact Hg
    isplitl [S0]; · iexact S0
    isplitl [S1]; · iexact S1
    isplitl [S2]; · iexact S2
    isplitl [S3]; · iexact S3
    iexact S4
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run -/

set_option backward.isDefEq.respectTransparency.types false in
/-- The whole run: every array not forgotten ends at what the points leave, and every counter at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

variable {m}

theorem arr_end {r : PUnit × MemSt nD τ sig (Elt F)}
    (h : Pipeline.RDat.FramePost (cfgs 0) (fun c => (dats m 0 c).toRForget forgets0) (V m) r) (c : Dev nD) (w : Fin cfg0.W) (hw : forgets0 w = false) :
    r.2.mem ((cfg0.win w).arr.view.loc (c.tc : Thread nD τ)) = (dats m 0 c).arrAt w cfg0.N :=
  ((dats m 0 c).toRForget_arrAt_iff hw _ _).mp ((h c).1 w)

theorem in_end {r : PUnit × MemSt nD τ sig (Elt F)}
    (h : Pipeline.RDat.FramePost (cfgs 0) (fun c => (dats m 0 c).toRForget forgets0) (V m) r) (c : Dev nD) (w : Fin cfg0.W) (hw : forgets0 w = false)
    (hi : (cfg0.win w).isOut = false) :
    r.2.mem ((cfg0.win w).arr.view.loc (c.tc : Thread nD τ)) = V m c (Pipeline.arrRef spec0 w) :=
  (arr_end h c w hw).trans (((dats m 0 c).arrAt_in w hi _).trans (A_eq m c w))

variable (m)

set_option maxHeartbeats 1260000 in
/-- The arguments end as they were. -/
theorem args_end {r : PUnit × MemSt nD τ sig (Elt F)}
    (h : Pipeline.RDat.FramePost (cfgs 0) (fun c => (dats m 0 c).toRForget forgets0) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨(in_end h c 2 rfl rfl).trans (V_main_arg0 m c),
      (in_end h c 3 rfl rfl).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      (in_end h c 14 rfl rfl).trans (V_main_arg11 m c),
      ((h c).2 main_arg12 (Pipeline.mem_restRefs_of main_arg12 (by decide) (by decide))).trans (V_main_arg12 m c)⟩

/-- Every run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨fun c => args_end m h.1 c, h.2⟩) (run_main m ρ)

end Cert.Proof.Inp

end
-- ==== Proof.InSpec.lean ====
/- The input projection's step sizes and gates as closed sums over its arguments' entries: what both programs are shown to compute. -/
module

public import proofs.«01_k».proof.Proof.FfnSpec

@[expose] public section

noncomputable section

namespace Cert.Proof.Inp

open Idealize.ShloMosaic Cert.Proof.Ffn

/-- The integer zero, converted. -/
theorem zero_conv (φ : FTy) : (FloatOps.sitofp (F := Ideal) φ (0#32) : EReal) = 0 := by
  first
    | rfl
    | (change ((((0#32 : BitVec 32).toInt : ℤ) : ℝ) : EReal) = 0; simp)
    | (change (((0#32 : BitVec 32).toInt : ℝ) : EReal) = 0; simp)

/-- A normalised and modulated row of batch `b`. -/
def urow (h : (⟨2, ![32768, 1024]⟩ : Shape).Idx → EReal) (md : (⟨3, ![16, 9, 1024]⟩ : Shape).Idx → EReal) (g : (⟨1, ![1024]⟩ : Shape).Idx → EReal)
    (b : Fin 16) (r : Fin 32768) (k : Fin 1024) : EReal :=
  rms (fun k => h (ix2 r k)) (g (ix1 k)) k * (1 + md (ix3 b 4 k)) + md (ix3 b 3 k)

/-- Column `q` of a row's projection. -/
def pcol (u : Fin 1024 → EReal) (w : (⟨2, ![1024, 5152]⟩ : Shape).Idx → EReal) (q : Fin 5152) : EReal := ∑ k : Fin 1024, u k * w (ix2 k q)

/-- A gate: the silu of its argument. -/
def gate (p : EReal) : EReal := p * Ideal.logistic p

/-- The gates' entry at row `r` of batch `b` and column `q`. -/
def zs (h : (⟨2, ![32768, 1024]⟩ : Shape).Idx → EReal) (md : (⟨3, ![16, 9, 1024]⟩ : Shape).Idx → EReal) (g : (⟨1, ![1024]⟩ : Shape).Idx → EReal)
    (w : (⟨2, ![1024, 5152]⟩ : Shape).Idx → EReal) (b : Fin 16) (r : Fin 32768) (q : Fin 1024) : EReal :=
  gate (pcol (urow h md g b r) w ⟨1568 + q.val, by omega⟩)

/-- All the gates. -/
def zsR (h : (⟨2, ![32768, 1024]⟩ : Shape).Idx → EReal) (md : (⟨3, ![16, 9, 1024]⟩ : Shape).Idx → EReal) (g : (⟨1, ![1024]⟩ : Shape).Idx → EReal)
    (w : (⟨2, ![1024, 5152]⟩ : Shape).Idx → EReal) (i : (⟨2, ![32768, 1024]⟩ : Shape).Idx) : EReal :=
  zs h md g w ⟨(show Fin 32768 from i 0).val / 4096, by have := (show Fin 32768 from i 0).isLt; omega⟩ (i 0) (i 1)

theorem zsR_ix (h : (⟨2, ![32768, 1024]⟩ : Shape).Idx → EReal) (md g w) (r : Fin 32768) (q : Fin 1024) (b : Fin 16) (hb : b.val = r.val / 4096) :
    zsR h md g w (ix2 r q) = zs h md g w b r q := by
  obtain ⟨b, hb'⟩ := b
  simp only at hb
  subst hb
  rfl

/-- The softplus, from the larger of its argument and zero. -/
def soft (x : EReal) : EReal := max x 0 + Ideal.log1p (Ideal.exp (0 - max x (-x)))

/-- What enters the softplus: head `l` of half `d`, and zero past the sixteenth. -/
def dr (h : (⟨2, ![32768, 1024]⟩ : Shape).Idx → EReal) (md : (⟨3, ![16, 9, 1024]⟩ : Shape).Idx → EReal) (g : (⟨1, ![1024]⟩ : Shape).Idx → EReal)
    (w : (⟨2, ![1024, 5152]⟩ : Shape).Idx → EReal) (a : (⟨2, ![2, 16]⟩ : Shape).Idx → EReal) (b : Fin 16) (d : Fin 2) (r : Fin 32768) (l : Fin 128) : EReal :=
  if hl : l.val < 16 then pcol (urow h md g b r) w ⟨1536 + (d.val * 16 + l.val), by omega⟩ + a (ix2 d ⟨l.val, hl⟩) else 0

/-- All the step sizes. -/
def dtR (h : (⟨2, ![32768, 1024]⟩ : Shape).Idx → EReal) (md : (⟨3, ![16, 9, 1024]⟩ : Shape).Idx → EReal) (g : (⟨1, ![1024]⟩ : Shape).Idx → EReal)
    (w : (⟨2, ![1024, 5152]⟩ : Shape).Idx → EReal) (a : (⟨2, ![2, 16]⟩ : Shape).Idx → EReal) (i : (⟨3, ![2, 32768, 128]⟩ : Shape).Idx) : EReal :=
  soft (dr h md g w a ⟨(show Fin 32768 from i 1).val / 4096, by have := (show Fin 32768 from i 1).isLt; omega⟩ (i 0) (i 1) (i 2))

theorem dtR_ix (h : (⟨2, ![32768, 1024]⟩ : Shape).Idx → EReal) (md g w a) (d : Fin 2) (r : Fin 32768) (l : Fin 128) (b : Fin 16) (hb : b.val = r.val / 4096) :
    dtR h md g w a (ix3 d r l) = soft (dr h md g w a b d r l) := by
  obtain ⟨b, hb'⟩ := b
  simp only at hb
  subst hb
  rfl

end Cert.Proof.Inp

end
-- ==== Proof.InArr.lean ====
/-
  The arguments' entries that a point's blocks hold.
-/
module

public import proofs.«01_k».proof.Proof.InRun
public import proofs.«01_k».proof.Proof.InSpec

@[expose] public section

set_option maxRecDepth 16384

noncomputable section

namespace Cert.Proof.Inp

open Idealize.ShloMosaic Idealize.ShloMosaic.TcCoe Idealize.SL.Sem Cert.Kernel5Ideal Cert.Kernel5Ideal.Gen
open Idealize.ShloMosaic.Pipeline (Dat)

variable (m : (ℓ : Loc nD τ sig) → Buf (Elt Ideal) ℓ)

theorem idxs : ∀ t : Fin cfg0.N, win0_0.index t = ![t.val, 0] ∧ win0_3.index t = ![t.val / 8, 0, 0] ∧ win0_4.index t = ![0, 0] ∧ win0_6.index t = ![0, 0, 0]
    ∧ win0_9.index t = ![0, 0] ∧ win0_17.index t = ![0, t.val, 0] ∧ win0_18.index t = ![t.val, 0] := by
  decide +kernel

theorem in0 (c : Dev nD) (t : Fin cfg0.N) (s : Fin 512) (k : Fin 1024) (r : Fin 32768) (hr : r.val = 512 * t.val + s.val) :
    iblk m c 0 t (ix2 s k) = m ((c : Thread nD τ).loc main_arg0) (ix2 r k) := by
  rw [← V_main_arg0 m c]
  blk_ext [iblk, idxs t]

theorem in3 (c : Dev nD) (t : Fin cfg0.N) (j : Fin 9) (k : Fin 1024) (b : Fin 16) (hb : b.val = t.val / 8) :
    iblk m c 3 t (ix3 0 j k) = m ((c : Thread nD τ).loc main_arg1) (ix3 b j k) := by
  rw [← V_main_arg1 m c]
  blk_ext [iblk, idxs t]

theorem in4 (c : Dev nD) (t : Fin cfg0.N) (k : Fin 1024) : iblk m c 4 t (ix2 0 k) = m ((c : Thread nD τ).loc main_arg2) (ix1 k) := by
  have : iblk m c 4 t (ix2 0 k) = V m c main_v34 (ix2 0 k) := by blk_ext [iblk, idxs t]
  rw [this]
  unfold V hostOps0 hostOps0_1 hostOps0_2 hostOps0_3 hostOps0_4 hostOps0_5 hostOps0_6 hostOps0_7 hostOps0_8
  simp only [List.flatten_cons, List.flatten_nil, List.cons_append, List.nil_append]
  entry_read
  pointwise

/-- The weights' chunks as the host lays them out. -/
def W12 (A : FVec Ideal S1024x5152 .bf16) : FVec Ideal S17x1024x256 .bf16 :=
  transpose S17x1024x256 [1, 0, 2] (shapeCast S1024x17x256 (concatenate S1024x4352 1 [⟨S1024x1536, extractStridedSlice S1024x1536 ![0, 0] A slices_S1024x5152_S1024x1536_0_0⟩,
        ⟨S1024x256, concatenate S1024x256 1 [⟨S1024x128, pad S1024x128 ![0, 0] ![0, 112] ![0, 0] (extractStridedSlice S1024x16 ![0, 0] (extractStridedSlice S1024x32 ![0, 1536] A slices_S1024x5152_S1024x32_0_1536) slices_S1024x32_S1024x16_0_0) (sitofp .bf16 (constantI S_ 32 0#32)) pads_S1024x16_S1024x128_000_01120 h_S_⟩,
          ⟨S1024x128, pad S1024x128 ![0, 0] ![0, 112] ![0, 0] (extractStridedSlice S1024x16 ![0, 16] (extractStridedSlice S1024x32 ![0, 1536] A slices_S1024x5152_S1024x32_0_1536) slices_S1024x32_S1024x16_0_16) (sitofp .bf16 (constantI S_ 32 0#32)) pads_S1024x16_S1024x128_000_01120 h_S_⟩] concatenates_S1024x128_S1024x128_S1024x256_d1⟩,
        ⟨S1024x1024, extractStridedSlice S1024x1024 ![0, 1568] A slices_S1024x5152_S1024x1024_0_1568⟩,
        ⟨S1024x1536, extractStridedSlice S1024x1536 ![0, 3616] A slices_S1024x5152_S1024x1536_0_3616⟩]
        concatenates_S1024x1536_S1024x256_S1024x1024_S1024x1536_S1024x4352_d1) shapeCasts_S1024x4352_S1024x17x256) transposes_S1024x17x256_S17x1024x256_1_0_2

theorem v12_eq (c : Dev nD) : V m c main_v12 = W12 (m ((c : Thread nD τ).loc main_arg3)) := by
  rfl

theorem W12z (A : FVec Ideal S1024x5152 .bf16) (n : Fin 4) (k : Fin 1024) (l : Fin 256) :
    (W12 A (ix3 ⟨7 + n.val, by omega⟩ k l) : EReal) = A (ix2 k ⟨1568 + (256 * n.val + l.val), by omega⟩) := by
  pointwise [W12]
  rw [dif_neg (by omega), dif_neg (by omega), dif_pos (by omega)]
  exact congrArg A (congrArg (ix2 k) (Fin.ext (by dsimp only; omega)))

theorem W12d (A : FVec Ideal S1024x5152 .bf16) (d : Fin 2) (k : Fin 1024) (l : Fin 128) :
    (W12 A (ix3 6 k ⟨128 * d.val + l.val, by omega⟩) : EReal) = if hl : l.val < 16 then A (ix2 k ⟨1536 + (d.val * 16 + l.val), by omega⟩) else (0 : EReal) := by
  pointwise [W12]
  split_ifs
  all_goals first
    | omega
    | exact congrArg A (congrArg (ix2 k) (Fin.ext (by dsimp only; omega)))
    | exact zero_conv _
    | (refine Eq.trans ?_ (dif_pos (show l.val < 16 by omega)).symm; exact congrArg A (congrArg (ix2 k) (Fin.ext (by dsimp only; omega))))
    | exact (zero_conv _).trans (dif_neg (show ¬ l.val < 16 by omega)).symm

theorem in6z (c : Dev nD) (t : Fin cfg0.N) (n : Fin 4) (k : Fin 1024) (l : Fin 256) :
    (iblk m c 6 t (ix3 ⟨7 + n.val, by omega⟩ k l) : EReal) = m ((c : Thread nD τ).loc main_arg3) (ix2 k ⟨1568 + (256 * n.val + l.val), by omega⟩) := by
  have : iblk m c 6 t (ix3 ⟨7 + n.val, by omega⟩ k l) = V m c main_v12 (ix3 ⟨7 + n.val, by omega⟩ k l) := by blk_ext [iblk, idxs t]
  rw [this, v12_eq]
  exact W12z _ n k l

theorem in6d (c : Dev nD) (t : Fin cfg0.N) (d : Fin 2) (k : Fin 1024) (l : Fin 128) :
    (iblk m c 6 t (ix3 6 k ⟨128 * d.val + l.val, by omega⟩) : EReal)
      = if hl : l.val < 16 then (show EReal from m ((c : Thread nD τ).loc main_arg3) (ix2 k ⟨1536 + (d.val * 16 + l.val), by omega⟩)) else (0 : EReal) := by
  have : iblk m c 6 t (ix3 6 k ⟨128 * d.val + l.val, by omega⟩) = V m c main_v12 (ix3 6 k ⟨128 * d.val + l.val, by omega⟩) := by blk_ext [iblk, idxs t]
  rw [this, v12_eq]
  exact W12d _ d k l

/-- The biases as the host lays them out. -/
theorem in9 (c : Dev nD) (t : Fin cfg0.N) (d : Fin 2) (l : Fin 128) :
    (iblk m c 9 t (ix2 0 ⟨128 * d.val + l.val, by omega⟩) : EReal)
      = if hl : l.val < 16 then (show EReal from m ((c : Thread nD τ).loc main_arg6) (ix2 d ⟨l.val, hl⟩)) else (0 : EReal) := by
  have : iblk m c 9 t (ix2 0 ⟨128 * d.val + l.val, by omega⟩) = V m c main_v25 (ix2 0 ⟨128 * d.val + l.val, by omega⟩) := by blk_ext [iblk, idxs t]
  rw [this]
  unfold V hostOps0 hostOps0_1 hostOps0_2 hostOps0_3 hostOps0_4 hostOps0_5 hostOps0_6 hostOps0_7 hostOps0_8
  simp only [List.flatten_cons, List.flatten_nil, List.cons_append, List.nil_append]
  entry_read
  simp only [StableHlo.TRef.toBuf, StableHlo.TRef.ofBuf, cast_eq]
  pointwise
  split_ifs
  all_goals first
    | omega
    | exact congrArg (m (c, Proc.tc.devRef main_arg6)) (congrArg₂ ix2 (Fin.ext (show 0 = d.val by omega)) (Fin.ext (by dsimp only; omega)))
    | exact congrArg (m (c, Proc.tc.devRef main_arg6)) (congrArg₂ ix2 (Fin.ext (show 1 = d.val by omega)) (Fin.ext (by dsimp only; omega)))
    | exact zero_conv _
    | (refine Eq.trans ?_ (dif_pos (show l.val < 16 by omega)).symm; exact congrArg (m (c, Proc.tc.devRef main_arg6)) (congrArg₂ ix2 (Fin.ext (show 0 = d.val by omega)) (Fin.ext (by dsimp only; omega))))
    | (refine Eq.trans ?_ (dif_pos (show l.val < 16 by omega)).symm; exact congrArg (m (c, Proc.tc.devRef main_arg6)) (congrArg₂ ix2 (Fin.ext (show 1 = d.val by omega)) (Fin.ext (by dsimp only; omega))))
    | exact (zero_conv _).trans (dif_neg (show ¬ l.val < 16 by omega)).symm

end Cert.Proof.Inp

end
-- ==== Proof.InVal.lean ====
/-
  What a point writes, entry by entry, and the arrays that the points leave.
-/
module

public import proofs.«01_k».proof.Proof.InArr

@[expose] public section

set_option maxRecDepth 16384

noncomputable section

namespace Cert.Proof.Inp

open Cert.Proof.Ffn Idealize.ShloMosaic Idealize.ShloMosaic.TcCoe Idealize.SL.Sem Cert.Kernel5Ideal Cert.Kernel5Ideal.Gen
open Idealize.ShloMosaic.Pipeline (Dat)

variable (m : (ℓ : Loc nD τ sig) → Buf (Elt Ideal) ℓ)

theorem um_ix (x : Vec Ideal S512x1024 .f32) (md : Vec Ideal S1x9x1024 .f32) (g : FVec Ideal S1x1024 .f32) (s : Fin 512) (k : Fin 1024) :
    (um x (sh md) (sc md) g (ix2 s k) : EReal) = rms (fun k => x (ix2 s k)) (g (ix2 0 k)) k * (1 + md (ix3 0 4 k)) + md (ix3 0 3 k) := by
  unfold rms
  pointwise [um, sh, sc]

theorem pblk_ix (x : Vec Ideal S512x1024 .bf16) (w : Vec Ideal S17x1024x256 .bf16) (b : Fin 34) (s : Fin 512) (l : Fin 128) (n : Fin 17) (q : Fin 256)
    (hn : n.val = b.val / 2) (hq : q.val = 128 * (b.val % 2) + l.val) :
    (pblk x w b (ix2 s l) : EReal) = ∑ k : Fin 1024, x (ix2 s k) * w (ix3 n k q) := by
  obtain ⟨n, hn'⟩ := n
  obtain ⟨q, hq'⟩ := q
  dsimp only at hn hq
  subst hn
  subst hq
  pointwise [pblk, prj]

theorem dtB_ix (p : FVec Ideal S512x128 .f32) (b : FVec Ideal S1x128 .f32) (s : Fin 512) (l : Fin 128) :
    (dtB p b (ix2 s l) : EReal) = soft (p (ix2 s l) + b (ix2 0 l)) := by
  unfold soft
  pointwise [dtB]
  rfl

theorem zsB_ix (p : FVec Ideal S512x128 .f32) (s : Fin 512) (l : Fin 128) : (zsB p (ix2 s l) : EReal) = gate (p (ix2 s l)) := by
  unfold gate
  pointwise [zsB]

theorem row_ix (c : Dev nD) (t : Fin cfg0.N) (s : Fin 512) (k : Fin 1024) (r : Fin 32768) (hr : r.val = 512 * t.val + s.val) (b : Fin 16) (hb : b.val = t.val / 8) :
    (UM m c t (ix2 s k) : EReal) = urow (m ((c : Thread nD τ).loc main_arg0)) (m ((c : Thread nD τ).loc main_arg1)) (m ((c : Thread nD τ).loc main_arg2)) b r k := by
  unfold UM urow
  rw [um_ix]
  simp only [in0 m c t s _ r hr, in3 m c t _ _ b hb, in4 m c t]

theorem zs_ix (c : Dev nD) (t : Fin cfg0.N) (s : Fin 512) (q : Fin 1024) (r : Fin 32768) (hr : r.val = 512 * t.val + s.val) (b : Fin 16) (hb : b.val = t.val / 8) :
    (zsO m c t (ix2 s q) : EReal) = zs (m ((c : Thread nD τ).loc main_arg0)) (m ((c : Thread nD τ).loc main_arg1)) (m ((c : Thread nD τ).loc main_arg2)) (m ((c : Thread nD τ).loc main_arg3)) b r q := by
  unfold zsO zsv zs
  refine (zsB_ix _ _ _).trans (congrArg gate ?_)
  refine (pblk_ix _ _ _ _ _ ⟨7 + q.val / 256, by omega⟩ ⟨q.val % 256, by omega⟩ (by dsimp only; change 7 + q.val / 256 = (14 + q.val / 128) / 2; omega) (by dsimp only; change q.val % 256 = 128 * ((14 + q.val / 128) % 2) + q.val % 128; omega)).trans ?_
  unfold pcol
  refine Finset.sum_congr rfl fun k _ => congrArg₂ (· * ·) (row_ix m c t s k r hr b hb) ?_
  refine (in6z m c t ⟨q.val / 256, by omega⟩ k ⟨q.val % 256, by omega⟩).trans ?_
  exact congrArg (m ((c : Thread nD τ).loc main_arg3)) (congrArg (ix2 k) (Fin.ext (by dsimp only; omega)))

theorem dt_ix (c : Dev nD) (t : Fin cfg0.N) (d : Fin 2) (s : Fin 512) (l : Fin 128) (r : Fin 32768) (hr : r.val = 512 * t.val + s.val) (b : Fin 16) (hb : b.val = t.val / 8) :
    (dtO m c t (ix3 d s l) : EReal) = soft (dr (m ((c : Thread nD τ).loc main_arg0)) (m ((c : Thread nD τ).loc main_arg1)) (m ((c : Thread nD τ).loc main_arg2)) (m ((c : Thread nD τ).loc main_arg3)) (m ((c : Thread nD τ).loc main_arg6)) b d r l) := by
  unfold dtO dtv dr
  refine (dtB_ix _ _ _ _).trans (congrArg soft ?_)
  refine (congrArg₂ (· + ·) (pblk_ix _ _ _ _ _ 6 ⟨128 * d.val + l.val, by omega⟩ (by dsimp only; change 6 = (12 + d.val) / 2; omega) (by dsimp only; change 128 * d.val + l.val = 128 * ((12 + d.val) % 2) + l.val; omega))
    (in9 m c t d l)).trans ?_
  simp only [in6d m c t d]
  by_cases hl : l.val < 16
  · simp only [dif_pos hl]
    unfold pcol
    refine congrArg (· + _) (Finset.sum_congr rfl fun k _ => congrArg (· * _) (row_ix m c t s k r hr b hb))
  · simp only [dif_neg hl, mul_zero, Finset.sum_const_zero, add_zero]

theorem arr17 (c : Dev nD) : (dats m 0 c).arrAt 17 cfg0.N = dtR (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m 0 c).arrAt_eq_of_covers 17 _ (by decide +kernel) fun t hf y => ?_
  have ht : t.val < 64 := t.isLt
  blk_simp
  rw [after0_17]
  obtain ⟨d, s, l, rfl⟩ : ∃ (d : Fin 2) (s : Fin 512) (l : Fin 128), y = ix3 d s l := ⟨_, _, _, eq_ix3 y⟩
  have e : (win0_17.blk t).view.emb (ix3 d s l) = ix3 d (⟨512 * t.val + s.val, by omega⟩ : Fin 32768) l := by blk_ext [idxs t]
  rw [e, dtR_ix _ _ _ _ _ _ _ _ ⟨t.val / 8, by omega⟩ (by dsimp only; omega)]
  exact dt_ix m c t d s l _ rfl _ rfl

theorem arr18 (c : Dev nD) : (dats m 0 c).arrAt 18 cfg0.N = zsR (m ((c : Thread nD τ).loc main_arg0)) (m ((c : Thread nD τ).loc main_arg1)) (m ((c : Thread nD τ).loc main_arg2)) (m ((c : Thread nD τ).loc main_arg3)) := by
  refine (dats m 0 c).arrAt_eq_of_covers 18 _ (by decide +kernel) fun t hf y => ?_
  have ht : t.val < 64 := t.isLt
  blk_simp
  rw [after0_18]
  obtain ⟨s, q, rfl⟩ : ∃ (s : Fin 512) (q : Fin 1024), y = ix2 s q := ⟨_, _, eq_ix2 y⟩
  have e : (win0_18.blk t).view.emb (ix2 s q) = ix2 (⟨512 * t.val + s.val, by omega⟩ : Fin 32768) q := by blk_ext [idxs t]
  rw [e, zsR_ix _ _ _ _ _ q ⟨t.val / 8, by omega⟩ (by dsimp only; omega)]
  exact zs_ix m c t s q _ rfl _ rfl

end Cert.Proof.Inp

end
-- ==== Proof.InRef.lean ====
/- The input projection's reference, at an index. -/
module

public import proofs.«01_k».proof.Proof.InSpec
public import proofs.«01_k».proof.Proof.Gen.Reference5Ideal.Read
public import proofs.«01_k».proof.Proof.Gen.Reference5Ideal.Run

@[expose] public section

set_option maxRecDepth 16384

noncomputable section

namespace Cert.Proof.Inp.R

open Idealize.ShloMosaic Cert.Reference5Ideal Cert.Reference5Ideal.Gen Cert.Reference5Ideal.Read Cert.Proof.Ffn Cert.Proof.Inp

variable (x0 : FVec Ideal S32768x1024 .f32) (x1 : FVec Ideal S16x9x1024 .f32) (x2 : FVec Ideal S1024 .f32) (x3 : FVec Ideal S1024x5152 .bf16) (x6 : FVec Ideal S2x16 .f32)

theorem ref3_ix (b : Fin 8) (l : Fin 4096) (k : Fin 1024) (r : Fin 32768) (hr : r.val = 4096 * b.val + l.val) :
    (val_main_v3 (F := Ideal) x0 (ix3 b l k) : EReal) = x0 (ix2 r k) := by
  pointwise [val_main_v3]
  exact congrArg x0 (congrArg₂ (ix2) (Fin.ext (by dsimp only; omega)) rfl)

theorem ref5_ix (b : Fin 8) (k : Fin 1024) (b' : Fin 16) (hb : b'.val = b.val) :
    (val_main_v5 (F := Ideal) x1 (ix3 b 0 k) : EReal) = x1 (ix3 b' 3 k) := by
  obtain ⟨b', h'⟩ := b'
  simp only at hb
  subst hb
  pointwise [val_main_v5, val_main_v4, val_main_v2, val_main_v1, val_main_v0]

theorem ref7_ix (b : Fin 8) (k : Fin 1024) (b' : Fin 16) (hb : b'.val = b.val) :
    (val_main_v7 (F := Ideal) x1 (ix3 b 0 k) : EReal) = x1 (ix3 b' 4 k) := by
  obtain ⟨b', h'⟩ := b'
  simp only at hb
  subst hb
  pointwise [val_main_v7, val_main_v6, val_main_v2, val_main_v1, val_main_v0]

/-- The modulated row. -/
theorem ref26_ix (b : Fin 8) (l : Fin 4096) (k : Fin 1024) (r : Fin 32768) (hr : r.val = 4096 * b.val + l.val) (b' : Fin 16) (hb : b'.val = b.val) :
    (val_main_v26 (F := Ideal) x0 x1 x2 (ix3 b l k) : EReal) = urow x0 x1 x2 b' r k := by
  pointwise [val_main_v26, val_main_v25, val_main_v24, val_main_v23, val_main_v22, val_main_v21, val_main_cst_2, val_main_cst_1, val_main_v20, val_main_v19, val_main_v18, val_main_v17, val_main_v16, val_main_v15, val_main_v14, val_main_v13, val_main_cst_0,
    val_main_v12, val_main_v11, val_main_cst, val_main_v10, val_main_v9, val_main_v8]
  simp only [ref3_ix x0 b l _ r hr, ref5_ix x1 b _ b' hb, ref7_ix x1 b _ b' hb]
  rfl

/-- A column of the projection. -/
theorem ref28_ix (b : Fin 8) (l : Fin 4096) (q : Fin 5152) (r : Fin 32768) (hr : r.val = 4096 * b.val + l.val) (b' : Fin 16) (hb : b'.val = b.val) :
    (val_main_v28 (F := Ideal) x0 x1 x2 x3 (ix3 b l q) : EReal) = pcol (urow x0 x1 x2 b' r) x3 q := by
  pointwise [val_main_v28, val_main_v27]
  simp only [ref26_ix x0 x1 x2 b l _ r hr b' hb]
  rfl

theorem zs_eq : val_main_v41 (F := Ideal) x0 x1 x2 x3 = zsR x0 x1 x2 x3 := by
  funext i
  rw [eq_ix2 i]
  generalize i 0 = r
  generalize i 1 = q
  change Fin 32768 at r
  change Fin 1024 at q
  rw [zsR_ix _ _ _ _ r q ⟨r.val / 4096, by omega⟩ rfl]
  unfold zs
  rw [← ref28_ix x0 x1 x2 x3 ⟨r.val / 4096, by omega⟩ ⟨r.val % 4096, by omega⟩ _ r (by dsimp only; omega) _ rfl]
  generalize hv : val_main_v28 (F := Ideal) x0 x1 x2 x3 = v
  pointwise [val_main_v41, val_main_v40, val_main_v39, val_main_v38, val_main_call2_v5, val_main_call2_v4, val_main_call2_cst_0, val_main_call2_v3, val_main_call2_v2, val_main_call2_cst, val_main_call2_v1, val_main_call2_v0, hv]
  rfl

theorem dt_eq : val_main_v37 (F := Ideal) x0 x1 x2 x3 x6 = dtR x0 x1 x2 x3 x6 := by
  funext i
  rw [eq_ix3 i]
  generalize i 0 = d
  generalize i 1 = r
  generalize i 2 = l
  change Fin 2 at d
  change Fin 32768 at r
  change Fin 128 at l
  rw [dtR_ix _ _ _ _ _ d r l ⟨r.val / 4096, by omega⟩ rfl]
  have hp : (val_main_v36 (F := Ideal) x0 x1 x2 x3 x6 (ix3 d r l) : EReal) = dr x0 x1 x2 x3 x6 ⟨r.val / 4096, by omega⟩ d r l := by
    unfold dr
    by_cases hl : l.val < 16
    · rw [dif_pos hl, ← ref28_ix x0 x1 x2 x3 ⟨r.val / 4096, by omega⟩ ⟨r.val % 4096, by omega⟩ _ r (by dsimp only; omega) _ rfl]
      generalize hv : val_main_v28 (F := Ideal) x0 x1 x2 x3 = v
      pointwise [val_main_v36, val_main_v35, val_main_v34, val_main_v33, val_main_v32, val_main_v31, val_main_v30, val_main_v29, val_main_call0_v0, val_main_c, hv]
      rw [dif_pos hl]
    · rw [dif_neg hl]
      pointwise [val_main_v36, val_main_call0_v0, val_main_c]
      rw [dif_neg hl]
      exact zero_conv _
  rw [← hp]
  generalize hv : val_main_v36 (F := Ideal) x0 x1 x2 x3 x6 = v
  pointwise [val_main_v37, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_cst, hv]
  rw [if_neg (by simp)]
  unfold soft
  rw [zero_sub]
  rfl

end Cert.Proof.Inp.R

end
-- ==== Proof.InClaims.lean ====
/- The input projection's claims: the reference leaves its arguments, and the two programs agree on the step sizes and the gates. -/
module

public import proofs.«01_k».proof.Proof.InVal
public import proofs.«01_k».proof.Proof.InRef
public import proofs.«01_k».proof.Defs

@[expose] public section

set_option maxRecDepth 16384

noncomputable section

namespace Cert.Proof.Inp

open Idealize.ShloMosaic Idealize.SL.Sem

theorem ref_frame : Cert.quiescent_Reference5Ideal (hReference5Ideal := Cert.Reference5Ideal.Gen.facts) := fun m g _ =>
  (θ_run Cert.Reference5Ideal.defs _ _).mono (fun r h => ⟨fun c => (h c).2.2, sem_eq_zero_of_no_sems (by decide) r.2⟩)
    (Cert.Reference5Ideal.Value.run (F := Ideal) m g)

theorem value : Cert.algebraic_Kernel5Ideal_Reference5Ideal (hKernel5Ideal := Cert.Kernel5Ideal.Gen.facts) (hReference5Ideal := Cert.Reference5Ideal.Gen.facts) := by
  intro m g m' g' hpre hagree
  refine ⟨fun c => (dats m 0 c).arrAt 17 Cert.Kernel5Ideal.cfg0.N, fun c => (dats m 0 c).arrAt 18 Cert.Kernel5Ideal.cfg0.N,
    (θ_run Cert.Kernel5Ideal.defs _ _).mono (fun r h c => ⟨arr_end h.1 c 17 rfl, arr_end h.1 c 18 rfl, args_end m h.1 c⟩) (run_main m g), ?_⟩
  refine (θ_run Cert.Reference5Ideal.defs _ _).mono (fun r h c => ?_) (Cert.Reference5Ideal.Value.run (F := Ideal) m' g')
  obtain ⟨a0, a1, a2, a3, a4, a5, a6, a7, a8, a9, a10, a11, a12⟩ := hagree c
  obtain ⟨r0, r1, rest⟩ := h c
  refine ⟨r0.trans ?_, r1.trans ?_, rest⟩
  · rw [Cert.Reference5Ideal.Read.val_main_v37_eq, a0, a1, a2, a3, a6]
    exact (R.dt_eq ..).trans (arr17 m c).symm
  · rw [Cert.Reference5Ideal.Read.val_main_v41_eq, a0, a1, a2, a3]
    exact (R.zs_eq ..).trans (arr18 m c).symm

end Cert.Proof.Inp

end
-- ==== Proof.lean ====
/- The certificate's claims, assembled from the modules that prove them. -/
module

public import proofs.«01_k».proof.Defs
public import proofs.«01_k».proof.Proof.SsdClaims
public import proofs.«01_k».proof.Proof.FfnClaims
public import proofs.«01_k».proof.Proof.PostClaims
public import proofs.«01_k».proof.Proof.ModClaims
public import proofs.«01_k».proof.Proof.Gen.Kernel2.Frame
public import proofs.«01_k».proof.Proof.Gen.Kernel3.Frame
public import proofs.«01_k».proof.Proof.Gen.Kernel4.Frame
public import proofs.«01_k».proof.Proof.InClaims
public import proofs.«01_k».proof.Proof.JnRun

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, preFacts,
    fun m g _ => Cert.Kernel.Gen.frame m g, fun m g _ => Cert.KernelIdeal.Gen.frame m g, fun m g _ => Cert.KernelIdeal.Gen.frame m g,
    ref_frame, fun m g _ => ref_frame m g trivial,
    fun m g _ => Cert.Kernel2.Gen.frame m g, fun m g _ => Cert.Kernel2Ideal.Gen.frame m g, Ffn.ref_frame,
    fun m g _ => Cert.Kernel3.Gen.frame m g, fun m g _ => Cert.Kernel3Ideal.Gen.frame m g, Post.ref_frame,
    fun m g _ => Cert.Kernel4.Gen.frame m g, fun m g _ => Cert.Kernel4Ideal.Gen.frame m g, Mod.ref_frame,
    fun m g _ => Jnp.frame m g, fun m g _ => Inp.frame m g, Inp.ref_frame,
    IdealRules.named_const.statement Cert.KernelIdeal.κ "mask" .f32 0xF149F2CA#32 ⊥ rfl, ssd_algebraic,
    trivial, Ffn.value, trivial, Post.value, trivial, Mod.value, trivial, Inp.value⟩

end Cert.Proof

end
